-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Proj1 (m : (ℓ : Loc Cert.Proj1.nD Cert.Proj1.τ Cert.Proj1.sig) → Buf (Elt Bits) ℓ) : Prop :=
  True

def Pre_Proj1Ideal (m : (ℓ : Loc Cert.Proj1Ideal.nD Cert.Proj1Ideal.τ Cert.Proj1Ideal.sig) → Buf (Elt Ideal) ℓ) : Prop :=
  True

def Pre_Proj1ReferenceIdeal (m : (ℓ : Loc Cert.Proj1ReferenceIdeal.nD Cert.Proj1ReferenceIdeal.τ Cert.Proj1ReferenceIdeal.sig) → Buf (Elt Ideal) ℓ) : Prop :=
  True

def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Merge1ReferenceIdeal (m : (ℓ : Loc Cert.Merge1ReferenceIdeal.nD Cert.Merge1ReferenceIdeal.τ Cert.Merge1ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_inputs [hPre_finite_inputs : Cert.Pre_finite_inputs.Facts] (m : (ℓ : Loc Cert.PoolIdeal.nD Cert.PoolIdeal.τ Cert.PoolIdeal.sig) → Buf (Elt Ideal) ℓ) : Prop :=
  ∀ c : Dev Cert.PoolIdeal.nD,
    (Cert.Pre_finite_inputs.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_finite_inputs [hPre_finite_inputs : Cert.Pre_finite_inputs.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_finite_inputs.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1)) (m ((c.tc : Thread Cert.PoolReferenceIdeal.nD Cert.PoolReferenceIdeal.τ).loc Cert.PoolReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Proj1 [hProj1 : Cert.Proj1.Facts] : Prop :=
  ∀ (m : (ℓ : Loc Cert.Proj1.nD Cert.Proj1.τ Cert.Proj1.sig) → Buf (Elt Bits) ℓ) (g : Dev Cert.Proj1.nD → PrngReg), Pre_Proj1 m →
    θ_run (Cert.Proj1.defs (F := Bits)) (onTc (τ := Cert.Proj1.τ) (Cert.Proj1.main (F := Bits))) ⟨m, fun _ => 0, g⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1)
      ∧ r.2.mem ((c.tc : Thread Cert.Proj1.nD Cert.Proj1.τ).loc Cert.Proj1.main_arg2) = m ((c.tc : Thread Cert.Proj1.nD Cert.Proj1.τ).loc Cert.Proj1.main_arg2))
      ∧ r.2.sem = fun _ => 0)

def quiescent_Proj1Ideal [hProj1Ideal : Cert.Proj1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg), Pre_Proj1Ideal m →
    θ_run (Cert.Proj1Ideal.defs (F := Ideal)) (onTc (τ := Cert.Proj1Ideal.τ) (Cert.Proj1Ideal.main (F := Ideal))) ⟨m, fun _ => 0, g⟩ (fun r => (∀ c : Dev Cert.Proj1Ideal.nD,
      r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
      ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
      ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2))
      ∧ r.2.sem = fun _ => 0)

def quiescent_Proj1ReferenceIdeal [hProj1ReferenceIdeal : Cert.Proj1ReferenceIdeal.Facts] : Prop :=
  ∀ (m : (ℓ : Loc Cert.Proj1ReferenceIdeal.nD Cert.Proj1ReferenceIdeal.τ Cert.Proj1ReferenceIdeal.sig) → Buf (Elt Ideal) ℓ) (g : Dev Cert.Proj1ReferenceIdeal.nD → PrngReg), Pre_Proj1ReferenceIdeal m →
    θ_run (Cert.Proj1ReferenceIdeal.defs (F := Ideal)) (onTc (τ := Cert.Proj1ReferenceIdeal.τ) (Cert.Proj1ReferenceIdeal.main (F := Ideal))) ⟨m, fun _ => 0, g⟩ (fun r => (∀ c : Dev Cert.Proj1ReferenceIdeal.nD,
      r.2.mem ((c.tc : Thread Cert.Proj1ReferenceIdeal.nD Cert.Proj1ReferenceIdeal.τ).loc Cert.Proj1ReferenceIdeal.main_arg0) = m ((c.tc : Thread Cert.Proj1ReferenceIdeal.nD Cert.Proj1ReferenceIdeal.τ).loc Cert.Proj1ReferenceIdeal.main_arg0)
      ∧ r.2.mem ((c.tc : Thread Cert.Proj1ReferenceIdeal.nD Cert.Proj1ReferenceIdeal.τ).loc Cert.Proj1ReferenceIdeal.main_arg1) = m ((c.tc : Thread Cert.Proj1ReferenceIdeal.nD Cert.Proj1ReferenceIdeal.τ).loc Cert.Proj1ReferenceIdeal.main_arg1)
      ∧ r.2.mem ((c.tc : Thread Cert.Proj1ReferenceIdeal.nD Cert.Proj1ReferenceIdeal.τ).loc Cert.Proj1ReferenceIdeal.main_arg2) = m ((c.tc : Thread Cert.Proj1ReferenceIdeal.nD Cert.Proj1ReferenceIdeal.τ).loc Cert.Proj1ReferenceIdeal.main_arg2))
      ∧ r.2.sem = fun _ => 0)

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ r.2.sem = fun _ => 0)

def quiescent_Merge1ReferenceIdeal [hMerge1ReferenceIdeal : Cert.Merge1ReferenceIdeal.Facts] : Prop :=
  ∀ (m : (ℓ : Loc Cert.Merge1ReferenceIdeal.nD Cert.Merge1ReferenceIdeal.τ Cert.Merge1ReferenceIdeal.sig) → Buf (Elt Ideal) ℓ) (g : Dev Cert.Merge1ReferenceIdeal.nD → PrngReg), Pre_Merge1ReferenceIdeal m →
    θ_run (Cert.Merge1ReferenceIdeal.defs (F := Ideal)) (onTc (τ := Cert.Merge1ReferenceIdeal.τ) (Cert.Merge1ReferenceIdeal.main (F := Ideal))) ⟨m, fun _ => 0, g⟩ (fun r => (∀ c : Dev Cert.Merge1ReferenceIdeal.nD,
      r.2.mem ((c.tc : Thread Cert.Merge1ReferenceIdeal.nD Cert.Merge1ReferenceIdeal.τ).loc Cert.Merge1ReferenceIdeal.main_arg0) = m ((c.tc : Thread Cert.Merge1ReferenceIdeal.nD Cert.Merge1ReferenceIdeal.τ).loc Cert.Merge1ReferenceIdeal.main_arg0)
      ∧ r.2.mem ((c.tc : Thread Cert.Merge1ReferenceIdeal.nD Cert.Merge1ReferenceIdeal.τ).loc Cert.Merge1ReferenceIdeal.main_arg1) = m ((c.tc : Thread Cert.Merge1ReferenceIdeal.nD Cert.Merge1ReferenceIdeal.τ).loc Cert.Merge1ReferenceIdeal.main_arg1)
      ∧ r.2.mem ((c.tc : Thread Cert.Merge1ReferenceIdeal.nD Cert.Merge1ReferenceIdeal.τ).loc Cert.Merge1ReferenceIdeal.main_arg2) = m ((c.tc : Thread Cert.Merge1ReferenceIdeal.nD Cert.Merge1ReferenceIdeal.τ).loc Cert.Merge1ReferenceIdeal.main_arg2)
      ∧ r.2.mem ((c.tc : Thread Cert.Merge1ReferenceIdeal.nD Cert.Merge1ReferenceIdeal.τ).loc Cert.Merge1ReferenceIdeal.main_arg3) = m ((c.tc : Thread Cert.Merge1ReferenceIdeal.nD Cert.Merge1ReferenceIdeal.τ).loc Cert.Merge1ReferenceIdeal.main_arg3)
      ∧ r.2.mem ((c.tc : Thread Cert.Merge1ReferenceIdeal.nD Cert.Merge1ReferenceIdeal.τ).loc Cert.Merge1ReferenceIdeal.main_arg4) = m ((c.tc : Thread Cert.Merge1ReferenceIdeal.nD Cert.Merge1ReferenceIdeal.τ).loc Cert.Merge1ReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite_inputs [hPoolIdeal : Cert.PoolIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_inputs m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_PoolReferenceIdeal_pre_finite_inputs [hPoolReferenceIdeal : Cert.PoolReferenceIdeal.Facts] [hPre_finite_inputs : Cert.Pre_finite_inputs.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_finite_inputs m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v36_0)) (v1 : (c : Dev Cert.ProjIdeal.nD) → Buf (Elt Ideal) ((c.tc : Thread Cert.ProjIdeal.nD Cert.ProjIdeal.τ).loc Cert.ProjIdeal.main_v36_1)) (v2 : (c : Dev Cert.ProjIdeal.nD) → Buf (Elt Ideal) ((c.tc : Thread Cert.ProjIdeal.nD Cert.ProjIdeal.τ).loc Cert.ProjIdeal.main_v36_2)) (v3 : (c : Dev Cert.ProjIdeal.nD) → Buf (Elt Ideal) ((c.tc : Thread Cert.ProjIdeal.nD Cert.ProjIdeal.τ).loc Cert.ProjIdeal.main_v36_3)) (v4 : (c : Dev Cert.ProjIdeal.nD) → Buf (Elt Ideal) ((c.tc : Thread Cert.ProjIdeal.nD Cert.ProjIdeal.τ).loc Cert.ProjIdeal.main_v36_4)) (v5 : (c : Dev Cert.ProjIdeal.nD) → Buf (Elt Ideal) ((c.tc : Thread Cert.ProjIdeal.nD Cert.ProjIdeal.τ).loc Cert.ProjIdeal.main_v36_5)) (v6 : (c : Dev Cert.ProjIdeal.nD) → Buf (Elt Ideal) ((c.tc : Thread Cert.ProjIdeal.nD Cert.ProjIdeal.τ).loc Cert.ProjIdeal.main_v36_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v36_0) = v0 c
          ∧ r.2.mem ((c.tc : Thread Cert.ProjIdeal.nD Cert.ProjIdeal.τ).loc Cert.ProjIdeal.main_v36_1) = v1 c
          ∧ r.2.mem ((c.tc : Thread Cert.ProjIdeal.nD Cert.ProjIdeal.τ).loc Cert.ProjIdeal.main_v36_2) = v2 c
          ∧ r.2.mem ((c.tc : Thread Cert.ProjIdeal.nD Cert.ProjIdeal.τ).loc Cert.ProjIdeal.main_v36_3) = v3 c
          ∧ r.2.mem ((c.tc : Thread Cert.ProjIdeal.nD Cert.ProjIdeal.τ).loc Cert.ProjIdeal.main_v36_4) = v4 c
          ∧ r.2.mem ((c.tc : Thread Cert.ProjIdeal.nD Cert.ProjIdeal.τ).loc Cert.ProjIdeal.main_v36_5) = v5 c
          ∧ r.2.mem ((c.tc : Thread Cert.ProjIdeal.nD Cert.ProjIdeal.τ).loc Cert.ProjIdeal.main_v36_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v94) = v0 c
          ∧ r.2.mem ((c.tc : Thread Cert.ProjReferenceIdeal.nD Cert.ProjReferenceIdeal.τ).loc Cert.ProjReferenceIdeal.main_v95) = v1 c
          ∧ r.2.mem ((c.tc : Thread Cert.ProjReferenceIdeal.nD Cert.ProjReferenceIdeal.τ).loc Cert.ProjReferenceIdeal.main_v97) = v2 c
          ∧ r.2.mem ((c.tc : Thread Cert.ProjReferenceIdeal.nD Cert.ProjReferenceIdeal.τ).loc Cert.ProjReferenceIdeal.main_v98) = v3 c
          ∧ r.2.mem ((c.tc : Thread Cert.ProjReferenceIdeal.nD Cert.ProjReferenceIdeal.τ).loc Cert.ProjReferenceIdeal.main_v101) = v4 c
          ∧ r.2.mem ((c.tc : Thread Cert.ProjReferenceIdeal.nD Cert.ProjReferenceIdeal.τ).loc Cert.ProjReferenceIdeal.main_v102) = v5 c
          ∧ r.2.mem ((c.tc : Thread Cert.ProjReferenceIdeal.nD Cert.ProjReferenceIdeal.τ).loc Cert.ProjReferenceIdeal.main_v103) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Proj1_Proj1Ideal : Prop :=
  True

def algebraic_Proj1Ideal_Proj1ReferenceIdeal [hProj1Ideal : Cert.Proj1Ideal.Facts] [hProj1ReferenceIdeal : Cert.Proj1ReferenceIdeal.Facts] : Prop :=
  ∀ (m : (ℓ : Loc Cert.Proj1Ideal.nD Cert.Proj1Ideal.τ Cert.Proj1Ideal.sig) → Buf (Elt Ideal) ℓ) (g : Dev Cert.Proj1Ideal.nD → PrngReg)
    (m' : (ℓ : Loc Cert.Proj1ReferenceIdeal.nD Cert.Proj1ReferenceIdeal.τ Cert.Proj1ReferenceIdeal.sig) → Buf (Elt Ideal) ℓ) (g' : Dev Cert.Proj1ReferenceIdeal.nD → PrngReg), Pre_Proj1Ideal m →
    (∀ c : Dev Cert.Proj1Ideal.nD,
      m' ((c.tc : Thread Cert.Proj1ReferenceIdeal.nD Cert.Proj1ReferenceIdeal.τ).loc Cert.Proj1ReferenceIdeal.main_arg0) = m ((c.tc : Thread Cert.Proj1Ideal.nD Cert.Proj1Ideal.τ).loc Cert.Proj1Ideal.main_arg0)
      ∧ m' ((c.tc : Thread Cert.Proj1ReferenceIdeal.nD Cert.Proj1ReferenceIdeal.τ).loc Cert.Proj1ReferenceIdeal.main_arg1) = m ((c.tc : Thread Cert.Proj1Ideal.nD Cert.Proj1Ideal.τ).loc Cert.Proj1Ideal.main_arg1)
      ∧ m' ((c.tc : Thread Cert.Proj1ReferenceIdeal.nD Cert.Proj1ReferenceIdeal.τ).loc Cert.Proj1ReferenceIdeal.main_arg2) = m ((c.tc : Thread Cert.Proj1Ideal.nD Cert.Proj1Ideal.τ).loc Cert.Proj1Ideal.main_arg2)) →
    ∃ (v0 : (c : Dev Cert.Proj1Ideal.nD) → Buf (Elt Ideal) ((c.tc : Thread Cert.Proj1Ideal.nD Cert.Proj1Ideal.τ).loc Cert.Proj1Ideal.main_v36_0)) (v1 : (c : Dev Cert.Proj1Ideal.nD) → Buf (Elt Ideal) ((c.tc : Thread Cert.Proj1Ideal.nD Cert.Proj1Ideal.τ).loc Cert.Proj1Ideal.main_v36_1)) (v2 : (c : Dev Cert.Proj1Ideal.nD) → Buf (Elt Ideal) ((c.tc : Thread Cert.Proj1Ideal.nD Cert.Proj1Ideal.τ).loc Cert.Proj1Ideal.main_v36_2)) (v3 : (c : Dev Cert.Proj1Ideal.nD) → Buf (Elt Ideal) ((c.tc : Thread Cert.Proj1Ideal.nD Cert.Proj1Ideal.τ).loc Cert.Proj1Ideal.main_v36_3)) (v4 : (c : Dev Cert.Proj1Ideal.nD) → Buf (Elt Ideal) ((c.tc : Thread Cert.Proj1Ideal.nD Cert.Proj1Ideal.τ).loc Cert.Proj1Ideal.main_v36_4)) (v5 : (c : Dev Cert.Proj1Ideal.nD) → Buf (Elt Ideal) ((c.tc : Thread Cert.Proj1Ideal.nD Cert.Proj1Ideal.τ).loc Cert.Proj1Ideal.main_v36_5)),
      θ_run (Cert.Proj1Ideal.defs (F := Ideal)) (onTc (τ := Cert.Proj1Ideal.τ) (Cert.Proj1Ideal.main (F := Ideal))) ⟨m, fun _ => 0, g⟩ (fun r => ∀ c : Dev Cert.Proj1Ideal.nD,
          r.2.mem ((c.tc : Thread Cert.Proj1Ideal.nD Cert.Proj1Ideal.τ).loc Cert.Proj1Ideal.main_v36_0) = v0 c
          ∧ r.2.mem ((c.tc : Thread Cert.Proj1Ideal.nD Cert.Proj1Ideal.τ).loc Cert.Proj1Ideal.main_v36_1) = v1 c
          ∧ r.2.mem ((c.tc : Thread Cert.Proj1Ideal.nD Cert.Proj1Ideal.τ).loc Cert.Proj1Ideal.main_v36_2) = v2 c
          ∧ r.2.mem ((c.tc : Thread Cert.Proj1Ideal.nD Cert.Proj1Ideal.τ).loc Cert.Proj1Ideal.main_v36_3) = v3 c
          ∧ r.2.mem ((c.tc : Thread Cert.Proj1Ideal.nD Cert.Proj1Ideal.τ).loc Cert.Proj1Ideal.main_v36_4) = v4 c
          ∧ r.2.mem ((c.tc : Thread Cert.Proj1Ideal.nD Cert.Proj1Ideal.τ).loc Cert.Proj1Ideal.main_v36_5) = v5 c
          ∧ r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
          ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
          ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2))
      ∧ θ_run (Cert.Proj1ReferenceIdeal.defs (F := Ideal)) (onTc (τ := Cert.Proj1ReferenceIdeal.τ) (Cert.Proj1ReferenceIdeal.main (F := Ideal))) ⟨m', fun _ => 0, g'⟩ (fun r => ∀ c : Dev Cert.Proj1ReferenceIdeal.nD,
          r.2.mem ((c.tc : Thread Cert.Proj1ReferenceIdeal.nD Cert.Proj1ReferenceIdeal.τ).loc Cert.Proj1ReferenceIdeal.main_v93) = v0 c
          ∧ r.2.mem ((c.tc : Thread Cert.Proj1ReferenceIdeal.nD Cert.Proj1ReferenceIdeal.τ).loc Cert.Proj1ReferenceIdeal.main_v94) = v1 c
          ∧ r.2.mem ((c.tc : Thread Cert.Proj1ReferenceIdeal.nD Cert.Proj1ReferenceIdeal.τ).loc Cert.Proj1ReferenceIdeal.main_v96) = v2 c
          ∧ r.2.mem ((c.tc : Thread Cert.Proj1ReferenceIdeal.nD Cert.Proj1ReferenceIdeal.τ).loc Cert.Proj1ReferenceIdeal.main_v97) = v3 c
          ∧ r.2.mem ((c.tc : Thread Cert.Proj1ReferenceIdeal.nD Cert.Proj1ReferenceIdeal.τ).loc Cert.Proj1ReferenceIdeal.main_v100) = v4 c
          ∧ r.2.mem ((c.tc : Thread Cert.Proj1ReferenceIdeal.nD Cert.Proj1ReferenceIdeal.τ).loc Cert.Proj1ReferenceIdeal.main_v101) = v5 c
          ∧ r.2.mem ((c.tc : Thread Cert.Proj1ReferenceIdeal.nD Cert.Proj1ReferenceIdeal.τ).loc Cert.Proj1ReferenceIdeal.main_arg0) = m' ((c.tc : Thread Cert.Proj1ReferenceIdeal.nD Cert.Proj1ReferenceIdeal.τ).loc Cert.Proj1ReferenceIdeal.main_arg0)
          ∧ r.2.mem ((c.tc : Thread Cert.Proj1ReferenceIdeal.nD Cert.Proj1ReferenceIdeal.τ).loc Cert.Proj1ReferenceIdeal.main_arg1) = m' ((c.tc : Thread Cert.Proj1ReferenceIdeal.nD Cert.Proj1ReferenceIdeal.τ).loc Cert.Proj1ReferenceIdeal.main_arg1)
          ∧ r.2.mem ((c.tc : Thread Cert.Proj1ReferenceIdeal.nD Cert.Proj1ReferenceIdeal.τ).loc Cert.Proj1ReferenceIdeal.main_arg2) = m' ((c.tc : Thread Cert.Proj1ReferenceIdeal.nD Cert.Proj1ReferenceIdeal.τ).loc Cert.Proj1ReferenceIdeal.main_arg2))

def preserves_Merge1_Merge1Ideal : Prop :=
  True

def algebraic_Merge1Ideal_Merge1ReferenceIdeal [hMerge1Ideal : Cert.Merge1Ideal.Facts] [hMerge1ReferenceIdeal : Cert.Merge1ReferenceIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Merge1ReferenceIdeal.nD Cert.Merge1ReferenceIdeal.τ Cert.Merge1ReferenceIdeal.sig) → Buf (Elt Ideal) ℓ) (g' : Dev Cert.Merge1ReferenceIdeal.nD → PrngReg), Pre_Merge1Ideal m →
    (∀ c : Dev Cert.Merge1Ideal.nD,
      m' ((c.tc : Thread Cert.Merge1ReferenceIdeal.nD Cert.Merge1ReferenceIdeal.τ).loc Cert.Merge1ReferenceIdeal.main_arg0) = m ((c.tc : Thread Cert.Merge1Ideal.nD Cert.Merge1Ideal.τ).loc Cert.Merge1Ideal.main_arg0)
      ∧ m' ((c.tc : Thread Cert.Merge1ReferenceIdeal.nD Cert.Merge1ReferenceIdeal.τ).loc Cert.Merge1ReferenceIdeal.main_arg1) = m ((c.tc : Thread Cert.Merge1Ideal.nD Cert.Merge1Ideal.τ).loc Cert.Merge1Ideal.main_arg1)
      ∧ m' ((c.tc : Thread Cert.Merge1ReferenceIdeal.nD Cert.Merge1ReferenceIdeal.τ).loc Cert.Merge1ReferenceIdeal.main_arg2) = m ((c.tc : Thread Cert.Merge1Ideal.nD Cert.Merge1Ideal.τ).loc Cert.Merge1Ideal.main_arg2)
      ∧ m' ((c.tc : Thread Cert.Merge1ReferenceIdeal.nD Cert.Merge1ReferenceIdeal.τ).loc Cert.Merge1ReferenceIdeal.main_arg3) = m ((c.tc : Thread Cert.Merge1Ideal.nD Cert.Merge1Ideal.τ).loc Cert.Merge1Ideal.main_arg3)
      ∧ m' ((c.tc : Thread Cert.Merge1ReferenceIdeal.nD Cert.Merge1ReferenceIdeal.τ).loc Cert.Merge1ReferenceIdeal.main_arg4) = m ((c.tc : Thread Cert.Merge1Ideal.nD Cert.Merge1Ideal.τ).loc Cert.Merge1Ideal.main_arg4)) →
    ∃ (v0 : (c : Dev Cert.Merge1Ideal.nD) → Buf (Elt Ideal) ((c.tc : Thread Cert.Merge1Ideal.nD Cert.Merge1Ideal.τ).loc Cert.Merge1Ideal.main_v5)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v5) = v0 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ θ_run (Cert.Merge1ReferenceIdeal.defs (F := Ideal)) (onTc (τ := Cert.Merge1ReferenceIdeal.τ) (Cert.Merge1ReferenceIdeal.main (F := Ideal))) ⟨m', fun _ => 0, g'⟩ (fun r => ∀ c : Dev Cert.Merge1ReferenceIdeal.nD,
          r.2.mem ((c.tc : Thread Cert.Merge1ReferenceIdeal.nD Cert.Merge1ReferenceIdeal.τ).loc Cert.Merge1ReferenceIdeal.main_v17) = v0 c
          ∧ r.2.mem ((c.tc : Thread Cert.Merge1ReferenceIdeal.nD Cert.Merge1ReferenceIdeal.τ).loc Cert.Merge1ReferenceIdeal.main_arg0) = m' ((c.tc : Thread Cert.Merge1ReferenceIdeal.nD Cert.Merge1ReferenceIdeal.τ).loc Cert.Merge1ReferenceIdeal.main_arg0)
          ∧ r.2.mem ((c.tc : Thread Cert.Merge1ReferenceIdeal.nD Cert.Merge1ReferenceIdeal.τ).loc Cert.Merge1ReferenceIdeal.main_arg1) = m' ((c.tc : Thread Cert.Merge1ReferenceIdeal.nD Cert.Merge1ReferenceIdeal.τ).loc Cert.Merge1ReferenceIdeal.main_arg1)
          ∧ r.2.mem ((c.tc : Thread Cert.Merge1ReferenceIdeal.nD Cert.Merge1ReferenceIdeal.τ).loc Cert.Merge1ReferenceIdeal.main_arg2) = m' ((c.tc : Thread Cert.Merge1ReferenceIdeal.nD Cert.Merge1ReferenceIdeal.τ).loc Cert.Merge1ReferenceIdeal.main_arg2)
          ∧ r.2.mem ((c.tc : Thread Cert.Merge1ReferenceIdeal.nD Cert.Merge1ReferenceIdeal.τ).loc Cert.Merge1ReferenceIdeal.main_arg3) = m' ((c.tc : Thread Cert.Merge1ReferenceIdeal.nD Cert.Merge1ReferenceIdeal.τ).loc Cert.Merge1ReferenceIdeal.main_arg3)
          ∧ r.2.mem ((c.tc : Thread Cert.Merge1ReferenceIdeal.nD Cert.Merge1ReferenceIdeal.τ).loc Cert.Merge1ReferenceIdeal.main_arg4) = m' ((c.tc : Thread Cert.Merge1ReferenceIdeal.nD Cert.Merge1ReferenceIdeal.τ).loc Cert.Merge1ReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v5) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_Pool_PoolIdeal : Prop :=
  True

def algebraic_PoolIdeal_PoolReferenceIdeal_pre_finite_inputs [hPoolIdeal : Cert.PoolIdeal.Facts] [hPoolReferenceIdeal : Cert.PoolReferenceIdeal.Facts] [hPre_finite_inputs : Cert.Pre_finite_inputs.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal_finite_inputs m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v75) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hProj1 : Cert.Proj1.Facts) (hProj1Ideal : Cert.Proj1Ideal.Facts) (hProj1ReferenceIdeal : Cert.Proj1ReferenceIdeal.Facts) (hMerge1 : Cert.Merge1.Facts) (hMerge1Ideal : Cert.Merge1Ideal.Facts) (hMerge1ReferenceIdeal : Cert.Merge1ReferenceIdeal.Facts) (hMerge : Cert.Merge.Facts) (hMergeIdeal : Cert.MergeIdeal.Facts) (hMergeReferenceIdeal : Cert.MergeReferenceIdeal.Facts) (hPool : Cert.Pool.Facts) (hPoolIdeal : Cert.PoolIdeal.Facts) (hPoolReferenceIdeal : Cert.PoolReferenceIdeal.Facts) (hPre_finite : Cert.Pre_finite.Facts) (hPre_finite_inputs : Cert.Pre_finite_inputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjReferenceIdeal (hProjReferenceIdeal := hProjReferenceIdeal)
    ∧ quiescent_Proj1 (hProj1 := hProj1)
    ∧ quiescent_Proj1Ideal (hProj1Ideal := hProj1Ideal)
    ∧ quiescent_Proj1ReferenceIdeal (hProj1ReferenceIdeal := hProj1ReferenceIdeal)
    ∧ quiescent_Merge1 (hMerge1 := hMerge1)
    ∧ quiescent_Merge1Ideal (hMerge1Ideal := hMerge1Ideal)
    ∧ quiescent_Merge1ReferenceIdeal (hMerge1ReferenceIdeal := hMerge1ReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Pool (hPool := hPool)
    ∧ quiescent_PoolIdeal (hPoolIdeal := hPoolIdeal)
    ∧ quiescent_PoolIdeal_pre_finite_inputs (hPoolIdeal := hPoolIdeal) (hPre_finite_inputs := hPre_finite_inputs)
    ∧ quiescent_PoolReferenceIdeal (hPoolReferenceIdeal := hPoolReferenceIdeal)
    ∧ quiescent_PoolReferenceIdeal_pre_finite_inputs (hPoolReferenceIdeal := hPoolReferenceIdeal) (hPre_finite_inputs := hPre_finite_inputs)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjReferenceIdeal (hProjIdeal := hProjIdeal) (hProjReferenceIdeal := hProjReferenceIdeal)
    ∧ preserves_Proj1_Proj1Ideal
    ∧ algebraic_Proj1Ideal_Proj1ReferenceIdeal (hProj1Ideal := hProj1Ideal) (hProj1ReferenceIdeal := hProj1ReferenceIdeal)
    ∧ preserves_Merge1_Merge1Ideal
    ∧ algebraic_Merge1Ideal_Merge1ReferenceIdeal (hMerge1Ideal := hMerge1Ideal) (hMerge1ReferenceIdeal := hMerge1ReferenceIdeal)
    ∧ preserves_Merge_MergeIdeal
    ∧ algebraic_MergeIdeal_MergeReferenceIdeal (hMergeIdeal := hMergeIdeal) (hMergeReferenceIdeal := hMergeReferenceIdeal)
    ∧ preserves_Pool_PoolIdeal
    ∧ algebraic_PoolIdeal_PoolReferenceIdeal_pre_finite_inputs (hPoolIdeal := hPoolIdeal) (hPoolReferenceIdeal := hPoolReferenceIdeal) (hPre_finite_inputs := hPre_finite_inputs)
-- ==== Pre_finite.lean ====
abbrev S1x16384x8x2x64 : Shape := ⟨5, ![1, 16384, 8, 2, 64]⟩
abbrev S1x16384x8x128 : Shape := ⟨4, ![1, 16384, 8, 128]⟩
abbrev S64 : Shape := ⟨1, ![64]⟩
abbrev S128 : Shape := ⟨1, ![128]⟩
abbrev S_ : Shape := ⟨0, ![]⟩

class Facts : Prop where
  bcast_S_S1x16384x8x2x64 : S_.BroadcastsInDim S1x16384x8x2x64 (![] : Fin 0 → Fin S1x16384x8x2x64.rank)
  bcast_S_S1x16384x8x128 : S_.BroadcastsInDim S1x16384x8x128 (![] : Fin 0 → Fin S1x16384x8x128.rank)
  bcast_S_S64 : S_.BroadcastsInDim S64 (![] : Fin 0 → Fin S64.rank)

variable [Facts]

def fn_part1 {F : FTy → Type} [FloatOps F] (main_arg6 : FVec F S64 .f32) (main_v2 : IVec S1x16384x8x2x64 1) (main_v5 : IVec S1x16384x8x2x64 1) (main_v8 : IVec S1x16384x8x128 1) (main_v11 : IVec S64 1) (main_v14 : IVec S64 1) (main_v17 : IVec S64 1) : IVec S1x16384x8x2x64 1 × IVec S1x16384x8x2x64 1 × IVec S1x16384x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S1x16384x8x2x64 .f32) (main_arg1 : FVec F S1x16384x8x2x64 .f32) (main_arg2 : FVec F S1x16384x8x128 .f32) (main_arg3 : FVec F S64 .f32) (main_arg4 : FVec F S64 .f32) (main_arg5 : FVec F S64 .f32) (main_arg6 : FVec F S64 .f32) (main_arg7 : FVec F S128 .f32) : IVec S1x16384x8x2x64 1 × IVec S1x16384x8x2x64 1 × IVec S1x16384x8x128 1 × IVec S64 1 × IVec S64 1 × IVec S64 1 × IVec S64 1 :=
  let main_v0 : FVec F S1x16384x8x2x64 .f32 := Host.absf main_arg0
  let main_cst : FVec F S_ .f32 := constant S_ .f32 0x7F800000#32
  let main_v1 : FVec F S1x16384x8x2x64 .f32 := broadcastInDim S1x16384x8x2x64 ![] bcast_S_S1x16384x8x2x64 main_cst
  let main_v2 : IVec S1x16384x8x2x64 1 := cmpf .olt main_v0 main_v1
  let main_v3 : FVec F S1x16384x8x2x64 .f32 := Host.absf main_arg1
  let main_cst_0 : FVec F S_ .f32 := constant S_ .f32 0x7F800000#32
  let main_v4 : FVec F S1x16384x8x2x64 .f32 := broadcastInDim S1x16384x8x2x64 ![] bcast_S_S1x16384x8x2x64 main_cst_0
  let main_v5 : IVec S1x16384x8x2x64 1 := cmpf .olt main_v3 main_v4
  let main_v6 : FVec F S1x16384x8x128 .f32 := Host.absf main_arg2
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_finite_inputs.lean ====
abbrev S1x16384x512 : Shape := ⟨3, ![1, 16384, 512]⟩
abbrev S4x128x128 : Shape := ⟨3, ![4, 128, 128]⟩
abbrev S512 : Shape := ⟨1, ![512]⟩
abbrev S_ : Shape := ⟨0, ![]⟩

class Facts : Prop where
  bcast_S_S1x16384x512 : S_.BroadcastsInDim S1x16384x512 (![] : Fin 0 → Fin S1x16384x512.rank)

variable [Facts]

def fn {F : FTy → Type} [FloatOps F] (main_arg0 : FVec F S1x16384x512 .f32) (main_arg1 : FVec F S4x128x128 .f32) (main_arg2 : FVec F S512 .f32) : IVec S1x16384x512 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  main_v2
-- ==== Kernel.lean ====
abbrev S1x16384x8x2x64 : Shape := ⟨5, ![1, 16384, 8, 2, 64]⟩
abbrev S1x16384x8x128 : Shape := ⟨4, ![1, 16384, 8, 128]⟩
abbrev S64 : Shape := ⟨1, ![64]⟩
abbrev S128 : Shape := ⟨1, ![128]⟩
abbrev S16384x1024 : Shape := ⟨2, ![16384, 1024]⟩
abbrev S1024x16384 : Shape := ⟨2, ![1024, 16384]⟩
abbrev S1x64 : Shape := ⟨2, ![1, 64]⟩
abbrev S1x128 : Shape := ⟨2, ![1, 128]⟩
abbrev S256x128 : Shape := ⟨2, ![256, 128]⟩
abbrev S16384x128 : Shape := ⟨2, ![16384, 128]⟩
abbrev S128x16384 : Shape := ⟨2, ![128, 16384]⟩
abbrev S2x256x512 : Shape := ⟨3, ![2, 256, 512]⟩
abbrev S512x128 : Shape := ⟨2, ![512, 128]⟩
abbrev S256x512 : Shape := ⟨2, ![256, 512]⟩
abbrev S1x256x512 : Shape := ⟨3, ![1, 256, 512]⟩
abbrev S1x512 : Shape := ⟨2, ![1, 512]⟩
abbrev S144x512 : Shape := ⟨2, ![144, 512]⟩
abbrev S128x256 : Shape := ⟨2, ![128, 256]⟩
abbrev S512 : Shape := ⟨1, ![512]⟩
abbrev S16x256 : Shape := ⟨2, ![16, 256]⟩
abbrev S144x256 : Shape := ⟨2, ![144, 256]⟩
abbrev S256x256 : Shape := ⟨2, ![256, 256]⟩
abbrev S128x512 : Shape := ⟨2, ![128, 512]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 20
  | .vmem => 12
  | .smem => 0
  | _ => 0

abbrev bufTy : (tb : Table) → Fin (tcTables nBuf tb) → BufTy
  | .hbm, ⟨0, _⟩ => ⟨S1x16384x8x2x64, .f32⟩
  | .hbm, ⟨1, _⟩ => ⟨S1x16384x8x2x64, .f32⟩
  | .hbm, ⟨2, _⟩ => ⟨S1x16384x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S1024x16384, .f32⟩
  | .hbm, ⟨12, _⟩ => ⟨S1024x16384, .bf16⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S16384x1024, .f32⟩
  | .hbm, ⟨18, _⟩ => ⟨S1x128, .f32⟩
  | .hbm, ⟨19, _⟩ => ⟨S16384x1024, .f32⟩
  | .local _ .vmem, ⟨0, _⟩ => ⟨S256x128, .f32⟩
  | .local _ .vmem, ⟨1, _⟩ => ⟨S256x128, .f32⟩
  | .local _ .vmem, ⟨2, _⟩ => ⟨S16384x128, .bf16⟩
  | .local _ .vmem, ⟨3, _⟩ => ⟨S128x16384, .bf16⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | .local _ .vmem, ⟨11, _⟩ => ⟨S2x256x512, .f32⟩
  | _, _ => ⟨S1x16384x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![8, 64], ![false, false]⟩

def k0_mult1 : BitVec 32 :=
  let c0_i32 : BitVec 32 := 0#32
  c0_i32
@[reducible] def k0_t1_loop (i : grid0.Coords) : Scf.Loop 32 :=
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_19 : BitVec 32 := 1#32
  ⟨c0_i32_17, v47, c1_i32_19⟩
def k0_mult2 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c0_i32_101 : BitVec 32 := 0#32
  let v245 : BitVec 32 := Scalar.addi v244 c0_i32_101
  let c1_i32_102 : BitVec 32 := 1#32
  let v246 : BitVec 32 := Scalar.addi v245 c1_i32_102
  let c256_i32_103 : BitVec 32 := 256#32
  let v247 : BitVec 32 := Scalar.muli v246 c256_i32_103
  v247
def k0_off1 (i : grid0.Coords) (k0_t1 : Fin (k0_t1_loop i).trips) (c0_i32_101 : BitVec 32) : Fin 2 → Nat :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let v245 : BitVec 32 := Scalar.addi v244 c0_i32_101
  let c1_i32_102 : BitVec 32 := 1#32
  let v246 : BitVec 32 := Scalar.addi v245 c1_i32_102
  let c256_i32_103 : BitVec 32 := 256#32
  let v247 : BitVec 32 := Scalar.muli v246 c256_i32_103
  let v248 : BitVec 32 := v247
  let v249 : Index := Scalar.indexCast v248
  let c0_104 : Index := 0#32
  ![v249.toNat, 0]
def k0_mult3 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c0_i32_112 : BitVec 32 := 0#32
  let v259 : BitVec 32 := Scalar.addi v244 c0_i32_112
  let c256_i32_113 : BitVec 32 := 256#32
  let v260 : BitVec 32 := Scalar.muli v259 c256_i32_113
  v260
def k0_off2 (i : grid0.Coords) (k0_t1 : Fin (k0_t1_loop i).trips) (c0_i32_112 : BitVec 32) : Fin 2 → Nat :=
  let c0_114 : Index := 0#32
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let v259 : BitVec 32 := Scalar.addi v244 c0_i32_112
  let c256_i32_113 : BitVec 32 := 256#32
  let v260 : BitVec 32 := Scalar.muli v259 c256_i32_113
  let v261 : BitVec 32 := v260
  let v262 : Index := Scalar.indexCast v261
  ![0, v262.toNat]
def k0_mult4 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c1_i32_118 : BitVec 32 := 1#32
  let v280 : BitVec 32 := Scalar.addi v244 c1_i32_118
  let c1_i32_119 : BitVec 32 := 1#32
  let v281 : BitVec 32 := Scalar.addi v280 c1_i32_119
  let c256_i32_120 : BitVec 32 := 256#32
  let v282 : BitVec 32 := Scalar.muli v281 c256_i32_120
  v282
def k0_mult5 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c1_i32_130 : BitVec 32 := 1#32
  let v294 : BitVec 32 := Scalar.addi v244 c1_i32_130
  let c256_i32_131 : BitVec 32 := 256#32
  let v295 : BitVec 32 := Scalar.muli v294 c256_i32_131
  v295
def k0_mult6 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c2_i32_136 : BitVec 32 := 2#32
  let v315 : BitVec 32 := Scalar.addi v244 c2_i32_136
  let c1_i32_137 : BitVec 32 := 1#32
  let v316 : BitVec 32 := Scalar.addi v315 c1_i32_137
  let c256_i32_138 : BitVec 32 := 256#32
  let v317 : BitVec 32 := Scalar.muli v316 c256_i32_138
  v317
def k0_mult7 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c2_i32_148 : BitVec 32 := 2#32
  let v329 : BitVec 32 := Scalar.addi v244 c2_i32_148
  let c256_i32_149 : BitVec 32 := 256#32
  let v330 : BitVec 32 := Scalar.muli v329 c256_i32_149
  v330
def k0_mult8 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c3_i32 : BitVec 32 := 3#32
  let v350 : BitVec 32 := Scalar.addi v244 c3_i32
  let c1_i32_154 : BitVec 32 := 1#32
  let v351 : BitVec 32 := Scalar.addi v350 c1_i32_154
  let c256_i32_155 : BitVec 32 := 256#32
  let v352 : BitVec 32 := Scalar.muli v351 c256_i32_155
  v352
def k0_mult9 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c3_i32_165 : BitVec 32 := 3#32
  let v364 : BitVec 32 := Scalar.addi v244 c3_i32_165
  let c256_i32_166 : BitVec 32 := 256#32
  let v365 : BitVec 32 := Scalar.muli v364 c256_i32_166
  v365
def k0_mult10 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c4_i32_171 : BitVec 32 := 4#32
  let v385 : BitVec 32 := Scalar.addi v244 c4_i32_171
  let c1_i32_172 : BitVec 32 := 1#32
  let v386 : BitVec 32 := Scalar.addi v385 c1_i32_172
  let c256_i32_173 : BitVec 32 := 256#32
  let v387 : BitVec 32 := Scalar.muli v386 c256_i32_173
  v387
def k0_mult11 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c4_i32_183 : BitVec 32 := 4#32
  let v399 : BitVec 32 := Scalar.addi v244 c4_i32_183
  let c256_i32_184 : BitVec 32 := 256#32
  let v400 : BitVec 32 := Scalar.muli v399 c256_i32_184
  v400
def k0_mult12 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c5_i32 : BitVec 32 := 5#32
  let v420 : BitVec 32 := Scalar.addi v244 c5_i32
  let c1_i32_189 : BitVec 32 := 1#32
  let v421 : BitVec 32 := Scalar.addi v420 c1_i32_189
  let c256_i32_190 : BitVec 32 := 256#32
  let v422 : BitVec 32 := Scalar.muli v421 c256_i32_190
  v422
def k0_mult13 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c5_i32_200 : BitVec 32 := 5#32
  let v434 : BitVec 32 := Scalar.addi v244 c5_i32_200
  let c256_i32_201 : BitVec 32 := 256#32
  let v435 : BitVec 32 := Scalar.muli v434 c256_i32_201
  v435
def k0_mult14 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c6_i32 : BitVec 32 := 6#32
  let v455 : BitVec 32 := Scalar.addi v244 c6_i32
  let c1_i32_206 : BitVec 32 := 1#32
  let v456 : BitVec 32 := Scalar.addi v455 c1_i32_206
  let c256_i32_207 : BitVec 32 := 256#32
  let v457 : BitVec 32 := Scalar.muli v456 c256_i32_207
  v457
def k0_mult15 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c6_i32_217 : BitVec 32 := 6#32
  let v469 : BitVec 32 := Scalar.addi v244 c6_i32_217
  let c256_i32_218 : BitVec 32 := 256#32
  let v470 : BitVec 32 := Scalar.muli v469 c256_i32_218
  v470
def k0_mult16 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c7_i32 : BitVec 32 := 7#32
  let v490 : BitVec 32 := Scalar.addi v244 c7_i32
  let c1_i32_223 : BitVec 32 := 1#32
  let v491 : BitVec 32 := Scalar.addi v490 c1_i32_223
  let c256_i32_224 : BitVec 32 := 256#32
  let v492 : BitVec 32 := Scalar.muli v491 c256_i32_224
  v492
def k0_mult17 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c7_i32_234 : BitVec 32 := 7#32
  let v504 : BitVec 32 := Scalar.addi v244 c7_i32_234
  let c256_i32_235 : BitVec 32 := 256#32
  let v505 : BitVec 32 := Scalar.muli v504 c256_i32_235
  v505
def k0_mult18 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c8_i32_240 : BitVec 32 := 8#32
  let v525 : BitVec 32 := Scalar.addi v244 c8_i32_240
  let c1_i32_241 : BitVec 32 := 1#32
  let v526 : BitVec 32 := Scalar.addi v525 c1_i32_241
  let c256_i32_242 : BitVec 32 := 256#32
  let v527 : BitVec 32 := Scalar.muli v526 c256_i32_242
  v527
def k0_mult19 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c8_i32_252 : BitVec 32 := 8#32
  let v539 : BitVec 32 := Scalar.addi v244 c8_i32_252
  let c256_i32_253 : BitVec 32 := 256#32
  let v540 : BitVec 32 := Scalar.muli v539 c256_i32_253
  v540
def k0_mult20 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c9_i32 : BitVec 32 := 9#32
  let v560 : BitVec 32 := Scalar.addi v244 c9_i32
  let c1_i32_258 : BitVec 32 := 1#32
  let v561 : BitVec 32 := Scalar.addi v560 c1_i32_258
  let c256_i32_259 : BitVec 32 := 256#32
  let v562 : BitVec 32 := Scalar.muli v561 c256_i32_259
  v562
def k0_mult21 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c9_i32_269 : BitVec 32 := 9#32
  let v574 : BitVec 32 := Scalar.addi v244 c9_i32_269
  let c256_i32_270 : BitVec 32 := 256#32
  let v575 : BitVec 32 := Scalar.muli v574 c256_i32_270
  v575
def k0_mult22 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c10_i32 : BitVec 32 := 10#32
  let v595 : BitVec 32 := Scalar.addi v244 c10_i32
  let c1_i32_275 : BitVec 32 := 1#32
  let v596 : BitVec 32 := Scalar.addi v595 c1_i32_275
  let c256_i32_276 : BitVec 32 := 256#32
  let v597 : BitVec 32 := Scalar.muli v596 c256_i32_276
  v597
def k0_mult23 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c10_i32_286 : BitVec 32 := 10#32
  let v609 : BitVec 32 := Scalar.addi v244 c10_i32_286
  let c256_i32_287 : BitVec 32 := 256#32
  let v610 : BitVec 32 := Scalar.muli v609 c256_i32_287
  v610
def k0_mult24 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c11_i32 : BitVec 32 := 11#32
  let v630 : BitVec 32 := Scalar.addi v244 c11_i32
  let c1_i32_292 : BitVec 32 := 1#32
  let v631 : BitVec 32 := Scalar.addi v630 c1_i32_292
  let c256_i32_293 : BitVec 32 := 256#32
  let v632 : BitVec 32 := Scalar.muli v631 c256_i32_293
  v632
def k0_mult25 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c11_i32_303 : BitVec 32 := 11#32
  let v644 : BitVec 32 := Scalar.addi v244 c11_i32_303
  let c256_i32_304 : BitVec 32 := 256#32
  let v645 : BitVec 32 := Scalar.muli v644 c256_i32_304
  v645
def k0_mult26 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c12_i32 : BitVec 32 := 12#32
  let v665 : BitVec 32 := Scalar.addi v244 c12_i32
  let c1_i32_309 : BitVec 32 := 1#32
  let v666 : BitVec 32 := Scalar.addi v665 c1_i32_309
  let c256_i32_310 : BitVec 32 := 256#32
  let v667 : BitVec 32 := Scalar.muli v666 c256_i32_310
  v667
def k0_mult27 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c12_i32_320 : BitVec 32 := 12#32
  let v679 : BitVec 32 := Scalar.addi v244 c12_i32_320
  let c256_i32_321 : BitVec 32 := 256#32
  let v680 : BitVec 32 := Scalar.muli v679 c256_i32_321
  v680
def k0_mult28 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c13_i32 : BitVec 32 := 13#32
  let v700 : BitVec 32 := Scalar.addi v244 c13_i32
  let c1_i32_326 : BitVec 32 := 1#32
  let v701 : BitVec 32 := Scalar.addi v700 c1_i32_326
  let c256_i32_327 : BitVec 32 := 256#32
  let v702 : BitVec 32 := Scalar.muli v701 c256_i32_327
  v702
def k0_mult29 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c13_i32_337 : BitVec 32 := 13#32
  let v714 : BitVec 32 := Scalar.addi v244 c13_i32_337
  let c256_i32_338 : BitVec 32 := 256#32
  let v715 : BitVec 32 := Scalar.muli v714 c256_i32_338
  v715
def k0_mult30 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c14_i32 : BitVec 32 := 14#32
  let v735 : BitVec 32 := Scalar.addi v244 c14_i32
  let c1_i32_343 : BitVec 32 := 1#32
  let v736 : BitVec 32 := Scalar.addi v735 c1_i32_343
  let c256_i32_344 : BitVec 32 := 256#32
  let v737 : BitVec 32 := Scalar.muli v736 c256_i32_344
  v737
def k0_mult31 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c14_i32_354 : BitVec 32 := 14#32
  let v749 : BitVec 32 := Scalar.addi v244 c14_i32_354
  let c256_i32_355 : BitVec 32 := 256#32
  let v750 : BitVec 32 := Scalar.muli v749 c256_i32_355
  v750
def k0_mult32 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c15_i32 : BitVec 32 := 15#32
  let v770 : BitVec 32 := Scalar.addi v244 c15_i32
  let c1_i32_360 : BitVec 32 := 1#32
  let v771 : BitVec 32 := Scalar.addi v770 c1_i32_360
  let c256_i32_361 : BitVec 32 := 256#32
  let v772 : BitVec 32 := Scalar.muli v771 c256_i32_361
  v772
def k0_mult33 (i : grid0.Coords) (k0_t1 : Fin (k0_t1_loop i).trips) : BitVec 32 :=
  let c0_i32_100 : BitVec 32 := 0#32
  let c16_i32_99 : BitVec 32 := 16#32
  let c0_i32_17 : BitVec 32 := 0#32
  let c1_i32_19 : BitVec 32 := 1#32
  let arg12 : BitVec 32 := Scf.iv c0_i32_17 c1_i32_19 k0_t1
  let v243 : BitVec 32 := Scalar.muli c16_i32_99 arg12
  let v244 : BitVec 32 := Scalar.addi c0_i32_100 v243
  let c15_i32_371 : BitVec 32 := 15#32
  let v784 : BitVec 32 := Scalar.addi v244 c15_i32_371
  let c256_i32_372 : BitVec 32 := 256#32
  let v785 : BitVec 32 := Scalar.muli v784 c256_i32_372
  v785
@[reducible] def k0_t2_loop (i : grid0.Coords) : Scf.Loop 32 :=
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let v44 : BitVec 32 := Scalar.addi c0_i32_17 v43
  let c1_i32_20 : BitVec 32 := 1#32
  ⟨v47, v44, c1_i32_20⟩
def k0_mult34 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c0_i32_101 : BitVec 32 := 0#32
  let v245 : BitVec 32 := Scalar.addi v244 c0_i32_101
  let c1_i32_102 : BitVec 32 := 1#32
  let v246 : BitVec 32 := Scalar.addi v245 c1_i32_102
  let c256_i32_103 : BitVec 32 := 256#32
  let v247 : BitVec 32 := Scalar.muli v246 c256_i32_103
  v247
def k0_off3 (i : grid0.Coords) (k0_t2 : Fin (k0_t2_loop i).trips) (c0_i32_101 : BitVec 32) : Fin 2 → Nat :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let v245 : BitVec 32 := Scalar.addi v244 c0_i32_101
  let c1_i32_102 : BitVec 32 := 1#32
  let v246 : BitVec 32 := Scalar.addi v245 c1_i32_102
  let c256_i32_103 : BitVec 32 := 256#32
  let v247 : BitVec 32 := Scalar.muli v246 c256_i32_103
  let v248 : BitVec 32 := v247
  let v249 : Index := Scalar.indexCast v248
  let c0_104 : Index := 0#32
  ![v249.toNat, 0]
def k0_mult35 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c0_i32_112 : BitVec 32 := 0#32
  let v259 : BitVec 32 := Scalar.addi v244 c0_i32_112
  let c256_i32_113 : BitVec 32 := 256#32
  let v260 : BitVec 32 := Scalar.muli v259 c256_i32_113
  v260
def k0_off4 (i : grid0.Coords) (k0_t2 : Fin (k0_t2_loop i).trips) (c0_i32_112 : BitVec 32) : Fin 2 → Nat :=
  let c0_114 : Index := 0#32
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let v259 : BitVec 32 := Scalar.addi v244 c0_i32_112
  let c256_i32_113 : BitVec 32 := 256#32
  let v260 : BitVec 32 := Scalar.muli v259 c256_i32_113
  let v261 : BitVec 32 := v260
  let v262 : Index := Scalar.indexCast v261
  ![0, v262.toNat]
def k0_mult36 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c1_i32_118 : BitVec 32 := 1#32
  let v280 : BitVec 32 := Scalar.addi v244 c1_i32_118
  let c1_i32_119 : BitVec 32 := 1#32
  let v281 : BitVec 32 := Scalar.addi v280 c1_i32_119
  let c256_i32_120 : BitVec 32 := 256#32
  let v282 : BitVec 32 := Scalar.muli v281 c256_i32_120
  v282
def k0_mult37 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c1_i32_130 : BitVec 32 := 1#32
  let v294 : BitVec 32 := Scalar.addi v244 c1_i32_130
  let c256_i32_131 : BitVec 32 := 256#32
  let v295 : BitVec 32 := Scalar.muli v294 c256_i32_131
  v295
def k0_mult38 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c2_i32_136 : BitVec 32 := 2#32
  let v315 : BitVec 32 := Scalar.addi v244 c2_i32_136
  let c1_i32_137 : BitVec 32 := 1#32
  let v316 : BitVec 32 := Scalar.addi v315 c1_i32_137
  let c256_i32_138 : BitVec 32 := 256#32
  let v317 : BitVec 32 := Scalar.muli v316 c256_i32_138
  v317
def k0_mult39 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c2_i32_148 : BitVec 32 := 2#32
  let v329 : BitVec 32 := Scalar.addi v244 c2_i32_148
  let c256_i32_149 : BitVec 32 := 256#32
  let v330 : BitVec 32 := Scalar.muli v329 c256_i32_149
  v330
def k0_mult40 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c3_i32 : BitVec 32 := 3#32
  let v350 : BitVec 32 := Scalar.addi v244 c3_i32
  let c1_i32_154 : BitVec 32 := 1#32
  let v351 : BitVec 32 := Scalar.addi v350 c1_i32_154
  let c256_i32_155 : BitVec 32 := 256#32
  let v352 : BitVec 32 := Scalar.muli v351 c256_i32_155
  v352
def k0_mult41 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c3_i32_165 : BitVec 32 := 3#32
  let v364 : BitVec 32 := Scalar.addi v244 c3_i32_165
  let c256_i32_166 : BitVec 32 := 256#32
  let v365 : BitVec 32 := Scalar.muli v364 c256_i32_166
  v365
def k0_mult42 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c4_i32_171 : BitVec 32 := 4#32
  let v385 : BitVec 32 := Scalar.addi v244 c4_i32_171
  let c1_i32_172 : BitVec 32 := 1#32
  let v386 : BitVec 32 := Scalar.addi v385 c1_i32_172
  let c256_i32_173 : BitVec 32 := 256#32
  let v387 : BitVec 32 := Scalar.muli v386 c256_i32_173
  v387
def k0_mult43 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c4_i32_183 : BitVec 32 := 4#32
  let v399 : BitVec 32 := Scalar.addi v244 c4_i32_183
  let c256_i32_184 : BitVec 32 := 256#32
  let v400 : BitVec 32 := Scalar.muli v399 c256_i32_184
  v400
def k0_mult44 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c5_i32 : BitVec 32 := 5#32
  let v420 : BitVec 32 := Scalar.addi v244 c5_i32
  let c1_i32_189 : BitVec 32 := 1#32
  let v421 : BitVec 32 := Scalar.addi v420 c1_i32_189
  let c256_i32_190 : BitVec 32 := 256#32
  let v422 : BitVec 32 := Scalar.muli v421 c256_i32_190
  v422
def k0_mult45 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c5_i32_200 : BitVec 32 := 5#32
  let v434 : BitVec 32 := Scalar.addi v244 c5_i32_200
  let c256_i32_201 : BitVec 32 := 256#32
  let v435 : BitVec 32 := Scalar.muli v434 c256_i32_201
  v435
def k0_mult46 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c6_i32 : BitVec 32 := 6#32
  let v455 : BitVec 32 := Scalar.addi v244 c6_i32
  let c1_i32_206 : BitVec 32 := 1#32
  let v456 : BitVec 32 := Scalar.addi v455 c1_i32_206
  let c256_i32_207 : BitVec 32 := 256#32
  let v457 : BitVec 32 := Scalar.muli v456 c256_i32_207
  v457
def k0_mult47 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c6_i32_217 : BitVec 32 := 6#32
  let v469 : BitVec 32 := Scalar.addi v244 c6_i32_217
  let c256_i32_218 : BitVec 32 := 256#32
  let v470 : BitVec 32 := Scalar.muli v469 c256_i32_218
  v470
def k0_mult48 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c7_i32 : BitVec 32 := 7#32
  let v490 : BitVec 32 := Scalar.addi v244 c7_i32
  let c1_i32_223 : BitVec 32 := 1#32
  let v491 : BitVec 32 := Scalar.addi v490 c1_i32_223
  let c256_i32_224 : BitVec 32 := 256#32
  let v492 : BitVec 32 := Scalar.muli v491 c256_i32_224
  v492
def k0_mult49 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c7_i32_234 : BitVec 32 := 7#32
  let v504 : BitVec 32 := Scalar.addi v244 c7_i32_234
  let c256_i32_235 : BitVec 32 := 256#32
  let v505 : BitVec 32 := Scalar.muli v504 c256_i32_235
  v505
def k0_mult50 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c8_i32_240 : BitVec 32 := 8#32
  let v525 : BitVec 32 := Scalar.addi v244 c8_i32_240
  let c1_i32_241 : BitVec 32 := 1#32
  let v526 : BitVec 32 := Scalar.addi v525 c1_i32_241
  let c256_i32_242 : BitVec 32 := 256#32
  let v527 : BitVec 32 := Scalar.muli v526 c256_i32_242
  v527
def k0_mult51 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c8_i32_252 : BitVec 32 := 8#32
  let v539 : BitVec 32 := Scalar.addi v244 c8_i32_252
  let c256_i32_253 : BitVec 32 := 256#32
  let v540 : BitVec 32 := Scalar.muli v539 c256_i32_253
  v540
def k0_mult52 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c9_i32 : BitVec 32 := 9#32
  let v560 : BitVec 32 := Scalar.addi v244 c9_i32
  let c1_i32_258 : BitVec 32 := 1#32
  let v561 : BitVec 32 := Scalar.addi v560 c1_i32_258
  let c256_i32_259 : BitVec 32 := 256#32
  let v562 : BitVec 32 := Scalar.muli v561 c256_i32_259
  v562
def k0_mult53 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c9_i32_269 : BitVec 32 := 9#32
  let v574 : BitVec 32 := Scalar.addi v244 c9_i32_269
  let c256_i32_270 : BitVec 32 := 256#32
  let v575 : BitVec 32 := Scalar.muli v574 c256_i32_270
  v575
def k0_mult54 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c10_i32 : BitVec 32 := 10#32
  let v595 : BitVec 32 := Scalar.addi v244 c10_i32
  let c1_i32_275 : BitVec 32 := 1#32
  let v596 : BitVec 32 := Scalar.addi v595 c1_i32_275
  let c256_i32_276 : BitVec 32 := 256#32
  let v597 : BitVec 32 := Scalar.muli v596 c256_i32_276
  v597
def k0_mult55 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c10_i32_286 : BitVec 32 := 10#32
  let v609 : BitVec 32 := Scalar.addi v244 c10_i32_286
  let c256_i32_287 : BitVec 32 := 256#32
  let v610 : BitVec 32 := Scalar.muli v609 c256_i32_287
  v610
def k0_mult56 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c11_i32 : BitVec 32 := 11#32
  let v630 : BitVec 32 := Scalar.addi v244 c11_i32
  let c1_i32_292 : BitVec 32 := 1#32
  let v631 : BitVec 32 := Scalar.addi v630 c1_i32_292
  let c256_i32_293 : BitVec 32 := 256#32
  let v632 : BitVec 32 := Scalar.muli v631 c256_i32_293
  v632
def k0_mult57 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c11_i32_303 : BitVec 32 := 11#32
  let v644 : BitVec 32 := Scalar.addi v244 c11_i32_303
  let c256_i32_304 : BitVec 32 := 256#32
  let v645 : BitVec 32 := Scalar.muli v644 c256_i32_304
  v645
def k0_mult58 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c12_i32 : BitVec 32 := 12#32
  let v665 : BitVec 32 := Scalar.addi v244 c12_i32
  let c1_i32_309 : BitVec 32 := 1#32
  let v666 : BitVec 32 := Scalar.addi v665 c1_i32_309
  let c256_i32_310 : BitVec 32 := 256#32
  let v667 : BitVec 32 := Scalar.muli v666 c256_i32_310
  v667
def k0_mult59 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c12_i32_320 : BitVec 32 := 12#32
  let v679 : BitVec 32 := Scalar.addi v244 c12_i32_320
  let c256_i32_321 : BitVec 32 := 256#32
  let v680 : BitVec 32 := Scalar.muli v679 c256_i32_321
  v680
def k0_mult60 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c13_i32 : BitVec 32 := 13#32
  let v700 : BitVec 32 := Scalar.addi v244 c13_i32
  let c1_i32_326 : BitVec 32 := 1#32
  let v701 : BitVec 32 := Scalar.addi v700 c1_i32_326
  let c256_i32_327 : BitVec 32 := 256#32
  let v702 : BitVec 32 := Scalar.muli v701 c256_i32_327
  v702
def k0_mult61 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c13_i32_337 : BitVec 32 := 13#32
  let v714 : BitVec 32 := Scalar.addi v244 c13_i32_337
  let c256_i32_338 : BitVec 32 := 256#32
  let v715 : BitVec 32 := Scalar.muli v714 c256_i32_338
  v715
def k0_mult62 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c14_i32 : BitVec 32 := 14#32
  let v735 : BitVec 32 := Scalar.addi v244 c14_i32
  let c1_i32_343 : BitVec 32 := 1#32
  let v736 : BitVec 32 := Scalar.addi v735 c1_i32_343
  let c256_i32_344 : BitVec 32 := 256#32
  let v737 : BitVec 32 := Scalar.muli v736 c256_i32_344
  v737
def k0_mult63 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c14_i32_354 : BitVec 32 := 14#32
  let v749 : BitVec 32 := Scalar.addi v244 c14_i32_354
  let c256_i32_355 : BitVec 32 := 256#32
  let v750 : BitVec 32 := Scalar.muli v749 c256_i32_355
  v750
def k0_mult64 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c15_i32 : BitVec 32 := 15#32
  let v770 : BitVec 32 := Scalar.addi v244 c15_i32
  let c1_i32_360 : BitVec 32 := 1#32
  let v771 : BitVec 32 := Scalar.addi v770 c1_i32_360
  let c256_i32_361 : BitVec 32 := 256#32
  let v772 : BitVec 32 := Scalar.muli v771 c256_i32_361
  v772
def k0_mult65 (i : grid0.Coords) (k0_t2 : Fin (k0_t2_loop i).trips) : BitVec 32 :=
  let c0_i32_100 : BitVec 32 := 0#32
  let c16_i32_99 : BitVec 32 := 16#32
  let c0_i32_17 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let v43 : BitVec 32 := Scalar.subi v42 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg12 : BitVec 32 := Scf.iv v47 c1_i32_20 k0_t2
  let v243 : BitVec 32 := Scalar.muli c16_i32_99 arg12
  let v244 : BitVec 32 := Scalar.addi c0_i32_100 v243
  let c15_i32_371 : BitVec 32 := 15#32
  let v784 : BitVec 32 := Scalar.addi v244 c15_i32_371
  let c256_i32_372 : BitVec 32 := 256#32
  let v785 : BitVec 32 := Scalar.muli v784 c256_i32_372
  v785
@[reducible] def k0_t3_loop (i : grid0.Coords) : Scf.Loop 32 :=
  let c0_i32_29 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_31 : BitVec 32 := 1#32
  ⟨c0_i32_29, v74, c1_i32_31⟩
def k0_mult66 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off5 (i : grid0.Coords) (k0_t3 : Fin (k0_t3_loop i).trips) (c0_i32_100 : BitVec 32) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult67 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off6 (i : grid0.Coords) (k0_t3 : Fin (k0_t3_loop i).trips) (c0_i32_111 : BitVec 32) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
def k0_mult68 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c1_i32_117 : BitVec 32 := 1#32
  let v280 : BitVec 32 := Scalar.addi v244 c1_i32_117
  let c1_i32_118 : BitVec 32 := 1#32
  let v281 : BitVec 32 := Scalar.addi v280 c1_i32_118
  let c256_i32_119 : BitVec 32 := 256#32
  let v282 : BitVec 32 := Scalar.muli v281 c256_i32_119
  v282
def k0_mult69 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c1_i32_129 : BitVec 32 := 1#32
  let v294 : BitVec 32 := Scalar.addi v244 c1_i32_129
  let c256_i32_130 : BitVec 32 := 256#32
  let v295 : BitVec 32 := Scalar.muli v294 c256_i32_130
  v295
def k0_mult70 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c2_i32_135 : BitVec 32 := 2#32
  let v315 : BitVec 32 := Scalar.addi v244 c2_i32_135
  let c1_i32_136 : BitVec 32 := 1#32
  let v316 : BitVec 32 := Scalar.addi v315 c1_i32_136
  let c256_i32_137 : BitVec 32 := 256#32
  let v317 : BitVec 32 := Scalar.muli v316 c256_i32_137
  v317
def k0_mult71 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c2_i32_147 : BitVec 32 := 2#32
  let v329 : BitVec 32 := Scalar.addi v244 c2_i32_147
  let c256_i32_148 : BitVec 32 := 256#32
  let v330 : BitVec 32 := Scalar.muli v329 c256_i32_148
  v330
def k0_mult72 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c3_i32 : BitVec 32 := 3#32
  let v350 : BitVec 32 := Scalar.addi v244 c3_i32
  let c1_i32_153 : BitVec 32 := 1#32
  let v351 : BitVec 32 := Scalar.addi v350 c1_i32_153
  let c256_i32_154 : BitVec 32 := 256#32
  let v352 : BitVec 32 := Scalar.muli v351 c256_i32_154
  v352
def k0_mult73 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c3_i32_164 : BitVec 32 := 3#32
  let v364 : BitVec 32 := Scalar.addi v244 c3_i32_164
  let c256_i32_165 : BitVec 32 := 256#32
  let v365 : BitVec 32 := Scalar.muli v364 c256_i32_165
  v365
def k0_mult74 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c4_i32_170 : BitVec 32 := 4#32
  let v385 : BitVec 32 := Scalar.addi v244 c4_i32_170
  let c1_i32_171 : BitVec 32 := 1#32
  let v386 : BitVec 32 := Scalar.addi v385 c1_i32_171
  let c256_i32_172 : BitVec 32 := 256#32
  let v387 : BitVec 32 := Scalar.muli v386 c256_i32_172
  v387
def k0_mult75 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c4_i32_182 : BitVec 32 := 4#32
  let v399 : BitVec 32 := Scalar.addi v244 c4_i32_182
  let c256_i32_183 : BitVec 32 := 256#32
  let v400 : BitVec 32 := Scalar.muli v399 c256_i32_183
  v400
def k0_mult76 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c5_i32 : BitVec 32 := 5#32
  let v420 : BitVec 32 := Scalar.addi v244 c5_i32
  let c1_i32_188 : BitVec 32 := 1#32
  let v421 : BitVec 32 := Scalar.addi v420 c1_i32_188
  let c256_i32_189 : BitVec 32 := 256#32
  let v422 : BitVec 32 := Scalar.muli v421 c256_i32_189
  v422
def k0_mult77 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c5_i32_199 : BitVec 32 := 5#32
  let v434 : BitVec 32 := Scalar.addi v244 c5_i32_199
  let c256_i32_200 : BitVec 32 := 256#32
  let v435 : BitVec 32 := Scalar.muli v434 c256_i32_200
  v435
def k0_mult78 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c6_i32 : BitVec 32 := 6#32
  let v455 : BitVec 32 := Scalar.addi v244 c6_i32
  let c1_i32_205 : BitVec 32 := 1#32
  let v456 : BitVec 32 := Scalar.addi v455 c1_i32_205
  let c256_i32_206 : BitVec 32 := 256#32
  let v457 : BitVec 32 := Scalar.muli v456 c256_i32_206
  v457
def k0_mult79 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c6_i32_216 : BitVec 32 := 6#32
  let v469 : BitVec 32 := Scalar.addi v244 c6_i32_216
  let c256_i32_217 : BitVec 32 := 256#32
  let v470 : BitVec 32 := Scalar.muli v469 c256_i32_217
  v470
def k0_mult80 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c7_i32 : BitVec 32 := 7#32
  let v490 : BitVec 32 := Scalar.addi v244 c7_i32
  let c1_i32_222 : BitVec 32 := 1#32
  let v491 : BitVec 32 := Scalar.addi v490 c1_i32_222
  let c256_i32_223 : BitVec 32 := 256#32
  let v492 : BitVec 32 := Scalar.muli v491 c256_i32_223
  v492
def k0_mult81 (i : grid0.Coords) (k0_t3 : Fin (k0_t3_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let c1_i32_31 : BitVec 32 := 1#32
  let arg12 : BitVec 32 := Scf.iv c0_i32_29 c1_i32_31 k0_t3
  let v243 : BitVec 32 := Scalar.muli c8_i32_99 arg12
  let v244 : BitVec 32 := Scalar.addi v51 v243
  let c7_i32_233 : BitVec 32 := 7#32
  let v504 : BitVec 32 := Scalar.addi v244 c7_i32_233
  let c256_i32_234 : BitVec 32 := 256#32
  let v505 : BitVec 32 := Scalar.muli v504 c256_i32_234
  v505
@[reducible] def k0_t4_loop (i : grid0.Coords) : Scf.Loop 32 :=
  let c0_i32_29 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let v71 : BitVec 32 := Scalar.addi c0_i32_29 v70
  let c1_i32_32 : BitVec 32 := 1#32
  ⟨v74, v71, c1_i32_32⟩
def k0_mult82 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off7 (i : grid0.Coords) (k0_t4 : Fin (k0_t4_loop i).trips) (c0_i32_100 : BitVec 32) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult83 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off8 (i : grid0.Coords) (k0_t4 : Fin (k0_t4_loop i).trips) (c0_i32_111 : BitVec 32) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
def k0_mult84 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c1_i32_117 : BitVec 32 := 1#32
  let v280 : BitVec 32 := Scalar.addi v244 c1_i32_117
  let c1_i32_118 : BitVec 32 := 1#32
  let v281 : BitVec 32 := Scalar.addi v280 c1_i32_118
  let c256_i32_119 : BitVec 32 := 256#32
  let v282 : BitVec 32 := Scalar.muli v281 c256_i32_119
  v282
def k0_mult85 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c1_i32_129 : BitVec 32 := 1#32
  let v294 : BitVec 32 := Scalar.addi v244 c1_i32_129
  let c256_i32_130 : BitVec 32 := 256#32
  let v295 : BitVec 32 := Scalar.muli v294 c256_i32_130
  v295
def k0_mult86 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c2_i32_135 : BitVec 32 := 2#32
  let v315 : BitVec 32 := Scalar.addi v244 c2_i32_135
  let c1_i32_136 : BitVec 32 := 1#32
  let v316 : BitVec 32 := Scalar.addi v315 c1_i32_136
  let c256_i32_137 : BitVec 32 := 256#32
  let v317 : BitVec 32 := Scalar.muli v316 c256_i32_137
  v317
def k0_mult87 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c2_i32_147 : BitVec 32 := 2#32
  let v329 : BitVec 32 := Scalar.addi v244 c2_i32_147
  let c256_i32_148 : BitVec 32 := 256#32
  let v330 : BitVec 32 := Scalar.muli v329 c256_i32_148
  v330
def k0_mult88 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c3_i32 : BitVec 32 := 3#32
  let v350 : BitVec 32 := Scalar.addi v244 c3_i32
  let c1_i32_153 : BitVec 32 := 1#32
  let v351 : BitVec 32 := Scalar.addi v350 c1_i32_153
  let c256_i32_154 : BitVec 32 := 256#32
  let v352 : BitVec 32 := Scalar.muli v351 c256_i32_154
  v352
def k0_mult89 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c3_i32_164 : BitVec 32 := 3#32
  let v364 : BitVec 32 := Scalar.addi v244 c3_i32_164
  let c256_i32_165 : BitVec 32 := 256#32
  let v365 : BitVec 32 := Scalar.muli v364 c256_i32_165
  v365
def k0_mult90 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c4_i32_170 : BitVec 32 := 4#32
  let v385 : BitVec 32 := Scalar.addi v244 c4_i32_170
  let c1_i32_171 : BitVec 32 := 1#32
  let v386 : BitVec 32 := Scalar.addi v385 c1_i32_171
  let c256_i32_172 : BitVec 32 := 256#32
  let v387 : BitVec 32 := Scalar.muli v386 c256_i32_172
  v387
def k0_mult91 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c4_i32_182 : BitVec 32 := 4#32
  let v399 : BitVec 32 := Scalar.addi v244 c4_i32_182
  let c256_i32_183 : BitVec 32 := 256#32
  let v400 : BitVec 32 := Scalar.muli v399 c256_i32_183
  v400
def k0_mult92 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c5_i32 : BitVec 32 := 5#32
  let v420 : BitVec 32 := Scalar.addi v244 c5_i32
  let c1_i32_188 : BitVec 32 := 1#32
  let v421 : BitVec 32 := Scalar.addi v420 c1_i32_188
  let c256_i32_189 : BitVec 32 := 256#32
  let v422 : BitVec 32 := Scalar.muli v421 c256_i32_189
  v422
def k0_mult93 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c5_i32_199 : BitVec 32 := 5#32
  let v434 : BitVec 32 := Scalar.addi v244 c5_i32_199
  let c256_i32_200 : BitVec 32 := 256#32
  let v435 : BitVec 32 := Scalar.muli v434 c256_i32_200
  v435
def k0_mult94 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c6_i32 : BitVec 32 := 6#32
  let v455 : BitVec 32 := Scalar.addi v244 c6_i32
  let c1_i32_205 : BitVec 32 := 1#32
  let v456 : BitVec 32 := Scalar.addi v455 c1_i32_205
  let c256_i32_206 : BitVec 32 := 256#32
  let v457 : BitVec 32 := Scalar.muli v456 c256_i32_206
  v457
def k0_mult95 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c6_i32_216 : BitVec 32 := 6#32
  let v469 : BitVec 32 := Scalar.addi v244 c6_i32_216
  let c256_i32_217 : BitVec 32 := 256#32
  let v470 : BitVec 32 := Scalar.muli v469 c256_i32_217
  v470
def k0_mult96 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c7_i32 : BitVec 32 := 7#32
  let v490 : BitVec 32 := Scalar.addi v244 c7_i32
  let c1_i32_222 : BitVec 32 := 1#32
  let v491 : BitVec 32 := Scalar.addi v490 c1_i32_222
  let c256_i32_223 : BitVec 32 := 256#32
  let v492 : BitVec 32 := Scalar.muli v491 c256_i32_223
  v492
def k0_mult97 (i : grid0.Coords) (k0_t4 : Fin (k0_t4_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let c8_i32_99 : BitVec 32 := 8#32
  let c0_i32_29 : BitVec 32 := 0#32
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let v70 : BitVec 32 := Scalar.subi v69 c0_i32_29
  let c1_i32_30 : BitVec 32 := 1#32
  let v72 : BitVec 32 := Scalar.divsi v70 c1_i32_30
  let v73 : BitVec 32 := Scalar.muli v72 c1_i32_30
  let v74 : BitVec 32 := Scalar.addi c0_i32_29 v73
  let c1_i32_32 : BitVec 32 := 1#32
  let arg12 : BitVec 32 := Scf.iv v74 c1_i32_32 k0_t4
  let v243 : BitVec 32 := Scalar.muli c8_i32_99 arg12
  let v244 : BitVec 32 := Scalar.addi v51 v243
  let c7_i32_233 : BitVec 32 := 7#32
  let v504 : BitVec 32 := Scalar.addi v244 c7_i32_233
  let c256_i32_234 : BitVec 32 := 256#32
  let v505 : BitVec 32 := Scalar.muli v504 c256_i32_234
  v505
@[reducible] def k0_t5_loop (i : grid0.Coords) : Scf.Loop 32 :=
  let c0_i32_40 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_42 : BitVec 32 := 1#32
  ⟨c0_i32_40, v101, c1_i32_42⟩
def k0_mult98 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off9 (i : grid0.Coords) (k0_t5 : Fin (k0_t5_loop i).trips) (c0_i32_100 : BitVec 32) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult99 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off10 (i : grid0.Coords) (k0_t5 : Fin (k0_t5_loop i).trips) (c0_i32_111 : BitVec 32) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
def k0_mult100 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c1_i32_117 : BitVec 32 := 1#32
  let v280 : BitVec 32 := Scalar.addi v244 c1_i32_117
  let c1_i32_118 : BitVec 32 := 1#32
  let v281 : BitVec 32 := Scalar.addi v280 c1_i32_118
  let c256_i32_119 : BitVec 32 := 256#32
  let v282 : BitVec 32 := Scalar.muli v281 c256_i32_119
  v282
def k0_mult101 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c1_i32_129 : BitVec 32 := 1#32
  let v294 : BitVec 32 := Scalar.addi v244 c1_i32_129
  let c256_i32_130 : BitVec 32 := 256#32
  let v295 : BitVec 32 := Scalar.muli v294 c256_i32_130
  v295
def k0_mult102 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c2_i32_135 : BitVec 32 := 2#32
  let v315 : BitVec 32 := Scalar.addi v244 c2_i32_135
  let c1_i32_136 : BitVec 32 := 1#32
  let v316 : BitVec 32 := Scalar.addi v315 c1_i32_136
  let c256_i32_137 : BitVec 32 := 256#32
  let v317 : BitVec 32 := Scalar.muli v316 c256_i32_137
  v317
def k0_mult103 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c2_i32_147 : BitVec 32 := 2#32
  let v329 : BitVec 32 := Scalar.addi v244 c2_i32_147
  let c256_i32_148 : BitVec 32 := 256#32
  let v330 : BitVec 32 := Scalar.muli v329 c256_i32_148
  v330
def k0_mult104 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c3_i32 : BitVec 32 := 3#32
  let v350 : BitVec 32 := Scalar.addi v244 c3_i32
  let c1_i32_153 : BitVec 32 := 1#32
  let v351 : BitVec 32 := Scalar.addi v350 c1_i32_153
  let c256_i32_154 : BitVec 32 := 256#32
  let v352 : BitVec 32 := Scalar.muli v351 c256_i32_154
  v352
def k0_mult105 (i : grid0.Coords) (k0_t5 : Fin (k0_t5_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let c1_i32_42 : BitVec 32 := 1#32
  let arg12 : BitVec 32 := Scf.iv c0_i32_40 c1_i32_42 k0_t5
  let v243 : BitVec 32 := Scalar.muli c4_i32_99 arg12
  let v244 : BitVec 32 := Scalar.addi v78 v243
  let c3_i32_164 : BitVec 32 := 3#32
  let v364 : BitVec 32 := Scalar.addi v244 c3_i32_164
  let c256_i32_165 : BitVec 32 := 256#32
  let v365 : BitVec 32 := Scalar.muli v364 c256_i32_165
  v365
@[reducible] def k0_t6_loop (i : grid0.Coords) : Scf.Loop 32 :=
  let c0_i32_40 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let v98 : BitVec 32 := Scalar.addi c0_i32_40 v97
  let c1_i32_43 : BitVec 32 := 1#32
  ⟨v101, v98, c1_i32_43⟩
def k0_mult106 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off11 (i : grid0.Coords) (k0_t6 : Fin (k0_t6_loop i).trips) (c0_i32_100 : BitVec 32) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult107 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off12 (i : grid0.Coords) (k0_t6 : Fin (k0_t6_loop i).trips) (c0_i32_111 : BitVec 32) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
def k0_mult108 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c1_i32_117 : BitVec 32 := 1#32
  let v280 : BitVec 32 := Scalar.addi v244 c1_i32_117
  let c1_i32_118 : BitVec 32 := 1#32
  let v281 : BitVec 32 := Scalar.addi v280 c1_i32_118
  let c256_i32_119 : BitVec 32 := 256#32
  let v282 : BitVec 32 := Scalar.muli v281 c256_i32_119
  v282
def k0_mult109 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c1_i32_129 : BitVec 32 := 1#32
  let v294 : BitVec 32 := Scalar.addi v244 c1_i32_129
  let c256_i32_130 : BitVec 32 := 256#32
  let v295 : BitVec 32 := Scalar.muli v294 c256_i32_130
  v295
def k0_mult110 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c2_i32_135 : BitVec 32 := 2#32
  let v315 : BitVec 32 := Scalar.addi v244 c2_i32_135
  let c1_i32_136 : BitVec 32 := 1#32
  let v316 : BitVec 32 := Scalar.addi v315 c1_i32_136
  let c256_i32_137 : BitVec 32 := 256#32
  let v317 : BitVec 32 := Scalar.muli v316 c256_i32_137
  v317
def k0_mult111 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c2_i32_147 : BitVec 32 := 2#32
  let v329 : BitVec 32 := Scalar.addi v244 c2_i32_147
  let c256_i32_148 : BitVec 32 := 256#32
  let v330 : BitVec 32 := Scalar.muli v329 c256_i32_148
  v330
def k0_mult112 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c3_i32 : BitVec 32 := 3#32
  let v350 : BitVec 32 := Scalar.addi v244 c3_i32
  let c1_i32_153 : BitVec 32 := 1#32
  let v351 : BitVec 32 := Scalar.addi v350 c1_i32_153
  let c256_i32_154 : BitVec 32 := 256#32
  let v352 : BitVec 32 := Scalar.muli v351 c256_i32_154
  v352
def k0_mult113 (i : grid0.Coords) (k0_t6 : Fin (k0_t6_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let c4_i32_99 : BitVec 32 := 4#32
  let c0_i32_40 : BitVec 32 := 0#32
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let v97 : BitVec 32 := Scalar.subi v96 c0_i32_40
  let c1_i32_41 : BitVec 32 := 1#32
  let v99 : BitVec 32 := Scalar.divsi v97 c1_i32_41
  let v100 : BitVec 32 := Scalar.muli v99 c1_i32_41
  let v101 : BitVec 32 := Scalar.addi c0_i32_40 v100
  let c1_i32_43 : BitVec 32 := 1#32
  let arg12 : BitVec 32 := Scf.iv v101 c1_i32_43 k0_t6
  let v243 : BitVec 32 := Scalar.muli c4_i32_99 arg12
  let v244 : BitVec 32 := Scalar.addi v78 v243
  let c3_i32_164 : BitVec 32 := 3#32
  let v364 : BitVec 32 := Scalar.addi v244 c3_i32_164
  let c256_i32_165 : BitVec 32 := 256#32
  let v365 : BitVec 32 := Scalar.muli v364 c256_i32_165
  v365
@[reducible] def k0_t7_loop (i : grid0.Coords) : Scf.Loop 32 :=
  let c0_i32_51 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let c1_i32_53 : BitVec 32 := 1#32
  ⟨c0_i32_51, v128, c1_i32_53⟩
def k0_mult114 (i : grid0.Coords) (k0_t7 : Fin (k0_t7_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let c1_i32_53 : BitVec 32 := 1#32
  let arg12 : BitVec 32 := Scf.iv c0_i32_51 c1_i32_53 k0_t7
  let v243 : BitVec 32 := Scalar.muli c2_i32_99 arg12
  let v244 : BitVec 32 := Scalar.addi v105 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off13 (i : grid0.Coords) (k0_t7 : Fin (k0_t7_loop i).trips) (c0_i32_100 : BitVec 32) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let c1_i32_53 : BitVec 32 := 1#32
  let arg12 : BitVec 32 := Scf.iv c0_i32_51 c1_i32_53 k0_t7
  let v243 : BitVec 32 := Scalar.muli c2_i32_99 arg12
  let v244 : BitVec 32 := Scalar.addi v105 v243
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult115 (i : grid0.Coords) (k0_t7 : Fin (k0_t7_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let c1_i32_53 : BitVec 32 := 1#32
  let arg12 : BitVec 32 := Scf.iv c0_i32_51 c1_i32_53 k0_t7
  let v243 : BitVec 32 := Scalar.muli c2_i32_99 arg12
  let v244 : BitVec 32 := Scalar.addi v105 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off14 (i : grid0.Coords) (k0_t7 : Fin (k0_t7_loop i).trips) (c0_i32_111 : BitVec 32) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let c1_i32_53 : BitVec 32 := 1#32
  let arg12 : BitVec 32 := Scf.iv c0_i32_51 c1_i32_53 k0_t7
  let v243 : BitVec 32 := Scalar.muli c2_i32_99 arg12
  let v244 : BitVec 32 := Scalar.addi v105 v243
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
def k0_mult116 (i : grid0.Coords) (k0_t7 : Fin (k0_t7_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let c1_i32_53 : BitVec 32 := 1#32
  let arg12 : BitVec 32 := Scf.iv c0_i32_51 c1_i32_53 k0_t7
  let v243 : BitVec 32 := Scalar.muli c2_i32_99 arg12
  let v244 : BitVec 32 := Scalar.addi v105 v243
  let c1_i32_117 : BitVec 32 := 1#32
  let v280 : BitVec 32 := Scalar.addi v244 c1_i32_117
  let c1_i32_118 : BitVec 32 := 1#32
  let v281 : BitVec 32 := Scalar.addi v280 c1_i32_118
  let c256_i32_119 : BitVec 32 := 256#32
  let v282 : BitVec 32 := Scalar.muli v281 c256_i32_119
  v282
def k0_mult117 (i : grid0.Coords) (k0_t7 : Fin (k0_t7_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let c1_i32_53 : BitVec 32 := 1#32
  let arg12 : BitVec 32 := Scf.iv c0_i32_51 c1_i32_53 k0_t7
  let v243 : BitVec 32 := Scalar.muli c2_i32_99 arg12
  let v244 : BitVec 32 := Scalar.addi v105 v243
  let c1_i32_129 : BitVec 32 := 1#32
  let v294 : BitVec 32 := Scalar.addi v244 c1_i32_129
  let c256_i32_130 : BitVec 32 := 256#32
  let v295 : BitVec 32 := Scalar.muli v294 c256_i32_130
  v295
@[reducible] def k0_t8_loop (i : grid0.Coords) : Scf.Loop 32 :=
  let c0_i32_51 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let v125 : BitVec 32 := Scalar.addi c0_i32_51 v124
  let c1_i32_54 : BitVec 32 := 1#32
  ⟨v128, v125, c1_i32_54⟩
def k0_mult118 (i : grid0.Coords) (k0_t8 : Fin (k0_t8_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let c1_i32_54 : BitVec 32 := 1#32
  let arg12 : BitVec 32 := Scf.iv v128 c1_i32_54 k0_t8
  let v243 : BitVec 32 := Scalar.muli c2_i32_99 arg12
  let v244 : BitVec 32 := Scalar.addi v105 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off15 (i : grid0.Coords) (k0_t8 : Fin (k0_t8_loop i).trips) (c0_i32_100 : BitVec 32) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let c1_i32_54 : BitVec 32 := 1#32
  let arg12 : BitVec 32 := Scf.iv v128 c1_i32_54 k0_t8
  let v243 : BitVec 32 := Scalar.muli c2_i32_99 arg12
  let v244 : BitVec 32 := Scalar.addi v105 v243
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult119 (i : grid0.Coords) (k0_t8 : Fin (k0_t8_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let c1_i32_54 : BitVec 32 := 1#32
  let arg12 : BitVec 32 := Scf.iv v128 c1_i32_54 k0_t8
  let v243 : BitVec 32 := Scalar.muli c2_i32_99 arg12
  let v244 : BitVec 32 := Scalar.addi v105 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off16 (i : grid0.Coords) (k0_t8 : Fin (k0_t8_loop i).trips) (c0_i32_111 : BitVec 32) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let c1_i32_54 : BitVec 32 := 1#32
  let arg12 : BitVec 32 := Scf.iv v128 c1_i32_54 k0_t8
  let v243 : BitVec 32 := Scalar.muli c2_i32_99 arg12
  let v244 : BitVec 32 := Scalar.addi v105 v243
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
def k0_mult120 (i : grid0.Coords) (k0_t8 : Fin (k0_t8_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let c1_i32_54 : BitVec 32 := 1#32
  let arg12 : BitVec 32 := Scf.iv v128 c1_i32_54 k0_t8
  let v243 : BitVec 32 := Scalar.muli c2_i32_99 arg12
  let v244 : BitVec 32 := Scalar.addi v105 v243
  let c1_i32_117 : BitVec 32 := 1#32
  let v280 : BitVec 32 := Scalar.addi v244 c1_i32_117
  let c1_i32_118 : BitVec 32 := 1#32
  let v281 : BitVec 32 := Scalar.addi v280 c1_i32_118
  let c256_i32_119 : BitVec 32 := 256#32
  let v282 : BitVec 32 := Scalar.muli v281 c256_i32_119
  v282
def k0_mult121 (i : grid0.Coords) (k0_t8 : Fin (k0_t8_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let c2_i32_99 : BitVec 32 := 2#32
  let c0_i32_51 : BitVec 32 := 0#32
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let v124 : BitVec 32 := Scalar.subi v123 c0_i32_51
  let c1_i32_52 : BitVec 32 := 1#32
  let v126 : BitVec 32 := Scalar.divsi v124 c1_i32_52
  let v127 : BitVec 32 := Scalar.muli v126 c1_i32_52
  let v128 : BitVec 32 := Scalar.addi c0_i32_51 v127
  let c1_i32_54 : BitVec 32 := 1#32
  let arg12 : BitVec 32 := Scf.iv v128 c1_i32_54 k0_t8
  let v243 : BitVec 32 := Scalar.muli c2_i32_99 arg12
  let v244 : BitVec 32 := Scalar.addi v105 v243
  let c1_i32_129 : BitVec 32 := 1#32
  let v294 : BitVec 32 := Scalar.addi v244 c1_i32_129
  let c256_i32_130 : BitVec 32 := 256#32
  let v295 : BitVec 32 := Scalar.muli v294 c256_i32_130
  v295
@[reducible] def k0_t9_loop (i : grid0.Coords) : Scf.Loop 32 :=
  let c0_i32_63 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let v133 : BitVec 32 := Scalar.subi arg1 v132
  let c0_i32_57 : BitVec 32 := 0#32
  let v135 : BitVec 1 := Scalar.cmpi .sgt v133 c0_i32_57
  let v136 : BitVec 32 := Scalar.extui v135
  let c0_i32_58 : BitVec 32 := 0#32
  let v137 : BitVec 1 := Scalar.cmpi .slt v133 c0_i32_58
  let v138 : BitVec 32 := Scalar.extui v137
  let v139 : BitVec 32 := Scalar.subi v136 v138
  let c1_i32_56 : BitVec 32 := 1#32
  let c0_i32_59 : BitVec 32 := 0#32
  let v140 : BitVec 1 := Scalar.cmpi .sgt c1_i32_56 c0_i32_59
  let v141 : BitVec 32 := Scalar.extui v140
  let c0_i32_60 : BitVec 32 := 0#32
  let v142 : BitVec 1 := Scalar.cmpi .slt c1_i32_56 c0_i32_60
  let v143 : BitVec 32 := Scalar.extui v142
  let v144 : BitVec 32 := Scalar.subi v141 v143
  let v145 : BitVec 1 := Scalar.cmpi .ne v139 v144
  let v146 : BitVec 32 := Scalar.remsi v133 c1_i32_56
  let c0_i32_61 : BitVec 32 := 0#32
  let v147 : BitVec 1 := Scalar.cmpi .ne v146 c0_i32_61
  let v148 : BitVec 1 := Scalar.andi v145 v147
  let v134 : BitVec 32 := Scalar.divsi v133 c1_i32_56
  let c1_i32_62 : BitVec 32 := 1#32
  let v149 : BitVec 32 := Scalar.subi v134 c1_i32_62
  let v150 : BitVec 32 := Scalar.select v148 v149 v134
  let v151 : BitVec 32 := Scalar.subi v150 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_65 : BitVec 32 := 1#32
  ⟨c0_i32_63, v155, c1_i32_65⟩
def k0_mult122 (i : grid0.Coords) (k0_t9 : Fin (k0_t9_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let c1_i32_65 : BitVec 32 := 1#32
  let arg12 : BitVec 32 := Scf.iv c0_i32_63 c1_i32_65 k0_t9
  let v243 : BitVec 32 := Scalar.muli c1_i32_99 arg12
  let v244 : BitVec 32 := Scalar.addi v132 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off17 (i : grid0.Coords) (k0_t9 : Fin (k0_t9_loop i).trips) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let c1_i32_65 : BitVec 32 := 1#32
  let arg12 : BitVec 32 := Scf.iv c0_i32_63 c1_i32_65 k0_t9
  let v243 : BitVec 32 := Scalar.muli c1_i32_99 arg12
  let v244 : BitVec 32 := Scalar.addi v132 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult123 (i : grid0.Coords) (k0_t9 : Fin (k0_t9_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let c1_i32_65 : BitVec 32 := 1#32
  let arg12 : BitVec 32 := Scf.iv c0_i32_63 c1_i32_65 k0_t9
  let v243 : BitVec 32 := Scalar.muli c1_i32_99 arg12
  let v244 : BitVec 32 := Scalar.addi v132 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off18 (i : grid0.Coords) (k0_t9 : Fin (k0_t9_loop i).trips) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let c1_i32_65 : BitVec 32 := 1#32
  let arg12 : BitVec 32 := Scf.iv c0_i32_63 c1_i32_65 k0_t9
  let v243 : BitVec 32 := Scalar.muli c1_i32_99 arg12
  let v244 : BitVec 32 := Scalar.addi v132 v243
  let c0_i32_111 : BitVec 32 := 0#32
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
@[reducible] def k0_t10_loop (i : grid0.Coords) : Scf.Loop 32 :=
  let c0_i32_63 : BitVec 32 := 0#32
  let arg1 : BitVec 32 := BitVec.ofNat 32 (i 1).val
  let c0_i32_22 : BitVec 32 := 0#32
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let v133 : BitVec 32 := Scalar.subi arg1 v132
  let c0_i32_57 : BitVec 32 := 0#32
  let v135 : BitVec 1 := Scalar.cmpi .sgt v133 c0_i32_57
  let v136 : BitVec 32 := Scalar.extui v135
  let c0_i32_58 : BitVec 32 := 0#32
  let v137 : BitVec 1 := Scalar.cmpi .slt v133 c0_i32_58
  let v138 : BitVec 32 := Scalar.extui v137
  let v139 : BitVec 32 := Scalar.subi v136 v138
  let c1_i32_56 : BitVec 32 := 1#32
  let c0_i32_59 : BitVec 32 := 0#32
  let v140 : BitVec 1 := Scalar.cmpi .sgt c1_i32_56 c0_i32_59
  let v141 : BitVec 32 := Scalar.extui v140
  let c0_i32_60 : BitVec 32 := 0#32
  let v142 : BitVec 1 := Scalar.cmpi .slt c1_i32_56 c0_i32_60
  let v143 : BitVec 32 := Scalar.extui v142
  let v144 : BitVec 32 := Scalar.subi v141 v143
  let v145 : BitVec 1 := Scalar.cmpi .ne v139 v144
  let v146 : BitVec 32 := Scalar.remsi v133 c1_i32_56
  let c0_i32_61 : BitVec 32 := 0#32
  let v147 : BitVec 1 := Scalar.cmpi .ne v146 c0_i32_61
  let v148 : BitVec 1 := Scalar.andi v145 v147
  let v134 : BitVec 32 := Scalar.divsi v133 c1_i32_56
  let c1_i32_62 : BitVec 32 := 1#32
  let v149 : BitVec 32 := Scalar.subi v134 c1_i32_62
  let v150 : BitVec 32 := Scalar.select v148 v149 v134
  let v151 : BitVec 32 := Scalar.subi v150 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let v152 : BitVec 32 := Scalar.addi c0_i32_63 v151
  let c1_i32_66 : BitVec 32 := 1#32
  ⟨v155, v152, c1_i32_66⟩
def k0_mult124 (i : grid0.Coords) (k0_t10 : Fin (k0_t10_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let v133 : BitVec 32 := Scalar.subi arg1 v132
  let c0_i32_57 : BitVec 32 := 0#32
  let v135 : BitVec 1 := Scalar.cmpi .sgt v133 c0_i32_57
  let v136 : BitVec 32 := Scalar.extui v135
  let c0_i32_58 : BitVec 32 := 0#32
  let v137 : BitVec 1 := Scalar.cmpi .slt v133 c0_i32_58
  let v138 : BitVec 32 := Scalar.extui v137
  let v139 : BitVec 32 := Scalar.subi v136 v138
  let c1_i32_56 : BitVec 32 := 1#32
  let c0_i32_59 : BitVec 32 := 0#32
  let v140 : BitVec 1 := Scalar.cmpi .sgt c1_i32_56 c0_i32_59
  let v141 : BitVec 32 := Scalar.extui v140
  let c0_i32_60 : BitVec 32 := 0#32
  let v142 : BitVec 1 := Scalar.cmpi .slt c1_i32_56 c0_i32_60
  let v143 : BitVec 32 := Scalar.extui v142
  let v144 : BitVec 32 := Scalar.subi v141 v143
  let v145 : BitVec 1 := Scalar.cmpi .ne v139 v144
  let v146 : BitVec 32 := Scalar.remsi v133 c1_i32_56
  let c0_i32_61 : BitVec 32 := 0#32
  let v147 : BitVec 1 := Scalar.cmpi .ne v146 c0_i32_61
  let v148 : BitVec 1 := Scalar.andi v145 v147
  let v134 : BitVec 32 := Scalar.divsi v133 c1_i32_56
  let c1_i32_62 : BitVec 32 := 1#32
  let v149 : BitVec 32 := Scalar.subi v134 c1_i32_62
  let v150 : BitVec 32 := Scalar.select v148 v149 v134
  let v151 : BitVec 32 := Scalar.subi v150 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t10
  let v243 : BitVec 32 := Scalar.muli c1_i32_99 arg12
  let v244 : BitVec 32 := Scalar.addi v132 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  v247
def k0_off19 (i : grid0.Coords) (k0_t10 : Fin (k0_t10_loop i).trips) : Fin 2 → Nat :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let v133 : BitVec 32 := Scalar.subi arg1 v132
  let c0_i32_57 : BitVec 32 := 0#32
  let v135 : BitVec 1 := Scalar.cmpi .sgt v133 c0_i32_57
  let v136 : BitVec 32 := Scalar.extui v135
  let c0_i32_58 : BitVec 32 := 0#32
  let v137 : BitVec 1 := Scalar.cmpi .slt v133 c0_i32_58
  let v138 : BitVec 32 := Scalar.extui v137
  let v139 : BitVec 32 := Scalar.subi v136 v138
  let c1_i32_56 : BitVec 32 := 1#32
  let c0_i32_59 : BitVec 32 := 0#32
  let v140 : BitVec 1 := Scalar.cmpi .sgt c1_i32_56 c0_i32_59
  let v141 : BitVec 32 := Scalar.extui v140
  let c0_i32_60 : BitVec 32 := 0#32
  let v142 : BitVec 1 := Scalar.cmpi .slt c1_i32_56 c0_i32_60
  let v143 : BitVec 32 := Scalar.extui v142
  let v144 : BitVec 32 := Scalar.subi v141 v143
  let v145 : BitVec 1 := Scalar.cmpi .ne v139 v144
  let v146 : BitVec 32 := Scalar.remsi v133 c1_i32_56
  let c0_i32_61 : BitVec 32 := 0#32
  let v147 : BitVec 1 := Scalar.cmpi .ne v146 c0_i32_61
  let v148 : BitVec 1 := Scalar.andi v145 v147
  let v134 : BitVec 32 := Scalar.divsi v133 c1_i32_56
  let c1_i32_62 : BitVec 32 := 1#32
  let v149 : BitVec 32 := Scalar.subi v134 c1_i32_62
  let v150 : BitVec 32 := Scalar.select v148 v149 v134
  let v151 : BitVec 32 := Scalar.subi v150 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t10
  let v243 : BitVec 32 := Scalar.muli c1_i32_99 arg12
  let v244 : BitVec 32 := Scalar.addi v132 v243
  let c0_i32_100 : BitVec 32 := 0#32
  let v245 : BitVec 32 := Scalar.addi v244 c0_i32_100
  let c1_i32_101 : BitVec 32 := 1#32
  let v246 : BitVec 32 := Scalar.addi v245 c1_i32_101
  let c256_i32_102 : BitVec 32 := 256#32
  let v247 : BitVec 32 := Scalar.muli v246 c256_i32_102
  let v248 : BitVec 32 := v247
  let v249 : Index := Scalar.indexCast v248
  let c0_103 : Index := 0#32
  ![v249.toNat, 0]
def k0_mult125 (i : grid0.Coords) (k0_t10 : Fin (k0_t10_loop i).trips) : BitVec 32 :=
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let v133 : BitVec 32 := Scalar.subi arg1 v132
  let c0_i32_57 : BitVec 32 := 0#32
  let v135 : BitVec 1 := Scalar.cmpi .sgt v133 c0_i32_57
  let v136 : BitVec 32 := Scalar.extui v135
  let c0_i32_58 : BitVec 32 := 0#32
  let v137 : BitVec 1 := Scalar.cmpi .slt v133 c0_i32_58
  let v138 : BitVec 32 := Scalar.extui v137
  let v139 : BitVec 32 := Scalar.subi v136 v138
  let c1_i32_56 : BitVec 32 := 1#32
  let c0_i32_59 : BitVec 32 := 0#32
  let v140 : BitVec 1 := Scalar.cmpi .sgt c1_i32_56 c0_i32_59
  let v141 : BitVec 32 := Scalar.extui v140
  let c0_i32_60 : BitVec 32 := 0#32
  let v142 : BitVec 1 := Scalar.cmpi .slt c1_i32_56 c0_i32_60
  let v143 : BitVec 32 := Scalar.extui v142
  let v144 : BitVec 32 := Scalar.subi v141 v143
  let v145 : BitVec 1 := Scalar.cmpi .ne v139 v144
  let v146 : BitVec 32 := Scalar.remsi v133 c1_i32_56
  let c0_i32_61 : BitVec 32 := 0#32
  let v147 : BitVec 1 := Scalar.cmpi .ne v146 c0_i32_61
  let v148 : BitVec 1 := Scalar.andi v145 v147
  let v134 : BitVec 32 := Scalar.divsi v133 c1_i32_56
  let c1_i32_62 : BitVec 32 := 1#32
  let v149 : BitVec 32 := Scalar.subi v134 c1_i32_62
  let v150 : BitVec 32 := Scalar.select v148 v149 v134
  let v151 : BitVec 32 := Scalar.subi v150 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t10
  let v243 : BitVec 32 := Scalar.muli c1_i32_99 arg12
  let v244 : BitVec 32 := Scalar.addi v132 v243
  let c0_i32_111 : BitVec 32 := 0#32
  let v259 : BitVec 32 := Scalar.addi v244 c0_i32_111
  let c256_i32_112 : BitVec 32 := 256#32
  let v260 : BitVec 32 := Scalar.muli v259 c256_i32_112
  v260
def k0_off20 (i : grid0.Coords) (k0_t10 : Fin (k0_t10_loop i).trips) : Fin 2 → Nat :=
  let c0_113 : Index := 0#32
  let c0_i32_22 : BitVec 32 := 0#32
  let arg1 : BitVec 32 := BitVec.ofNat 32 (i 1).val
  let c0_i32_11 : BitVec 32 := 0#32
  let v25 : BitVec 32 := Scalar.subi arg1 c0_i32_11
  let c0_i32_12 : BitVec 32 := 0#32
  let v27 : BitVec 1 := Scalar.cmpi .sgt v25 c0_i32_12
  let v28 : BitVec 32 := Scalar.extui v27
  let c0_i32_13 : BitVec 32 := 0#32
  let v29 : BitVec 1 := Scalar.cmpi .slt v25 c0_i32_13
  let v30 : BitVec 32 := Scalar.extui v29
  let v31 : BitVec 32 := Scalar.subi v28 v30
  let c16_i32 : BitVec 32 := 16#32
  let c0_i32_14 : BitVec 32 := 0#32
  let v32 : BitVec 1 := Scalar.cmpi .sgt c16_i32 c0_i32_14
  let v33 : BitVec 32 := Scalar.extui v32
  let c0_i32_15 : BitVec 32 := 0#32
  let v34 : BitVec 1 := Scalar.cmpi .slt c16_i32 c0_i32_15
  let v35 : BitVec 32 := Scalar.extui v34
  let v36 : BitVec 32 := Scalar.subi v33 v35
  let v37 : BitVec 1 := Scalar.cmpi .ne v31 v36
  let v38 : BitVec 32 := Scalar.remsi v25 c16_i32
  let c0_i32_16 : BitVec 32 := 0#32
  let v39 : BitVec 1 := Scalar.cmpi .ne v38 c0_i32_16
  let v40 : BitVec 1 := Scalar.andi v37 v39
  let v26 : BitVec 32 := Scalar.divsi v25 c16_i32
  let c1_i32 : BitVec 32 := 1#32
  let v41 : BitVec 32 := Scalar.subi v26 c1_i32
  let v42 : BitVec 32 := Scalar.select v40 v41 v26
  let c16_i32_21 : BitVec 32 := 16#32
  let v50 : BitVec 32 := Scalar.muli v42 c16_i32_21
  let v51 : BitVec 32 := Scalar.addi c0_i32_22 v50
  let v52 : BitVec 32 := Scalar.subi arg1 v51
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c8_i32 : BitVec 32 := 8#32
  let c0_i32_25 : BitVec 32 := 0#32
  let v59 : BitVec 1 := Scalar.cmpi .sgt c8_i32 c0_i32_25
  let v60 : BitVec 32 := Scalar.extui v59
  let c0_i32_26 : BitVec 32 := 0#32
  let v61 : BitVec 1 := Scalar.cmpi .slt c8_i32 c0_i32_26
  let v62 : BitVec 32 := Scalar.extui v61
  let v63 : BitVec 32 := Scalar.subi v60 v62
  let v64 : BitVec 1 := Scalar.cmpi .ne v58 v63
  let v65 : BitVec 32 := Scalar.remsi v52 c8_i32
  let c0_i32_27 : BitVec 32 := 0#32
  let v66 : BitVec 1 := Scalar.cmpi .ne v65 c0_i32_27
  let v67 : BitVec 1 := Scalar.andi v64 v66
  let v53 : BitVec 32 := Scalar.divsi v52 c8_i32
  let c1_i32_28 : BitVec 32 := 1#32
  let v68 : BitVec 32 := Scalar.subi v53 c1_i32_28
  let v69 : BitVec 32 := Scalar.select v67 v68 v53
  let c8_i32_33 : BitVec 32 := 8#32
  let v77 : BitVec 32 := Scalar.muli v69 c8_i32_33
  let v78 : BitVec 32 := Scalar.addi v51 v77
  let v79 : BitVec 32 := Scalar.subi arg1 v78
  let c0_i32_34 : BitVec 32 := 0#32
  let v81 : BitVec 1 := Scalar.cmpi .sgt v79 c0_i32_34
  let v82 : BitVec 32 := Scalar.extui v81
  let c0_i32_35 : BitVec 32 := 0#32
  let v83 : BitVec 1 := Scalar.cmpi .slt v79 c0_i32_35
  let v84 : BitVec 32 := Scalar.extui v83
  let v85 : BitVec 32 := Scalar.subi v82 v84
  let c4_i32 : BitVec 32 := 4#32
  let c0_i32_36 : BitVec 32 := 0#32
  let v86 : BitVec 1 := Scalar.cmpi .sgt c4_i32 c0_i32_36
  let v87 : BitVec 32 := Scalar.extui v86
  let c0_i32_37 : BitVec 32 := 0#32
  let v88 : BitVec 1 := Scalar.cmpi .slt c4_i32 c0_i32_37
  let v89 : BitVec 32 := Scalar.extui v88
  let v90 : BitVec 32 := Scalar.subi v87 v89
  let v91 : BitVec 1 := Scalar.cmpi .ne v85 v90
  let v92 : BitVec 32 := Scalar.remsi v79 c4_i32
  let c0_i32_38 : BitVec 32 := 0#32
  let v93 : BitVec 1 := Scalar.cmpi .ne v92 c0_i32_38
  let v94 : BitVec 1 := Scalar.andi v91 v93
  let v80 : BitVec 32 := Scalar.divsi v79 c4_i32
  let c1_i32_39 : BitVec 32 := 1#32
  let v95 : BitVec 32 := Scalar.subi v80 c1_i32_39
  let v96 : BitVec 32 := Scalar.select v94 v95 v80
  let c4_i32_44 : BitVec 32 := 4#32
  let v104 : BitVec 32 := Scalar.muli v96 c4_i32_44
  let v105 : BitVec 32 := Scalar.addi v78 v104
  let v106 : BitVec 32 := Scalar.subi arg1 v105
  let c0_i32_45 : BitVec 32 := 0#32
  let v108 : BitVec 1 := Scalar.cmpi .sgt v106 c0_i32_45
  let v109 : BitVec 32 := Scalar.extui v108
  let c0_i32_46 : BitVec 32 := 0#32
  let v110 : BitVec 1 := Scalar.cmpi .slt v106 c0_i32_46
  let v111 : BitVec 32 := Scalar.extui v110
  let v112 : BitVec 32 := Scalar.subi v109 v111
  let c2_i32 : BitVec 32 := 2#32
  let c0_i32_47 : BitVec 32 := 0#32
  let v113 : BitVec 1 := Scalar.cmpi .sgt c2_i32 c0_i32_47
  let v114 : BitVec 32 := Scalar.extui v113
  let c0_i32_48 : BitVec 32 := 0#32
  let v115 : BitVec 1 := Scalar.cmpi .slt c2_i32 c0_i32_48
  let v116 : BitVec 32 := Scalar.extui v115
  let v117 : BitVec 32 := Scalar.subi v114 v116
  let v118 : BitVec 1 := Scalar.cmpi .ne v112 v117
  let v119 : BitVec 32 := Scalar.remsi v106 c2_i32
  let c0_i32_49 : BitVec 32 := 0#32
  let v120 : BitVec 1 := Scalar.cmpi .ne v119 c0_i32_49
  let v121 : BitVec 1 := Scalar.andi v118 v120
  let v107 : BitVec 32 := Scalar.divsi v106 c2_i32
  let c1_i32_50 : BitVec 32 := 1#32
  let v122 : BitVec 32 := Scalar.subi v107 c1_i32_50
  let v123 : BitVec 32 := Scalar.select v121 v122 v107
  let c2_i32_55 : BitVec 32 := 2#32
  let v131 : BitVec 32 := Scalar.muli v123 c2_i32_55
  let v132 : BitVec 32 := Scalar.addi v105 v131
  let c1_i32_99 : BitVec 32 := 1#32
  let c0_i32_63 : BitVec 32 := 0#32
  let v133 : BitVec 32 := Scalar.subi arg1 v132
  let c0_i32_57 : BitVec 32 := 0#32
  let v135 : BitVec 1 := Scalar.cmpi .sgt v133 c0_i32_57
  let v136 : BitVec 32 := Scalar.extui v135
  let c0_i32_58 : BitVec 32 := 0#32
  let v137 : BitVec 1 := Scalar.cmpi .slt v133 c0_i32_58
  let v138 : BitVec 32 := Scalar.extui v137
  let v139 : BitVec 32 := Scalar.subi v136 v138
  let c1_i32_56 : BitVec 32 := 1#32
  let c0_i32_59 : BitVec 32 := 0#32
  let v140 : BitVec 1 := Scalar.cmpi .sgt c1_i32_56 c0_i32_59
  let v141 : BitVec 32 := Scalar.extui v140
  let c0_i32_60 : BitVec 32 := 0#32
  let v142 : BitVec 1 := Scalar.cmpi .slt c1_i32_56 c0_i32_60
  let v143 : BitVec 32 := Scalar.extui v142
  let v144 : BitVec 32 := Scalar.subi v141 v143
  let v145 : BitVec 1 := Scalar.cmpi .ne v139 v144
  let v146 : BitVec 32 := Scalar.remsi v133 c1_i32_56
  let c0_i32_61 : BitVec 32 := 0#32
  let v147 : BitVec 1 := Scalar.cmpi .ne v146 c0_i32_61
  let v148 : BitVec 1 := Scalar.andi v145 v147
  let v134 : BitVec 32 := Scalar.divsi v133 c1_i32_56
  let c1_i32_62 : BitVec 32 := 1#32
  let v149 : BitVec 32 := Scalar.subi v134 c1_i32_62
  let v150 : BitVec 32 := Scalar.select v148 v149 v134
  let v151 : BitVec 32 := Scalar.subi v150 c0_i32_63
  let c1_i32_64 : BitVec 32 := 1#32
  let v153 : BitVec 32 := Scalar.divsi v151 c1_i32_64
  let v154 : BitVec 32 := Scalar.muli v153 c1_i32_64
  let v155 : BitVec 32 := Scalar.addi c0_i32_63 v154
  let c1_i32_66 : BitVec 32 := 1#32
  let arg12 : BitVec 32 := Scf.iv v155 c1_i32_66 k0_t10
  let v243 : BitVec 32 := Scalar.muli c1_i32_99 arg12
  let v244 : BitVec 32 := Scalar.addi v132 v243
  let c0_i32_111 : BitVec 32 := 0#32
  let v259 : BitVec 32 := Scalar.addi v244 c0_i32_111
  let c256_i32_112 : BitVec 32 := 256#32
  let v260 : BitVec 32 := Scalar.muli v259 c256_i32_112
  let v261 : BitVec 32 := v260
  let v262 : Index := Scalar.indexCast v261
  ![0, v262.toNat]
def k0_off21 (i : grid0.Coords) : Fin 3 → Nat :=
  let arg1 : BitVec 32 := BitVec.ofNat 32 (i 1).val
  let c2_i32_67 : BitVec 32 := 2#32
  let c0_i32_68 : BitVec 32 := 0#32
  let v162 : BitVec 1 := Scalar.cmpi .eq c2_i32_67 c0_i32_68
  let c1_i32_69 : BitVec 32 := 1#32
  let v163 : BitVec 32 := Scalar.select v162 c1_i32_69 c2_i32_67
  let v164 : BitVec 32 := Scalar.remsi arg1 v163
  let c0_i32_71 : BitVec 32 := 0#32
  let v166 : BitVec 1 := Scalar.cmpi .slt v164 c0_i32_71
  let c0_i32_72 : BitVec 32 := 0#32
  let v167 : BitVec 1 := Scalar.cmpi .slt v163 c0_i32_72
  let v168 : BitVec 1 := Scalar.xori v166 v167
  let c0_i32_70 : BitVec 32 := 0#32
  let v165 : BitVec 1 := Scalar.cmpi .ne v164 c0_i32_70
  let v169 : BitVec 1 := Scalar.andi v168 v165
  let v170 : BitVec 32 := Scalar.addi v164 v163
  let v171 : BitVec 32 := Scalar.select v169 v170 v164
  let v172 : Index := Scalar.indexCast v171
  let c0_73 : Index := 0#32
  let c0_74 : Index := 0#32
  ![v172.toNat, 0, 0]
def k0_mult126 (i : grid0.Coords) : BitVec 32 :=
  let arg1 : BitVec 32 := BitVec.ofNat 32 (i 1).val
  let c256_i32 : BitVec 32 := 256#32
  let v177 : BitVec 32 := Scalar.muli arg1 c256_i32
  v177
def k0_off22 (i : grid0.Coords) : Fin 2 → Nat :=
  let c0_76 : Index := 0#32
  let arg1 : BitVec 32 := BitVec.ofNat 32 (i 1).val
  let c256_i32 : BitVec 32 := 256#32
  let v177 : BitVec 32 := Scalar.muli arg1 c256_i32
  let v178 : BitVec 32 := v177
  let v179 : Index := Scalar.indexCast v178
  ![0, v179.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S1x16384x8x2x64 : Shape := ⟨5, ![1, 16384, 8, 2, 64]⟩
abbrev S1x16384x8x128 : Shape := ⟨4, ![1, 16384, 8, 128]⟩
abbrev S64 : Shape := ⟨1, ![64]⟩
abbrev S128 : Shape := ⟨1, ![128]⟩
abbrev S_ : Shape := ⟨0, ![]⟩
abbrev S1x8x2x16384x16384 : Shape := ⟨5, ![1, 8, 2, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x8x2x16384 : Shape := ⟨4, ![1, 8, 2, 16384]⟩
abbrev S1x8x2x16384x1 : Shape := ⟨5, ![1, 8, 2, 16384, 1]⟩
abbrev S1x8x1x16384x16384 : Shape := ⟨5, ![1, 8, 1, 16384, 16384]⟩
abbrev S1x8x16384x16384 : Shape := ⟨4, ![1, 8, 16384, 16384]⟩
abbrev S1x8x128x16384 : Shape := ⟨4, ![1, 8, 128, 16384]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S1x16384x8x2x64, .f32⟩
  | .hbm, ⟨1, _⟩ => ⟨S1x16384x8x2x64, .f32⟩
  | .hbm, ⟨2, _⟩ => ⟨S1x16384x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x8x2x16384x16384, .f32⟩
  | .hbm, ⟨20, _⟩ => ⟨S_, .f32⟩
  | .hbm, ⟨21, _⟩ => ⟨S1x8x2x16384x16384, .f32⟩
  | .hbm, ⟨22, _⟩ => ⟨S1x8x2x16384x16384, .f32⟩
  | .hbm, ⟨23, _⟩ => ⟨S16384, .i32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S1x8x2x16384x16384, .i1⟩
  | .hbm, ⟨32, _⟩ => ⟨S1x8x2x16384x16384, .f32⟩
  | .hbm, ⟨33, _⟩ => ⟨S1x8x2x16384x16384, .f32⟩
  | .hbm, ⟨34, _⟩ => ⟨S_, .f32⟩
  | .hbm, ⟨35, _⟩ => ⟨S1x8x2x16384, .f32⟩
  | .hbm, ⟨36, _⟩ => ⟨S_, .f32⟩
  | .hbm, ⟨37, _⟩ => ⟨S1x8x2x16384, .f32⟩
  | .hbm, ⟨38, _⟩ => ⟨S1x8x2x16384, .f32⟩
  | .hbm, ⟨39, _⟩ => ⟨S1x8x2x16384x1, .f32⟩
  | .hbm, ⟨40, _⟩ => ⟨S1x8x2x16384x16384, .f32⟩
  | .hbm, ⟨41, _⟩ => ⟨S1x8x2x16384x16384, .f32⟩
  | .hbm, ⟨42, _⟩ => ⟨S1x8x2x16384x16384, .f32⟩
  | .hbm, ⟨43, _⟩ => ⟨S_, .f32⟩
  | .hbm, ⟨44, _⟩ => ⟨S1x8x2x16384, .f32⟩
  | .hbm, ⟨45, _⟩ => ⟨S1x8x2x16384x1, .f32⟩
  | .hbm, ⟨46, _⟩ => ⟨S1x8x2x16384x16384, .f32⟩
  | .hbm, ⟨47, _⟩ => ⟨S1x8x2x16384x16384, .f32⟩
  | .hbm, ⟨48, _⟩ => ⟨S1x8x1x16384x16384, .f32⟩
  | .hbm, ⟨49, _⟩ => ⟨S1x8x16384x16384, .f32⟩
  | .hbm, ⟨50, _⟩ => ⟨S1x8x1x16384x16384, .f32⟩
  | .hbm, ⟨51, _⟩ => ⟨S1x8x16384x16384, .f32⟩
  | .hbm, ⟨52, _⟩ => ⟨S1x8x16384x16384, .f32⟩
  | .hbm, ⟨53, _⟩ => ⟨S1x8x16384x16384, .f32⟩
  | .hbm, ⟨54, _⟩ => ⟨S1x8x16384x16384, .f32⟩
  | .hbm, ⟨55, _⟩ => ⟨S1x8x128x16384, .f32⟩
  | .hbm, ⟨56, _⟩ => ⟨S1x16384x8x128, .f32⟩
  | .hbm, ⟨57, _⟩ => ⟨S1x16384x8x128, .f32⟩
  | .hbm, ⟨58, _⟩ => ⟨S_, .f32⟩
  | .hbm, ⟨59, _⟩ => ⟨S1x16384x8, .f32⟩
  | .hbm, ⟨60, _⟩ => ⟨S1x16384x8x1, .f32⟩
  | .hbm, ⟨61, _⟩ => ⟨S_, .f32⟩
  | .hbm, ⟨62, _⟩ => ⟨S1x16384x8x1, .f32⟩
  | .hbm, ⟨63, _⟩ => ⟨S1x16384x8x1, .f32⟩
  | .hbm, ⟨64, _⟩ => ⟨S_, .f32⟩
  | .hbm, ⟨65, _⟩ => ⟨S1x16384x8x1, .f32⟩
  | .hbm, ⟨66, _⟩ => ⟨S1x16384x8x1, .f32⟩
  | .hbm, ⟨67, _⟩ => ⟨S1x16384x8x1, .f32⟩
  | .hbm, ⟨68, _⟩ => ⟨S1x16384x8x128, .f32⟩
  | .hbm, ⟨69, _⟩ => ⟨S1x16384x8x128, .f32⟩
  | .hbm, ⟨70, _⟩ => ⟨S1x1x1x128, .f32⟩
  | .hbm, ⟨71, _⟩ => ⟨S1x16384x8x128, .f32⟩
  | .hbm, ⟨72, _⟩ => ⟨S1x16384x8x128, .f32⟩
  | .hbm, ⟨73, _⟩ => ⟨S_, .f32⟩
  | .hbm, ⟨74, _⟩ => ⟨S1x16384x8x128, .f32⟩
  | .hbm, ⟨75, _⟩ => ⟨S1x16384x8x128, .f32⟩
  | .hbm, ⟨76, _⟩ => ⟨S16384x1024, .f32⟩
  | _, _ => ⟨S1x16384x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== Proj.lean ====
abbrev S1x16384x1024 : Shape := ⟨3, ![1, 16384, 1024]⟩
abbrev S1024 : Shape := ⟨1, ![1024]⟩
abbrev S1024x5120 : Shape := ⟨2, ![1024, 5120]⟩
abbrev S16384 : Shape := ⟨1, ![16384]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S1x16384x1x128 : Shape := ⟨4, ![1, 16384, 1, 128]⟩
abbrev S16384x1024 : Shape := ⟨2, ![16384, 1024]⟩
abbrev S1x1024 : Shape := ⟨2, ![1, 1024]⟩
abbrev S131072x128 : Shape := ⟨2, ![131072, 128]⟩
abbrev S1024x16384 : Shape := ⟨2, ![1024, 16384]⟩
abbrev S16384x512 : Shape := ⟨2, ![16384, 512]⟩
abbrev S16384x1536 : Shape := ⟨2, ![16384, 1536]⟩
abbrev S512x1024 : Shape := ⟨2, ![512, 1024]⟩
abbrev S512x128 : Shape := ⟨2, ![512, 128]⟩
abbrev S4096x128 : Shape := ⟨2, ![4096, 128]⟩
abbrev S1024x512 : Shape := ⟨2, ![1024, 512]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩
abbrev S1024x1024 : Shape := ⟨2, ![1024, 1024]⟩
abbrev S1024x1536 : Shape := ⟨2, ![1024, 1536]⟩

abbrev nBuf : Space → Nat
  | .hbm => 52
  | .vmem => 24
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x5120, .f32⟩
  | .hbm, ⟨3, _⟩ => ⟨S16384, .i32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16384, .f32⟩
  | .hbm, ⟨16, _⟩ => ⟨S16384x1, .f32⟩
  | .hbm, ⟨17, _⟩ => ⟨S1x16, .f32⟩
  | .hbm, ⟨18, _⟩ => ⟨S16384x16, .f32⟩
  | .hbm, ⟨19, _⟩ => ⟨S16384x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S_, .f32⟩
  | .hbm, ⟨24, _⟩ => ⟨S16384x16, .f32⟩
  | .hbm, ⟨25, _⟩ => ⟨S_, .f32⟩
  | .hbm, ⟨26, _⟩ => ⟨S16384x96, .f32⟩
  | .hbm, ⟨27, _⟩ => ⟨S_, .f32⟩
  | .hbm, ⟨28, _⟩ => ⟨S16384x96, .f32⟩
  | .hbm, ⟨29, _⟩ => ⟨S16384x128, .f32⟩
  | .hbm, ⟨30, _⟩ => ⟨S16384x16, .f32⟩
  | .hbm, ⟨31, _⟩ => ⟨S16384x128, .f32⟩
  | .hbm, ⟨32, _⟩ => ⟨S16384x128, .f32⟩
  | .hbm, ⟨33, _⟩ => ⟨S1x16384x1x128, .f32⟩
  | .hbm, ⟨34, _⟩ => ⟨S1x16384x1x128, .f32⟩
  | .hbm, ⟨35, _⟩ => ⟨S16384x128, .f32⟩
  | .hbm, ⟨36, _⟩ => ⟨S1x16384x1x128, .f32⟩
  | .hbm, ⟨37, _⟩ => ⟨S1x16384x1x128, .f32⟩
  | .hbm, ⟨38, _⟩ => ⟨S16384x128, .f32⟩
  | .hbm, ⟨39, _⟩ => ⟨S1x16384x1x128, .f32⟩
  | .hbm, ⟨40, _⟩ => ⟨S1x16384x1x128, .f32⟩
  | .hbm, ⟨41, _⟩ => ⟨S16384x128, .f32⟩
  | .hbm, ⟨42, _⟩ => ⟨S16384x1024, .f32⟩
  | .hbm, ⟨43, _⟩ => ⟨S1024x5120, .bf16⟩
  | .hbm, ⟨44, _⟩ => ⟨S1x1024, .f32⟩
  | .hbm, ⟨45, _⟩ => ⟨S16384x1024, .f32⟩
  | .hbm, ⟨46, _⟩ => ⟨S131072x128, .f32⟩
  | .hbm, ⟨47, _⟩ => ⟨S16384x1024, .bf16⟩
  | .hbm, ⟨48, _⟩ => ⟨S131072x128, .f32⟩
  | .hbm, ⟨49, _⟩ => ⟨S1024x16384, .bf16⟩
  | .hbm, ⟨50, _⟩ => ⟨S16384x512, .f32⟩
  | .hbm, ⟨51, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S4096x128, .f32⟩
  | .local _ .vmem, ⟨13, _⟩ => ⟨S4096x128, .f32⟩
  | .local _ .vmem, ⟨14, _⟩ => ⟨S512x1024, .bf16⟩
  | .local _ .vmem, ⟨15, _⟩ => ⟨S512x1024, .bf16⟩
  | .local _ .vmem, ⟨16, _⟩ => ⟨S4096x128, .f32⟩
  | .local _ .vmem, ⟨17, _⟩ => ⟨S4096x128, .f32⟩
  | .local _ .vmem, ⟨18, _⟩ => ⟨S1024x512, .bf16⟩
  | .local _ .vmem, ⟨19, _⟩ => ⟨S1024x512, .bf16⟩
  | .local _ .vmem, ⟨20, _⟩ => ⟨S512x512, .f32⟩
  | .local _ .vmem, ⟨21, _⟩ => ⟨S512x512, .f32⟩
  | .local _ .vmem, ⟨22, _⟩ => ⟨S512x1536, .f32⟩
  | .local _ .vmem, ⟨23, _⟩ => ⟨S512x1536, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev main_v36_3 : Ref sig .tc := ⟨.hbm, 48, rfl⟩
abbrev main_v36_4 : Ref sig .tc := ⟨.hbm, 49, rfl⟩
abbrev main_v36_5 : Ref sig .tc := ⟨.hbm, 50, rfl⟩
abbrev main_v36_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjReferenceIdeal.lean ====
abbrev S1x16384x1024 : Shape := ⟨3, ![1, 16384, 1024]⟩
abbrev S1024 : Shape := ⟨1, ![1024]⟩
abbrev S1024x5120 : Shape := ⟨2, ![1024, 5120]⟩
abbrev S16384 : Shape := ⟨1, ![16384]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x5120 : Shape := ⟨3, ![1, 16384, 5120]⟩
abbrev S1x16384x512 : Shape := ⟨3, ![1, 16384, 512]⟩
abbrev S1x16384x1536 : Shape := ⟨3, ![1, 16384, 1536]⟩
abbrev S1x16384x8x128 : Shape := ⟨4, ![1, 16384, 8, 128]⟩
abbrev S16384x1 : Shape := ⟨2, ![16384, 1]⟩
abbrev S16 : Shape := ⟨1, ![16]⟩
abbrev S1x16 : Shape := ⟨2, ![1, 16]⟩
abbrev S16384x16 : Shape := ⟨2, ![16384, 16]⟩
abbrev S16384x1x16 : Shape := ⟨3, ![16384, 1, 16]⟩
abbrev S1x16384x8x16 : Shape := ⟨4, ![1, 16384, 8, 16]⟩
abbrev S1x16384x1x16 : Shape := ⟨4, ![1, 16384, 1, 16]⟩
abbrev S1x16384x8x96 : Shape := ⟨4, ![1, 16384, 8, 96]⟩
abbrev S16384x1024 : Shape := ⟨2, ![16384, 1024]⟩
abbrev S131072x128 : Shape := ⟨2, ![131072, 128]⟩
abbrev S1024x16384 : Shape := ⟨2, ![1024, 16384]⟩
abbrev S16384x512 : Shape := ⟨2, ![16384, 512]⟩
abbrev S16384x1536 : Shape := ⟨2, ![16384, 1536]⟩

abbrev nBuf : Space → Nat
  | .hbm => 116
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x5120, .f32⟩
  | .hbm, ⟨3, _⟩ => ⟨S16384, .i32⟩
  | .hbm, ⟨4, _⟩ => ⟨S1x16384x1024, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x1024, .f32⟩
  | .hbm, ⟨16, _⟩ => ⟨S1x16384x1024, .f32⟩
  | .hbm, ⟨17, _⟩ => ⟨S1x1x1024, .f32⟩
  | .hbm, ⟨18, _⟩ => ⟨S1x16384x1024, .f32⟩
  | .hbm, ⟨19, _⟩ => ⟨S1x16384x1024, .f32⟩
  | .hbm, ⟨20, _⟩ => ⟨S1x16384x5120, .f32⟩
  | .hbm, ⟨21, _⟩ => ⟨S1x16384x1024, .f32⟩
  | .hbm, ⟨22, _⟩ => ⟨S1x16384x1024, .f32⟩
  | .hbm, ⟨23, _⟩ => ⟨S1x16384x1024, .f32⟩
  | .hbm, ⟨24, _⟩ => ⟨S1x16384x512, .f32⟩
  | .hbm, ⟨25, _⟩ => ⟨S1x16384x1536, .f32⟩
  | .hbm, ⟨26, _⟩ => ⟨S1x16384x8x128, .f32⟩
  | .hbm, ⟨27, _⟩ => ⟨S16384, .f32⟩
  | .hbm, ⟨28, _⟩ => ⟨S16384x1, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S1x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x16, .f32⟩
  | .hbm, ⟨45, _⟩ => ⟨S16384x1x16, .f32⟩
  | .hbm, ⟨46, _⟩ => ⟨S16384x16, .f32⟩
  | .hbm, ⟨47, _⟩ => ⟨S16384x1x16, .f32⟩
  | .hbm, ⟨48, _⟩ => ⟨S1x16384x8x16, .f32⟩
  | .hbm, ⟨49, _⟩ => ⟨S1x16384x8x16, .f32⟩
  | .hbm, ⟨50, _⟩ => ⟨S1x16384x1x16, .f32⟩
  | .hbm, ⟨51, _⟩ => ⟨S1x16384x8x16, .f32⟩
  | .hbm, ⟨52, _⟩ => ⟨S1x16384x8x16, .f32⟩
  | .hbm, ⟨53, _⟩ => ⟨S1x16384x1x16, .f32⟩
  | .hbm, ⟨54, _⟩ => ⟨S1x16384x8x16, .f32⟩
  | .hbm, ⟨55, _⟩ => ⟨S1x16384x8x16, .f32⟩
  | .hbm, ⟨56, _⟩ => ⟨S1x16384x8x16, .f32⟩
  | .hbm, ⟨57, _⟩ => ⟨S1x16384x1x16, .f32⟩
  | .hbm, ⟨58, _⟩ => ⟨S1x16384x8x16, .f32⟩
  | .hbm, ⟨59, _⟩ => ⟨S1x16384x8x16, .f32⟩
  | .hbm, ⟨60, _⟩ => ⟨S1x16384x1x16, .f32⟩
  | .hbm, ⟨61, _⟩ => ⟨S1x16384x8x16, .f32⟩
  | .hbm, ⟨62, _⟩ => ⟨S1x16384x8x16, .f32⟩
  | .hbm, ⟨63, _⟩ => ⟨S1x16384x8x16, .f32⟩
  | .hbm, ⟨64, _⟩ => ⟨S1x16384x8x96, .f32⟩
  | .hbm, ⟨65, _⟩ => ⟨S1x16384x8x128, .f32⟩
  | .hbm, ⟨66, _⟩ => ⟨S1x16384x8x128, .f32⟩
  | .hbm, ⟨67, _⟩ => ⟨S16384, .f32⟩
  | .hbm, ⟨68, _⟩ => ⟨S16384x1, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S1x16, .f32⟩
  | .hbm, ⟨81, _⟩ => ⟨S16384x16, .f32⟩
  | .hbm, ⟨82, _⟩ => ⟨S16384x16, .f32⟩
  | .hbm, ⟨83, _⟩ => ⟨S16384x16, .f32⟩
  | .hbm, ⟨84, _⟩ => ⟨S16384x16, .f32⟩
  | .hbm, ⟨85, _⟩ => ⟨S16384x1x16, .f32⟩
  | .hbm, ⟨86, _⟩ => ⟨S16384x16, .f32⟩
  | .hbm, ⟨87, _⟩ => ⟨S16384x1x16, .f32⟩
  | .hbm, ⟨88, _⟩ => ⟨S1x16384x8x16, .f32⟩
  | .hbm, ⟨89, _⟩ => ⟨S1x16384x8x16, .f32⟩
  | .hbm, ⟨90, _⟩ => ⟨S1x16384x1x16, .f32⟩
  | .hbm, ⟨91, _⟩ => ⟨S1x16384x8x16, .f32⟩
  | .hbm, ⟨92, _⟩ => ⟨S1x16384x8x16, .f32⟩
  | .hbm, ⟨93, _⟩ => ⟨S1x16384x1x16, .f32⟩
  | .hbm, ⟨94, _⟩ => ⟨S1x16384x8x16, .f32⟩
  | .hbm, ⟨95, _⟩ => ⟨S1x16384x8x16, .f32⟩
  | .hbm, ⟨96, _⟩ => ⟨S1x16384x8x16, .f32⟩
  | .hbm, ⟨97, _⟩ => ⟨S1x16384x1x16, .f32⟩
  | .hbm, ⟨98, _⟩ => ⟨S1x16384x8x16, .f32⟩
  | .hbm, ⟨99, _⟩ => ⟨S1x16384x8x16, .f32⟩
  | .hbm, ⟨100, _⟩ => ⟨S1x16384x1x16, .f32⟩
  | .hbm, ⟨101, _⟩ => ⟨S1x16384x8x16, .f32⟩
  | .hbm, ⟨102, _⟩ => ⟨S1x16384x8x16, .f32⟩
  | .hbm, ⟨103, _⟩ => ⟨S1x16384x8x16, .f32⟩
  | .hbm, ⟨104, _⟩ => ⟨S1x16384x8x96, .f32⟩
  | .hbm, ⟨105, _⟩ => ⟨S1x16384x8x128, .f32⟩
  | .hbm, ⟨106, _⟩ => ⟨S16384x1024, .f32⟩
  | .hbm, ⟨107, _⟩ => ⟨S131072x128, .f32⟩
  | .hbm, ⟨108, _⟩ => ⟨S16384x1024, .f32⟩
  | .hbm, ⟨109, _⟩ => ⟨S16384x1024, .bf16⟩
  | .hbm, ⟨110, _⟩ => ⟨S131072x128, .f32⟩
  | .hbm, ⟨111, _⟩ => ⟨S16384x1024, .f32⟩
  | .hbm, ⟨112, _⟩ => ⟨S1024x16384, .f32⟩
  | .hbm, ⟨113, _⟩ => ⟨S1024x16384, .bf16⟩
  | .hbm, ⟨114, _⟩ => ⟨S16384x512, .f32⟩
  | .hbm, ⟨115, _⟩ => ⟨S16384x1536, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_7 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩

abbrev nD : Nat := 1
abbrev τ : Topo := Topo.v7x

variable {F : FTy → Type} [FloatOps F]
-- ==== Proj1.lean ====
abbrev S1x16384x1024 : Shape := ⟨3, ![1, 16384, 1024]⟩
abbrev S1024 : Shape := ⟨1, ![1024]⟩
abbrev S1024x4096 : Shape := ⟨2, ![1024, 4096]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16384x1024 : Shape := ⟨2, ![16384, 1024]⟩
abbrev S1x1024 : Shape := ⟨2, ![1, 1024]⟩
abbrev S131072x128 : Shape := ⟨2, ![131072, 128]⟩
abbrev S1024x16384 : Shape := ⟨2, ![1024, 16384]⟩
abbrev S512x1024 : Shape := ⟨2, ![512, 1024]⟩
abbrev S512x128 : Shape := ⟨2, ![512, 128]⟩
abbrev S4096x128 : Shape := ⟨2, ![4096, 128]⟩
abbrev S1024x512 : Shape := ⟨2, ![1024, 512]⟩
abbrev S512 : Shape := ⟨1, ![512]⟩
abbrev S512x1 : Shape := ⟨2, ![512, 1]⟩
abbrev S1024x1024 : Shape := ⟨2, ![1024, 1024]⟩

abbrev nBuf : Space → Nat
  | .hbm => 51
  | .vmem => 22
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x4096, .f32⟩
  | .hbm, ⟨3, _⟩ => ⟨S16384, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S16384, .f32⟩
  | .hbm, ⟨16, _⟩ => ⟨S16384x1, .f32⟩
  | .hbm, ⟨17, _⟩ => ⟨S1x8, .f32⟩
  | .hbm, ⟨18, _⟩ => ⟨S16384x8, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S_, .f32⟩
  | .hbm, ⟨24, _⟩ => ⟨S16384x8, .f32⟩
  | .hbm, ⟨25, _⟩ => ⟨S_, .f32⟩
  | .hbm, ⟨26, _⟩ => ⟨S16384x48, .f32⟩
  | .hbm, ⟨27, _⟩ => ⟨S_, .f32⟩
  | .hbm, ⟨28, _⟩ => ⟨S16384x48, .f32⟩
  | .hbm, ⟨29, _⟩ => ⟨S16384x64, .f32⟩
  | .hbm, ⟨30, _⟩ => ⟨S16384x8, .f32⟩
  | .hbm, ⟨31, _⟩ => ⟨S16384x64, .f32⟩
  | .hbm, ⟨32, _⟩ => ⟨S16384x64, .f32⟩
  | .hbm, ⟨33, _⟩ => ⟨S1x16384x1x64, .f32⟩
  | .hbm, ⟨34, _⟩ => ⟨S1x16384x2x64, .f32⟩
  | .hbm, ⟨35, _⟩ => ⟨S16384x128, .f32⟩
  | .hbm, ⟨36, _⟩ => ⟨S1x16384x1x64, .f32⟩
  | .hbm, ⟨37, _⟩ => ⟨S1x16384x2x64, .f32⟩
  | .hbm, ⟨38, _⟩ => ⟨S16384x128, .f32⟩
  | .hbm, ⟨39, _⟩ => ⟨S1x16384x1x64, .f32⟩
  | .hbm, ⟨40, _⟩ => ⟨S1x16384x2x64, .f32⟩
  | .hbm, ⟨41, _⟩ => ⟨S16384x128, .f32⟩
  | .hbm, ⟨42, _⟩ => ⟨S16384x1024, .f32⟩
  | .hbm, ⟨43, _⟩ => ⟨S1024x4096, .bf16⟩
  | .hbm, ⟨44, _⟩ => ⟨S1x1024, .f32⟩
  | .hbm, ⟨45, _⟩ => ⟨S16384x1024, .f32⟩
  | .hbm, ⟨46, _⟩ => ⟨S131072x128, .f32⟩
  | .hbm, ⟨47, _⟩ => ⟨S16384x1024, .bf16⟩
  | .hbm, ⟨48, _⟩ => ⟨S131072x128, .f32⟩
  | .hbm, ⟨49, _⟩ => ⟨S1024x16384, .bf16⟩
  | .hbm, ⟨50, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | .local _ .vmem, ⟨12, _⟩ => ⟨S4096x128, .f32⟩
  | .local _ .vmem, ⟨13, _⟩ => ⟨S4096x128, .f32⟩
  | .local _ .vmem, ⟨14, _⟩ => ⟨S512x1024, .bf16⟩
  | .local _ .vmem, ⟨15, _⟩ => ⟨S512x1024, .bf16⟩
  | .local _ .vmem, ⟨16, _⟩ => ⟨S4096x128, .f32⟩
  | .local _ .vmem, ⟨17, _⟩ => ⟨S4096x128, .f32⟩
  | .local _ .vmem, ⟨18, _⟩ => ⟨S1024x512, .bf16⟩
  | .local _ .vmem, ⟨19, _⟩ => ⟨S1024x512, .bf16⟩
  | .local _ .vmem, ⟨20, _⟩ => ⟨S512x1024, .f32⟩
  | .local _ .vmem, ⟨21, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev main_v36_3 : Ref sig .tc := ⟨.hbm, 48, rfl⟩
abbrev main_v36_4 : Ref sig .tc := ⟨.hbm, 49, rfl⟩
abbrev main_v36_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proj1ReferenceIdeal.lean ====
abbrev S1x16384x1024 : Shape := ⟨3, ![1, 16384, 1024]⟩
abbrev S1024 : Shape := ⟨1, ![1024]⟩
abbrev S1024x4096 : Shape := ⟨2, ![1024, 4096]⟩
abbrev S16384 : Shape := ⟨1, ![16384]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4096 : Shape := ⟨3, ![1, 16384, 4096]⟩
abbrev S1x16384x8x2x64 : Shape := ⟨5, ![1, 16384, 8, 2, 64]⟩
abbrev S16384x1 : Shape := ⟨2, ![16384, 1]⟩
abbrev S8 : Shape := ⟨1, ![8]⟩
abbrev S1x8 : Shape := ⟨2, ![1, 8]⟩
abbrev S16384x8 : Shape := ⟨2, ![16384, 8]⟩
abbrev S16384x1x1x8 : Shape := ⟨4, ![16384, 1, 1, 8]⟩
abbrev S1x16384x8x2x8 : Shape := ⟨5, ![1, 16384, 8, 2, 8]⟩
abbrev S1x16384x1x1x8 : Shape := ⟨5, ![1, 16384, 1, 1, 8]⟩
abbrev S1x16384x8x2x48 : Shape := ⟨5, ![1, 16384, 8, 2, 48]⟩
abbrev S16384x1024 : Shape := ⟨2, ![16384, 1024]⟩
abbrev S131072x128 : Shape := ⟨2, ![131072, 128]⟩
abbrev S1024x16384 : Shape := ⟨2, ![1024, 16384]⟩

abbrev nBuf : Space → Nat
  | .hbm => 114
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x4096, .f32⟩
  | .hbm, ⟨3, _⟩ => ⟨S16384, .i32⟩
  | .hbm, ⟨4, _⟩ => ⟨S1x16384x1024, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S1x16384x1, .f32⟩
  | .hbm, ⟨15, _⟩ => ⟨S1x16384x1024, .f32⟩
  | .hbm, ⟨16, _⟩ => ⟨S1x16384x1024, .f32⟩
  | .hbm, ⟨17, _⟩ => ⟨S1x1x1024, .f32⟩
  | .hbm, ⟨18, _⟩ => ⟨S1x16384x1024, .f32⟩
  | .hbm, ⟨19, _⟩ => ⟨S1x16384x1024, .f32⟩
  | .hbm, ⟨20, _⟩ => ⟨S1x16384x4096, .f32⟩
  | .hbm, ⟨21, _⟩ => ⟨S1x16384x1024, .f32⟩
  | .hbm, ⟨22, _⟩ => ⟨S1x16384x1024, .f32⟩
  | .hbm, ⟨23, _⟩ => ⟨S1x16384x1024, .f32⟩
  | .hbm, ⟨24, _⟩ => ⟨S1x16384x1024, .f32⟩
  | .hbm, ⟨25, _⟩ => ⟨S1x16384x8x2x64, .f32⟩
  | .hbm, ⟨26, _⟩ => ⟨S16384, .f32⟩
  | .hbm, ⟨27, _⟩ => ⟨S16384x1, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S1x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x1x1x8, .f32⟩
  | .hbm, ⟨45, _⟩ => ⟨S16384x8, .f32⟩
  | .hbm, ⟨46, _⟩ => ⟨S16384x1x1x8, .f32⟩
  | .hbm, ⟨47, _⟩ => ⟨S1x16384x8x2x8, .f32⟩
  | .hbm, ⟨48, _⟩ => ⟨S1x16384x8x2x8, .f32⟩
  | .hbm, ⟨49, _⟩ => ⟨S1x16384x1x1x8, .f32⟩
  | .hbm, ⟨50, _⟩ => ⟨S1x16384x8x2x8, .f32⟩
  | .hbm, ⟨51, _⟩ => ⟨S1x16384x8x2x8, .f32⟩
  | .hbm, ⟨52, _⟩ => ⟨S1x16384x1x1x8, .f32⟩
  | .hbm, ⟨53, _⟩ => ⟨S1x16384x8x2x8, .f32⟩
  | .hbm, ⟨54, _⟩ => ⟨S1x16384x8x2x8, .f32⟩
  | .hbm, ⟨55, _⟩ => ⟨S1x16384x8x2x8, .f32⟩
  | .hbm, ⟨56, _⟩ => ⟨S1x16384x1x1x8, .f32⟩
  | .hbm, ⟨57, _⟩ => ⟨S1x16384x8x2x8, .f32⟩
  | .hbm, ⟨58, _⟩ => ⟨S1x16384x8x2x8, .f32⟩
  | .hbm, ⟨59, _⟩ => ⟨S1x16384x1x1x8, .f32⟩
  | .hbm, ⟨60, _⟩ => ⟨S1x16384x8x2x8, .f32⟩
  | .hbm, ⟨61, _⟩ => ⟨S1x16384x8x2x8, .f32⟩
  | .hbm, ⟨62, _⟩ => ⟨S1x16384x8x2x8, .f32⟩
  | .hbm, ⟨63, _⟩ => ⟨S1x16384x8x2x48, .f32⟩
  | .hbm, ⟨64, _⟩ => ⟨S1x16384x8x2x64, .f32⟩
  | .hbm, ⟨65, _⟩ => ⟨S1x16384x8x2x64, .f32⟩
  | .hbm, ⟨66, _⟩ => ⟨S16384, .f32⟩
  | .hbm, ⟨67, _⟩ => ⟨S16384x1, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S1x8, .f32⟩
  | .hbm, ⟨80, _⟩ => ⟨S16384x8, .f32⟩
  | .hbm, ⟨81, _⟩ => ⟨S16384x8, .f32⟩
  | .hbm, ⟨82, _⟩ => ⟨S16384x8, .f32⟩
  | .hbm, ⟨83, _⟩ => ⟨S16384x8, .f32⟩
  | .hbm, ⟨84, _⟩ => ⟨S16384x1x1x8, .f32⟩
  | .hbm, ⟨85, _⟩ => ⟨S16384x8, .f32⟩
  | .hbm, ⟨86, _⟩ => ⟨S16384x1x1x8, .f32⟩
  | .hbm, ⟨87, _⟩ => ⟨S1x16384x8x2x8, .f32⟩
  | .hbm, ⟨88, _⟩ => ⟨S1x16384x8x2x8, .f32⟩
  | .hbm, ⟨89, _⟩ => ⟨S1x16384x1x1x8, .f32⟩
  | .hbm, ⟨90, _⟩ => ⟨S1x16384x8x2x8, .f32⟩
  | .hbm, ⟨91, _⟩ => ⟨S1x16384x8x2x8, .f32⟩
  | .hbm, ⟨92, _⟩ => ⟨S1x16384x1x1x8, .f32⟩
  | .hbm, ⟨93, _⟩ => ⟨S1x16384x8x2x8, .f32⟩
  | .hbm, ⟨94, _⟩ => ⟨S1x16384x8x2x8, .f32⟩
  | .hbm, ⟨95, _⟩ => ⟨S1x16384x8x2x8, .f32⟩
  | .hbm, ⟨96, _⟩ => ⟨S1x16384x1x1x8, .f32⟩
  | .hbm, ⟨97, _⟩ => ⟨S1x16384x8x2x8, .f32⟩
  | .hbm, ⟨98, _⟩ => ⟨S1x16384x8x2x8, .f32⟩
  | .hbm, ⟨99, _⟩ => ⟨S1x16384x1x1x8, .f32⟩
  | .hbm, ⟨100, _⟩ => ⟨S1x16384x8x2x8, .f32⟩
  | .hbm, ⟨101, _⟩ => ⟨S1x16384x8x2x8, .f32⟩
  | .hbm, ⟨102, _⟩ => ⟨S1x16384x8x2x8, .f32⟩
  | .hbm, ⟨103, _⟩ => ⟨S1x16384x8x2x48, .f32⟩
  | .hbm, ⟨104, _⟩ => ⟨S1x16384x8x2x64, .f32⟩
  | .hbm, ⟨105, _⟩ => ⟨S16384x1024, .f32⟩
  | .hbm, ⟨106, _⟩ => ⟨S131072x128, .f32⟩
  | .hbm, ⟨107, _⟩ => ⟨S16384x1024, .f32⟩
  | .hbm, ⟨108, _⟩ => ⟨S16384x1024, .bf16⟩
  | .hbm, ⟨109, _⟩ => ⟨S131072x128, .f32⟩
  | .hbm, ⟨110, _⟩ => ⟨S16384x1024, .f32⟩
  | .hbm, ⟨111, _⟩ => ⟨S1024x16384, .f32⟩
  | .hbm, ⟨112, _⟩ => ⟨S1024x16384, .bf16⟩
  | .hbm, ⟨113, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩

abbrev nD : Nat := 1
abbrev τ : Topo := Topo.v7x

variable {F : FTy → Type} [FloatOps F]
-- ==== Merge1.lean ====
abbrev S1x16384x1024 : Shape := ⟨3, ![1, 16384, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Merge1ReferenceIdeal.lean ====
abbrev S1x16384x1024 : Shape := ⟨3, ![1, 16384, 1024]⟩
abbrev S1024x1024 : Shape := ⟨2, ![1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x1024, .f32⟩
  | .hbm, ⟨2, _⟩ => ⟨S1x16384x1024, .f32⟩
  | .hbm, ⟨3, _⟩ => ⟨S1024x1024, .f32⟩
  | .hbm, ⟨4, _⟩ => ⟨S1024, .f32⟩
  | .hbm, ⟨5, _⟩ => ⟨S1x16384x1024, .f32⟩
  | .hbm, ⟨6, _⟩ => ⟨S1x16384x1024, .f32⟩
  | .hbm, ⟨7, _⟩ => ⟨S_, .f32⟩
  | .hbm, ⟨8, _⟩ => ⟨S1x16384x1024, .f32⟩
  | .hbm, ⟨9, _⟩ => ⟨S1x16384x1024, .f32⟩
  | .hbm, ⟨10, _⟩ => ⟨S_, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S1x16384x1024, .f32⟩
  | .hbm, ⟨17, _⟩ => ⟨S1x16384x1024, .f32⟩
  | .hbm, ⟨18, _⟩ => ⟨S_, .f32⟩
  | .hbm, ⟨19, _⟩ => ⟨S1x16384, .f32⟩
  | .hbm, ⟨20, _⟩ => ⟨S1x16384x1, .f32⟩
  | .hbm, ⟨21, _⟩ => ⟨S_, .f32⟩
  | .hbm, ⟨22, _⟩ => ⟨S1x16384x1, .f32⟩
  | .hbm, ⟨23, _⟩ => ⟨S1x16384x1, .f32⟩
  | .hbm, ⟨24, _⟩ => ⟨S_, .f32⟩
  | .hbm, ⟨25, _⟩ => ⟨S1x16384x1, .f32⟩
  | .hbm, ⟨26, _⟩ => ⟨S1x16384x1, .f32⟩
  | .hbm, ⟨27, _⟩ => ⟨S1x16384x1, .f32⟩
  | .hbm, ⟨28, _⟩ => ⟨S1x16384x1024, .f32⟩
  | .hbm, ⟨29, _⟩ => ⟨S1x16384x1024, .f32⟩
  | .hbm, ⟨30, _⟩ => ⟨S1x1x1024, .f32⟩
  | .hbm, ⟨31, _⟩ => ⟨S1x16384x1024, .f32⟩
  | .hbm, ⟨32, _⟩ => ⟨S1x16384x1024, .f32⟩
  | .hbm, ⟨33, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Merge.lean ====
abbrev S1x16384x1024 : Shape := ⟨3, ![1, 16384, 1024]⟩
abbrev S1x16384x512 : Shape := ⟨3, ![1, 16384, 512]⟩
abbrev S1x16384x1536 : Shape := ⟨3, ![1, 16384, 1536]⟩
abbrev S1536x1024 : Shape := ⟨2, ![1536, 1024]⟩
abbrev S1024 : Shape := ⟨1, ![1024]⟩
abbrev S16384x1024 : Shape := ⟨2, ![16384, 1024]⟩
abbrev S16384x512 : Shape := ⟨2, ![16384, 512]⟩
abbrev S16384x1536 : Shape := ⟨2, ![16384, 1536]⟩
abbrev S1x1024 : Shape := ⟨2, ![1, 1024]⟩
abbrev S512x1024 : Shape := ⟨2, ![512, 1024]⟩
abbrev S512x512 : Shape := ⟨2, ![512, 512]⟩
abbrev S512x1536 : Shape := ⟨2, ![512, 1536]⟩
abbrev S1024x1024 : Shape := ⟨2, ![1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x1536, .f32⟩
  | .hbm, ⟨3, _⟩ => ⟨S1x16384x1024, .f32⟩
  | .hbm, ⟨4, _⟩ => ⟨S1536x1024, .f32⟩
  | .hbm, ⟨5, _⟩ => ⟨S1024, .f32⟩
  | .hbm, ⟨6, _⟩ => ⟨S16384x1024, .f32⟩
  | .hbm, ⟨7, _⟩ => ⟨S16384x512, .f32⟩
  | .hbm, ⟨8, _⟩ => ⟨S16384x1536, .f32⟩
  | .hbm, ⟨9, _⟩ => ⟨S16384x1024, .f32⟩
  | .hbm, ⟨10, _⟩ => ⟨S1536x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1536, .f32⟩
  | .local _ .vmem, ⟨5, _⟩ => ⟨S512x1536, .f32⟩
  | .local _ .vmem, ⟨6, _⟩ => ⟨S512x1024, .f32⟩
  | .local _ .vmem, ⟨7, _⟩ => ⟨S512x1024, .f32⟩
  | .local _ .vmem, ⟨8, _⟩ => ⟨S1536x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeReferenceIdeal.lean ====
abbrev S1x16384x1024 : Shape := ⟨3, ![1, 16384, 1024]⟩
abbrev S1x16384x512 : Shape := ⟨3, ![1, 16384, 512]⟩
abbrev S1x16384x1536 : Shape := ⟨3, ![1, 16384, 1536]⟩
abbrev S1536x1024 : Shape := ⟨2, ![1536, 1024]⟩
abbrev S1024 : Shape := ⟨1, ![1024]⟩
abbrev S_ : Shape := ⟨0, ![]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x1536, .f32⟩
  | .hbm, ⟨3, _⟩ => ⟨S1x16384x1024, .f32⟩
  | .hbm, ⟨4, _⟩ => ⟨S1536x1024, .f32⟩
  | .hbm, ⟨5, _⟩ => ⟨S1024, .f32⟩
  | .hbm, ⟨6, _⟩ => ⟨S1x16384x1536, .f32⟩
  | .hbm, ⟨7, _⟩ => ⟨S1x16384x1536, .f32⟩
  | .hbm, ⟨8, _⟩ => ⟨S1x16384x1536, .f32⟩
  | .hbm, ⟨9, _⟩ => ⟨S_, .f32⟩
  | .hbm, ⟨10, _⟩ => ⟨S1x16384x1536, .f32⟩
  | .hbm, ⟨11, _⟩ => ⟨S1x16384x1536, .f32⟩
  | .hbm, ⟨12, _⟩ => ⟨S_, .f32⟩
  | .hbm, ⟨13, _⟩ => ⟨S1x16384x1536, .f32⟩
  | .hbm, ⟨14, _⟩ => ⟨S1x16384x1536, .f32⟩
  | .hbm, ⟨15, _⟩ => ⟨S1x16384x1536, .f32⟩
  | .hbm, ⟨16, _⟩ => ⟨S1x16384x1536, .f32⟩
  | .hbm, ⟨17, _⟩ => ⟨S1x16384x1024, .f32⟩
  | .hbm, ⟨18, _⟩ => ⟨S1x16384x1024, .f32⟩
  | .hbm, ⟨19, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩

abbrev nD : Nat := 1
abbrev τ : Topo := Topo.v7x

variable {F : FTy → Type} [FloatOps F]
-- ==== Pool.lean ====
abbrev S1x16384x512 : Shape := ⟨3, ![1, 16384, 512]⟩
abbrev S4x128x128 : Shape := ⟨3, ![4, 128, 128]⟩
abbrev S512 : Shape := ⟨1, ![512]⟩
abbrev S1x512 : Shape := ⟨2, ![1, 512]⟩
abbrev S1x16x512 : Shape := ⟨3, ![1, 16, 512]⟩
abbrev S1x512x512 : Shape := ⟨3, ![1, 512, 512]⟩
abbrev S528x512 : Shape := ⟨2, ![528, 512]⟩
abbrev S16x512 : Shape := ⟨2, ![16, 512]⟩
abbrev S512x512 : Shape := ⟨2, ![512, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩

abbrev nBuf : Space → Nat
  | .hbm => 6
  | .vmem => 9
  | .smem => 0
  | _ => 0

abbrev bufTy : (tb : Table) → Fin (tcTables nBuf tb) → BufTy
  | .hbm, ⟨0, _⟩ => ⟨S1x16384x512, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S1x16384x512, .f32⟩
  | .local _ .vmem, ⟨0, _⟩ => ⟨S1x16x512, .f32⟩
  | .local _ .vmem, ⟨1, _⟩ => ⟨S1x16x512, .f32⟩
  | .local _ .vmem, ⟨2, _⟩ => ⟨S1x512x512, .f32⟩
  | .local _ .vmem, ⟨3, _⟩ => ⟨S1x512x512, .f32⟩
  | .local _ .vmem, ⟨4, _⟩ => ⟨S4x128x128, .bf16⟩
  | .local _ .vmem, ⟨5, _⟩ => ⟨S1x512, .f32⟩
  | .local _ .vmem, ⟨6, _⟩ => ⟨S1x512x512, .f32⟩
  | .local _ .vmem, ⟨7, _⟩ => ⟨S1x512x512, .f32⟩
  | .local _ .vmem, ⟨8, _⟩ => ⟨S528x512, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PoolReferenceIdeal.lean ====
abbrev S1x16384x512 : Shape := ⟨3, ![1, 16384, 512]⟩
abbrev S4x128x128 : Shape := ⟨3, ![4, 128, 128]⟩
abbrev S512 : Shape := ⟨1, ![512]⟩
abbrev S_ : Shape := ⟨0, ![]⟩
abbrev S1x16384x128 : Shape := ⟨3, ![1, 16384, 128]⟩
abbrev S1x2x128 : Shape := ⟨3, ![1, 2, 128]⟩
abbrev S1x16382x128 : Shape := ⟨3, ![1, 16382, 128]⟩
abbrev S16384 : Shape := ⟨1, ![16384]⟩
abbrev S1x16384x1 : Shape := ⟨3, ![1, 16384, 1]⟩
abbrev S1x4x128 : Shape := ⟨3, ![1, 4, 128]⟩
abbrev S1x16380x128 : Shape := ⟨3, ![1, 16380, 128]⟩
abbrev S1x8x128 : Shape := ⟨3, ![1, 8, 128]⟩
abbrev S1x16376x128 : Shape := ⟨3, ![1, 16376, 128]⟩
abbrev S1x16x128 : Shape := ⟨3, ![1, 16, 128]⟩
abbrev S1x16368x128 : Shape := ⟨3, ![1, 16368, 128]⟩
abbrev S1x16384x1x128 : Shape := ⟨4, ![1, 16384, 1, 128]⟩
abbrev S1x16384x4x128 : Shape := ⟨4, ![1, 16384, 4, 128]⟩
abbrev S4x128x1x16384 : Shape := ⟨4, ![4, 128, 1, 16384]⟩
abbrev S1x1x512 : Shape := ⟨3, ![1, 1, 512]⟩

abbrev nBuf : Space → Nat
  | .hbm => 93
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S4x128x128, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S1x16384x512, .f32⟩
  | .hbm, ⟨6, _⟩ => ⟨S1x16384x128, .f32⟩
  | .hbm, ⟨7, _⟩ => ⟨S_, .f32⟩
  | .hbm, ⟨8, _⟩ => ⟨S1x2x128, .f32⟩
  | .hbm, ⟨9, _⟩ => ⟨S1x16382x128, .f32⟩
  | .hbm, ⟨10, _⟩ => ⟨S1x16384x128, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .f32⟩
  | .hbm, ⟨19, _⟩ => ⟨S1x16384x1, .f32⟩
  | .hbm, ⟨20, _⟩ => ⟨S1x16384x128, .f32⟩
  | .hbm, ⟨21, _⟩ => ⟨S1x16384x128, .f32⟩
  | .hbm, ⟨22, _⟩ => ⟨S1x16384x128, .f32⟩
  | .hbm, ⟨23, _⟩ => ⟨S1x16384x128, .f32⟩
  | .hbm, ⟨24, _⟩ => ⟨S1x16384x128, .f32⟩
  | .hbm, ⟨25, _⟩ => ⟨S1x16384x128, .f32⟩
  | .hbm, ⟨26, _⟩ => ⟨S_, .f32⟩
  | .hbm, ⟨27, _⟩ => ⟨S1x4x128, .f32⟩
  | .hbm, ⟨28, _⟩ => ⟨S1x16380x128, .f32⟩
  | .hbm, ⟨29, _⟩ => ⟨S1x16384x128, .f32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .f32⟩
  | .hbm, ⟨38, _⟩ => ⟨S1x16384x1, .f32⟩
  | .hbm, ⟨39, _⟩ => ⟨S1x16384x128, .f32⟩
  | .hbm, ⟨40, _⟩ => ⟨S1x16384x128, .f32⟩
  | .hbm, ⟨41, _⟩ => ⟨S1x16384x128, .f32⟩
  | .hbm, ⟨42, _⟩ => ⟨S1x16384x128, .f32⟩
  | .hbm, ⟨43, _⟩ => ⟨S1x16384x128, .f32⟩
  | .hbm, ⟨44, _⟩ => ⟨S1x16384x128, .f32⟩
  | .hbm, ⟨45, _⟩ => ⟨S_, .f32⟩
  | .hbm, ⟨46, _⟩ => ⟨S1x8x128, .f32⟩
  | .hbm, ⟨47, _⟩ => ⟨S1x16376x128, .f32⟩
  | .hbm, ⟨48, _⟩ => ⟨S1x16384x128, .f32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .f32⟩
  | .hbm, ⟨57, _⟩ => ⟨S1x16384x1, .f32⟩
  | .hbm, ⟨58, _⟩ => ⟨S1x16384x128, .f32⟩
  | .hbm, ⟨59, _⟩ => ⟨S1x16384x128, .f32⟩
  | .hbm, ⟨60, _⟩ => ⟨S1x16384x128, .f32⟩
  | .hbm, ⟨61, _⟩ => ⟨S1x16384x128, .f32⟩
  | .hbm, ⟨62, _⟩ => ⟨S1x16384x128, .f32⟩
  | .hbm, ⟨63, _⟩ => ⟨S1x16384x128, .f32⟩
  | .hbm, ⟨64, _⟩ => ⟨S_, .f32⟩
  | .hbm, ⟨65, _⟩ => ⟨S1x16x128, .f32⟩
  | .hbm, ⟨66, _⟩ => ⟨S1x16368x128, .f32⟩
  | .hbm, ⟨67, _⟩ => ⟨S1x16384x128, .f32⟩
  | .hbm, ⟨68, _⟩ => ⟨S16384, .i32⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S_, .i32⟩
  | .hbm, ⟨73, _⟩ => ⟨S16384, .i32⟩
  | .hbm, ⟨74, _⟩ => ⟨S16384, .i32⟩
  | .hbm, ⟨75, _⟩ => ⟨S16384, .f32⟩
  | .hbm, ⟨76, _⟩ => ⟨S1x16384x1, .f32⟩
  | .hbm, ⟨77, _⟩ => ⟨S1x16384x128, .f32⟩
  | .hbm, ⟨78, _⟩ => ⟨S1x16384x128, .f32⟩
  | .hbm, ⟨79, _⟩ => ⟨S1x16384x128, .f32⟩
  | .hbm, ⟨80, _⟩ => ⟨S1x16384x128, .f32⟩
  | .hbm, ⟨81, _⟩ => ⟨S1x16384x128, .f32⟩
  | .hbm, ⟨82, _⟩ => ⟨S1x16384x1x128, .f32⟩
  | .hbm, ⟨83, _⟩ => ⟨S1x16384x1x128, .f32⟩
  | .hbm, ⟨84, _⟩ => ⟨S1x16384x1x128, .f32⟩
  | .hbm, ⟨85, _⟩ => ⟨S1x16384x1x128, .f32⟩
  | .hbm, ⟨86, _⟩ => ⟨S1x16384x4x128, .f32⟩
  | .hbm, ⟨87, _⟩ => ⟨S4x128x1x16384, .f32⟩
  | .hbm, ⟨88, _⟩ => ⟨S1x16384x4x128, .f32⟩
  | .hbm, ⟨89, _⟩ => ⟨S1x16384x512, .f32⟩
  | .hbm, ⟨90, _⟩ => ⟨S1x1x512, .f32⟩
  | .hbm, ⟨91, _⟩ => ⟨S1x16384x512, .f32⟩
  | .hbm, ⟨92, _⟩ => ⟨S1x16384x512, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_cst : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_8 : Ref sig .tc := ⟨.hbm, 69, rfl⟩
abbrev main_v54 : Ref sig .tc := ⟨.hbm, 70, rfl⟩
abbrev main_v55 : Ref sig .tc := ⟨.hbm, 71, rfl⟩
abbrev main_c_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Proof.Loops.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Tactic
public import Idealize.ShloMosaic.Lib.LoopRemainder
public import Idealize.ShloMosaic.Lib.ValueIdx

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-- The keys of tile `n`: 256 rows. -/
def keys (x : Vec F S16384x128 .bf16) (n : ℕ) : Vec F S256x128 .bf16 := fun y => x (ix2 ⟨(256 * n + (y 0).val) % 16384, Nat.mod_lt _ (by decide)⟩ (y 1))
/-- The values of tile `n`: 256 columns of the transposed array. -/
def vals (x : Vec F S128x16384 .bf16) (n : ℕ) : Vec F S128x256 .bf16 := fun y => x (ix2 (y 0) ⟨(256 * n + (y 1).val) % 16384, Nat.mod_lt _ (by decide)⟩)

abbrev Carry (F : FTy → Type) := FVec F S1x512 .f32 × FVec F S144x512 .f32

/-- One tile's step of the running maximum and the running sums. -/
def step (qz : FVec F S512x128 .bf16) (x : Vec F S16384x128 .bf16) (w : Vec F S128x16384 .bf16) (n : ℕ) (a : Carry F) : Carry F :=
  (k0_pay3 a.1 (k0_pay1 qz (keys x n)), k0_pay4 a.1 a.2 (k0_pay1 qz (keys x n)) (vals w n))

/-- The carried pair before tile `n`. -/
def carry (qz : FVec F S512x128 .bf16) (x : Vec F S16384x128 .bf16) (w : Vec F S128x16384 .bf16) : ℕ → Carry F
  | 0 => (k0_pay241, k0_pay242)
  | n + 1 => step qz x w n (carry qz x w n)

theorem keys_load {κ sp} (v : View sig κ sp S16384x128 .bf16) (x : v.ty.Contents (Elt F)) {off : Fin 2 → ℕ} (inb) (n : ℕ) (h : off = ![256 * n, 0]) :
    v.readAt (Elt F) (Rect.unit (s := S16384x128) off S256x128.size inb).toLoadRect x = keys (v.read (Elt F) x) n := by
  subst h
  have hb : 256 * n + 256 ≤ 16384 := inb 0
  funext y
  have hy : (y 0).val < 256 := (y 0).isLt
  refine congrArg (v.read (Elt F) x) ?_
  funext a
  apply Fin.ext
  match a with
  | ⟨0, _⟩ => show 256 * n + 1 * (y 0).val = (256 * n + (y 0).val) % 16384; rw [Nat.mod_eq_of_lt (by omega)]; omega
  | ⟨1, _⟩ => show 0 + 1 * (y 1).val = (y 1).val; omega

theorem vals_load {κ sp} (v : View sig κ sp S128x16384 .bf16) (x : v.ty.Contents (Elt F)) {off : Fin 2 → ℕ} (inb) (n : ℕ) (h : off = ![0, 256 * n]) :
    v.readAt (Elt F) (Rect.unit (s := S128x16384) off S128x256.size inb).toLoadRect x = vals (v.read (Elt F) x) n := by
  subst h
  have hb : 256 * n + 256 ≤ 16384 := inb 1
  funext y
  have hy : (y 1).val < 256 := (y 1).isLt
  refine congrArg (v.read (Elt F) x) ?_
  funext a
  apply Fin.ext
  match a with
  | ⟨0, _⟩ => show 0 + 1 * (y 0).val = (y 0).val; omega
  | ⟨1, _⟩ => show 256 * n + 1 * (y 1).val = (256 * n + (y 1).val) % 16384; rw [Nat.mod_eq_of_lt (by omega)]; omega

abbrev slot0 : Rect S2x256x512 := Rect.unit (s := S2x256x512) ![0, 0, 0] ![1, 256, 512] inb_S2x256x512_S1x256x512_0_0_0
abbrev slot1 : Rect S2x256x512 := Rect.unit (s := S2x256x512) ![1, 0, 0] ![1, 256, 512] inb_S2x256x512_S1x256x512_1_0_0

theorem slots_disjoint : Disjoint slot0.set slot1.set := by
  rw [Finset.disjoint_left]
  intro y h0 h1
  rw [Rect.mem_set_unit] at h0 h1
  have a := (h0 0).2; have b := (h1 0).1
  exact absurd (lt_of_le_of_lt b a) (by decide)

/-- The slot stored last reads back what was stored; -/
theorem slot_hit {κ sp} (v : View sig κ sp S2x256x512 .f32) (f : v.ty.Contents (Elt F)) (r : Rect S2x256x512) (w : r.shape.Idx → Elt F .f32)
    (L : List (View.Piece (Elt F) S2x256x512 .f32)) : v.readAt (Elt F) r.toLoadRect (v.writes (Elt F) f (⟨r, w⟩ :: L)) = w := by
  funext y
  exact View.read_writes_cons_emb v f r w L y
theorem slot_load {κ sp} (v : View sig κ sp S2x256x512 .f32) (r : Rect S2x256x512) (w : r.shape.Idx → Elt F .f32)
    (L : List (View.Piece (Elt F) S2x256x512 .f32)) : v.readCov (⟨r, w⟩ :: L) r.toLoadRect = w :=
  View.readCov_cons_toLoadRect v r w L
/-- the other slot keeps what it held. -/
theorem slot1_miss {κ sp} (v : View sig κ sp S2x256x512 .f32) (w : slot0.shape.Idx → Elt F .f32)
    (L : List (View.Piece (Elt F) S2x256x512 .f32)) : v.readCov (⟨slot0, w⟩ :: L) slot1.toLoadRect = v.readCov L slot1.toLoadRect :=
  View.readCov_cons_of_disjoint v _ L _ slots_disjoint
theorem slot0_miss {κ sp} (v : View sig κ sp S2x256x512 .f32) (w : slot1.shape.Idx → Elt F .f32)
    (L : List (View.Piece (Elt F) S2x256x512 .f32)) : v.readCov (⟨slot1, w⟩ :: L) slot0.toLoadRect = v.readCov L slot0.toLoadRect :=
  View.readCov_cons_of_disjoint v _ L _ slots_disjoint.symm

/-- The values over sixteen rows of ones. -/
def ones (w : FVec F S128x256 .bf16) (o : FVec F S16x256 .bf16) : FVec F S144x256 .bf16 := concatenate S144x256 0 [⟨S128x256, w⟩, ⟨S16x256, o⟩] concatenates_S128x256_S16x256_S144x256_d0
theorem ones_eq (w : FVec F S128x256 .bf16) (o : FVec F S16x256 .bf16) (h) : concatenate S144x256 0 [⟨S128x256, w⟩, ⟨S16x256, o⟩] h = ones w o := rfl

theorem carry_succ (qz : FVec F S512x128 .bf16) (x : Vec F S16384x128 .bf16) (w : Vec F S128x16384 .bf16) (n : ℕ) :
    carry qz x w (n + 1) = step qz x w n (carry qz x w n) := rfl

/-- What the first loop's trips load of the keys, by the number of the tile in the trip, -/
theorem keys_load1 {κ sp} (v : View sig κ sp S16384x128 .bf16) (x : v.ty.Contents (Elt F)) (i : grid0.Coords) (k : Fin (k0_t1_loop i).trips)
    (r : BitVec 32) (hr : r.toNat < 16) (inb) : v.readAt (Elt F) (Rect.unit (k0_off1 i k r) ![256, 128] inb).toLoadRect x
      = keys (v.read (Elt F) x) (0 + 16 * k.val + r.toNat + 1) :=
  keys_load v x inb _ (by
    have h := (by decide +kernel : ∀ (i : grid0.Coords) (k : Fin (k0_t1_loop i).trips) (r : Fin 16),
      k0_off1 i k (BitVec.ofNat 32 r.val) = ![256 * (0 + 16 * k.val + r.val + 1), 0]) i k ⟨r.toNat, hr⟩
    rwa [BitVec.ofNat_toNat, BitVec.setWidth_eq] at h)
/-- and of the values. -/
theorem vals_load1 {κ sp} (v : View sig κ sp S128x16384 .bf16) (x : v.ty.Contents (Elt F)) (i : grid0.Coords) (k : Fin (k0_t1_loop i).trips)
    (r : BitVec 32) (hr : r.toNat < 16) (inb) : v.readAt (Elt F) (Rect.unit (k0_off2 i k r) ![128, 256] inb).toLoadRect x
      = vals (v.read (Elt F) x) (0 + 16 * k.val + r.toNat) :=
  vals_load v x inb _ (by
    have h := (by decide +kernel : ∀ (i : grid0.Coords) (k : Fin (k0_t1_loop i).trips) (r : Fin 16),
      k0_off2 i k (BitVec.ofNat 32 r.val) = ![0, 256 * (0 + 16 * k.val + r.val)]) i k ⟨r.toNat, hr⟩
    rwa [BitVec.ofNat_toNat, BitVec.setWidth_eq] at h)

/-- What the second loop's trips load of the keys, by the number of the tile in the trip, -/
theorem keys_load3 {κ sp} (v : View sig κ sp S16384x128 .bf16) (x : v.ty.Contents (Elt F)) (i : grid0.Coords) (k : Fin (k0_t3_loop i).trips)
    (r : BitVec 32) (hr : r.toNat < 8) (inb) : v.readAt (Elt F) (Rect.unit (k0_off5 i k r) ![256, 128] inb).toLoadRect x
      = keys (v.read (Elt F) x) ((i 1).val / 16 * 16 + 8 * k.val + r.toNat + 1) :=
  keys_load v x inb _ (by
    have h := (by decide +kernel : ∀ (i : grid0.Coords) (k : Fin (k0_t3_loop i).trips) (r : Fin 8),
      k0_off5 i k (BitVec.ofNat 32 r.val) = ![256 * ((i 1).val / 16 * 16 + 8 * k.val + r.val + 1), 0]) i k ⟨r.toNat, hr⟩
    rwa [BitVec.ofNat_toNat, BitVec.setWidth_eq] at h)
/-- and of the values. -/
theorem vals_load3 {κ sp} (v : View sig κ sp S128x16384 .bf16) (x : v.ty.Contents (Elt F)) (i : grid0.Coords) (k : Fin (k0_t3_loop i).trips)
    (r : BitVec 32) (hr : r.toNat < 8) (inb) : v.readAt (Elt F) (Rect.unit (k0_off6 i k r) ![128, 256] inb).toLoadRect x
      = vals (v.read (Elt F) x) ((i 1).val / 16 * 16 + 8 * k.val + r.toNat) :=
  vals_load v x inb _ (by
    have h := (by decide +kernel : ∀ (i : grid0.Coords) (k : Fin (k0_t3_loop i).trips) (r : Fin 8),
      k0_off6 i k (BitVec.ofNat 32 r.val) = ![0, 256 * ((i 1).val / 16 * 16 + 8 * k.val + r.val)]) i k ⟨r.toNat, hr⟩
    rwa [BitVec.ofNat_toNat, BitVec.setWidth_eq] at h)

/-- What the third loop's trips load of the keys, by the number of the tile in the trip, -/
theorem keys_load5 {κ sp} (v : View sig κ sp S16384x128 .bf16) (x : v.ty.Contents (Elt F)) (i : grid0.Coords) (k : Fin (k0_t5_loop i).trips)
    (r : BitVec 32) (hr : r.toNat < 4) (inb) : v.readAt (Elt F) (Rect.unit (k0_off9 i k r) ![256, 128] inb).toLoadRect x
      = keys (v.read (Elt F) x) ((i 1).val / 8 * 8 + 4 * k.val + r.toNat + 1) :=
  keys_load v x inb _ (by
    have h := (by decide +kernel : ∀ (i : grid0.Coords) (k : Fin (k0_t5_loop i).trips) (r : Fin 4),
      k0_off9 i k (BitVec.ofNat 32 r.val) = ![256 * ((i 1).val / 8 * 8 + 4 * k.val + r.val + 1), 0]) i k ⟨r.toNat, hr⟩
    rwa [BitVec.ofNat_toNat, BitVec.setWidth_eq] at h)
/-- and of the values. -/
theorem vals_load5 {κ sp} (v : View sig κ sp S128x16384 .bf16) (x : v.ty.Contents (Elt F)) (i : grid0.Coords) (k : Fin (k0_t5_loop i).trips)
    (r : BitVec 32) (hr : r.toNat < 4) (inb) : v.readAt (Elt F) (Rect.unit (k0_off10 i k r) ![128, 256] inb).toLoadRect x
      = vals (v.read (Elt F) x) ((i 1).val / 8 * 8 + 4 * k.val + r.toNat) :=
  vals_load v x inb _ (by
    have h := (by decide +kernel : ∀ (i : grid0.Coords) (k : Fin (k0_t5_loop i).trips) (r : Fin 4),
      k0_off10 i k (BitVec.ofNat 32 r.val) = ![0, 256 * ((i 1).val / 8 * 8 + 4 * k.val + r.val)]) i k ⟨r.toNat, hr⟩
    rwa [BitVec.ofNat_toNat, BitVec.setWidth_eq] at h)

/-- What the fourth loop's trips load of the keys, by the number of the tile in the trip, -/
theorem keys_load7 {κ sp} (v : View sig κ sp S16384x128 .bf16) (x : v.ty.Contents (Elt F)) (i : grid0.Coords) (k : Fin (k0_t7_loop i).trips)
    (r : BitVec 32) (hr : r.toNat < 2) (inb) : v.readAt (Elt F) (Rect.unit (k0_off13 i k r) ![256, 128] inb).toLoadRect x
      = keys (v.read (Elt F) x) ((i 1).val / 4 * 4 + 2 * k.val + r.toNat + 1) :=
  keys_load v x inb _ (by
    have h := (by decide +kernel : ∀ (i : grid0.Coords) (k : Fin (k0_t7_loop i).trips) (r : Fin 2),
      k0_off13 i k (BitVec.ofNat 32 r.val) = ![256 * ((i 1).val / 4 * 4 + 2 * k.val + r.val + 1), 0]) i k ⟨r.toNat, hr⟩
    rwa [BitVec.ofNat_toNat, BitVec.setWidth_eq] at h)
/-- and of the values. -/
theorem vals_load7 {κ sp} (v : View sig κ sp S128x16384 .bf16) (x : v.ty.Contents (Elt F)) (i : grid0.Coords) (k : Fin (k0_t7_loop i).trips)
    (r : BitVec 32) (hr : r.toNat < 2) (inb) : v.readAt (Elt F) (Rect.unit (k0_off14 i k r) ![128, 256] inb).toLoadRect x
      = vals (v.read (Elt F) x) ((i 1).val / 4 * 4 + 2 * k.val + r.toNat) :=
  vals_load v x inb _ (by
    have h := (by decide +kernel : ∀ (i : grid0.Coords) (k : Fin (k0_t7_loop i).trips) (r : Fin 2),
      k0_off14 i k (BitVec.ofNat 32 r.val) = ![0, 256 * ((i 1).val / 4 * 4 + 2 * k.val + r.val)]) i k ⟨r.toNat, hr⟩
    rwa [BitVec.ofNat_toNat, BitVec.setWidth_eq] at h)

section Loops

variable (𝒱 : Variants) (c : Dev nD) (bd : Option 𝒱.V) (E : Set ℕ) (i : grid0.Coords)
  (arg2 : Memref sig .tc .vmem S256x128 .f32) (harg2 : arg2.IsWhole) (arg3 : Memref sig .tc .vmem S16384x128 .bf16) (harg3 : arg3.IsWhole)
  (arg4 : Memref sig .tc .vmem S128x16384 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x128 .f32) (harg9 : arg9.IsWhole)
  (arg10 : Memref sig .tc .vmem S256x128 .f32) (harg10 : arg10.IsWhole) (arg11 : Memref sig .tc .vmem S2x256x512 .f32) (harg11 : arg11.IsWhole)
  (v14 : FVec F S512x128 .bf16)
  (x3 : BufTy.Contents (Elt F) arg3.view.ty) (x4 : BufTy.Contents (Elt F) arg4.view.ty)

/-- What a loop holds before a trip: the keys and the values as they were, the first score slot at the scores of tile `n`, and
    the carried pair the one before that tile. -/
def inv (n : ℕ) (a : Carry F) : sProp 𝕄 :=
  iprop((arg3.view.loc (c : Thread nD τ) ↦[arg3.view.set]{fullShare} x3) ∗ (arg4.view.loc (c : Thread nD τ) ↦[arg4.view.set]{fullShare} x4)
    ∗ (∃ f, (arg11.view.loc (c : Thread nD τ) ↦[arg11.view.set]{fullShare} f)
        ∗ ⌜arg11.view.readAt (Elt F) slot0.toLoadRect f = k0_pay1 v14 (keys (arg3.view.read (Elt F) x3) n)⌝)
    ∗ ⌜a = carry v14 (arg3.view.read (Elt F) x3) (arg4.view.read (Elt F) x4) n⌝)

set_option warn.classDefReducibility false in
/-- The first loop: 16 tiles a trip. -/
@[sl_loop] def loop1  (init : Carry F) :
    LoopInv (M := 𝕄) Idealize.ShloMosaic.frame (wpE (defs₀ (F := F)) 𝒱 (c : Thread nD τ) bd) E (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 arg11 harg11 0#32 v14 init.1 init.2 0#32 0#32 0#32 0#32 0#32 0#32) where
  inv k a := inv c arg3 arg4 arg11 v14 x3 x4 (0 + 16 * k) a
  step k a := by
    unfold inv k0_t1_body
    iintro ⟨H3, H4, ⟨%f, H11, %hf⟩, %ha⟩
    sl_exec
    sl_step
    isplitl [H3]; · iexact H3
    isplitl [H4]; · iexact H4
    isplitl [H11]
    · iexists _
      isplitl [H11]; · iexact H11
      ipureintro
      sl_unfold_run_names
      rw [slot_hit, keys_load1 _ _ _ _ 15#32 (by decide)]
      rfl
    · ipureintro
      sl_unfold_run_names
      simp (disch := decide) only [slot_load, slot1_miss, slot0_miss, ones_eq, keys_load1, vals_load1, ha]
      show _ = carry _ _ _ (0 + 16 * k + 16)
      simp only [carry_succ]
      rfl

set_option warn.classDefReducibility false in
/-- The second loop: 8 tiles a trip. -/
@[sl_loop] def loop3 (v51 : BitVec 32) (init : Carry F) :
    LoopInv (M := 𝕄) Idealize.ShloMosaic.frame (wpE (defs₀ (F := F)) 𝒱 (c : Thread nD τ) bd) E (k0_t3_loop i).lb (k0_t3_loop i).ub (k0_t3_loop i).st (k0_t3_ok i) init
      (k0_t3_body (F := F) i arg2 harg2 arg3 harg3 arg4 harg4 arg5 harg5 arg6 harg6 arg7 harg7 arg8 harg8 arg9 harg9 arg10 harg10 arg11 harg11 0#32 v14 init.1 init.2 0#32 0#32 0#32 0#32 0#32 0#32 v51) where
  inv k a := inv c arg3 arg4 arg11 v14 x3 x4 ((i 1).val / 16 * 16 + 8 * k) a
  step k a := by
    unfold inv k0_t3_body
    iintro ⟨H3, H4, ⟨%f, H11, %hf⟩, %ha⟩
    sl_exec
    sl_step
    isplitl [H3]; · iexact H3
    isplitl [H4]; · iexact H4
    isplitl [H11]
    · iexists _
      isplitl [H11]; · iexact H11
      ipureintro
      sl_unfold_run_names
      rw [slot_hit, keys_load3 _ _ _ _ 7#32 (by decide)]
      rfl
    · ipureintro
      sl_unfold_run_names
      simp (disch := decide) only [slot_load, slot1_miss, slot0_miss, ones_eq, keys_load3, vals_load3, ha]
      show _ = carry _ _ _ ((i 1).val / 16 * 16 + 8 * k + 8)
      simp only [carry_succ]
      rfl

set_option warn.classDefReducibility false in
/-- The third loop: 4 tiles a trip. -/
@[sl_loop] def loop5 (v78 : BitVec 32) (init : Carry F) :
    LoopInv (M := 𝕄) Idealize.ShloMosaic.frame (wpE (defs₀ (F := F)) 𝒱 (c : Thread nD τ) bd) E (k0_t5_loop i).lb (k0_t5_loop i).ub (k0_t5_loop i).st (k0_t5_ok i) init
      (k0_t5_body (F := F) i arg2 harg2 arg3 harg3 arg4 harg4 arg5 harg5 arg6 harg6 arg7 harg7 arg8 harg8 arg9 harg9 arg10 harg10 arg11 harg11 0#32 v14 0#32 0#32 init.1 init.2 v78) where
  inv k a := inv c arg3 arg4 arg11 v14 x3 x4 ((i 1).val / 8 * 8 + 4 * k) a
  step k a := by
    unfold inv k0_t5_body
    iintro ⟨H3, H4, ⟨%f, H11, %hf⟩, %ha⟩
    sl_exec
    sl_step
    isplitl [H3]; · iexact H3
    isplitl [H4]; · iexact H4
    isplitl [H11]
    · iexists _
      isplitl [H11]; · iexact H11
      ipureintro
      sl_unfold_run_names
      rw [slot_hit, keys_load5 _ _ _ _ 3#32 (by decide)]
      rfl
    · ipureintro
      sl_unfold_run_names
      simp (disch := decide) only [slot_load, slot1_miss, slot0_miss, ones_eq, keys_load5, vals_load5, ha]
      show _ = carry _ _ _ ((i 1).val / 8 * 8 + 4 * k + 4)
      simp only [carry_succ]
      rfl

set_option warn.classDefReducibility false in
/-- The fourth loop: 2 tiles a trip. -/
@[sl_loop] def loop7 (v105 : BitVec 32) (init : Carry F) :
    LoopInv (M := 𝕄) Idealize.ShloMosaic.frame (wpE (defs₀ (F := F)) 𝒱 (c : Thread nD τ) bd) E (k0_t7_loop i).lb (k0_t7_loop i).ub (k0_t7_loop i).st (k0_t7_ok i) init
      (k0_t7_body (F := F) i arg2 harg2 arg3 harg3 arg4 harg4 arg5 harg5 arg6 harg6 arg7 harg7 arg8 harg8 arg9 harg9 arg10 harg10 arg11 harg11 0#32 v14 init.1 init.2 v105 0#32 0#32 0#32 0#1) where
  inv k a := inv c arg3 arg4 arg11 v14 x3 x4 ((i 1).val / 4 * 4 + 2 * k) a
  step k a := by
    unfold inv k0_t7_body
    iintro ⟨H3, H4, ⟨%f, H11, %hf⟩, %ha⟩
    sl_exec
    sl_step
    isplitl [H3]; · iexact H3
    isplitl [H4]; · iexact H4
    isplitl [H11]
    · iexists _
      isplitl [H11]; · iexact H11
      ipureintro
      sl_unfold_run_names
      rw [slot_hit, keys_load7 _ _ _ _ 1#32 (by decide)]
      rfl
    · ipureintro
      sl_unfold_run_names
      simp (disch := decide) only [slot_load, slot1_miss, slot0_miss, ones_eq, keys_load7, vals_load7, ha]
      show _ = carry _ _ _ ((i 1).val / 4 * 4 + 2 * k + 2)
      simp only [carry_succ]
      rfl

end Loops

end Cert.Proof.Flash

end
-- ==== Proof.Last.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Tactic
public import Idealize.ShloMosaic.Lib.LoopRemainder
public import Idealize.ShloMosaic.Lib.ValueIdx
public import proofs.«01_k».proof.Proof.Loops

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-- The slot that tile `n`'s scores lie in. -/
theorem slotAt_inb (n : ℕ) : ∀ a, (![n % 2, 0, 0] : Fin 3 → ℕ) a + (![1, 256, 512] : Fin 3 → ℕ) a ≤ S2x256x512.size a := by
  have h : n % 2 < 2 := Nat.mod_lt _ (by decide)
  intro a
  fin_cases a
  · show n % 2 + 1 ≤ 2; omega
  · exact le_rfl
  · exact le_rfl
abbrev slotAt (n : ℕ) : Rect S2x256x512 := Rect.unit (s := S2x256x512) ![n % 2, 0, 0] ![1, 256, 512] (slotAt_inb n)

/-- What the last loop's trip loads of the keys -/
theorem keys_load9 {κ sp} (v : View sig κ sp S16384x128 .bf16) (x : v.ty.Contents (Elt F)) (i : grid0.Coords) (k : Fin (k0_t9_loop i).trips)
    (inb) : v.readAt (Elt F) (Rect.unit (k0_off17 i k) ![256, 128] inb).toLoadRect x = keys (v.read (Elt F) x) ((i 1).val / 2 * 2 + k.val + 1) :=
  keys_load v x inb _ ((by decide +kernel : ∀ (i : grid0.Coords) (k : Fin (k0_t9_loop i).trips),
      k0_off17 i k = ![256 * ((i 1).val / 2 * 2 + k.val + 1), 0]) i k)
/-- and of the values; -/
theorem vals_load9 {κ sp} (v : View sig κ sp S128x16384 .bf16) (x : v.ty.Contents (Elt F)) (i : grid0.Coords) (k : Fin (k0_t9_loop i).trips)
    (inb) : v.readAt (Elt F) (Rect.unit (k0_off18 i k) ![128, 256] inb).toLoadRect x = vals (v.read (Elt F) x) ((i 1).val / 2 * 2 + k.val) :=
  vals_load v x inb _ ((by decide +kernel : ∀ (i : grid0.Coords) (k : Fin (k0_t9_loop i).trips),
      k0_off18 i k = ![0, 256 * ((i 1).val / 2 * 2 + k.val)]) i k)
/-- it makes at most one trip. -/
theorem trip9 : ∀ (i : grid0.Coords) (k : Fin (k0_t9_loop i).trips), k.val = 0 := by decide +kernel

/-- Where each loop leaves off the next begins. -/
theorem trips1 : ∀ i : grid0.Coords, 0 + 16 * (k0_t1_loop i).trips = (i 1).val / 16 * 16 + 8 * 0 := by decide +kernel
theorem trips3 : ∀ i : grid0.Coords, (i 1).val / 16 * 16 + 8 * (k0_t3_loop i).trips = (i 1).val / 8 * 8 + 4 * 0 := by decide +kernel
theorem trips5 : ∀ i : grid0.Coords, (i 1).val / 8 * 8 + 4 * (k0_t5_loop i).trips = (i 1).val / 4 * 4 + 2 * 0 := by decide +kernel
theorem trips7 : ∀ i : grid0.Coords, (i 1).val / 4 * 4 + 2 * (k0_t7_loop i).trips = (i 1).val / 2 * 2 + 0 := by decide +kernel
theorem trips9 : ∀ i : grid0.Coords, (i 1).val / 2 * 2 + (k0_t9_loop i).trips = (i 1).val := by decide +kernel
theorem off21_eq : ∀ i : grid0.Coords, k0_off21 i = ![(i 1).val % 2, 0, 0] := by decide +kernel
theorem off22_eq : ∀ i : grid0.Coords, k0_off22 i = ![0, 256 * (i 1).val] := by decide +kernel

section Last

variable (𝒱 : Variants) (c : Dev nD) (bd : Option 𝒱.V) (E : Set ℕ) (i : grid0.Coords)
  (arg2 : Memref sig .tc .vmem S256x128 .f32) (harg2 : arg2.IsWhole) (arg3 : Memref sig .tc .vmem S16384x128 .bf16) (harg3 : arg3.IsWhole)
  (arg4 : Memref sig .tc .vmem S128x16384 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x128 .f32) (harg9 : arg9.IsWhole)
  (arg10 : Memref sig .tc .vmem S256x128 .f32) (harg10 : arg10.IsWhole) (arg11 : Memref sig .tc .vmem S2x256x512 .f32) (harg11 : arg11.IsWhole)
  (v14 : FVec F S512x128 .bf16)
  (x3 : BufTy.Contents (Elt F) arg3.view.ty) (x4 : BufTy.Contents (Elt F) arg4.view.ty)

/-- What the last loop holds before a trip: as `inv`, the scores of tile `n` in the slot of `n`'s parity. -/
def inv9 (n : ℕ) (a : Carry F) : sProp 𝕄 :=
  iprop((arg3.view.loc (c : Thread nD τ) ↦[arg3.view.set]{fullShare} x3) ∗ (arg4.view.loc (c : Thread nD τ) ↦[arg4.view.set]{fullShare} x4)
    ∗ (∃ f, (arg11.view.loc (c : Thread nD τ) ↦[arg11.view.set]{fullShare} f)
        ∗ ⌜arg11.view.readAt (Elt F) (slotAt n).toLoadRect f = k0_pay1 v14 (keys (arg3.view.read (Elt F) x3) n)⌝)
    ∗ ⌜a = carry v14 (arg3.view.read (Elt F) x3) (arg4.view.read (Elt F) x4) n⌝)

theorem slot_congr {κ sp} (v : View sig κ sp S2x256x512 .f32) {off off' : Fin 3 → ℕ} (h : off = off') (inb) (inb')
    (f : v.ty.Contents (Elt F)) : v.readAt (Elt F) (Rect.unit (s := S2x256x512) off ![1, 256, 512] inb).toLoadRect f
      = v.readAt (Elt F) (Rect.unit (s := S2x256x512) off' ![1, 256, 512] inb').toLoadRect f := by
  subst h; rfl
theorem slotAt_even {κ sp} (v : View sig κ sp S2x256x512 .f32) {n : ℕ} (h : n % 2 = 0) (f : v.ty.Contents (Elt F)) :
    v.readAt (Elt F) (slotAt n).toLoadRect f = v.readAt (Elt F) slot0.toLoadRect f := slot_congr v (by rw [h]) _ _ f
theorem slotAt_odd {κ sp} (v : View sig κ sp S2x256x512 .f32) {n : ℕ} (h : n % 2 = 1) (f : v.ty.Contents (Elt F)) :
    v.readAt (Elt F) (slotAt n).toLoadRect f = v.readAt (Elt F) slot1.toLoadRect f := slot_congr v (by rw [h]) _ _ f

set_option warn.classDefReducibility false in
/-- The last loop: one tile, the next one's scores into the second slot. -/
@[sl_loop] def loop9  (init : Carry F) :
    LoopInv (M := 𝕄) Idealize.ShloMosaic.frame (wpE (defs₀ (F := F)) 𝒱 (c : Thread nD τ) bd) E (k0_t9_loop i).lb (k0_t9_loop i).ub (k0_t9_loop i).st (k0_t9_ok i) init
      (k0_t9_body (F := F) i (win0_0.stage 0) (hstage0_0 0) arg3 harg3 arg4 harg4 (win0_3.stage 0) (hstage0_3 0) (win0_4.stage 0) (hstage0_4 0) (win0_5.stage 0) (hstage0_5 0) (win0_6.stage 0) (hstage0_6 0) (win0_7.stage 0) (hstage0_7 0) (win0_8.stage 0) (hstage0_8 0) arg11 harg11 0#32 v14 init.1 init.2 0#32 0#32 0#32 0#32 0#1) where
  inv k a := inv9 c arg3 arg4 arg11 v14 x3 x4 ((i 1).val / 2 * 2 + k) a
  step k a := by
    unfold inv9 k0_t9_body
    simp only [slotAt_even arg11.view (n := (i 1).val / 2 * 2 + k.val) (by rw [trip9 i k]; omega),
      slotAt_odd arg11.view (n := (i 1).val / 2 * 2 + (k.val + 1)) (by rw [trip9 i k]; omega)]
    iintro ⟨H3, H4, ⟨%f, H11, %hf⟩, %ha⟩
    sl_exec
    sl_step
    isplitl [H3]; · iexact H3
    isplitl [H4]; · iexact H4
    isplitl [H11]
    · iexists _
      isplitl [H11]; · iexact H11
      ipureintro
      sl_unfold_run_names
      rw [slot_hit, keys_load9]
      rfl
    · ipureintro
      sl_unfold_run_names
      simp (disch := decide) only [vals_load9, ha]
      rfl

instance exit1  (init : Carry F) : LoopExit (loop1 𝒱 c bd E i arg2 harg2 arg3 harg3 arg4 harg4 arg5 harg5 arg6 harg6 arg7 harg7 arg8 harg8 arg9 harg9 arg10 harg10 arg11 harg11 v14 x3 x4  init) where
  post a := inv c arg3 arg4 arg11 v14 x3 x4 ((i 1).val / 16 * 16 + 8 * 0) a
  exit a := by
    show inv c arg3 arg4 arg11 v14 x3 x4 (0 + 16 * (k0_t1_loop i).trips) a ⊢ _
    rw [trips1 i]
instance exit3 (v51 : BitVec 32) (init : Carry F) : LoopExit (loop3 𝒱 c bd E i arg2 harg2 arg3 harg3 arg4 harg4 arg5 harg5 arg6 harg6 arg7 harg7 arg8 harg8 arg9 harg9 arg10 harg10 arg11 harg11 v14 x3 x4 v51 init) where
  post a := inv c arg3 arg4 arg11 v14 x3 x4 ((i 1).val / 8 * 8 + 4 * 0) a
  exit a := by
    show inv c arg3 arg4 arg11 v14 x3 x4 ((i 1).val / 16 * 16 + 8 * (k0_t3_loop i).trips) a ⊢ _
    rw [trips3 i]
instance exit5 (v78 : BitVec 32) (init : Carry F) : LoopExit (loop5 𝒱 c bd E i arg2 harg2 arg3 harg3 arg4 harg4 arg5 harg5 arg6 harg6 arg7 harg7 arg8 harg8 arg9 harg9 arg10 harg10 arg11 harg11 v14 x3 x4 v78 init) where
  post a := inv c arg3 arg4 arg11 v14 x3 x4 ((i 1).val / 4 * 4 + 2 * 0) a
  exit a := by
    show inv c arg3 arg4 arg11 v14 x3 x4 ((i 1).val / 8 * 8 + 4 * (k0_t5_loop i).trips) a ⊢ _
    rw [trips5 i]
instance exit7 (v105 : BitVec 32) (init : Carry F) : LoopExit (loop7 𝒱 c bd E i arg2 harg2 arg3 harg3 arg4 harg4 arg5 harg5 arg6 harg6 arg7 harg7 arg8 harg8 arg9 harg9 arg10 harg10 arg11 harg11 v14 x3 x4 v105 init) where
  post a := inv9 c arg3 arg4 arg11 v14 x3 x4 ((i 1).val / 2 * 2 + 0) a
  exit a := by
    show inv c arg3 arg4 arg11 v14 x3 x4 ((i 1).val / 4 * 4 + 2 * (k0_t7_loop i).trips) a ⊢ _
    rw [trips7 i]
    unfold inv inv9
    simp only [slotAt_even arg11.view (n := (i 1).val / 2 * 2 + 0) (by omega)]
    exact .rfl
instance exit9 (init : Carry F) : LoopExit (loop9 𝒱 c bd E i arg3 harg3 arg4 harg4 arg11 harg11 v14 x3 x4 init) where
  post a := iprop((arg3.view.loc (c : Thread nD τ) ↦[arg3.view.set]{fullShare} x3) ∗ (arg4.view.loc (c : Thread nD τ) ↦[arg4.view.set]{fullShare} x4)
    ∗ (∃ f, (arg11.view.loc (c : Thread nD τ) ↦[arg11.view.set]{fullShare} f)
        ∗ ⌜arg11.view.readAt (Elt F) (Rect.unit (s := S2x256x512) (k0_off21 i) S1x256x512.size (k0_off21_inb i)).toLoadRect f = k0_pay1 v14 (keys (arg3.view.read (Elt F) x3) (i 1).val)⌝)
    ∗ ⌜a = carry v14 (arg3.view.read (Elt F) x3) (arg4.view.read (Elt F) x4) (i 1).val⌝)
  exit a := by
    show inv9 c arg3 arg4 arg11 v14 x3 x4 ((i 1).val / 2 * 2 + (k0_t9_loop i).trips) a ⊢ _
    rw [trips9 i]
    unfold inv9
    iintro ⟨H3, H4, ⟨%f, H11, %hf⟩, %ha⟩
    isplitl [H3]; · iexact H3
    isplitl [H4]; · iexact H4
    isplitl [H11]
    · iexists f
      isplitl [H11]; · iexact H11
      ipureintro
      exact (slot_congr arg11.view (off21_eq i) _ _ f).trans hf
    · ipureintro
      exact ha

end Last

end Cert.Proof.Flash
-- ==== Proof.Body.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Tactic
public import Idealize.ShloMosaic.Lib.LoopRemainder
public import Idealize.ShloMosaic.Lib.ValueIdx
public import proofs.«01_k».proof.Proof.Last
public import proofs.«01_k».proof.Proof.Gen.KernelIdeal.Frame
public import Idealize.ShloMosaic.Lib.Claim
public import Idealize.ShloMosaic.Lib.Pipeline.Value

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-- What the body leaves of query tile `n`, from the blocks of the queries, the keys, the values, the four vectors of the
    difference's weight and the norm's scale: the pair carried to the diagonal, the diagonal tile masked, the two halves'
    difference normed. -/
def tileOut (n : ℕ) (x2 : Vec F S256x128 .f32) (x3 : Vec F S16384x128 .bf16) (x4 : Vec F S128x16384 .bf16) (x5 : Vec F S1x64 .f32) (x6 : Vec F S1x64 .f32) (x7 : Vec F S1x64 .f32) (x8 : Vec F S1x64 .f32) (x9 : Vec F S1x128 .f32) : Vec F S256x128 .f32 :=
  k0_pay278 (k0_pay276 (carry (k0_pay239 x2) x3 x4 n).1 (carry (k0_pay239 x2) x3 x4 n).2 k0_pay275 (k0_pay1 (k0_pay239 x2) (keys x3 n)) (vals x4 n))
    (k0_pay277 x5) x6 x7 x8 x9

theorem cover (p : Vec F S256x128 .f32) (y : S256x128.Idx) :
    ∃ pc ∈ ([⟨Rect.unit ![0, 0] S256x128.size inb_S256x128_S256x128_0_0, p⟩] : List (View.Piece (Elt F) S256x128 .f32)), y ∈ pc.1.set :=
  View.cover_of_tiled [⟨Rect.unit ![0, 0] S256x128.size inb_S256x128_S256x128_0_0, p⟩] S256x128.size (by rfl) y

theorem ld64 (x : Vec F S1x64 .f32) :
    View.ld x (Rect.unit ![0, 0] ![1, 64] inb_S1x64_S1x64_0_0) = x :=
  View.ld_unit_zero (by decide) _ x

theorem ld128 (x : Vec F S1x128 .f32) :
    View.ld x (Rect.unit ![0, 0] ![1, 128] inb_S1x128_S1x128_0_0) = x :=
  View.ld_unit_zero (by decide) _ x

theorem ld_whole {s : Shape} {e : EltTy} {off : Fin s.rank → ℕ} (inb) (h : off = fun _ => 0) (x : Vec F s e) :
    View.ld x (Rect.unit off s.size inb) = x := by
  subst h; funext y
  exact congrArg x (funext fun a => Fin.ext (by show 0 + 1 * (y a).val = (y a).val; omega))

set_option maxHeartbeats 4000000 in
/-- The kernel body, at any grid point. -/
theorem sound_kernel (c : Dev nD) (E : Set ℕ) (i : grid0.Coords) (arg2 : Memref sig .tc .vmem S256x128 .f32) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x128 .f32) (harg10 : arg10.IsWhole) (arg11 : Memref sig .tc .vmem S2x256x512 .f32) (harg11 : arg11.IsWhole) (x2 : Vec F S256x128 .f32) (x3 : Vec F S16384x128 .bf16) (x4 : Vec F S128x16384 .bf16) (x5 : Vec F S1x64 .f32) (x6 : Vec F S1x64 .f32) (x7 : Vec F S1x64 .f32) (x8 : Vec F S1x64 .f32) (x9 : Vec F S1x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (tileOut (i 1).val x2 x3 x4 x5 x6 x7 x8 x9) ∗ (∃ d, owns (c : Thread nD τ) arg11 fullShare d)) -∗ K ⟨⟩))
      ⊢ wp frame (wpE (defs₀ (F := F)) Variants.none c none) E
          (cc0_diff_prompt i arg2 harg2 arg3 harg3 arg4 harg4 arg5 harg5 arg6 harg6 arg7 harg7 arg8 harg8 arg9 harg9 arg10 harg10 arg11 harg11) K := by
  simp only [cc0_diff_prompt_eq_skeleton]; unfold cc0_diff_prompt_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf2 hf3 hf4 hf5 hf6 hf7 hf8 hf9
  set_option sl_exec.stopBefore "k0_part52" in sl_exec
  have hq : sound_kernel.sl.r c arg2 f2 = k0_pay239 (View.read (Elt F) arg2.view f2) := by
    unfold sound_kernel.sl.r
    rw [View.readAt_eq_ld, ld_whole _ (by decide)]
  have h11 := slot_hit arg11.view f11 slot0 (k0_pay240
    (View.readAt (Elt F) arg2.view (Rect.unit ![0, 0] S256x128.size inb_S256x128_S256x128_0_0).toLoadRect f2)
    (View.readAt (Elt F) arg3.view (Rect.unit (s := S16384x128) ![0, 0] S256x128.size inb_S16384x128_S256x128_0_0).toLoadRect f3)) []
  generalize sound_kernel.sl.r c arg2 f2 = qz at *
  replace h11 := h11.trans (show _ = k0_pay1 qz (keys (View.read (Elt F) arg3.view f3) (0 + 16 * 0)) by
    rw [keys_load arg3.view f3 _ 0 rfl, View.readAt_eq_ld, ld_whole _ (by decide), hq]; rfl)
  generalize (arg11.view.writes (Elt F) f11 _) = g11 at *
  have hc : ((k0_pay241, k0_pay242) : Carry F) = carry qz (View.read (Elt F) arg3.view f3) (View.read (Elt F) arg4.view f4) (0 + 16 * 0) := rfl
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]
  · iexists _; isplitr; swap; · iexact H10
    ipureintro
    rw [View.read_writes_eq_canon _ _ _ (cover _), View.canon_cons_unit_zero (by decide)]
    sl_unfold_run_names
    rw [vals_load arg4.view f4 _ _ (off22_eq i)]
    simp only [View.readAt_eq_ld]
    subst hq
    simp only [ld64, ld128]
    rfl
  iexists _, _; isplitr; swap; · iexact H11
  ipureintro; rfl

end Cert.Proof.Flash
-- ==== Proof.Run.lean ====
module

public import proofs.«01_k».proof.Proof.Gen.KernelIdeal.Skeleton
public import proofs.«01_k».proof.Proof.Gen.KernelIdeal.Launch
public import Idealize.ShloMosaic.Lib.Pipeline.FrameBody
public import Idealize.ShloMosaic.Lib.Tactic
public import Idealize.ShloMosaic.Lib.LoopRemainder
public import Idealize.ShloMosaic.Lib.ValueIdx
public import proofs.«01_k».proof.Proof.Body
public import proofs.«01_k».proof.Proof.Gen.KernelIdeal.Frame
public import Idealize.ShloMosaic.Lib.Claim
public import Idealize.ShloMosaic.Lib.Pipeline.Value

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result's staging buffer after the body at point `t`. -/
def outAt (c : Dev nD) (t : Fin cfg0.N) : Vec F S256x128 .f32 :=
  tileOut (grid0.coords t 1).val (iblk m c 0 t) (iblk m c 1 t) (iblk m c 2 t) (iblk m c 3 t) (iblk m c 4 t) (iblk m c 5 t) (iblk m c 6 t) (iblk m c 7 t)

/-- The proof data on core `c`: the arrays as the region finds them; after the body each input's buffer at its block and
    the result's at `outAt`; the scratch at some contents and the generator register untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The class's invariant opened: the scratch owned at some contents, the generator register at some state. -/
theorem ΦA_eq (c : Dev nD) :
    (Pipeline.ΦA spec0 c : sProp 𝕄)
      = iprop((∃ d, owns (c : Thread nD τ) (Memref.whole cc0_scratch0) fullShare d) ∗ ∃ r, prngReg c r) := by
  unfold Pipeline.ΦA
  rw [scopedRest0_eq]; simp only [owns_whole]; try rfl

/-- What the body is called with at point `t`, the windows one by one. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

/-- What it hands back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- The body at any point: each input's buffer holds its block, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, ΦA_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Hs]; · iexact Hs
  iintro ⟨H0, H1, H2, H3, H4, H5, H6, H7, H8, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots. -/
theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch: every array at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.Flash
-- ==== Proof.Blocks.lean ====
module

public import proofs.«01_k».proof.Proof.Run
public import Idealize.ShloMosaic.Lib.Pointwise

@[expose] public section

set_option maxRecDepth 16384

noncomputable section

/-! The blocks the body is called with, read off the arguments as launched: the host's reshapes and transposition before
    the region, then the windows' rectangles. -/

namespace Cert.Proof.Flash

open Cert.KernelIdeal Cert.KernelIdeal.Gen
open Idealize.ShloMosaic Idealize.ShloMosaic.TcCoe Idealize.ShloMosaic.StableHlo

variable (m : (ℓ : Loc nD τ sig) → Buf (Elt Ideal) ℓ)

theorem V_main_v9 (c : Dev nD) : (V m c main_v9 : Vec Ideal S16384x1024 .f32)
    = shapeCast S16384x1024 (m ((c : Thread nD τ).loc main_arg0) : Vec Ideal S1x16384x8x2x64 .f32) shapeCasts_S1x16384x8x2x64_S16384x1024 := by
  unfold V; simp only [hostOps0]; after_results_simp <;> rfl

theorem V_main_v1 (c : Dev nD) : (V m c main_v1 : Vec Ideal S16384x1024 .bf16)
    = shapeCast S16384x1024 (m ((c : Thread nD τ).loc main_arg1) : Vec Ideal S1x16384x8x2x64 .f32) shapeCasts_S1x16384x8x2x64_S16384x1024 := by
  unfold V; simp only [hostOps0]; after_results_simp <;> rfl

theorem V_main_v4 (c : Dev nD) : (V m c main_v4 : Vec Ideal S1024x16384 .bf16)
    = transpose S1024x16384 [1, 0] (shapeCast S16384x1024 (m ((c : Thread nD τ).loc main_arg2) : Vec Ideal S1x16384x8x128 .f32) shapeCasts_S1x16384x8x128_S16384x1024) transposes_S16384x1024_S1024x16384_1_0 := by
  unfold V; simp only [hostOps0]; after_results_simp <;> rfl

theorem V_main_v5 (c : Dev nD) : (V m c main_v5 : Vec Ideal S1x64 .f32)
    = shapeCast S1x64 (m ((c : Thread nD τ).loc main_arg3) : Vec Ideal S64 .f32) shapeCasts_S64_S1x64 := by
  unfold V; simp only [hostOps0]; after_results_simp <;> rfl
theorem V_main_v6 (c : Dev nD) : (V m c main_v6 : Vec Ideal S1x64 .f32)
    = shapeCast S1x64 (m ((c : Thread nD τ).loc main_arg4) : Vec Ideal S64 .f32) shapeCasts_S64_S1x64 := by
  unfold V; simp only [hostOps0]; after_results_simp <;> rfl
theorem V_main_v7 (c : Dev nD) : (V m c main_v7 : Vec Ideal S1x64 .f32)
    = shapeCast S1x64 (m ((c : Thread nD τ).loc main_arg5) : Vec Ideal S64 .f32) shapeCasts_S64_S1x64 := by
  unfold V; simp only [hostOps0]; after_results_simp <;> rfl
theorem V_main_v8 (c : Dev nD) : (V m c main_v8 : Vec Ideal S1x64 .f32)
    = shapeCast S1x64 (m ((c : Thread nD τ).loc main_arg6) : Vec Ideal S64 .f32) shapeCasts_S64_S1x64 := by
  unfold V; simp only [hostOps0]; after_results_simp <;> rfl
theorem V_main_v10 (c : Dev nD) : (V m c main_v10 : Vec Ideal S1x128 .f32)
    = shapeCast S1x128 (m ((c : Thread nD τ).loc main_arg7) : Vec Ideal S128 .f32) shapeCasts_S128_S1x128 := by
  unfold V; simp only [hostOps0]; after_results_simp <;> rfl

/-- Row `q`, lane `l` of head `h` in the flat array is component `l / 64`, lane `l % 64` of that head. -/
theorem flat5 (x : Vec Ideal S1x16384x8x2x64 .f32) (q : Fin 16384) (h : Fin 8) (l : Fin 128) :
    shapeCast S16384x1024 x shapeCasts_S1x16384x8x2x64_S16384x1024 (ix2 q ⟨128 * h.val + l.val, by omega⟩)
      = x (ix5 0 q h ⟨l.val / 64, by omega⟩ ⟨l.val % 64, by omega⟩) :=
  shapeCast_apply x _ _ _ (by
    rewrite [Shape.rowMajor_val_five, Shape.rowMajor_val_two]
    show (((0 * 16384 + q.val) * 8 + h.val) * 2 + l.val / 64) * 64 + l.val % 64 = q.val * 1024 + (128 * h.val + l.val)
    omega)

theorem flat4 (x : Vec Ideal S1x16384x8x128 .f32) (q : Fin 16384) (h : Fin 8) (l : Fin 128) :
    shapeCast S16384x1024 x shapeCasts_S1x16384x8x128_S16384x1024 (ix2 q ⟨128 * h.val + l.val, by omega⟩) = x (ix4 0 q h l) :=
  shapeCast_apply x _ _ _ (by
    rewrite [Shape.rowMajor_val_four, Shape.rowMajor_val_two]
    show ((0 * 16384 + q.val) * 8 + h.val) * 128 + l.val = q.val * 1024 + (128 * h.val + l.val)
    omega)

/-- The head and the query tile of a grid point. -/
def headOf (t : Fin cfg0.N) : Fin 8 := ⟨t.val / 64, by have h : t.val < 512 := t.isLt; omega⟩
def tileOf (t : Fin cfg0.N) : Fin 64 := ⟨t.val % 64, Nat.mod_lt _ (by norm_num)⟩

theorem coords_tile : ∀ t : Fin cfg0.N, (grid0.coords t 1).val = t.val % 64 := (by decide +kernel : ∀ t : Fin grid0.N, _)
theorem index_0 : ∀ t : Fin cfg0.N, win0_0.index t (0 : Fin 2) = t.val % 64 ∧ win0_0.index t (1 : Fin 2) = t.val / 64 := (by decide +kernel : ∀ t : Fin grid0.N, _)
theorem index_1 : ∀ t : Fin cfg0.N, win0_1.index t (0 : Fin 2) = 0 ∧ win0_1.index t (1 : Fin 2) = t.val / 64 := (by decide +kernel : ∀ t : Fin grid0.N, _)
theorem index_2 : ∀ t : Fin cfg0.N, win0_2.index t (0 : Fin 2) = t.val / 64 ∧ win0_2.index t (1 : Fin 2) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)
theorem index_5 : ∀ t : Fin cfg0.N, win0_5.index t (0 : Fin 2) = 0 ∧ win0_5.index t (1 : Fin 2) = 0 := (by decide +kernel : ∀ t : Fin grid0.N, _)
theorem index_6 : ∀ t : Fin cfg0.N, win0_6.index t (0 : Fin 2) = 0 ∧ win0_6.index t (1 : Fin 2) = 0 := (by decide +kernel : ∀ t : Fin grid0.N, _)
theorem index_7 : ∀ t : Fin cfg0.N, win0_7.index t (0 : Fin 2) = 0 ∧ win0_7.index t (1 : Fin 2) = 0 := (by decide +kernel : ∀ t : Fin grid0.N, _)
theorem index_8 : ∀ t : Fin cfg0.N, win0_8.index t (0 : Fin 2) = t.val % 64 ∧ win0_8.index t (1 : Fin 2) = t.val / 64 := (by decide +kernel : ∀ t : Fin grid0.N, _)

/-- Where a query or result block's entry sits in its array. -/
def rowAt (t : Fin cfg0.N) (r : Fin 256) : Fin 16384 := ⟨256 * (tileOf t).val + r.val, by have h := (tileOf t).isLt; omega⟩
def laneAt (t : Fin cfg0.N) (l : Fin 128) : Fin 1024 := ⟨128 * (headOf t).val + l.val, by have h := (headOf t).isLt; omega⟩

theorem emb_0 (t : Fin cfg0.N) (r : Fin 256) (l : Fin 128) :
    ((cfg0.win 0).blk t).view.emb (ix2 r l : S256x128.Idx) = (ix2 (rowAt t r) (laneAt t l) : S16384x1024.Idx) := by
  obtain ⟨e0, e1⟩ := index_0 t
  funext a; apply Fin.ext
  match a with
  | ⟨0, _⟩ => show win0_0.index t (0 : Fin 2) * 256 + 1 * r.val = 256 * (t.val % 64) + r.val; omega
  | ⟨1, _⟩ => show win0_0.index t (1 : Fin 2) * 128 + 1 * l.val = 128 * (t.val / 64) + l.val; omega

theorem emb_8 (t : Fin cfg0.N) (r : Fin 256) (l : Fin 128) :
    ((cfg0.win 8).blk t).view.emb (ix2 r l : S256x128.Idx) = (ix2 (rowAt t r) (laneAt t l) : S16384x1024.Idx) := by
  obtain ⟨e0, e1⟩ := index_8 t
  funext a; apply Fin.ext
  match a with
  | ⟨0, _⟩ => show win0_8.index t (0 : Fin 2) * 256 + 1 * r.val = 256 * (t.val % 64) + r.val; omega
  | ⟨1, _⟩ => show win0_8.index t (1 : Fin 2) * 128 + 1 * l.val = 128 * (t.val / 64) + l.val; omega

theorem emb_1 (t : Fin cfg0.N) (k : Fin 16384) (l : Fin 128) :
    ((cfg0.win 1).blk t).view.emb (ix2 k l : S16384x128.Idx) = (ix2 k (laneAt t l) : S16384x1024.Idx) := by
  obtain ⟨e0, e1⟩ := index_1 t
  funext a; apply Fin.ext
  match a with
  | ⟨0, _⟩ => show win0_1.index t (0 : Fin 2) * 16384 + 1 * k.val = k.val; omega
  | ⟨1, _⟩ => show win0_1.index t (1 : Fin 2) * 128 + 1 * l.val = 128 * (t.val / 64) + l.val; omega

theorem emb_2 (t : Fin cfg0.N) (e : Fin 128) (k : Fin 16384) :
    ((cfg0.win 2).blk t).view.emb (ix2 e k : S128x16384.Idx) = (ix2 (laneAt t e) k : S1024x16384.Idx) := by
  obtain ⟨e0, e1⟩ := index_2 t
  funext a; apply Fin.ext
  match a with
  | ⟨0, _⟩ => show win0_2.index t (0 : Fin 2) * 128 + 1 * e.val = 128 * (t.val / 64) + e.val; omega
  | ⟨1, _⟩ => show win0_2.index t (1 : Fin 2) * 16384 + 1 * k.val = k.val; omega

theorem emb_3 (t : Fin cfg0.N) (j : S1x64.Idx) : ((cfg0.win 3).blk t).view.emb j = j := by
  obtain ⟨e0, e1⟩ := index_3 t
  funext a; apply Fin.ext
  match a with
  | ⟨0, _⟩ => show win0_3.index t (0 : Fin 2) * 1 + 1 * (j 0).val = (j 0).val; omega
  | ⟨1, _⟩ => show win0_3.index t (1 : Fin 2) * 64 + 1 * (j 1).val = (j 1).val; omega
theorem emb_4 (t : Fin cfg0.N) (j : S1x64.Idx) : ((cfg0.win 4).blk t).view.emb j = j := by
  obtain ⟨e0, e1⟩ := index_4 t
  funext a; apply Fin.ext
  match a with
  | ⟨0, _⟩ => show win0_4.index t (0 : Fin 2) * 1 + 1 * (j 0).val = (j 0).val; omega
  | ⟨1, _⟩ => show win0_4.index t (1 : Fin 2) * 64 + 1 * (j 1).val = (j 1).val; omega
theorem emb_5 (t : Fin cfg0.N) (j : S1x64.Idx) : ((cfg0.win 5).blk t).view.emb j = j := by
  obtain ⟨e0, e1⟩ := index_5 t
  funext a; apply Fin.ext
  match a with
  | ⟨0, _⟩ => show win0_5.index t (0 : Fin 2) * 1 + 1 * (j 0).val = (j 0).val; omega
  | ⟨1, _⟩ => show win0_5.index t (1 : Fin 2) * 64 + 1 * (j 1).val = (j 1).val; omega
theorem emb_6 (t : Fin cfg0.N) (j : S1x64.Idx) : ((cfg0.win 6).blk t).view.emb j = j := by
  obtain ⟨e0, e1⟩ := index_6 t
  funext a; apply Fin.ext
  match a with
  | ⟨0, _⟩ => show win0_6.index t (0 : Fin 2) * 1 + 1 * (j 0).val = (j 0).val; omega
  | ⟨1, _⟩ => show win0_6.index t (1 : Fin 2) * 64 + 1 * (j 1).val = (j 1).val; omega
theorem emb_7 (t : Fin cfg0.N) (j : S1x128.Idx) : ((cfg0.win 7).blk t).view.emb j = j := by
  obtain ⟨e0, e1⟩ := index_7 t
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- The queries' block at an entry. -/
theorem iblk_0 (c : Dev nD) (t : Fin cfg0.N) (r : Fin 256) (l : Fin 128) :
    (iblk m c 0 t : Vec Ideal S256x128 .f32) (ix2 r l)
      = (m ((c : Thread nD τ).loc main_arg0) : Vec Ideal S1x16384x8x2x64 .f32) (ix5 0 (rowAt t r) (headOf t) ⟨l.val / 64, by omega⟩ ⟨l.val % 64, by omega⟩) := by
  show (V m c main_v9 : Vec Ideal S16384x1024 .f32) (((cfg0.win 0).blk t).view.emb (ix2 r l : S256x128.Idx)) = _
  rw [emb_0, V_main_v9]
  exact flat5 _ _ (headOf t) l

/-- The keys' block. -/
theorem iblk_1 (c : Dev nD) (t : Fin cfg0.N) (k : Fin 16384) (l : Fin 128) :
    (iblk m c 1 t : Vec Ideal S16384x128 .bf16) (ix2 k l)
      = (m ((c : Thread nD τ).loc main_arg1) : Vec Ideal S1x16384x8x2x64 .f32) (ix5 0 k (headOf t) ⟨l.val / 64, by omega⟩ ⟨l.val % 64, by omega⟩) := by
  show (V m c main_v1 : Vec Ideal S16384x1024 .bf16) (((cfg0.win 1).blk t).view.emb (ix2 k l : S16384x128.Idx)) = _
  rw [emb_1, V_main_v1]
  exact flat5 _ _ (headOf t) l

/-- The values' block, transposed. -/
theorem iblk_2 (c : Dev nD) (t : Fin cfg0.N) (e : Fin 128) (k : Fin 16384) :
    (iblk m c 2 t : Vec Ideal S128x16384 .bf16) (ix2 e k)
      = (m ((c : Thread nD τ).loc main_arg2) : Vec Ideal S1x16384x8x128 .f32) (ix4 0 k (headOf t) e) := by
  show (V m c main_v4 : Vec Ideal S1024x16384 .bf16) (((cfg0.win 2).blk t).view.emb (ix2 e k : S128x16384.Idx)) = _
  rw [emb_2, V_main_v4]
  exact (transpose_apply [1, 0] _ transposes_S16384x1024_S1024x16384_1_0 _ (ix2 k (laneAt t e) : S16384x1024.Idx)
    (fun b => match b with | ⟨0, _⟩ => rfl | ⟨1, _⟩ => rfl)).trans (flat4 _ k (headOf t) e)

theorem iblk_3 (c : Dev nD) (t : Fin cfg0.N) (x : Fin 64) :
    (iblk m c 3 t : Vec Ideal S1x64 .f32) (ix2 0 x) = (m ((c : Thread nD τ).loc main_arg3) : Vec Ideal S64 .f32) (ix1 x) := by
  show (V m c main_v5 : Vec Ideal S1x64 .f32) (((cfg0.win 3).blk t).view.emb (ix2 0 x : S1x64.Idx)) = _
  rw [emb_3, V_main_v5]; pointwise
theorem iblk_4 (c : Dev nD) (t : Fin cfg0.N) (x : Fin 64) :
    (iblk m c 4 t : Vec Ideal S1x64 .f32) (ix2 0 x) = (m ((c : Thread nD τ).loc main_arg4) : Vec Ideal S64 .f32) (ix1 x) := by
  show (V m c main_v6 : Vec Ideal S1x64 .f32) (((cfg0.win 4).blk t).view.emb (ix2 0 x : S1x64.Idx)) = _
  rw [emb_4, V_main_v6]; pointwise
theorem iblk_5 (c : Dev nD) (t : Fin cfg0.N) (x : Fin 64) :
    (iblk m c 5 t : Vec Ideal S1x64 .f32) (ix2 0 x) = (m ((c : Thread nD τ).loc main_arg5) : Vec Ideal S64 .f32) (ix1 x) := by
  show (V m c main_v7 : Vec Ideal S1x64 .f32) (((cfg0.win 5).blk t).view.emb (ix2 0 x : S1x64.Idx)) = _
  rw [emb_5, V_main_v7]; pointwise
theorem iblk_6 (c : Dev nD) (t : Fin cfg0.N) (x : Fin 64) :
    (iblk m c 6 t : Vec Ideal S1x64 .f32) (ix2 0 x) = (m ((c : Thread nD τ).loc main_arg6) : Vec Ideal S64 .f32) (ix1 x) := by
  show (V m c main_v8 : Vec Ideal S1x64 .f32) (((cfg0.win 6).blk t).view.emb (ix2 0 x : S1x64.Idx)) = _
  rw [emb_6, V_main_v8]; pointwise
theorem iblk_7 (c : Dev nD) (t : Fin cfg0.N) (x : Fin 128) :
    (iblk m c 7 t : Vec Ideal S1x128 .f32) (ix2 0 x) = (m ((c : Thread nD τ).loc main_arg7) : Vec Ideal S128 .f32) (ix1 x) := by
  show (V m c main_v10 : Vec Ideal S1x128 .f32) (((cfg0.win 7).blk t).view.emb (ix2 0 x : S1x128.Idx)) = _
  rw [emb_7, V_main_v10]; pointwise

end Cert.Proof.Flash
-- ==== Proof.Online.lean ====
module

public import Idealize.ShloMosaic.Lib.Pointwise
public import Mathlib.Analysis.SpecialFunctions.Pow.Real
public import Mathlib.Analysis.SpecialFunctions.Log.Basic

@[expose] public section

noncomputable section

/-! The softmax sums met a tile at a time, over the extended reals: scores are reals or masked to `⊥`, so the running
    maximum is a real from the first tile on, and what is held is the plain sum scaled by that maximum's power. -/

namespace Cert.Proof.Online

open Idealize.ShloMosaic
open scoped BigOperators

/-- A sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score under a mask. -/
def masked (p : Prop) [Decidable p] (s : ℝ) : EReal := if p then (s : EReal) else ⊥

/-- The maximum over scores one of which is unmasked is a real. -/
theorem fold_masked {ι : Type} [Fintype ι] (p : ι → Prop) [DecidablePred p] (s : ι → ℝ) (h : ∃ i, p i) :
    ∃ M : ℝ, Finset.fold max ⊥ (fun i => masked (p i) (s i)) Finset.univ = (M : EReal) := by
  obtain ⟨i, hi⟩ := h
  have h1 : Finset.fold max ⊥ (fun i => masked (p i) (s i)) Finset.univ < (⊤ : EReal) := by
    rw [Finset.fold_max_lt]
    refine ⟨bot_lt_top, fun x _ => ?_⟩
    unfold masked; split
    · exact EReal.coe_lt_top _
    · exact bot_lt_top
  have h2 : (⊥ : EReal) < Finset.fold max ⊥ (fun i => masked (p i) (s i)) Finset.univ := by
    rw [Finset.lt_fold_max]
    refine Or.inr ⟨i, Finset.mem_univ _, ?_⟩
    unfold masked; rw [if_pos hi]; exact EReal.bot_lt_coe _
  exact ⟨_, (EReal.coe_toReal h1.ne h2.ne').symm⟩

/-- The maximum with one more entry, itself a real or `⊥`. -/
theorem max_fold_masked {ι : Type} [Fintype ι] (p : ι → Prop) [DecidablePred p] (s : ι → ℝ) (h : ∃ i, p i) (m : EReal)
    (hm : m = ⊥ ∨ ∃ M : ℝ, m = (M : EReal)) :
    ∃ M : ℝ, max m (Finset.fold max ⊥ (fun i => masked (p i) (s i)) Finset.univ) = (M : EReal) := by
  obtain ⟨M, hM⟩ := fold_masked p s h
  rw [hM]
  rcases hm with rfl | ⟨M', rfl⟩
  · exact ⟨M, max_eq_right bot_le⟩
  · exact ⟨max M' M, (EReal.coe_strictMono.monotone.map_max).symm⟩

theorem exp2_masked (p : Prop) [Decidable p] (s M : ℝ) :
    Ideal.exp2 (masked p s - (M : EReal)) = ((if p then (2 : ℝ) ^ s * (2 : ℝ) ^ (-M) else 0 : ℝ) : EReal) := by
  unfold masked; split
  · rw [← EReal.coe_sub, Ideal.exp2_coe, ← Real.rpow_add (by norm_num)]; rfl
  · rw [EReal.bot_sub, Ideal.exp2_bot]; rfl

theorem exp_masked (p : Prop) [Decidable p] (s M : ℝ) :
    Ideal.exp (masked p s - (M : EReal)) = ((if p then Real.exp s * Real.exp (-M) else 0 : ℝ) : EReal) := by
  unfold masked; split
  · rw [← EReal.coe_sub, Ideal.exp_coe, ← Real.exp_add]; rfl
  · rw [EReal.bot_sub, Ideal.exp_bot]; rfl

/-- Maximum `m` and sums `a` hold the plain sums `T`. -/
def Held {R : Type} (m : EReal) (a : R → EReal) (T : R → ℝ) : Prop :=
  (m = ⊥ ∧ ∀ r, a r = 0 ∧ T r = 0) ∨ ∃ M : ℝ, m = (M : EReal) ∧ ∀ r, a r = ((T r * (2 : ℝ) ^ (-M) : ℝ) : EReal)

theorem Held.max_real {R : Type} {m : EReal} {a : R → EReal} {T : R → ℝ} (h : Held m a T) : m = ⊥ ∨ ∃ M : ℝ, m = (M : EReal) :=
  h.elim (fun h => .inl h.1) fun ⟨M, hM, _⟩ => .inr ⟨M, hM⟩

/-- One tile's update keeps the plain sums, the tile's terms added. -/
theorem Held.step {R ι : Type} [Fintype ι] {m : EReal} {a : R → EReal} {T : R → ℝ} (h : Held m a T)
    (p : ι → Prop) [DecidablePred p] (s : ι → ℝ) (hp : ∃ i, p i) (w : R → ι → ℝ) :
    ∃ M : ℝ, max m (Finset.fold max ⊥ (fun i => masked (p i) (s i)) Finset.univ) = (M : EReal) ∧
      ∀ r, a r * Ideal.exp2 (m - (M : EReal)) + ∑ i, (w r i : EReal) * Ideal.exp2 (masked (p i) (s i) - (M : EReal))
        = (((T r + ∑ i, if p i then w r i * (2 : ℝ) ^ s i else 0) * (2 : ℝ) ^ (-M) : ℝ) : EReal) := by
  obtain ⟨M, hM⟩ := max_fold_masked p s hp m h.max_real
  refine ⟨M, hM, fun r => ?_⟩
  have hs : ∑ i, (w r i : EReal) * Ideal.exp2 (masked (p i) (s i) - (M : EReal))
      = (((∑ i, if p i then w r i * (2 : ℝ) ^ s i else 0) * (2 : ℝ) ^ (-M) : ℝ) : EReal) := by
    rw [Finset.sum_mul, coe_sum]
    refine Finset.sum_congr rfl fun i _ => ?_
    rw [exp2_masked, ← EReal.coe_mul]
    congr 1
    split <;> ring
  rw [hs, add_mul, EReal.coe_add]
  congr 1
  rcases h with ⟨rfl, h⟩ | ⟨M', rfl, h⟩
  · rw [(h r).1, (h r).2]; simp
  · rw [h r, ← EReal.coe_sub, Ideal.exp2_coe, ← EReal.coe_mul]
    congr 1
    show _ * (2 : ℝ) ^ (M' - M) = _
    rw [mul_assoc, ← Real.rpow_add (by norm_num)]
    congr 2; ring

/-- The quotient of two held sums is the quotient of the plain ones. -/
theorem div_scaled (x y M : ℝ) (hy : y ≠ 0) :
    Ideal.div ((x * (2 : ℝ) ^ (-M) : ℝ) : EReal) ((y * (2 : ℝ) ^ (-M) : ℝ) : EReal) = ((x / y : ℝ) : EReal) := by
  have h2 : (2 : ℝ) ^ (-M) ≠ 0 := (Real.rpow_pos_of_pos (by norm_num) _).ne'
  rw [Ideal.div_coe (mul_ne_zero hy h2), ← EReal.coe_mul]
  congr 1
  field_simp

/-- A sum over the first `q + 1` terms, as one over all `N` with the rest left out. -/
theorem sum_range_le (N q : ℕ) (hq : q < N) (f : ℕ → ℝ) :
    ∑ k ∈ Finset.range (q + 1), f k = ∑ k : Fin N, if k.val ≤ q then f k.val else 0 := by
  rw [← Finset.sum_range (fun k => if k ≤ q then f k else 0), ← Finset.sum_filter]
  refine Finset.sum_congr ?_ fun _ _ => rfl
  ext k; simp only [Finset.mem_range, Finset.mem_filter]; omega

/-- A power of two of a score in base-two units is the exponential of the score. -/
theorem two_rpow_kappa (x : ℝ) : (2 : ℝ) ^ (x * (8 * Real.log 2)⁻¹) = Real.exp (x * (1 / 8)) := by
  have h2 : Real.log 2 ≠ 0 := (Real.log_pos (by norm_num)).ne'
  rw [Real.rpow_def_of_pos (by norm_num)]
  congr 1
  field_simp

end Cert.Proof.Online
-- ==== Proof.Pay.lean ====
module

public import proofs.«01_k».proof.Proof.Run
public import proofs.«01_k».proof.Proof.Online
public import Idealize.ShloMosaic.Lib.Pointwise
public import Idealize.ShloMosaic.Lib.WordCmp

@[expose] public section

set_option maxRecDepth 16384

noncomputable section

/-! The kernel body's computed values read an entry at a time over the extended reals, and the sums its loop holds. -/

namespace Cert.Proof.Flash

open Cert.KernelIdeal Cert.KernelIdeal.Gen
open Idealize.ShloMosaic
open Cert.Proof.Online
open scoped BigOperators

/-- A choice by a decided word. -/
theorem select_ofBool {α : Type} (p : Prop) [Decidable p] (a b : α) :
    Scalar.select (BitVec.ofBool (decide p)) a b = if p then a else b := by
  by_cases h : p <;> simp [Scalar.select, h]

/-- The word of minus infinity. -/
theorem ofBits_neg_inf : Ideal.ofBits .f32 0xFF800000#32 = ⊥ := by simp [Ideal.ofBits, Ideal.ieee]

/-- The scale's named value. -/
theorem scale_named : Named.named (F := Ideal) κ "scale_log2e" (φ := .f32) 0x3E38AA3B#32 = (((8 * (Real.log 2))⁻¹ : ℝ) : EReal) :=
  IdealRules.named_const.ideal_named_scalar _ _ _ _ rfl

/-- The stacked queries: column half `c` keeps the lanes of component `c`, scaled. -/
theorem pay239_apply (x : Vec Ideal S256x128 .f32) (X : Fin 256 → Fin 128 → ℝ) (hx : ∀ r l, x (ix2 r l) = (X r l : EReal))
    (j : Fin 512) (l : Fin 128) :
    k0_pay239 (F := Ideal) x (ix2 j l)
      = ((if l.val / 64 = j.val / 256 then X ⟨j.val % 256, Nat.mod_lt _ (by norm_num)⟩ l * (8 * Real.log 2)⁻¹ else 0 : ℝ) : EReal) := by
  have hl : l.val < 128 := l.isLt
  have hj : j.val < 512 := j.isLt
  pointwise [k0_pay239]
  simp only [hx, scale_named, ← EReal.coe_mul]
  rw [Idealize.ShloMosaic.WordCmp.cmpi_slt_ofNat (w := 32) (by omega) (by norm_num), Idealize.ShloMosaic.WordCmp.cmpi_sge_ofNat (w := 32) (by omega) (by norm_num)]
  by_cases h : j.val < 256
  · rw [dif_pos h, select_ofBool]
    by_cases h' : l.val < 64
    · rw [if_pos h']
      refine Eq.trans ?_ (congrArg _ (if_pos (show l.val / 64 = j.val / 256 by omega)).symm)
      exact congrArg (fun y => ((X y l * (8 * Real.log 2)⁻¹ : ℝ) : EReal)) (Fin.ext (by show j.val = j.val % 256; omega))
    · rw [if_neg h', if_neg (by omega)]; rfl
  · rw [dif_neg h, select_ofBool]
    by_cases h' : 64 ≤ l.val
    · rw [if_pos h']
      refine Eq.trans ?_ (congrArg _ (if_pos (show l.val / 64 = j.val / 256 by omega)).symm)
      exact congrArg (fun y => ((X y l * (8 * Real.log 2)⁻¹ : ℝ) : EReal)) (Fin.ext (by show j.val - 256 = j.val % 256; omega))
    · rw [if_neg h', if_neg (by omega)]; rfl

/-- A tile's scores. -/
theorem pay1_apply (qz : FVec Ideal S512x128 .bf16) (x : Vec Ideal S256x128 .bf16) (i : Fin 256) (j : Fin 512) :
    k0_pay1 (F := Ideal) qz x (ix3 0 i j) = ∑ l : Fin 128, x (ix2 i l) * qz (ix2 j l) := by
  pointwise [k0_pay1]

theorem pay2_apply (s : Vec Ideal S1x256x512 .f32) (i : Fin 256) (j : Fin 512) :
    k0_pay2 (F := Ideal) s (ix2 i j) = s (ix3 0 i j) := by
  pointwise [k0_pay2]

/-- The new maximum. -/
theorem pay3_apply (m : FVec Ideal S1x512 .f32) (s : Vec Ideal S1x256x512 .f32) (j : Fin 512) :
    k0_pay3 (F := Ideal) m s (ix2 0 j) = max (m (ix2 0 j)) (Finset.fold max ⊥ (fun x => s (ix3 0 x j)) Finset.univ) := by
  pointwise [k0_pay3, k0_pay2]
  rw [ofBits_neg_inf]

theorem pay4_apply (m : FVec Ideal S1x512 .f32) (a : FVec Ideal S144x512 .f32) (s : Vec Ideal S1x256x512 .f32) (w : Vec Ideal S128x256 .bf16) (r : Fin 144) (j : Fin 512) :
    k0_pay4 (F := Ideal) m a s w (ix2 r j)
      = a (ix2 r j) * Ideal.exp2 (m (ix2 0 j) - k0_pay3 m s (ix2 0 j)) +
        ∑ x : Fin 256, (if h : r.val < 128 then w (ix2 ⟨r.val, h⟩ x) else 1) * Ideal.exp2 (s (ix3 0 x j) - k0_pay3 m s (ix2 0 j)) := by
  pointwise [k0_pay4]
  simp only [pay2_apply]
  rfl

theorem pay241_apply (j : Fin 512) : k0_pay241 (F := Ideal) (ix2 0 j) = ⊥ := by
  pointwise [k0_pay241]
  exact ofBits_neg_inf

theorem pay242_apply (r : Fin 144) (j : Fin 512) : k0_pay242 (F := Ideal) (ix2 r j) = 0 := by
  pointwise [k0_pay242]

theorem pay275_apply (x y : Fin 256) : k0_pay275 (ix2 x y) = BitVec.ofBool (decide (x.val ≤ y.val)) := by
  pointwise [k0_pay275]
  exact Idealize.ShloMosaic.WordCmp.cmpi_sle_ofNat (w := 32) (by omega) (by omega)

/-- The weights of the sums: the values' rows, and ones below them. -/
def IsWeights (w : Vec Ideal S128x256 .bf16) (W : Fin 144 → Fin 256 → ℝ) : Prop :=
  ∀ r x, (if h : r.val < 128 then w (ix2 ⟨r.val, h⟩ x) else 1) = (W r x : EReal)

/-- A full tile's update of what column `j` holds. -/
theorem held_full (m : FVec Ideal S1x512 .f32) (a : FVec Ideal S144x512 .f32) (s : Vec Ideal S1x256x512 .f32) (w : Vec Ideal S128x256 .bf16)
    (j : Fin 512) (T : Fin 144 → ℝ) (S : Fin 256 → ℝ) (W : Fin 144 → Fin 256 → ℝ)
    (hT : Held (m (ix2 0 j)) (fun r => a (ix2 r j)) T) (hs : ∀ x, s (ix3 0 x j) = (S x : EReal)) (hw : IsWeights w W) :
    Held (k0_pay3 (F := Ideal) m s (ix2 0 j)) (fun r => k0_pay4 (F := Ideal) m a s w (ix2 r j))
      (fun r => T r + ∑ x, W r x * (2 : ℝ) ^ S x) := by
  obtain ⟨M, hM, hr⟩ := hT.step (fun _ => True) S ⟨0, trivial⟩ W
  have hm : ∀ x, s (ix3 0 x j) = masked True (S x) := fun x => (hs x).trans (if_pos trivial).symm
  have h3 : k0_pay3 (F := Ideal) m s (ix2 0 j) = (M : EReal) := by
    rw [pay3_apply]; simp only [hm]; exact hM
  refine .inr ⟨M, h3, fun r => ?_⟩
  show k0_pay4 (F := Ideal) m a s w (ix2 r j) = _
  rw [pay4_apply, h3]
  simp only [hm, hw r]
  refine (hr r).trans ?_
  simp only [if_true]

/-- The last tile's update, its scores masked to the keys not after the query, then the division by the sum's row. -/
theorem pay276_apply (m : FVec Ideal S1x512 .f32) (a : FVec Ideal S144x512 .f32) (s : Vec Ideal S1x256x512 .f32) (w : Vec Ideal S128x256 .bf16)
    (j : Fin 512) (T : Fin 144 → ℝ) (S : Fin 256 → ℝ) (W : Fin 144 → Fin 256 → ℝ)
    (hT : Held (m (ix2 0 j)) (fun r => a (ix2 r j)) T) (hs : ∀ x, s (ix3 0 x j) = (S x : EReal)) (hw : IsWeights w W)
    (hN : T 128 + (∑ x : Fin 256, if x.val ≤ j.val % 256 then W 128 x * (2 : ℝ) ^ S x else 0) ≠ 0) (r : Fin 128) :
    k0_pay276 (F := Ideal) m a k0_pay275 s w (ix2 r j)
      = (((T ⟨r.val, by omega⟩ + ∑ x : Fin 256, if x.val ≤ j.val % 256 then W ⟨r.val, by omega⟩ x * (2 : ℝ) ^ S x else 0)
          / (T 128 + ∑ x : Fin 256, if x.val ≤ j.val % 256 then W 128 x * (2 : ℝ) ^ S x else 0) : ℝ) : EReal) := by
  obtain ⟨M, hM, hr⟩ := hT.step (fun x : Fin 256 => x.val ≤ j.val % 256) S ⟨0, Nat.zero_le _⟩ W
  have hj : j.val < 512 := j.isLt
  have hk : ∀ x : Fin 256, (if h : j.val < 256 then k0_pay275 (ix2 x ⟨j.val, h⟩) else k0_pay275 (ix2 x ⟨j.val - 256, by omega⟩))
      = BitVec.ofBool (decide (x.val ≤ j.val % 256)) := fun x => by
    split
    · rw [pay275_apply]; congr 2; exact propext (by show _ ≤ j.val ↔ _; omega)
    · rw [pay275_apply]; congr 2; exact propext (by show _ ≤ j.val - 256 ↔ _; omega)
  have hsel : ∀ x : Fin 256, Scalar.select (if h : j.val < 256 then k0_pay275 (ix2 x ⟨j.val, h⟩) else k0_pay275 (ix2 x ⟨j.val - 256, by omega⟩))
      (s (ix3 0 x j)) ⊥ = masked (x.val ≤ j.val % 256) (S x) := fun x => by
    rw [hk, select_ofBool, hs]; rfl
  have h1 : ∀ (r : Fin 128) x, w (ix2 r x) = (W ⟨r.val, by omega⟩ x : EReal) := fun r x => by
    have := hw ⟨r.val, by omega⟩ x
    rwa [dif_pos r.isLt] at this
  have h2 : ∀ x, ((W 128 x : ℝ) : EReal) = 1 := fun x => by
    have := hw 128 x
    rw [dif_neg (by decide)] at this
    exact this.symm
  pointwise [k0_pay276]
  simp only [ofBits_neg_inf]
  simp only [hsel, hM]
  refine (congrArg₂ Ideal.div ?_ ?_).trans (div_scaled _ _ M hN)
  · refine Eq.trans ?_ (hr ⟨r.val, by omega⟩)
    simp only [h1]; rfl
  · refine Eq.trans ?_ (hr 128)
    simp only [h2, one_mul]; rfl

/-- `exp Σ x5 x6 − exp Σ x7 x8`, and the constant. -/
def lamOf (x5 x6 x7 x8 : Fin 64 → EReal) : EReal :=
  Ideal.exp (∑ x, x5 x * x6 x) - Ideal.exp (∑ x, x7 x * x8 x) + Ideal.ofBits .f32 0x3EB60549#32

/-- One row's normalised result at lane `j`, of the row `o`, the gain and lane. -/
def normed (o : Fin 128 → EReal) (g : EReal) (j : Fin 128) : EReal :=
  o j * Ideal.rsqrt (Ideal.div (∑ x, o x * o x) (Ideal.ofBits .f32 0x43000000#32) + Ideal.ofBits .f32 0x3727C5AC#32) * g
    * Ideal.ofBits .f32 0x3F24FD5C#32

theorem pay278_apply (a : FVec Ideal S128x512 .f32) (x5 x6 x7 x8 : FVec Ideal S1x64 .f32) (x9 : Vec Ideal S1x128 .f32) (r : Fin 256) (j : Fin 128) :
    k0_pay278 (F := Ideal) a x5 x6 x7 x8 x9 (ix2 r j)
      = normed (fun e => a (ix2 e ⟨r.val, by omega⟩)
          - lamOf (fun x => x5 (ix2 0 x)) (fun x => x6 (ix2 0 x)) (fun x => x7 (ix2 0 x)) (fun x => x8 (ix2 0 x)) * a (ix2 e ⟨256 + r.val, by omega⟩))
          (x9 (ix2 0 j)) j := by
  pointwise [k0_pay278]
  rfl

end Cert.Proof.Flash
-- ==== Proof.Tile.lean ====
module

public import proofs.«01_k».proof.Proof.Pay

@[expose] public section

set_option maxRecDepth 16384

noncomputable section

/-! What the body writes at one point of the grid, over the extended reals, when queries, keys and values are reals. -/

namespace Cert.Proof.Flash

open Cert.KernelIdeal Cert.KernelIdeal.Gen
open Idealize.ShloMosaic
open Cert.Proof.Online
open scoped BigOperators

/-- A sum over the lanes of one component. -/
theorem sum_component (f : Fin 128 → ℝ) (c : Fin 2) :
    (∑ l : Fin 128, if l.val / 64 = c.val then f l else 0) = ∑ d : Fin 64, f ⟨64 * c.val + d.val, by omega⟩ := by
  rw [show (∑ l : Fin 128, if l.val / 64 = c.val then f l else 0)
      = ∑ l : Fin (64 + 64), (fun l : Fin 128 => if l.val / 64 = c.val then f l else 0) l from rfl, Fin.sum_univ_add]
  have h0 : ∀ d : Fin 64, (Fin.castAdd 64 d).val / 64 = 0 := fun d => by show d.val / 64 = 0; omega
  have h1 : ∀ d : Fin 64, (Fin.natAdd 64 d).val / 64 = 1 := fun d => by show (64 + d.val) / 64 = 1; omega
  match c with
  | ⟨0, _⟩ =>
    rw [Finset.sum_eq_zero (s := Finset.univ) (f := fun d : Fin 64 => (fun l : Fin 128 => if l.val / 64 = 0 then f l else 0) (Fin.natAdd 64 d)) (fun d _ => by
      show (if (Fin.natAdd 64 d).val / 64 = 0 then _ else _) = _; rw [h1, if_neg (by decide)]), add_zero]
    refine Finset.sum_congr rfl fun d _ => ?_
    show (if (Fin.castAdd 64 d).val / 64 = 0 then _ else _) = _
    rw [h0, if_pos rfl]
    exact congrArg f (Fin.ext (by show d.val = 64 * 0 + d.val; omega))
  | ⟨1, _⟩ =>
    rw [Finset.sum_eq_zero (s := Finset.univ) (f := fun d : Fin 64 => (fun l : Fin 128 => if l.val / 64 = 1 then f l else 0) (Fin.castAdd 64 d)) (fun d _ => by
      show (if (Fin.castAdd 64 d).val / 64 = 1 then _ else _) = _; rw [h0, if_neg (by decide)]), zero_add]
    refine Finset.sum_congr rfl fun d _ => ?_
    show (if (Fin.natAdd 64 d).val / 64 = 1 then _ else _) = _
    rw [h1, if_pos rfl]
    exact congrArg f (Fin.ext rfl)

/-- The score of key `k` against column `j`'s query, in base-two units. -/
def score2 (X : Fin 256 → Fin 128 → ℝ) (K : ℕ → Fin 128 → ℝ) (k : ℕ) (j : Fin 512) : ℝ :=
  ∑ l : Fin 128, K k l * (if l.val / 64 = j.val / 256 then X ⟨j.val % 256, Nat.mod_lt _ (by norm_num)⟩ l * (8 * Real.log 2)⁻¹ else 0)

/-- Its power of two is the exponential of an eighth of the component's dot product. -/
theorem two_rpow_score2 (X : Fin 256 → Fin 128 → ℝ) (K : ℕ → Fin 128 → ℝ) (k : ℕ) (c : Fin 2) (r : Fin 256) (j : Fin 512)
    (hj : j.val = 256 * c.val + r.val) :
    (2 : ℝ) ^ score2 X K k j
      = Real.exp ((∑ d : Fin 64, X r ⟨64 * c.val + d.val, by omega⟩ * K k ⟨64 * c.val + d.val, by omega⟩) * (1 / 8)) := by
  have hr : (⟨j.val % 256, Nat.mod_lt _ (by norm_num)⟩ : Fin 256) = r := Fin.ext (by show j.val % 256 = r.val; omega)
  have hc : j.val / 256 = c.val := by omega
  rw [← two_rpow_kappa, ← sum_component (fun l => X r l * K k l) c, Finset.sum_mul]
  congr 1
  unfold score2
  refine Finset.sum_congr rfl fun l _ => ?_
  rw [hr, hc]
  split <;> ring

section

variable (x2 : Vec Ideal S256x128 .f32) (x3 : Vec Ideal S16384x128 .bf16) (x4 : Vec Ideal S128x16384 .bf16)
  (X : Fin 256 → Fin 128 → ℝ) (K : ℕ → Fin 128 → ℝ) (W : Fin 128 → ℕ → ℝ)
  (hX : ∀ r l, x2 (ix2 r l) = (X r l : EReal)) (hK : ∀ k l, x3 (ix2 k l) = (K k.val l : EReal)) (hW : ∀ r k, x4 (ix2 r k) = (W r k.val : EReal))

/-- The weights of the sums' rows at key `k`: the values, and ones below them. -/
def weight (W : Fin 128 → ℕ → ℝ) (r : Fin 144) (k : ℕ) : ℝ := if h : r.val < 128 then W ⟨r.val, h⟩ k else 1

/-- Row `r`'s plain sum over the first `n` keys. -/
def plain (X : Fin 256 → Fin 128 → ℝ) (K : ℕ → Fin 128 → ℝ) (W : Fin 128 → ℕ → ℝ) (j : Fin 512) (n : ℕ) (r : Fin 144) : ℝ :=
  ∑ k ∈ Finset.range n, weight W r k * (2 : ℝ) ^ score2 X K k j

include hX hK in
theorem scores_apply (n : ℕ) (hn : n < 64) (i : Fin 256) (j : Fin 512) :
    k0_pay1 (F := Ideal) (k0_pay239 x2) (keys x3 n) (ix3 0 i j) = (score2 X K (256 * n + i.val) j : EReal) := by
  rw [pay1_apply]
  unfold score2
  rw [coe_sum]
  refine Finset.sum_congr rfl fun l _ => ?_
  rw [pay239_apply x2 X hX, EReal.coe_mul]
  congr 1
  refine (hK ⟨(256 * n + i.val) % 16384, Nat.mod_lt _ (by norm_num)⟩ l).trans ?_
  show (K ((256 * n + i.val) % 16384) l : EReal) = _
  rw [Nat.mod_eq_of_lt (by omega)]

include hW in
theorem weights (n : ℕ) (hn : n < 64) : IsWeights (vals x4 n) (fun r x => weight W r (256 * n + x.val)) := fun r x => by
  unfold weight
  split
  · rename_i h
    refine (hW ⟨r.val, h⟩ ⟨(256 * n + x.val) % 16384, Nat.mod_lt _ (by norm_num)⟩).trans ?_
    show (W ⟨r.val, h⟩ ((256 * n + x.val) % 16384) : EReal) = _
    rw [Nat.mod_eq_of_lt (by omega)]
    show _ = ((if h : r.val < 128 then W ⟨r.val, h⟩ (256 * n + x.val) else 1 : ℝ) : EReal)
    rw [dif_pos h]
  · rename_i h
    show _ = ((if h : r.val < 128 then W ⟨r.val, h⟩ (256 * n + x.val) else 1 : ℝ) : EReal)
    rw [dif_neg h]; rfl

include hX hK hW in
/-- Before tile `n` the loop holds the plain sums over the keys of the tiles before it. -/
theorem carry_held (j : Fin 512) (n : ℕ) (hn : n ≤ 64) :
    Held ((carry (F := Ideal) (k0_pay239 x2) x3 x4 n).1 (ix2 0 j)) (fun r => (carry (F := Ideal) (k0_pay239 x2) x3 x4 n).2 (ix2 r j)) (plain X K W j (256 * n)) := by
  induction n with
  | zero =>
    refine .inl ⟨pay241_apply j, fun r => ⟨pay242_apply r j, ?_⟩⟩
    unfold plain; rw [Nat.mul_zero, Finset.range_zero, Finset.sum_empty]
  | succ n ih =>
    have h := held_full _ _ _ (vals x4 n) j _ (fun x => score2 X K (256 * n + x.val) j) _ (ih (by omega))
      (fun x => scores_apply x2 x3 X K hX hK n (by omega) x j) (weights x4 W hW n (by omega))
    have e : (fun r => plain X K W j (256 * n) r + ∑ x : Fin 256, weight W r (256 * n + x.val) * (2 : ℝ) ^ score2 X K (256 * n + x.val) j)
        = plain X K W j (256 * (n + 1)) := funext fun r => by
      unfold plain
      rw [Nat.mul_succ, Finset.sum_range_add, ← Finset.sum_range (fun x => weight W r (256 * n + x) * (2 : ℝ) ^ score2 X K (256 * n + x) j)]
    rw [e] at h
    exact h

theorem plain_pos (j : Fin 512) (n : ℕ) : 0 < plain X K W j (n + 1) 128 :=
  Finset.sum_pos (fun k _ => by unfold weight; rw [dif_neg (by decide), one_mul]; exact Real.rpow_pos_of_pos (by norm_num) _) ⟨0, by simp⟩

include hX hK hW in
/-- The attention of column `j`'s query over the keys not after it. -/
theorem attend_apply (n : ℕ) (hn : n < 64) (e : Fin 128) (j : Fin 512) :
    k0_pay276 (F := Ideal) (carry (k0_pay239 x2) x3 x4 n).1 (carry (k0_pay239 x2) x3 x4 n).2 k0_pay275 (k0_pay1 (k0_pay239 x2) (keys x3 n)) (vals x4 n) (ix2 e j)
      = ((plain X K W j (256 * n + j.val % 256 + 1) ⟨e.val, by omega⟩ / plain X K W j (256 * n + j.val % 256 + 1) 128 : ℝ) : EReal) := by
  have hs : ∀ r : Fin 144, plain X K W j (256 * n) r
      + (∑ x : Fin 256, if x.val ≤ j.val % 256 then weight W r (256 * n + x.val) * (2 : ℝ) ^ score2 X K (256 * n + x.val) j else 0)
      = plain X K W j (256 * n + j.val % 256 + 1) r := fun r => by
    rw [← sum_range_le 256 (j.val % 256) (Nat.mod_lt _ (by norm_num)) (fun x => weight W r (256 * n + x) * (2 : ℝ) ^ score2 X K (256 * n + x) j)]
    unfold plain
    rw [Nat.add_assoc, Finset.sum_range_add _ (256 * n)]
  refine (pay276_apply _ _ _ (vals x4 n) j _ (fun x => score2 X K (256 * n + x.val) j) (fun r x => weight W r (256 * n + x.val)) (carry_held x2 x3 x4 X K W hX hK hW j n hn.le)
      (fun x => scores_apply x2 x3 X K hX hK n hn x j) (weights x4 W hW n hn) ?_ e).trans ?_
  · rw [hs]; exact (plain_pos X K W j _).ne'
  · rw [hs, hs]

/-- The attention of query row `r` under component `c` over the first `q + 1` keys, at value lane `e`. -/
def attn (X : Fin 256 → Fin 128 → ℝ) (K : ℕ → Fin 128 → ℝ) (W : Fin 128 → ℕ → ℝ) (c : Fin 2) (r : Fin 256) (q : ℕ) (e : Fin 128) : ℝ :=
  (∑ k ∈ Finset.range (q + 1), W e k * Real.exp ((∑ d : Fin 64, X r ⟨64 * c.val + d.val, by omega⟩ * K k ⟨64 * c.val + d.val, by omega⟩) * (1 / 8)))
    / ∑ k ∈ Finset.range (q + 1), Real.exp ((∑ d : Fin 64, X r ⟨64 * c.val + d.val, by omega⟩ * K k ⟨64 * c.val + d.val, by omega⟩) * (1 / 8))

theorem plain_div (n : ℕ) (e : Fin 128) (j : Fin 512) (c : Fin 2) (r : Fin 256) (hj : j.val = 256 * c.val + r.val) :
    plain X K W j (256 * n + j.val % 256 + 1) ⟨e.val, by omega⟩ / plain X K W j (256 * n + j.val % 256 + 1) 128
      = attn X K W c r (256 * n + r.val) e := by
  have hr : j.val % 256 = r.val := by omega
  unfold plain attn
  rw [hr]
  congr 1
  · refine Finset.sum_congr rfl fun k _ => ?_
    rw [two_rpow_score2 X K k c r j hj]
    unfold weight
    rw [dif_pos e.isLt]
  · refine Finset.sum_congr rfl fun k _ => ?_
    rw [two_rpow_score2 X K k c r j hj]
    unfold weight
    rw [dif_neg (by decide), one_mul]

include hX hK hW in
/-- What the body writes at query row `r`, lane `e`: the normalised difference of the two components' attentions. -/
theorem tileOut_apply (x5 x6 x7 x8 : Vec Ideal S1x64 .f32) (x9 : Vec Ideal S1x128 .f32) (n : ℕ) (hn : n < 64) (r : Fin 256) (e : Fin 128) :
    tileOut (F := Ideal) n x2 x3 x4 x5 x6 x7 x8 x9 (ix2 r e)
      = normed (fun e => (attn X K W 0 r (256 * n + r.val) e : EReal)
          - lamOf (fun x => x5 (ix2 0 x)) (fun x => x6 (ix2 0 x)) (fun x => x7 (ix2 0 x)) (fun x => x8 (ix2 0 x)) * (attn X K W 1 r (256 * n + r.val) e : EReal))
          (x9 (ix2 0 e)) e := by
  have h5 : k0_pay277 (F := Ideal) x5 = x5 := by unfold k0_pay277; exact shapeCast_id x5 _
  unfold tileOut
  rw [h5, pay278_apply]
  congr 1
  funext e'
  rw [attend_apply x2 x3 x4 X K W hX hK hW n hn, attend_apply x2 x3 x4 X K W hX hK hW n hn,
    plain_div X K W n e' ⟨r.val, by omega⟩ 0 r (by simp), plain_div X K W n e' ⟨256 + r.val, by omega⟩ 1 r (by simp)]

end

end Cert.Proof.Flash
-- ==== Proof.Attn.lean ====
module

public import proofs.«01_k».proof.Proof.Tile

@[expose] public section

set_option maxRecDepth 16384

noncomputable section

/-! The attention both programs compute, over the reals: causal softmax of an eighth of the dot products, applied to the
    values. -/

namespace Cert.Proof.Flash

open Idealize.ShloMosaic
open Cert.Proof.Online
open scoped BigOperators

variable (Q K : Fin 16384 → Fin 8 → Fin 2 → Fin 64 → ℝ) (V : Fin 16384 → Fin 8 → Fin 128 → ℝ)

/-- An eighth of the dot product of query `q` and key `k`. -/
def dotScore (h : Fin 8) (c : Fin 2) (q k : Fin 16384) : ℝ := (∑ d : Fin 64, Q q h c d * K k h c d) * (1 / 8)

/-- The weight of key `k` for query `q`, before division by the mass. -/
def keyWeight (h : Fin 8) (c : Fin 2) (q k : Fin 16384) : ℝ := if k.val ≤ q.val then Real.exp (dotScore Q K h c q k) else 0

/-- The sum of the weights. -/
def mass (h : Fin 8) (c : Fin 2) (q : Fin 16384) : ℝ := ∑ k, keyWeight Q K h c q k

/-- The attention of query `q` in component `c` of head `h`, at value lane `e`. -/
def attnQ (h : Fin 8) (c : Fin 2) (q : Fin 16384) (e : Fin 128) : ℝ := (∑ k, V k h e * keyWeight Q K h c q k) / mass Q K h c q

theorem mass_pos (h : Fin 8) (c : Fin 2) (q : Fin 16384) : 0 < mass Q K h c q := by
  unfold mass
  refine Finset.sum_pos' (fun k _ => ?_) ⟨q, Finset.mem_univ _, ?_⟩
  · unfold keyWeight; split
    · exact (Real.exp_pos _).le
    · exact le_rfl
  · unfold keyWeight; rw [if_pos le_rfl]; exact Real.exp_pos _

/-- The tile's attention is this one, when the tile's blocks are the heads' columns. -/
theorem attn_eq (X : Fin 256 → Fin 128 → ℝ) (K' : ℕ → Fin 128 → ℝ) (W : Fin 128 → ℕ → ℝ) (h : Fin 8) (c : Fin 2) (r : Fin 256)
    (q : Fin 16384) (e : Fin 128) (hX : ∀ d : Fin 64, X r ⟨64 * c.val + d.val, by omega⟩ = Q q h c d)
    (hK : ∀ (k : Fin 16384) (d : Fin 64), K' k.val ⟨64 * c.val + d.val, by omega⟩ = K k h c d)
    (hW : ∀ k : Fin 16384, W e k.val = V k h e) : attn X K' W c r q.val e = attnQ Q K V h c q e := by
  unfold attn attnQ mass
  rw [sum_range_le 16384 q.val q.isLt, sum_range_le 16384 q.val q.isLt]
  have hs : ∀ k : Fin 16384, (∑ d : Fin 64, X r ⟨64 * c.val + d.val, by omega⟩ * K' k.val ⟨64 * c.val + d.val, by omega⟩) * (1 / 8)
      = dotScore Q K h c q k := fun k => by
    unfold dotScore
    refine congrArg (· * (1 / 8 : ℝ)) ?_
    exact Finset.sum_congr rfl fun d _ => by rw [hX, hK]
  refine congr (congrArg HDiv.hDiv ?_) ?_
  · refine Finset.sum_congr rfl fun k _ => ?_
    unfold keyWeight
    rw [mul_ite, mul_zero, hs, hW]
  · refine Finset.sum_congr rfl fun k _ => ?_
    unfold keyWeight
    rw [hs]

/-- The layer's result for query `q`, head `h`, lane `e`. -/
def result (x3 x4 x5 x6 : Fin 64 → EReal) (g : Fin 128 → EReal) (q : Fin 16384) (h : Fin 8) (e : Fin 128) : EReal :=
  normed (fun e => (attnQ Q K V h 0 q e : EReal) - lamOf x3 x4 x5 x6 * (attnQ Q K V h 1 q e : EReal)) (g e) e

end Cert.Proof.Flash
-- ==== Proof.Array.lean ====
module

public import proofs.«01_k».proof.Proof.Blocks
public import proofs.«01_k».proof.Proof.Attn

@[expose] public section

set_option maxRecDepth 16384

noncomputable section

/-! The kernel's result array after the run, when queries, keys and values are reals: at row `q`, lane `e` of head `h`, the
    layer's result there. -/

namespace Cert.Proof.Flash

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The queries, keys and values on core `c` are these reals. -/
structure Reals (c : Dev nD) (Q K : Fin 16384 → Fin 8 → Fin 2 → Fin 64 → ℝ) (V : Fin 16384 → Fin 8 → Fin 128 → ℝ) : Prop where
  q : ∀ q h d e, (m ((c : Thread nD τ).loc main_arg0) : Vec Ideal S1x16384x8x2x64 .f32) (ix5 0 q h d e) = (Q q h d e : EReal)
  k : ∀ q h d e, (m ((c : Thread nD τ).loc main_arg1) : Vec Ideal S1x16384x8x2x64 .f32) (ix5 0 q h d e) = (K q h d e : EReal)
  v : ∀ q h e, (m ((c : Thread nD τ).loc main_arg2) : Vec Ideal S1x16384x8x128 .f32) (ix4 0 q h e) = (V q h e : EReal)

/-- The result array on core `c`. -/
def G (c : Dev nD) (Q K : Fin 16384 → Fin 8 → Fin 2 → Fin 64 → ℝ) (V : Fin 16384 → Fin 8 → Fin 128 → ℝ) : Vec Ideal S16384x1024 .f32 := fun i =>
  result Q K V (fun x => (m ((c : Thread nD τ).loc main_arg3) : Vec Ideal S64 .f32) (ix1 x)) (fun x => (m ((c : Thread nD τ).loc main_arg4) : Vec Ideal S64 .f32) (ix1 x))
    (fun x => (m ((c : Thread nD τ).loc main_arg5) : Vec Ideal S64 .f32) (ix1 x)) (fun x => (m ((c : Thread nD τ).loc main_arg6) : Vec Ideal S64 .f32) (ix1 x))
    (fun x => (m ((c : Thread nD τ).loc main_arg7) : Vec Ideal S128 .f32) (ix1 x))
    (i 0) ⟨(i 1).val / 128, by have h : (i 1).val < 1024 := (i 1).isLt; omega⟩ ⟨(i 1).val % 128, Nat.mod_lt _ (by norm_num)⟩

variable {Q K : Fin 16384 → Fin 8 → Fin 2 → Fin 64 → ℝ} {V : Fin 16384 → Fin 8 → Fin 128 → ℝ}

/-- The result array at row `q`, lane `e` of head `h`. -/
theorem G_at (c : Dev nD) (q : Fin 16384) (h : Fin 8) (e : Fin 128) : G m c Q K V (ix2 q ⟨128 * h.val + e.val, by omega⟩)
    = result Q K V (fun x => (m ((c : Thread nD τ).loc main_arg3) : Vec Ideal S64 .f32) (ix1 x)) (fun x => (m ((c : Thread nD τ).loc main_arg4) : Vec Ideal S64 .f32) (ix1 x))
    (fun x => (m ((c : Thread nD τ).loc main_arg5) : Vec Ideal S64 .f32) (ix1 x)) (fun x => (m ((c : Thread nD τ).loc main_arg6) : Vec Ideal S64 .f32) (ix1 x))
    (fun x => (m ((c : Thread nD τ).loc main_arg7) : Vec Ideal S128 .f32) (ix1 x)) q h e := by
  have he := e.isLt
  unfold G
  have e1 : (⟨(128 * h.val + e.val) / 128, by omega⟩ : Fin 8) = h := Fin.ext (by show (128 * h.val + e.val) / 128 = h.val; omega)
  have e2 : (⟨(128 * h.val + e.val) % 128, Nat.mod_lt _ (by norm_num)⟩ : Fin 128) = e := Fin.ext (by show (128 * h.val + e.val) % 128 = e.val; omega)
  exact congr (congrArg (result Q K V _ _ _ _ _ q) e1) e2

/-- What the body leaves in the result's staging buffer at point `t`. -/
theorem outAt_eq {c : Dev nD} (R : Reals m c Q K V) (t : Fin cfg0.N) (r : Fin 256) (e : Fin 128) :
    outAt m c t (ix2 r e)
      = result Q K V (fun x => (m ((c : Thread nD τ).loc main_arg3) : Vec Ideal S64 .f32) (ix1 x)) (fun x => (m ((c : Thread nD τ).loc main_arg4) : Vec Ideal S64 .f32) (ix1 x))
    (fun x => (m ((c : Thread nD τ).loc main_arg5) : Vec Ideal S64 .f32) (ix1 x)) (fun x => (m ((c : Thread nD τ).loc main_arg6) : Vec Ideal S64 .f32) (ix1 x))
    (fun x => (m ((c : Thread nD τ).loc main_arg7) : Vec Ideal S128 .f32) (ix1 x)) (rowAt t r) (headOf t) e := by
  have ht := (tileOf t).isLt
  let X : Fin 256 → Fin 128 → ℝ := fun r l => Q (rowAt t r) (headOf t) ⟨l.val / 64, by omega⟩ ⟨l.val % 64, by omega⟩
  let K' : ℕ → Fin 128 → ℝ := fun k l => K ⟨k % 16384, Nat.mod_lt _ (by norm_num)⟩ (headOf t) ⟨l.val / 64, by omega⟩ ⟨l.val % 64, by omega⟩
  let W : Fin 128 → ℕ → ℝ := fun e k => V ⟨k % 16384, Nat.mod_lt _ (by norm_num)⟩ (headOf t) e
  have hmod : ∀ k : Fin 16384, (⟨k.val % 16384, Nat.mod_lt _ (by norm_num)⟩ : Fin 16384) = k := fun k => Fin.ext (Nat.mod_eq_of_lt k.isLt)
  have hlane : ∀ (c : Fin 2) (d : Fin 64), (⟨(64 * c.val + d.val) / 64, by omega⟩ : Fin 2) = c := fun c d => Fin.ext (by show (64 * c.val + d.val) / 64 = c.val; omega)
  have hrem : ∀ (c : Fin 2) (d : Fin 64), (⟨(64 * c.val + d.val) % 64, Nat.mod_lt _ (by norm_num)⟩ : Fin 64) = d := fun c d => Fin.ext (by show (64 * c.val + d.val) % 64 = d.val; omega)
  have hX : ∀ r l, (iblk m c 0 t : Vec Ideal S256x128 .f32) (ix2 r l) = (X r l : EReal) := fun r l => (iblk_0 m c t r l).trans (R.q _ _ _ _)
  have hK : ∀ k l, (iblk m c 1 t : Vec Ideal S16384x128 .bf16) (ix2 k l) = (K' k.val l : EReal) := fun k l =>
    (iblk_1 m c t k l).trans ((R.k _ _ _ _).trans (by show _ = ((K ⟨k.val % 16384, _⟩ _ _ _ : ℝ) : EReal); rw [hmod]))
  have hW : ∀ e k, (iblk m c 2 t : Vec Ideal S128x16384 .bf16) (ix2 e k) = (W e k.val : EReal) := fun e k =>
    (iblk_2 m c t e k).trans ((R.v _ _ _).trans (by show _ = ((V ⟨k.val % 16384, _⟩ _ _ : ℝ) : EReal); rw [hmod]))
  have hA : ∀ (c : Fin 2) (e : Fin 128), attn X K' W c r (256 * (tileOf t).val + r.val) e = attnQ Q K V (headOf t) c (rowAt t r) e := fun c e =>
    attn_eq Q K V X K' W (headOf t) c r (rowAt t r) e
      (fun d => by show Q _ _ _ _ = _; rw [hlane, hrem])
      (fun k d => by show K _ _ _ _ = _; rw [hmod, hlane, hrem])
      (fun k => by show V _ _ _ = _; rw [hmod])
  unfold outAt
  rw [coords_tile]
  rw [tileOut_apply (iblk m c 0 t) (iblk m c 1 t) (iblk m c 2 t) X K' W hX hK hW (iblk m c 3 t) (iblk m c 4 t) (iblk m c 5 t) (iblk m c 6 t) (iblk m c 7 t)
    (t.val % 64) ht r e]
  unfold result
  have hA0 : ∀ e, attn X K' W 0 r (256 * (t.val % 64) + r.val) e = attnQ Q K V (headOf t) 0 (rowAt t r) e := hA 0
  have hA1 : ∀ e, attn X K' W 1 r (256 * (t.val % 64) + r.val) e = attnQ Q K V (headOf t) 1 (rowAt t r) e := hA 1
  simp only [hA0, hA1, iblk_3, iblk_4, iblk_5, iblk_6, iblk_7]

/-- What the point writes back is its block of the result array. -/
theorem flushed_8 {c : Dev nD} (R : Reals m c Q K V) (t : Fin cfg0.N) :
    (dats m 0 c).flushed 8 t = ((cfg0.win 8).blk t).view.read (Elt Ideal) (G m c Q K V) := by
  show (cfg0.win 8).cut (grid0.coords t) ((dats m 0 c).after 8 t) = _
  rw [after_8]
  have hj : ∀ j : S256x128.Idx, outAt m c t j = G m c Q K V (((cfg0.win 8).blk t).view.emb j) := fun j => by
    obtain ⟨r, e, rfl⟩ : ∃ (r : Fin 256) (e : Fin 128), j = ix2 r e := ⟨_, _, eq_ix2 j⟩
    rw [emb_8, outAt_eq m R]
    exact (G_at m c _ _ _).symm
  exact funext hj

/-- Every entry of the result array is in the block of one point. -/
theorem covered_8 (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  let t : Fin cfg0.N := ⟨64 * ((i 1).val / 128) + (i 0).val / 256, by show _ < 512; omega⟩
  refine ⟨t, flush0_8 t, ?_⟩
  have h := ((cfg0.win 8).blk t).view.emb_mem_set (ix2 (⟨(i 0).val % 256, Nat.mod_lt _ (by norm_num)⟩ : Fin 256) (⟨(i 1).val % 128, Nat.mod_lt _ (by norm_num)⟩ : Fin 128) : S256x128.Idx)
  rw [emb_8] at h
  have hi : (ix2 (rowAt t ⟨(i 0).val % 256, Nat.mod_lt _ (by norm_num)⟩) (laneAt t ⟨(i 1).val % 128, Nat.mod_lt _ (by norm_num)⟩) : S16384x1024.Idx) = i := by
    funext a; apply Fin.ext
    match a with
    | ⟨0, _⟩ => show 256 * ((64 * ((i 1).val / 128) + (i 0).val / 256) % 64) + (i 0).val % 256 = (i 0).val; omega
    | ⟨1, _⟩ => show 128 * ((64 * ((i 1).val / 128) + (i 0).val / 256) / 64) + (i 1).val % 128 = (i 1).val; omega
  rwa [hi] at h

theorem final_8 {c : Dev nD} (R : Reals m c Q K V) : (dats m 0 c).arrAt 8 cfg0.N = G m c Q K V :=
  (dats m 0 c).arrAt_eq_of_cover 8 (G m c Q K V) (fun t _ => flushed_8 m R t) covered_8

/-- The run, its result array at the layer's result. -/
theorem run_value (Q K : Dev nD → Fin 16384 → Fin 8 → Fin 2 → Fin 64 → ℝ) (V : Dev nD → Fin 16384 → Fin 8 → Fin 128 → ℝ)
    (R : ∀ c, Reals m c (Q c) (K c) (V c)) :
    θ_run defs (onTc (τ := τ) (main (F := Ideal))) ⟨m, fun _ => 0, ρ⟩ (fun r => ∀ c : Dev nD,
      r.2.mem ((c.tc : Thread nD τ).loc main_v11) = G m c (Q c) (K c) (V c)) :=
  (θ_run defs _ _).mono (fun r h c => ((h c).1 8).trans (final_8 m (R c))) (run_main m ρ)

end Cert.Proof.Flash
-- ==== Proof.Finite.lean ====
module

public import proofs.«01_k».proof.Proof.Array
public import proofs.«01_k».proof.Defs

@[expose] public section

set_option maxRecDepth 16384

noncomputable section

/-! The precondition, read: every entry it names is a real. -/

namespace Cert.Proof.Finite

open Idealize.ShloMosaic

/-- The precondition's broadcasts are well formed. -/
theorem facts : Cert.Pre_finite.Facts where
  bcast_S_S1x16384x8x2x64 := by decide
  bcast_S_S1x16384x8x128 := by decide
  bcast_S_S64 := by decide

theorem ofBits_inf : Ideal.ofBits .f32 0x7F800000#32 = (⊤ : EReal) := by
  simp [Ideal.ofBits, Ideal.ieee]

/-- An extended real whose magnitude is below infinity is a real. -/
theorem real_of_abs_lt {x : EReal} (h : Ideal.cmp .olt (max x (-x)) ⊤ = 1#1) : ((x.toReal : ℝ) : EReal) = x := by
  induction x using EReal.rec with
  | bot => simp [Ideal.cmp] at h
  | top => simp [Ideal.cmp] at h
  | coe x => rfl

/-- Where every entry's magnitude compares below infinity, every entry is a real. -/
theorem real_of_cmpf {s : Shape} (x : FVec Ideal s .f32) (hb : (⟨0, ![]⟩ : Shape).BroadcastsInDim s (![] : Fin 0 → Fin s.rank))
    (h : cmpf .olt (Host.absf x) (broadcastInDim s ![] hb (constant (F := Ideal) (⟨0, ![]⟩ : Shape) .f32 0x7F800000#32)) = fun _ => 1#1) (i : s.Idx) :
    x i = ((x i).toReal : EReal) := by
  have hi := congrFun h i
  refine (real_of_abs_lt ?_).symm
  rw [← ofBits_inf]
  exact hi

end Cert.Proof.Finite
-- ==== Proof.RefValue.lean ====
module

public import proofs.«01_k».proof.Proof.Attn
public import proofs.«01_k».proof.Proof.Gen.ReferenceIdeal.Read

@[expose] public section

set_option maxRecDepth 16384

noncomputable section

/-! The reference's result, entry by entry, when its queries, keys, values and the mixing vectors are reals. -/

namespace Cert.Proof.Ref

open Cert.ReferenceIdeal Cert.ReferenceIdeal.Gen Cert.ReferenceIdeal.Read
open Idealize.ShloMosaic Idealize.ShloMosaic.TcCoe
open Cert.Proof.Online Cert.Proof.Flash
open scoped BigOperators

variable {x0 x1 : (⟨S1x16384x8x2x64, .f32⟩ : BufTy).Contents (Elt Ideal)} {x2 : (⟨S1x16384x8x128, .f32⟩ : BufTy).Contents (Elt Ideal)}
  {Q K : Fin 16384 → Fin 8 → Fin 2 → Fin 64 → ℝ} {V : Fin 16384 → Fin 8 → Fin 128 → ℝ}

theorem eighth : Ideal.ofBits .f32 0x3E000000#32 = ((1 / 8 : ℝ) : EReal) := by
  simp [Ideal.ofBits, Ideal.ieee, -EReal.coe_mul]; norm_num

/-- The masked scores. -/
theorem v17_real (hQ : ∀ q h c d, x0 (ix5 0 q h c d) = (Q q h c d : EReal)) (hK : ∀ q h c d, x1 (ix5 0 q h c d) = (K q h c d : EReal))
    (h : Fin 8) (c : Fin 2) (q k : Fin 16384) :
    val_main_v17 (F := Ideal) x0 x1 (ix5 0 h c q k) = masked (k.val ≤ q.val) (dotScore Q K h c q k) := by
  rw [val_main_v17_apply, val_main_call0_v1_apply, val_main_v16_apply, val_main_v14_apply, val_main_v12_apply, val_main_v11_apply,
    val_main_v15_apply, val_main_v13_apply, val_main_v11_apply, val_main_call0_v2_apply, val_main_call0_v0_apply, val_main_cst_3_apply,
    val_main_v10_apply, val_main_v8_apply, val_main_v9_apply, val_main_cst_2_apply]
  have hm : IntOp.cmpi .sle (BitVec.ofNat 32 k.val) (BitVec.ofNat 32 q.val) = BitVec.ofBool (decide (k.val ≤ q.val)) :=
    WordCmp.cmpi_sle_ofNat (w := 32) (by have := k.isLt; norm_num; omega) (by have := q.isLt; norm_num; omega)
  have hs : (∑ d : Fin 64, x0 (lidx_main_v8 (ix5 0 h c q k) d) * x1 (ridx_main_v8 (ix5 0 h c q k) d)) * Ideal.ofBits .f32 0x3E000000#32
      = (dotScore Q K h c q k : EReal) := by
    unfold dotScore
    rw [eighth, EReal.coe_mul, coe_sum]
    congr 1
    refine Finset.sum_congr rfl fun d _ => ?_
    rw [EReal.coe_mul, ← hQ, ← hK]
    congr 2
    · funext a; match a with | ⟨0, _⟩ => rfl | ⟨1, _⟩ => rfl | ⟨2, _⟩ => rfl | ⟨3, _⟩ => rfl | ⟨4, _⟩ => rfl
    · funext a; match a with | ⟨0, _⟩ => rfl | ⟨1, _⟩ => rfl | ⟨2, _⟩ => rfl | ⟨3, _⟩ => rfl | ⟨4, _⟩ => rfl
  refine Eq.trans (congr (congr (congrArg Scalar.select hm) hs) ofBits_neg_inf) ?_
  exact select_ofBool _ _ _

/-- A query's largest score is a real. -/
theorem v22_real (hQ : ∀ q h c d, x0 (ix5 0 q h c d) = (Q q h c d : EReal)) (hK : ∀ q h c d, x1 (ix5 0 q h c d) = (K q h c d : EReal))
    (h : Fin 8) (c : Fin 2) (q : Fin 16384) :
    ∃ M : ℝ, ∀ k : Fin 16384, val_main_v22 (F := Ideal) x0 x1 (ix5 0 h c q k) = (M : EReal) := by
  obtain ⟨M, hM⟩ := max_fold_masked (fun k : Fin 16384 => k.val ≤ q.val) (fun k => dotScore Q K h c q k) ⟨q, le_rfl⟩ ⊥ (.inl rfl)
  refine ⟨M, fun k => ?_⟩
  rw [val_main_v22_apply, val_main_v21_apply, val_main_v20_apply, val_main_v19_apply, val_main_cst_5_apply, ← hM]
  refine congr (congrArg max ofBits_neg_inf) ?_
  unfold val_main_v18
  have hr : S1x8x2x16384x16384.Reduces [4] S1x8x2x16384 := by decide
  refine (Host.reduce_eq_fold_single (FloatOps.maximumf (F := Ideal) (φ := .f32)) (val_main_v17 (F := Ideal) x0 x1) (val_main_cst_4 (F := Ideal))
    reducesTo_S1x8x2x16384x16384_S1x8x2x16384_d4 hr h_S_ _).trans ?_
  have key : ∀ (b : EReal) (f g : Fin 16384 → EReal), b = ⊥ → f = g → Finset.fold max b f Finset.univ = Finset.fold max ⊥ g Finset.univ :=
    fun b f g hb hf => by rw [hb, hf]
  refine key _ _ _ ofBits_neg_inf (funext fun (j : Fin 16384) => ?_)
  refine Eq.trans (congrArg (val_main_v17 (F := Ideal) x0 x1) ?_) (v17_real hQ hK h c q j)
  funext a; match a with | ⟨0, _⟩ => rfl | ⟨1, _⟩ => rfl | ⟨2, _⟩ => rfl | ⟨3, _⟩ => rfl | ⟨4, _⟩ => rfl

/-- The unscaled weights, up to a common positive factor. -/
theorem v24_real (hQ : ∀ q h c d, x0 (ix5 0 q h c d) = (Q q h c d : EReal)) (hK : ∀ q h c d, x1 (ix5 0 q h c d) = (K q h c d : EReal))
    (h : Fin 8) (c : Fin 2) (q : Fin 16384) :
    ∃ a : ℝ, a ≠ 0 ∧ ∀ k : Fin 16384, val_main_v24 (F := Ideal) x0 x1 (ix5 0 h c q k) = ((keyWeight Q K h c q k * a : ℝ) : EReal) := by
  obtain ⟨M, hM⟩ := v22_real hQ hK h c q
  refine ⟨Real.exp (-M), (Real.exp_pos _).ne', fun k => ?_⟩
  rw [val_main_v24_apply, val_main_v23_apply, v17_real hQ hK, hM]
  refine (exp_masked _ _ _).trans ?_
  unfold keyWeight
  rw [ite_mul, zero_mul]

/-- The attention weights. -/
theorem v28_real (hQ : ∀ q h c d, x0 (ix5 0 q h c d) = (Q q h c d : EReal)) (hK : ∀ q h c d, x1 (ix5 0 q h c d) = (K q h c d : EReal))
    (h : Fin 8) (c : Fin 2) (q k : Fin 16384) :
    val_main_v28 (F := Ideal) x0 x1 (ix5 0 h c q k) = ((keyWeight Q K h c q k / mass Q K h c q : ℝ) : EReal) := by
  obtain ⟨a, ha, h24⟩ := v24_real hQ hK h c q
  rw [val_main_v28_apply, val_main_v27_apply, val_main_v26_apply, val_main_v25_apply, val_main_cst_6_apply, h24]
  have hsum : FloatOps.ofBits (F := Ideal) .f32 0x00000000#32
      + ∑ j : Fin 16384, val_main_v24 (F := Ideal) x0 x1 (idx_main_v25 (idx_main_v26 (idx_main_v27 (ix5 0 h c q k))) j)
      = ((mass Q K h c q * a : ℝ) : EReal) := by
    unfold mass
    rw [Finset.sum_mul, coe_sum, show FloatOps.ofBits (F := Ideal) .f32 0x00000000#32 = 0 from Ideal.ofBits_zero_f32, zero_add]
    refine Finset.sum_congr rfl fun j _ => ?_
    rw [← h24]
    congr 1
    funext a; match a with | ⟨0, _⟩ => rfl | ⟨1, _⟩ => rfl | ⟨2, _⟩ => rfl | ⟨3, _⟩ => rfl | ⟨4, _⟩ => rfl
  rw [hsum]
  have hm := (mass_pos Q K h c q).ne'
  show Ideal.div _ _ = _
  rw [Ideal.div_coe (mul_ne_zero hm ha), ← EReal.coe_mul]
  refine congrArg Real.toEReal ?_
  field_simp

variable {x3 x4 x5 x6 : (⟨S64, .f32⟩ : BufTy).Contents (Elt Ideal)}

/-- The mixing factor. -/
theorem v7_eq (i : S_.Idx) : val_main_v7 (F := Ideal) x3 x4 x5 x6 i
    = lamOf (fun x => x3 (ix1 x)) (fun x => x4 (ix1 x)) (fun x => x5 (ix1 x)) (fun x => x6 (ix1 x)) := by
  rw [val_main_v7_apply, val_main_v6_apply, val_main_v2_apply, val_main_v5_apply, val_main_v1_apply, val_main_v4_apply,
    val_main_cst_apply, val_main_cst_0_apply, val_main_cst_1_apply, show FloatOps.ofBits (F := Ideal) .f32 0x00000000#32 = 0 from Ideal.ofBits_zero_f32, zero_add, zero_add,
    sum_idx1, sum_idx1]
  rfl

theorem lam_word : ∃ w : ℝ, Ideal.ofBits .f32 0x3EB60549#32 = (w : EReal) := by
  refine ⟨11928905 / 33554432, ?_⟩
  simp [Ideal.ofBits, Ideal.ieee, -EReal.coe_mul]
  norm_num

/-- The mixing factor of reals is a real. -/
theorem lamOf_real (y3 y4 y5 y6 : Fin 64 → ℝ) : ∃ L : ℝ, lamOf (fun x => (y3 x : EReal)) (fun x => (y4 x : EReal)) (fun x => (y5 x : EReal)) (fun x => (y6 x : EReal)) = (L : EReal) := by
  obtain ⟨w, hw⟩ := lam_word
  refine ⟨Real.exp (∑ x, y3 x * y4 x) - Real.exp (∑ x, y5 x * y6 x) + w, ?_⟩
  unfold lamOf
  rw [hw, EReal.coe_add, EReal.coe_sub, ← Ideal.exp_coe, ← Ideal.exp_coe, coe_sum, coe_sum]
  simp only [EReal.coe_mul]

/-- The attention over the values, in the reals. -/
theorem mix_sum (L : ℝ) (h : Fin 8) (q : Fin 16384) (e : Fin 128) :
    ∑ k, V k h e * (keyWeight Q K h 0 q k / mass Q K h 0 q - L * (keyWeight Q K h 1 q k / mass Q K h 1 q))
      = attnQ Q K V h 0 q e - L * attnQ Q K V h 1 q e := by
  unfold attnQ
  rw [Finset.sum_div, Finset.sum_div, Finset.mul_sum, ← Finset.sum_sub_distrib]
  exact Finset.sum_congr rfl fun k _ => by ring

/-- The mixed attention before normalisation. -/
theorem v37_real (hQ : ∀ q h c d, x0 (ix5 0 q h c d) = (Q q h c d : EReal)) (hK : ∀ q h c d, x1 (ix5 0 q h c d) = (K q h c d : EReal))
    (hV : ∀ k h e, x2 (ix4 0 k h e) = (V k h e : EReal)) {L : ℝ}
    (hL : lamOf (fun x => x3 (ix1 x)) (fun x => x4 (ix1 x)) (fun x => x5 (ix1 x)) (fun x => x6 (ix1 x)) = (L : EReal))
    (q : Fin 16384) (h : Fin 8) (e : Fin 128) :
    val_main_v37 (F := Ideal) x0 x1 x2 x3 x4 x5 x6 (ix4 0 q h e)
      = (attnQ Q K V h 0 q e : EReal) - lamOf (fun x => x3 (ix1 x)) (fun x => x4 (ix1 x)) (fun x => x5 (ix1 x)) (fun x => x6 (ix1 x)) * (attnQ Q K V h 1 q e : EReal) := by
  rw [hL, ← EReal.coe_mul, ← EReal.coe_sub, ← mix_sum, coe_sum, val_main_v37_apply, val_main_v36_apply]
  refine Finset.sum_congr rfl fun k _ => ?_
  rw [EReal.coe_mul, ← hV, EReal.coe_sub, EReal.coe_mul, ← hL, ← v28_real hQ hK, ← v28_real hQ hK,
    val_main_v35_apply, val_main_v30_apply, val_main_v29_apply, val_main_v34_apply, val_main_v33_apply, v7_eq, val_main_v32_apply, val_main_v31_apply]
  have hq := q.isLt; have hk := k.isLt; have hh := h.isLt
  have i0 : idx_main_v29 (idx_main_v30 (ridx_main_v36 (idx_main_v37 (ix4 0 q h e)) k)) = ix5 0 h 0 q k := by
    funext a; apply Fin.ext
    match a with
    | ⟨0, _⟩ => rfl
    | ⟨1, _⟩ => show (((0 * 8 + h.val) * 16384 + q.val) * 16384 + k.val) / 268435456 % 8 = h.val; omega
    | ⟨2, _⟩ => rfl
    | ⟨3, _⟩ => show (((0 * 8 + h.val) * 16384 + q.val) * 16384 + k.val) / 16384 % 16384 = q.val; omega
    | ⟨4, _⟩ => show (((0 * 8 + h.val) * 16384 + q.val) * 16384 + k.val) % 16384 = k.val; omega
  have i1 : idx_main_v31 (idx_main_v32 (ridx_main_v36 (idx_main_v37 (ix4 0 q h e)) k)) = ix5 0 h 1 q k := by
    funext a; apply Fin.ext
    match a with
    | ⟨0, _⟩ => rfl
    | ⟨1, _⟩ => show (((0 * 8 + h.val) * 16384 + q.val) * 16384 + k.val) / 268435456 % 8 = h.val; omega
    | ⟨2, _⟩ => rfl
    | ⟨3, _⟩ => show (((0 * 8 + h.val) * 16384 + q.val) * 16384 + k.val) / 16384 % 16384 = q.val; omega
    | ⟨4, _⟩ => show (((0 * 8 + h.val) * 16384 + q.val) * 16384 + k.val) % 16384 = k.val; omega
  rw [i0, i1]
  refine congr (congrArg _ (congrArg x2 ?_)) rfl
  funext a; match a with | ⟨0, _⟩ => rfl | ⟨1, _⟩ => rfl | ⟨2, _⟩ => rfl | ⟨3, _⟩ => rfl

variable {x7 : (⟨S128, .f32⟩ : BufTy).Contents (Elt Ideal)}

/-- The reference's result at row `q`, lane `e` of head `h`. -/
theorem v53_real (hQ : ∀ q h c d, x0 (ix5 0 q h c d) = (Q q h c d : EReal)) (hK : ∀ q h c d, x1 (ix5 0 q h c d) = (K q h c d : EReal))
    (hV : ∀ k h e, x2 (ix4 0 k h e) = (V k h e : EReal)) {L : ℝ}
    (hL : lamOf (fun x => x3 (ix1 x)) (fun x => x4 (ix1 x)) (fun x => x5 (ix1 x)) (fun x => x6 (ix1 x)) = (L : EReal))
    (q : Fin 16384) (h : Fin 8) (e : Fin 128) :
    val_main_v53 (F := Ideal) x0 x1 x2 x3 x4 x5 x6 x7 (ix2 q ⟨128 * h.val + e.val, by omega⟩)
      = result Q K V (fun x => x3 (ix1 x)) (fun x => x4 (ix1 x)) (fun x => x5 (ix1 x)) (fun x => x6 (ix1 x)) (fun x => x7 (ix1 x)) q h e := by
  have hq := q.isLt; have hh := h.isLt; have he := e.isLt
  have i0 : idx_main_v53 (ix2 q ⟨128 * h.val + e.val, by omega⟩) = ix4 0 q h e := by
    funext a; apply Fin.ext
    match a with
    | ⟨0, _⟩ => rfl
    | ⟨1, _⟩ => show (q.val * 1024 + (128 * h.val + e.val)) / 1024 % 16384 = q.val; omega
    | ⟨2, _⟩ => show (q.val * 1024 + (128 * h.val + e.val)) / 128 % 8 = h.val; omega
    | ⟨3, _⟩ => show (q.val * 1024 + (128 * h.val + e.val)) % 128 = e.val; omega
  have hsum : val_main_v39 (F := Ideal) x0 x1 x2 x3 x4 x5 x6 (idx_main_v40 (idx_main_v46 (ix4 0 q h e)))
      = ∑ x : Fin 128, val_main_v37 (F := Ideal) x0 x1 x2 x3 x4 x5 x6 (ix4 0 q h x) * val_main_v37 (F := Ideal) x0 x1 x2 x3 x4 x5 x6 (ix4 0 q h x) := by
    rw [val_main_v39_apply, val_main_cst_7_apply, show FloatOps.ofBits (F := Ideal) .f32 0x00000000#32 = 0 from Ideal.ofBits_zero_f32, zero_add]
    refine Finset.sum_congr rfl fun x _ => ?_
    rw [val_main_v38_apply]
    have : idx_main_v39 (idx_main_v40 (idx_main_v46 (ix4 0 q h e))) x = ix4 0 q h x := by
      funext a; match a with | ⟨0, _⟩ => rfl | ⟨1, _⟩ => rfl | ⟨2, _⟩ => rfl | ⟨3, _⟩ => rfl
    rw [this]; rfl
  have i7 : idx_main_v48 (idx_main_v49 (ix4 0 q h e)) = ix1 e := by
    funext a; match a with | ⟨0, _⟩ => rfl
  unfold result normed
  simp only [← v37_real hQ hK hV hL]
  rw [val_main_v53_apply, i0, val_main_v52_apply, val_main_v50_apply, val_main_v47_apply, val_main_v51_apply, val_main_cst_10_apply,
    val_main_v49_apply, val_main_v48_apply, i7, val_main_v46_apply, val_main_v45_apply, val_main_v44_apply, val_main_v42_apply,
    val_main_v43_apply, val_main_cst_9_apply, val_main_v41_apply, val_main_cst_8_apply, val_main_v40_apply, hsum]
  rfl

end Cert.Proof.Ref
-- ==== Proof.Proj.Body.lean ====
module

public import proofs.«01_k».proof.Proof.Gen.ProjIdeal.Skeleton
public import proofs.«01_k».proof.Proof.Gen.ProjIdeal.Launch
public import proofs.«01_k».proof.Proof.Gen.ProjIdeal.Frame
public import Idealize.ShloMosaic.Lib.Pipeline.FrameBody
public import Idealize.ShloMosaic.Lib.Pipeline.Value
public import Idealize.ShloMosaic.Lib.Tactic
public import Idealize.ShloMosaic.Lib.ValueIdx
public import Idealize.ShloMosaic.Lib.Claim

@[expose] public section

noncomputable section

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- One head's rows turned: the lanes times `c`, plus the lanes rotated by `p` times `a`, plus the lanes rotated by `q` times `b`. -/
def turn (p q : BitVec 32) (v c a b : Vec F S512x128 .f32) : Vec F S512x128 .f32 :=
  addf (addf (mulf v c) (mulf (dynamicRotate 1 p none v rotates_S512x128_d1) a)) (mulf (dynamicRotate 1 q none v rotates_S512x128_d1) b)

/-- Every head's rows turned, the eight heads side by side. -/
def turnAll (p q : BitVec 32) (X : Vec F S512x1024 .f32) (c a b : Vec F S512x128 .f32) : Vec F S512x1024 .f32 :=
  concatenate S512x1024 1
    [⟨S512x128, turn p q (extractStridedSlice S512x128 ![0, 0] X slices_S512x1024_o0_0_S512x128) c a b⟩,
     ⟨S512x128, turn p q (extractStridedSlice S512x128 ![0, 128] X slices_S512x1024_o0_128_S512x128) c a b⟩,
     ⟨S512x128, turn p q (extractStridedSlice S512x128 ![0, 256] X slices_S512x1024_o0_256_S512x128) c a b⟩,
     ⟨S512x128, turn p q (extractStridedSlice S512x128 ![0, 384] X slices_S512x1024_o0_384_S512x128) c a b⟩,
     ⟨S512x128, turn p q (extractStridedSlice S512x128 ![0, 512] X slices_S512x1024_o0_512_S512x128) c a b⟩,
     ⟨S512x128, turn p q (extractStridedSlice S512x128 ![0, 640] X slices_S512x1024_o0_640_S512x128) c a b⟩,
     ⟨S512x128, turn p q (extractStridedSlice S512x128 ![0, 768] X slices_S512x1024_o0_768_S512x128) c a b⟩,
     ⟨S512x128, turn p q (extractStridedSlice S512x128 ![0, 896] X slices_S512x1024_o0_896_S512x128) c a b⟩]
    concatenates_S512x128_S512x128_S512x128_S512x128_S512x128_S512x128_S512x128_S512x128_S512x1024_d1

/-- The eight heads of a row one under the other: row `8 r + h` of the result is head `h` of row `r`. -/
def heads (X : Vec F S512x1024 .f32) : Vec F S4096x128 .f32 := fun y =>
  X (ix2 ⟨(y 0).val / 8, by have h : (y 0).val < 4096 := (y 0).isLt; omega⟩
    ⟨(y 0).val % 8 * 128 + (y 1).val, by have h : (y 1).val < 128 := (y 1).isLt; omega⟩)

/-- The product with the first 1024 columns of the weights (the queries), before its heads are turned. -/
def prodQ (x : Vec F S512x1024 .f32) (g : Vec F S1x1024 .f32) (w : Vec F S1024x5120 .bf16) : Vec F S512x1024 .f32 :=
  k0_pay8 x g (View.ld w (Rect.unit (s := S1024x5120) ![0, 0] S1024x1024.size inb_S1024x5120_S1024x1024_0_0))
/-- The product with the next 1024 columns (the keys). -/
def prodK (x : Vec F S512x1024 .f32) (g : Vec F S1x1024 .f32) (w : Vec F S1024x5120 .bf16) : Vec F S512x1024 .f32 :=
  k0_pay24 (k0_pay7 x g) (View.ld w (Rect.unit (s := S1024x5120) ![0, 1024] S1024x1024.size inb_S1024x5120_S1024x1024_0_1024))
/-- The queries of a block of rows. -/
def outQ (x : Vec F S512x1024 .f32) (g : Vec F S1x1024 .f32) (w : Vec F S1024x5120 .bf16) (c a b : Vec F S512x128 .f32) : Vec F S512x1024 .f32 :=
  turnAll 112#32 16#32 (prodQ x g w) (k0_pay9 c) (k0_pay10 a) (k0_pay11 b)
/-- The keys of a block of rows. -/
def outK (x : Vec F S512x1024 .f32) (g : Vec F S1x1024 .f32) (w : Vec F S1024x5120 .bf16) (c a b : Vec F S512x128 .f32) : Vec F S512x1024 .f32 :=
  turnAll 112#32 16#32 (prodK x g w) (k0_pay9 c) (k0_pay10 a) (k0_pay11 b)
/-- The keys rounded to bf16. -/
def outKb (x : Vec F S512x1024 .f32) (g : Vec F S1x1024 .f32) (w : Vec F S1024x5120 .bf16) (c a b : Vec F S512x128 .f32) : Vec F S512x1024 .bf16 :=
  k0_pay43 (outK x g w c a b)
/-- The values of a block of rows. -/
def outV (x : Vec F S512x1024 .f32) (g : Vec F S1x1024 .f32) (w : Vec F S1024x5120 .bf16) : Vec F S512x1024 .f32 :=
  k0_pay44 (k0_pay7 x g) (View.ld w (Rect.unit (s := S1024x5120) ![0, 2048] S1024x1024.size inb_S1024x5120_S1024x1024_0_2048))
/-- The values transposed and rounded to bf16. -/
def outVt (x : Vec F S512x1024 .f32) (g : Vec F S1x1024 .f32) (w : Vec F S1024x5120 .bf16) : Vec F S1024x512 .bf16 :=
  k0_pay4 (outV x g w)
/-- The inputs of the pooling mixer. -/
def outU (x : Vec F S512x1024 .f32) (g : Vec F S1x1024 .f32) (w : Vec F S1024x5120 .bf16) : Vec F S512x512 .f32 :=
  k0_pay5 (k0_pay7 x g) (View.ld w (Rect.unit (s := S1024x5120) ![0, 3072] S1024x512.size inb_S1024x5120_S1024x512_0_3072))
/-- The gates. -/
def outGate (x : Vec F S512x1024 .f32) (g : Vec F S1x1024 .f32) (w : Vec F S1024x5120 .bf16) : Vec F S512x1536 .f32 :=
  k0_pay6 (k0_pay7 x g) (View.ld w (Rect.unit (s := S1024x5120) ![0, 3584] S1024x1536.size inb_S1024x5120_S1024x1536_0_3584))

/-- Every eighth row, from row `h`. -/
abbrev strip (h : ℕ) (hb : ∀ a, S512x128.size a = 0 ∨ (![h, 0] : Fin 2 → Nat) a + (![8, 1] : Fin 2 → Nat) a * (S512x128.size a - 1) < S4096x128.size a) : Rect S4096x128 := ⟨(⟨![h, 0], S512x128.size, ![8, 1], hb⟩ : LoadRect S4096x128), spos_8_1⟩

theorem strip_piece (X : Vec F S512x1024 .f32) (h : ℕ) (hh : h < 8) (hb) (o : ℕ) (ho : o = h * 128) (hs) (x : S512x128.Idx) :
    (extractStridedSlice S512x128 ![0, o] X hs : Vec F S512x128 .f32) x = heads X ((strip h hb).emb x) := by
  subst ho
  obtain ⟨r, l, rfl⟩ : ∃ (r : Fin 512) (l : Fin 128), x = ix2 r l := ⟨_, _, eq_ix2 x⟩
  have h0 : (((strip h hb).emb (ix2 r l)) 0).val = h + 8 * r.val := rfl
  have h1 : (((strip h hb).emb (ix2 r l)) 1).val = 0 + 1 * l.val := rfl
  unfold heads extractStridedSlice
  refine congrArg X (funext fun a => Fin.ext ?_)
  fin_cases a
  · show 0 + r.val = _ / 8
    rw [h0]; omega
  · show h * 128 + l.val = _ % 8 * 128 + _
    rw [h0, h1]; omega

theorem strip_mem (y : S4096x128.Idx) (h : ℕ) (hb) (hy : (y 0).val % 8 = h) : y ∈ (strip h hb).set := by
  rw [LoadRect.mem_set]
  have h0 := (y 0).isLt; have h1 := (y 1).isLt
  change (y 0).val < 4096 at h0
  change (y 1).val < 128 at h1
  intro a; fin_cases a
  · exact ⟨(y 0).val / 8, by show _ < 512; omega, by show (y 0).val = h + 8 * _; omega⟩
  · exact ⟨(y 1).val, by show _ < 128; omega, by show (y 1).val = 0 + 1 * _; omega⟩

/-- The eight strided stores, one per head, leave the heads one under the other. -/
theorem strips {sg : RefSig} {v : View sg .tc .vmem S4096x128 .f32} (f : v.ty.Contents (Elt F)) (X : Vec F S512x1024 .f32) :
    View.read (Elt F) v (v.writes (Elt F) f
      [⟨strip 7 inb_S4096x128_S512x128_7_0_s_8_1, extractStridedSlice S512x128 ![0, 896] X slices_S512x1024_o0_896_S512x128⟩,
       ⟨strip 6 inb_S4096x128_S512x128_6_0_s_8_1, extractStridedSlice S512x128 ![0, 768] X slices_S512x1024_o0_768_S512x128⟩,
       ⟨strip 5 inb_S4096x128_S512x128_5_0_s_8_1, extractStridedSlice S512x128 ![0, 640] X slices_S512x1024_o0_640_S512x128⟩,
       ⟨strip 4 inb_S4096x128_S512x128_4_0_s_8_1, extractStridedSlice S512x128 ![0, 512] X slices_S512x1024_o0_512_S512x128⟩,
       ⟨strip 3 inb_S4096x128_S512x128_3_0_s_8_1, extractStridedSlice S512x128 ![0, 384] X slices_S512x1024_o0_384_S512x128⟩,
       ⟨strip 2 inb_S4096x128_S512x128_2_0_s_8_1, extractStridedSlice S512x128 ![0, 256] X slices_S512x1024_o0_256_S512x128⟩,
       ⟨strip 1 inb_S4096x128_S512x128_1_0_s_8_1, extractStridedSlice S512x128 ![0, 128] X slices_S512x1024_o0_128_S512x128⟩,
       ⟨strip 0 inb_S4096x128_S512x128_0_0_s_8_1, extractStridedSlice S512x128 ![0, 0] X slices_S512x1024_o0_0_S512x128⟩]) = heads X := by
  have hc : ∀ y : S4096x128.Idx, ∃ p ∈ ([⟨strip 7 inb_S4096x128_S512x128_7_0_s_8_1, extractStridedSlice S512x128 ![0, 896] X slices_S512x1024_o0_896_S512x128⟩,
       ⟨strip 6 inb_S4096x128_S512x128_6_0_s_8_1, extractStridedSlice S512x128 ![0, 768] X slices_S512x1024_o0_768_S512x128⟩,
       ⟨strip 5 inb_S4096x128_S512x128_5_0_s_8_1, extractStridedSlice S512x128 ![0, 640] X slices_S512x1024_o0_640_S512x128⟩,
       ⟨strip 4 inb_S4096x128_S512x128_4_0_s_8_1, extractStridedSlice S512x128 ![0, 512] X slices_S512x1024_o0_512_S512x128⟩,
       ⟨strip 3 inb_S4096x128_S512x128_3_0_s_8_1, extractStridedSlice S512x128 ![0, 384] X slices_S512x1024_o0_384_S512x128⟩,
       ⟨strip 2 inb_S4096x128_S512x128_2_0_s_8_1, extractStridedSlice S512x128 ![0, 256] X slices_S512x1024_o0_256_S512x128⟩,
       ⟨strip 1 inb_S4096x128_S512x128_1_0_s_8_1, extractStridedSlice S512x128 ![0, 128] X slices_S512x1024_o0_128_S512x128⟩,
       ⟨strip 0 inb_S4096x128_S512x128_0_0_s_8_1, extractStridedSlice S512x128 ![0, 0] X slices_S512x1024_o0_0_S512x128⟩] : List (View.Piece (Elt F) S4096x128 .f32)), y ∈ p.1.set := by
    intro y
    have hlt : (y 0).val % 8 < 8 := Nat.mod_lt _ (by decide)
    generalize hy : (y 0).val % 8 = n at hlt
    simp only [List.exists_mem_cons_iff]
    interval_cases n
    · exact .inr (.inr (.inr (.inr (.inr (.inr (.inr (.inl (strip_mem y 0 _ hy))))))))
    · exact .inr (.inr (.inr (.inr (.inr (.inr (.inl (strip_mem y 1 _ hy)))))))
    · exact .inr (.inr (.inr (.inr (.inr (.inl (strip_mem y 2 _ hy))))))
    · exact .inr (.inr (.inr (.inr (.inl (strip_mem y 3 _ hy)))))
    · exact .inr (.inr (.inr (.inl (strip_mem y 4 _ hy))))
    · exact .inr (.inr (.inl (strip_mem y 5 _ hy)))
    · exact .inr (.inl (strip_mem y 6 _ hy))
    · exact .inl (strip_mem y 7 _ hy)
  rw [View.read_writes_eq_canon _ _ _ hc]
  funext y
  refine View.canon_apply_of_pieces (heads X) _ ?_ y (hc y)
  intro p hp
  simp only [List.mem_cons, List.not_mem_nil, or_false] at hp
  rcases hp with rfl | rfl | rfl | rfl | rfl | rfl | rfl | rfl
  · exact strip_piece X 7 (by decide) _ 896 rfl slices_S512x1024_o0_896_S512x128
  · exact strip_piece X 6 (by decide) _ 768 rfl slices_S512x1024_o0_768_S512x128
  · exact strip_piece X 5 (by decide) _ 640 rfl slices_S512x1024_o0_640_S512x128
  · exact strip_piece X 4 (by decide) _ 512 rfl slices_S512x1024_o0_512_S512x128
  · exact strip_piece X 3 (by decide) _ 384 rfl slices_S512x1024_o0_384_S512x128
  · exact strip_piece X 2 (by decide) _ 256 rfl slices_S512x1024_o0_256_S512x128
  · exact strip_piece X 1 (by decide) _ 128 rfl slices_S512x1024_o0_128_S512x128
  · exact strip_piece X 0 (by decide) _ 0 rfl slices_S512x1024_o0_0_S512x128

theorem ld_x (x : Vec F S512x1024 .f32) : View.ld x (Rect.unit ![0, 0] ![512, 1024] inb_S512x1024_S512x1024_0_0) = x :=
  View.ld_unit_zero (by decide) _ x
theorem ld_g (x : Vec F S1x1024 .f32) : View.ld x (Rect.unit ![0, 0] ![1, 1024] inb_S1x1024_S1x1024_0_0) = x :=
  View.ld_unit_zero (by decide) _ x
theorem ld_t (x : Vec F S512x128 .f32) : View.ld x (Rect.unit ![0, 0] ![512, 128] inb_S512x128_S512x128_0_0) = x :=
  View.ld_unit_zero (by decide) _ x

/-- One whole store: the buffer reads what was stored. -/
theorem whole_store {sg : RefSig} {s : Shape} {e : EltTy} {v : View sg .tc .vmem s e} (f : v.ty.Contents (Elt F)) {off : Fin s.rank → ℕ} (inb)
    (h : off = fun _ => 0) (p : Vec F s e) :
    View.read (Elt F) v (v.writes (Elt F) f [⟨Rect.unit off s.size inb, p⟩]) = p := by
  rw [View.read_writes_eq_canon _ _ _ (fun y => ⟨_, List.mem_singleton_self _, View.mem_set_unit_zero h inb y⟩), View.canon_unit_zero h]

set_option maxRecDepth 16384 in
set_option maxHeartbeats 4000000 in
/-- The kernel body, at any grid point: the inputs' buffers kept, the seven results' as named above. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x5120 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .f32) (harg7 : arg7.IsWhole) (arg8 : Memref sig .tc .vmem S4096x128 .f32) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S1024x512 .bf16) (harg11 : arg11.IsWhole) (arg12 : Memref sig .tc .vmem S512x512 .f32) (harg12 : arg12.IsWhole) (arg13 : Memref sig .tc .vmem S512x1536 .f32) (harg13 : arg13.IsWhole) (x1 : Vec F S512x1024 .f32) (x2 : Vec F S1x1024 .f32) (x3 : Vec F S1024x5120 .bf16) (x4 : Vec F S512x128 .f32) (x5 : Vec F S512x128 .f32) (x6 : Vec F S512x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (outQ x1 x2 x3 x4 x5 x6) ∗ owns (c : Thread nD τ) arg8 fullShare (heads (outK x1 x2 x3 x4 x5 x6)) ∗ owns (c : Thread nD τ) arg9 fullShare (outKb x1 x2 x3 x4 x5 x6) ∗ owns (c : Thread nD τ) arg10 fullShare (heads (outV x1 x2 x3)) ∗ owns (c : Thread nD τ) arg11 fullShare (outVt x1 x2 x3) ∗ owns (c : Thread nD τ) arg12 fullShare (outU x1 x2 x3) ∗ owns (c : Thread nD τ) arg13 fullShare (outGate x1 x2 x3)) -∗ K ⟨⟩))
      ⊢ wp frame (wpE (defs₀ (F := F)) Variants.none c none) E
          (cc0_proj_in i arg1 harg1 arg2 harg2 arg3 harg3 arg4 harg4 arg5 harg5 arg6 harg6 arg7 harg7 arg8 harg8 arg9 harg9 arg10 harg10 arg11 harg11 arg12 harg12 arg13 harg13) K := by
  simp only [cc0_proj_in_eq_skeleton]; unfold cc0_proj_in_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf1 hf2 hf3 hf4 hf5 hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    simp only [View.readAt_eq_ld, ld_x, ld_g, ld_t]
    refine (whole_store _ _ (by decide) _).trans ?_
    rfl
  isplitl [H8]
  · iexists _; isplitr; swap; · iexact H8
    ipureintro
    sl_unfold_run_names
    simp only [View.readAt_eq_ld, ld_x, ld_g, ld_t]
    exact strips f8 (outK (View.read (Elt F) arg1.view f1) (View.read (Elt F) arg2.view f2) (View.read (Elt F) arg3.view f3) (View.read (Elt F) arg4.view f4) (View.read (Elt F) arg5.view f5) (View.read (Elt F) arg6.view f6))
  isplitl [H9]
  · iexists _; isplitr; swap; · iexact H9
    ipureintro
    sl_unfold_run_names
    simp only [View.readAt_eq_ld, ld_x, ld_g, ld_t]
    refine (whole_store _ _ (by decide) _).trans ?_
    rfl
  isplitl [H10]
  · iexists _; isplitr; swap; · iexact H10
    ipureintro
    sl_unfold_run_names
    simp only [View.readAt_eq_ld, ld_x, ld_g, ld_t]
    exact strips f10 (outV (View.read (Elt F) arg1.view f1) (View.read (Elt F) arg2.view f2) (View.read (Elt F) arg3.view f3))
  isplitl [H11]
  · iexists _; isplitr; swap; · iexact H11
    ipureintro
    sl_unfold_run_names
    simp only [View.readAt_eq_ld, ld_x, ld_g, ld_t]
    refine (whole_store _ _ (by decide) _).trans ?_
    rfl
  isplitl [H12]
  · iexists _; isplitr; swap; · iexact H12
    ipureintro
    sl_unfold_run_names
    simp only [View.readAt_eq_ld, ld_x, ld_g, ld_t]
    refine (whole_store _ _ (by decide) _).trans ?_
    rfl
  iexists _; isplitr; swap; · iexact H13
  ipureintro
  sl_unfold_run_names
  simp only [View.readAt_eq_ld, ld_x, ld_g, ld_t]
  refine (whole_store _ _ (by decide) _).trans ?_
  rfl

end Cert.Proof.Proj
-- ==== Proof.Proj.Run.lean ====
module

public import proofs.«01_k».proof.Proof.Proj.Body
public import proofs.«01_k».proof.Proof.Gen.ProjIdeal.Launch
public import proofs.«01_k».proof.Proof.Gen.ProjIdeal.Points
public import proofs.«01_k».proof.Proof.Gen.ProjIdeal.Frame
public import Idealize.ShloMosaic.Lib.Pipeline.FrameBody
public import Idealize.ShloMosaic.Lib.Claim
public import Idealize.ShloMosaic.Lib.Pipeline.Value

@[expose] public section

/-! The input projection's launch, over any float values: every block is carried through the body, so the arrays end at what
    the blocks written back make of them. -/

set_option maxRecDepth 16384

noncomputable section

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; after the body each input's buffer at its block and
    each result's at what the body makes of the input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t) (iblk m c 2 t) (iblk m c 3 t) (iblk m c 4 t) (iblk m c 5 t)
    | ⟨7, _⟩ => heads (outK (iblk m c 0 t) (iblk m c 1 t) (iblk m c 2 t) (iblk m c 3 t) (iblk m c 4 t) (iblk m c 5 t))
    | ⟨8, _⟩ => outKb (iblk m c 0 t) (iblk m c 1 t) (iblk m c 2 t) (iblk m c 3 t) (iblk m c 4 t) (iblk m c 5 t)
    | ⟨9, _⟩ => heads (outV (iblk m c 0 t) (iblk m c 1 t) (iblk m c 2 t))
    | ⟨10, _⟩ => outVt (iblk m c 0 t) (iblk m c 1 t) (iblk m c 2 t)
    | ⟨11, _⟩ => outU (iblk m c 0 t) (iblk m c 1 t) (iblk m c 2 t)
    | ⟨12, _⟩ => outGate (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outQ (iblk m c 0 t) (iblk m c 1 t) (iblk m c 2 t) (iblk m c 3 t) (iblk m c 4 t) (iblk m c 5 t) := by dsimp only [dats]
theorem after_7 (c : Dev nD) (t : Fin cfg0.N) : (dats m 0 c).after 7 t = heads (outK (iblk m c 0 t) (iblk m c 1 t) (iblk m c 2 t) (iblk m c 3 t) (iblk m c 4 t) (iblk m c 5 t)) := by dsimp only [dats]
theorem after_8 (c : Dev nD) (t : Fin cfg0.N) : (dats m 0 c).after 8 t = outKb (iblk m c 0 t) (iblk m c 1 t) (iblk m c 2 t) (iblk m c 3 t) (iblk m c 4 t) (iblk m c 5 t) := by dsimp only [dats]
theorem after_9 (c : Dev nD) (t : Fin cfg0.N) : (dats m 0 c).after 9 t = heads (outV (iblk m c 0 t) (iblk m c 1 t) (iblk m c 2 t)) := by dsimp only [dats]
theorem after_10 (c : Dev nD) (t : Fin cfg0.N) : (dats m 0 c).after 10 t = outVt (iblk m c 0 t) (iblk m c 1 t) (iblk m c 2 t) := by dsimp only [dats]
theorem after_11 (c : Dev nD) (t : Fin cfg0.N) : (dats m 0 c).after 11 t = outU (iblk m c 0 t) (iblk m c 1 t) (iblk m c 2 t) := by dsimp only [dats]
theorem after_12 (c : Dev nD) (t : Fin cfg0.N) : (dats m 0 c).after 12 t = outGate (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, the windows one by one. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))

/-- What it hands back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t))

/-- The body at any point: each input's buffer holds its block, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots. -/
theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch: every array at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Proj
-- ==== Proof.Proj.Value.lean ====
module

public import proofs.«01_k».proof.Proof.Proj.Run
public import Idealize.ShloMosaic.Lib.Pointwise
public import Idealize.ShloMosaic.Lib.KernelVsHost

@[expose] public section

noncomputable section

/-! What the body of the input projection computes from its blocks, an entry at a time over the extended reals. -/

namespace Cert.Proof.Proj

open Cert.ProjIdeal Cert.ProjIdeal.Gen
open Idealize.ShloMosaic
open scoped BigOperators

/-- A row divided by its root mean square, times the norm's weights. -/
def normed (x g : Fin 1024 → EReal) (j : Fin 1024) : EReal :=
  x j * Ideal.rsqrt (Ideal.div (∑ k, x k * x k) (Ideal.ofBits .f32 0x44800000#32) + Ideal.ofBits .f32 0x358637BD#32) * g j

/-- The normed row times column `n` of the weights. -/
def projected {M : ℕ} (x g : Fin 1024 → EReal) (w : Fin 1024 → Fin M → EReal) (n : Fin M) : EReal :=
  ∑ j, normed x g j * w j n

/-- The row with the first 32 lanes of each head turned by the angles with cosines `c` and sines `s`: lane `l` with lane `l + 16`. -/
def turned (p : Fin 1024 → EReal) (c s : Fin 16 → EReal) (n : Fin 1024) : EReal :=
  if h : n.val % 128 < 16 then p n * c ⟨n.val % 128, h⟩ - p ⟨n.val + 16, by omega⟩ * s ⟨n.val % 128, h⟩
  else if h' : n.val % 128 < 32 then p n * c ⟨n.val % 128 - 16, by omega⟩ + p ⟨n.val - 16, by omega⟩ * s ⟨n.val % 128 - 16, by omega⟩
  else p n

theorem pay7_apply (x : Vec Ideal S512x1024 .f32) (g : Vec Ideal S1x1024 .f32) (r : Fin 512) (j : Fin 1024) :
    k0_pay7 (F := Ideal) x g (ix2 r j) = normed (fun k => x (ix2 r k)) (fun k => g (ix2 0 k)) j := by
  unfold normed
  pointwise [k0_pay7]

theorem prodQ_apply (x : Vec Ideal S512x1024 .f32) (g : Vec Ideal S1x1024 .f32) (w : Vec Ideal S1024x5120 .bf16) (r : Fin 512) (n : Fin 1024) :
    prodQ x g w (ix2 r n) = projected (fun k => x (ix2 r k)) (fun k => g (ix2 0 k)) (fun j n => w (ix2 j n)) ⟨n.val, by omega⟩ := by
  unfold projected
  simp only [← pay7_apply]
  pointwise [prodQ, k0_pay8]

theorem prodK_apply (x : Vec Ideal S512x1024 .f32) (g : Vec Ideal S1x1024 .f32) (w : Vec Ideal S1024x5120 .bf16) (r : Fin 512) (n : Fin 1024) :
    prodK x g w (ix2 r n) = projected (fun k => x (ix2 r k)) (fun k => g (ix2 0 k)) (fun j n => w (ix2 j n)) ⟨1024 + n.val, by omega⟩ := by
  unfold projected
  simp only [← pay7_apply]
  pointwise [prodK, k0_pay24]

theorem outV_apply (x : Vec Ideal S512x1024 .f32) (g : Vec Ideal S1x1024 .f32) (w : Vec Ideal S1024x5120 .bf16) (r : Fin 512) (n : Fin 1024) :
    outV x g w (ix2 r n) = projected (fun k => x (ix2 r k)) (fun k => g (ix2 0 k)) (fun j n => w (ix2 j n)) ⟨2048 + n.val, by omega⟩ := by
  unfold projected
  simp only [← pay7_apply]
  pointwise [outV, k0_pay44]

theorem outU_apply (x : Vec Ideal S512x1024 .f32) (g : Vec Ideal S1x1024 .f32) (w : Vec Ideal S1024x5120 .bf16) (r : Fin 512) (n : Fin 512) :
    outU x g w (ix2 r n) = projected (fun k => x (ix2 r k)) (fun k => g (ix2 0 k)) (fun j n => w (ix2 j n)) ⟨3072 + n.val, by omega⟩ := by
  unfold projected
  simp only [← pay7_apply]
  pointwise [outU, k0_pay5]

theorem outGate_apply (x : Vec Ideal S512x1024 .f32) (g : Vec Ideal S1x1024 .f32) (w : Vec Ideal S1024x5120 .bf16) (r : Fin 512) (n : Fin 1536) :
    outGate x g w (ix2 r n) = projected (fun k => x (ix2 r k)) (fun k => g (ix2 0 k)) (fun j n => w (ix2 j n)) ⟨3584 + n.val, by omega⟩ := by
  unfold projected
  simp only [← pay7_apply]
  pointwise [outGate, k0_pay6]

/-- One head's lanes turned, at an entry. -/
theorem turn_apply (v c a b : Vec Ideal S512x128 .f32) (r : Fin 512) (l : Fin 128) :
    turn 112#32 16#32 v c a b (ix2 r l) = v (ix2 r l) * c (ix2 r l) + v (ix2 r ⟨(l.val + 16) % 128, Nat.mod_lt _ (by norm_num)⟩) * a (ix2 r l)
      + v (ix2 r ⟨(l.val + 112) % 128, Nat.mod_lt _ (by norm_num)⟩) * b (ix2 r l) := by
  unfold turn
  have h1 : dynamicRotate 1 112#32 none v rotates_S512x128_d1 (ix2 r l) = v (ix2 r ⟨(l.val + 16) % 128, Nat.mod_lt _ (by norm_num)⟩) :=
    dynamicRotate_apply (s := S512x128) 1 112#32 v rotates_S512x128_d1 (ix2 r l) _ (fun b => match b with | ⟨0, _⟩ => rfl | ⟨1, _⟩ => by show (l.val + 16) % 128 = (l.val + 128 - 112 % 128) % 128; omega)
  have h2 : dynamicRotate 1 16#32 none v rotates_S512x128_d1 (ix2 r l) = v (ix2 r ⟨(l.val + 112) % 128, Nat.mod_lt _ (by norm_num)⟩) :=
    dynamicRotate_apply (s := S512x128) 1 16#32 v rotates_S512x128_d1 (ix2 r l) _ (fun b => match b with | ⟨0, _⟩ => rfl | ⟨1, _⟩ => by show (l.val + 112) % 128 = (l.val + 128 - 16 % 128) % 128; omega)
  exact congr (congrArg HAdd.hAdd (congrArg (fun y => v (ix2 r l) * c (ix2 r l) + y * a (ix2 r l)) h1)) (congrArg (fun y => y * b (ix2 r l)) h2)

theorem slices_head (h : Fin 8) : S512x1024.Slices ![0, 128 * h.val] S512x128 := by
  fin_cases h <;> decide

/-- The turned heads, at lane `l` of head `h`. -/
theorem turnAll_apply (p q : BitVec 32) (X : Vec Ideal S512x1024 .f32) (c a b : Vec Ideal S512x128 .f32) (r : Fin 512) (n : Fin 1024) :
    turnAll p q X c a b (ix2 r n) = turn p q (extractStridedSlice S512x128 ![0, 128 * (n.val / 128)] X (slices_head ⟨n.val / 128, by omega⟩)) c a b
      (ix2 r ⟨n.val % 128, Nat.mod_lt _ (by norm_num)⟩) :=
  concatenate_ofFn_apply (t := S512x1024) (s₁ := S512x128) 1 (N := 8)
    (fun h : Fin 8 => turn p q (extractStridedSlice S512x128 ![0, 128 * h.val] X (slices_head h)) c a b)
    concatenates_S512x128_S512x128_S512x128_S512x128_S512x128_S512x128_S512x128_S512x128_S512x1024_d1 rfl 128 rfl
    (ix2 r n) ⟨n.val / 128, by omega⟩ rfl (ix2 r ⟨n.val % 128, Nat.mod_lt _ (by norm_num)⟩) rfl
    (fun b hb => match b with | ⟨0, _⟩ => rfl | ⟨1, _⟩ => absurd rfl hb)

/-- The tables of a block of rows: `a` minus the sines on the first sixteen lanes, `b` the sines on the next sixteen, zero elsewhere; `c` the
    cosines on both, and one elsewhere. -/
structure Tables (c a b : Vec Ideal S512x128 .f32) (C S : Fin 512 → Fin 16 → EReal) : Prop where
  c : ∀ r (l : Fin 128), c (ix2 r l) = if h : l.val < 16 then C r ⟨l.val, h⟩ else if h' : l.val < 32 then C r ⟨l.val - 16, by omega⟩ else 1
  a : ∀ r (l : Fin 128), a (ix2 r l) = if h : l.val < 16 then -S r ⟨l.val, h⟩ else 0
  b : ∀ r (l : Fin 128), b (ix2 r l) = if h : l.val < 16 then 0 else if h' : l.val < 32 then S r ⟨l.val - 16, by omega⟩ else 0

/-- With those tables the turned heads are the rows turned by the angles. -/
theorem turnAll_eq (X : Vec Ideal S512x1024 .f32) {c a b : Vec Ideal S512x128 .f32} {C S : Fin 512 → Fin 16 → EReal} (T : Tables c a b C S)
    (r : Fin 512) (n : Fin 1024) :
    turnAll 112#32 16#32 X c a b (ix2 r n) = turned (fun n => X (ix2 r n)) (C r) (S r) n := by
  have hn := n.isLt
  have sl : ∀ (l : Fin 128) (k : Fin 1024), k.val = 128 * (n.val / 128) + l.val →
      extractStridedSlice S512x128 ![0, 128 * (n.val / 128)] X (slices_head ⟨n.val / 128, by omega⟩) (ix2 r l) = X (ix2 r k) := fun l k hk =>
    extractStridedSlice_apply (s := S512x1024) (t := S512x128) _ X _ (ix2 r l) (ix2 r k) (fun a => match a with
      | ⟨0, _⟩ => by show r.val = 0 + r.val; omega
      | ⟨1, _⟩ => hk)
  rw [turnAll_apply, turn_apply, T.c, T.a, T.b, sl _ n (by show _ = _ + n.val % 128; omega)]
  unfold turned
  dsimp only
  by_cases h : n.val % 128 < 16
  · rw [dif_pos h, dif_pos h, dif_pos h, dif_pos h, mul_zero, add_zero, sl _ ⟨n.val + 16, by omega⟩ (by show n.val + 16 = _ + (n.val % 128 + 16) % 128; omega),
      mul_neg, ← sub_eq_add_neg]
  · rw [dif_neg h, dif_neg h, dif_neg h, dif_neg h, mul_zero, add_zero]
    by_cases h' : n.val % 128 < 32
    · rw [dif_pos h', dif_pos h', dif_pos h', sl _ ⟨n.val - 16, by omega⟩ (by show n.val - 16 = _ + (n.val % 128 + 112) % 128; omega)]
    · rw [dif_neg h', dif_neg h', dif_neg h', mul_zero, add_zero, mul_one]

end Cert.Proof.Proj
-- ==== Proof.Proj.Ref.lean ====
module

public import proofs.«01_k».proof.Proof.Proj.Value
public import proofs.«01_k».proof.Proof.Gen.ProjReferenceIdeal.Read
public import Idealize.ShloMosaic.Lib.Pipeline.Value

@[expose] public section

noncomputable section

/-! The reference of the input projection read an entry at a time over the extended reals. -/

namespace Cert.Proof.Proj.Ref

open Cert.ProjReferenceIdeal Cert.ProjReferenceIdeal.Gen Cert.ProjReferenceIdeal.Read
open Idealize.ShloMosaic
open scoped BigOperators

/-- The cosine and the sine of position `t`'s angle `k`. -/
def cosAt (t : Fin 16384) (k : Fin 16) : EReal := val_main_v35 (F := Ideal) (ix2 t k)
def sinAt (t : Fin 16384) (k : Fin 16) : EReal := val_main_v37 (F := Ideal) (ix2 t k)

variable (x0 : (⟨S1x16384x1024, .f32⟩ : BufTy).Contents (Elt Ideal)) (x1 : (⟨S1024, .f32⟩ : BufTy).Contents (Elt Ideal))
  (x2 : (⟨S1024x5120, .f32⟩ : BufTy).Contents (Elt Ideal))

/-- Row `t` of the projection, at column `n`. -/
def proj (t : Fin 16384) (n : Fin 5120) : EReal :=
  projected (fun k => x0 (ix3 0 t k)) (fun k => x1 (ix1 k)) (fun j n => x2 (ix2 j n)) n

theorem v13_eq (t : Fin 16384) (j : Fin 1024) :
    val_main_v13 (F := Ideal) x0 x1 (ix3 0 t j) = normed (fun k => x0 (ix3 0 t k)) (fun k => x1 (ix1 k)) j := by
  have hsum : val_main_v2 (F := Ideal) x0 (idx_main_v3 (idx_main_v9 (ix3 0 t j))) = ∑ k : Fin 1024, x0 (ix3 0 t k) * x0 (ix3 0 t k) := by
    rw [val_main_v2_apply, val_main_cst_apply, show FloatOps.ofBits (F := Ideal) .f32 0x00000000#32 = 0 from Ideal.ofBits_zero_f32, zero_add]
    refine Finset.sum_congr rfl fun k _ => ?_
    have : idx_main_v2 (idx_main_v3 (idx_main_v9 (ix3 0 t j))) k = ix3 0 t k := by
      funext a; match a with | ⟨0, _⟩ => rfl | ⟨1, _⟩ => rfl | ⟨2, _⟩ => rfl
    rw [val_main_v1_apply, this]; rfl
  have i1 : idx_main_v11 (idx_main_v12 (ix3 0 t j)) = ix1 j := by
    funext a; match a with | ⟨0, _⟩ => rfl
  rw [val_main_v13_apply, val_main_v12_apply, val_main_v11_apply, i1, val_main_v10_apply, val_main_v9_apply, val_main_v8_apply, val_main_v7_apply,
    val_main_v6_apply, val_main_cst_1_apply, val_main_v5_apply, val_main_v4_apply, val_main_cst_0_apply, val_main_v3_apply, hsum]
  rfl

theorem v14_eq (t : Fin 16384) (n : Fin 5120) : val_main_v14 (F := Ideal) x0 x1 x2 (ix3 0 t n) = proj x0 x1 x2 t n := by
  unfold proj projected
  rw [val_main_v14_apply]
  refine Finset.sum_congr rfl fun k _ => ?_
  have i0 : lidx_main_v14 (ix3 0 t n) k = ix3 0 t k := by
    funext a; match a with | ⟨0, _⟩ => rfl | ⟨1, _⟩ => rfl | ⟨2, _⟩ => rfl
  have i1 : ridx_main_v14 (ix3 0 t n) k = ix2 k n := by
    funext a; match a with | ⟨0, _⟩ => rfl | ⟨1, _⟩ => rfl
  rw [i0, i1, v13_eq]

/-- The heads of `y` with their first 32 lanes turned. -/
def turn4 (y : (⟨S1x16384x8x128, .f32⟩ : BufTy).Contents (Elt Ideal)) : (⟨S1x16384x8x128, .f32⟩ : BufTy).Contents (Elt Ideal) :=
  concatenate S1x16384x8x128 3
    [⟨S1x16384x8x16, (subf (mulf (extractStridedSlice S1x16384x8x16 ![0, 0, 0, 0] y slices_S1x16384x8x128_S1x16384x8x16_0_0_0_0) (val_main_v42 (F := Ideal)))
        (mulf (extractStridedSlice S1x16384x8x16 ![0, 0, 0, 16] y slices_S1x16384x8x128_S1x16384x8x16_0_0_0_16) (val_main_v45 (F := Ideal))) : FVec Ideal S1x16384x8x16 .f32)⟩,
     ⟨S1x16384x8x16, (addf (mulf (extractStridedSlice S1x16384x8x16 ![0, 0, 0, 16] y slices_S1x16384x8x128_S1x16384x8x16_0_0_0_16) (val_main_v49 (F := Ideal)))
        (mulf (extractStridedSlice S1x16384x8x16 ![0, 0, 0, 0] y slices_S1x16384x8x128_S1x16384x8x16_0_0_0_0) (val_main_v52 (F := Ideal))) : FVec Ideal S1x16384x8x16 .f32)⟩,
     ⟨S1x16384x8x96, (extractStridedSlice S1x16384x8x96 ![0, 0, 0, 32] y slices_S1x16384x8x128_S1x16384x8x96_0_0_0_32 : FVec Ideal S1x16384x8x96 .f32)⟩]
    concatenates_S1x16384x8x16_S1x16384x8x16_S1x16384x8x96_S1x16384x8x128_d3

theorem v56_eq : val_main_v56 (F := Ideal) x0 x1 x2 = turn4 (val_main_v20 (F := Ideal) x0 x1 x2) := rfl
theorem v93_eq : val_main_v93 (F := Ideal) x0 x1 x2 = turn4 (val_main_v57 (F := Ideal) x0 x1 x2) := rfl

theorem cos_lo (t : Fin 16384) (h : Fin 8) (k : Fin 16) : val_main_v42 (F := Ideal) (ix4 0 t h k) = cosAt t k := by
  rw [val_main_v42_apply, val_main_v41_apply, val_main_v36_apply]
  exact congrArg (val_main_v35 (F := Ideal)) (by funext a; match a with | ⟨0, _⟩ => rfl | ⟨1, _⟩ => rfl)
theorem sin_lo (t : Fin 16384) (h : Fin 8) (k : Fin 16) : val_main_v45 (F := Ideal) (ix4 0 t h k) = sinAt t k := by
  rw [val_main_v45_apply, val_main_v44_apply, val_main_v38_apply]
  exact congrArg (val_main_v37 (F := Ideal)) (by funext a; match a with | ⟨0, _⟩ => rfl | ⟨1, _⟩ => rfl)

theorem turn4_apply (y : (⟨S1x16384x8x128, .f32⟩ : BufTy).Contents (Elt Ideal)) (p : Fin 1024 → EReal) (t : Fin 16384)
    (hy : ∀ n : Fin 1024, y (ix4 0 t ⟨n.val / 128, by omega⟩ ⟨n.val % 128, Nat.mod_lt _ (by norm_num)⟩) = p n) (n : Fin 1024) :
    turn4 y (ix4 0 t ⟨n.val / 128, by omega⟩ ⟨n.val % 128, Nat.mod_lt _ (by norm_num)⟩) = turned p (cosAt t) (sinAt t) n := by
  have hn := n.isLt
  have hd : ∀ k : Fin 1024, k.val / 128 < 8 := fun k => by omega
  have rd : ∀ (h : Fin 8) (l : Fin 128) (k : Fin 1024), h.val = k.val / 128 → l.val = k.val % 128 → y (ix4 0 t h l) = p k := fun h l k e1 e2 => by
    obtain rfl : h = ⟨k.val / 128, hd k⟩ := Fin.ext e1
    obtain rfl : l = ⟨k.val % 128, Nat.mod_lt _ (by norm_num)⟩ := Fin.ext e2
    exact hy k
  unfold turned turn4
  by_cases h1 : n.val % 128 < 16
  · rw [dif_pos h1]
    refine (concatenate_apply_piece (t := S1x16384x8x128) 3 _ _ _ 0 (by show 0 < 3; omega) S1x16384x8x16 _ rfl rfl 0 rfl (ix4 0 t ⟨n.val / 128, by omega⟩ ⟨n.val % 128, h1⟩)
      (fun b hb => match b with | ⟨0, _⟩ => rfl | ⟨1, _⟩ => rfl | ⟨2, _⟩ => rfl | ⟨3, _⟩ => absurd rfl hb) (Nat.zero_add _)).trans ?_
    show _ * _ - _ * _ = _
    rw [cos_lo, sin_lo]
    refine congr (congrArg HSub.hSub (congrArg (· * _) ?_)) (congrArg (· * _) ?_)
    · refine (extractStridedSlice_apply (s := S1x16384x8x128) (t := S1x16384x8x16) _ y _ _ (ix4 0 t ⟨n.val / 128, by omega⟩ ⟨n.val % 128, by omega⟩) ?_).trans (rd _ _ _ rfl rfl)
      exact fun a => match a with | ⟨0, _⟩ => rfl | ⟨1, _⟩ => by show t.val = 0 + t.val; omega | ⟨2, _⟩ => by show n.val / 128 = 0 + n.val / 128; omega | ⟨3, _⟩ => by show n.val % 128 = 0 + n.val % 128; omega
    · refine (extractStridedSlice_apply (s := S1x16384x8x128) (t := S1x16384x8x16) _ y _ _ (ix4 0 t ⟨n.val / 128, by omega⟩ ⟨n.val % 128 + 16, by omega⟩) ?_).trans
        (rd _ _ ⟨n.val + 16, by omega⟩ (by show n.val / 128 = (n.val + 16) / 128; omega) (by show n.val % 128 + 16 = (n.val + 16) % 128; omega))
      exact fun a => match a with | ⟨0, _⟩ => rfl | ⟨1, _⟩ => by show t.val = 0 + t.val; omega | ⟨2, _⟩ => by show n.val / 128 = 0 + n.val / 128; omega | ⟨3, _⟩ => by show n.val % 128 + 16 = 16 + n.val % 128; omega
  · rw [dif_neg h1]
    by_cases h2 : n.val % 128 < 32
    · rw [dif_pos h2]
      refine (concatenate_apply_piece (t := S1x16384x8x128) 3 _ _ _ 1 (by show 1 < 3; omega) S1x16384x8x16 _ rfl rfl 16 rfl (ix4 0 t ⟨n.val / 128, by omega⟩ ⟨n.val % 128 - 16, by omega⟩)
        (fun b hb => match b with | ⟨0, _⟩ => rfl | ⟨1, _⟩ => rfl | ⟨2, _⟩ => rfl | ⟨3, _⟩ => absurd rfl hb) (by show 16 + (n.val % 128 - 16) = n.val % 128; omega)).trans ?_
      show _ * _ + _ * _ = _
      refine congr (congrArg HAdd.hAdd (congr (congrArg HMul.hMul ?_) (cos_lo _ _ _))) (congr (congrArg HMul.hMul ?_) (sin_lo _ _ _))
      · refine (extractStridedSlice_apply (s := S1x16384x8x128) (t := S1x16384x8x16) _ y _ _ (ix4 0 t ⟨n.val / 128, by omega⟩ ⟨n.val % 128, by omega⟩) ?_).trans (rd _ _ _ rfl rfl)
        exact fun a => match a with | ⟨0, _⟩ => rfl | ⟨1, _⟩ => by show t.val = 0 + t.val; omega | ⟨2, _⟩ => by show n.val / 128 = 0 + n.val / 128; omega | ⟨3, _⟩ => by show n.val % 128 = 16 + (n.val % 128 - 16); omega
      · refine (extractStridedSlice_apply (s := S1x16384x8x128) (t := S1x16384x8x16) _ y _ _ (ix4 0 t ⟨n.val / 128, by omega⟩ ⟨n.val % 128 - 16, by omega⟩) ?_).trans
          (rd _ _ ⟨n.val - 16, by omega⟩ (by show n.val / 128 = (n.val - 16) / 128; omega) (by show n.val % 128 - 16 = (n.val - 16) % 128; omega))
        exact fun a => match a with | ⟨0, _⟩ => rfl | ⟨1, _⟩ => by show t.val = 0 + t.val; omega | ⟨2, _⟩ => by show n.val / 128 = 0 + n.val / 128; omega | ⟨3, _⟩ => by show n.val % 128 - 16 = 0 + (n.val % 128 - 16); omega
    · rw [dif_neg h2]
      refine (concatenate_apply_piece (t := S1x16384x8x128) 3 _ _ _ 2 (by show 2 < 3; omega) S1x16384x8x96 _ rfl rfl 32 rfl (ix4 0 t ⟨n.val / 128, by omega⟩ ⟨n.val % 128 - 32, by omega⟩)
        (fun b hb => match b with | ⟨0, _⟩ => rfl | ⟨1, _⟩ => rfl | ⟨2, _⟩ => rfl | ⟨3, _⟩ => absurd rfl hb) (by show 32 + (n.val % 128 - 32) = n.val % 128; omega)).trans ?_
      refine (extractStridedSlice_apply (s := S1x16384x8x128) (t := S1x16384x8x96) _ y _ _ (ix4 0 t ⟨n.val / 128, by omega⟩ ⟨n.val % 128, by omega⟩) ?_).trans (rd _ _ _ rfl rfl)
      exact fun a => match a with | ⟨0, _⟩ => rfl | ⟨1, _⟩ => by show t.val = 0 + t.val; omega | ⟨2, _⟩ => by show n.val / 128 = 0 + n.val / 128; omega | ⟨3, _⟩ => by show n.val % 128 = 32 + (n.val % 128 - 32); omega

/-- The layer's queries, keys, values, pooling inputs and gates at a row and a column. -/
def qAt (t : Fin 16384) (n : Fin 1024) : EReal := turned (fun n => proj x0 x1 x2 t ⟨n.val, by omega⟩) (cosAt t) (sinAt t) n
def kAt (t : Fin 16384) (n : Fin 1024) : EReal := turned (fun n => proj x0 x1 x2 t ⟨1024 + n.val, by omega⟩) (cosAt t) (sinAt t) n
def vAt (t : Fin 16384) (n : Fin 1024) : EReal := proj x0 x1 x2 t ⟨2048 + n.val, by omega⟩
def uAt (t : Fin 16384) (n : Fin 512) : EReal := proj x0 x1 x2 t ⟨3072 + n.val, by omega⟩
def gateAt (t : Fin 16384) (n : Fin 1536) : EReal := proj x0 x1 x2 t ⟨3584 + n.val, by omega⟩

theorem v20_eq (t : Fin 16384) (n : Fin 1024) :
    val_main_v20 (F := Ideal) x0 x1 x2 (ix4 0 t ⟨n.val / 128, by omega⟩ ⟨n.val % 128, Nat.mod_lt _ (by norm_num)⟩) = proj x0 x1 x2 t ⟨n.val, by omega⟩ := by
  have hn := n.isLt; have ht := t.isLt
  rw [val_main_v20_apply, val_main_v15_apply, ← v14_eq]
  refine congrArg (val_main_v14 (F := Ideal) x0 x1 x2) (funext fun a => Fin.ext ?_)
  match a with
  | ⟨0, _⟩ => rfl
  | ⟨1, _⟩ => show (((0 * 16384 + t.val) * 8 + n.val / 128) * 128 + n.val % 128) / 1024 % 16384 = t.val; omega
  | ⟨2, _⟩ => show (((0 * 16384 + t.val) * 8 + n.val / 128) * 128 + n.val % 128) % 1024 = n.val; omega

theorem v57_eq (t : Fin 16384) (n : Fin 1024) :
    val_main_v57 (F := Ideal) x0 x1 x2 (ix4 0 t ⟨n.val / 128, by omega⟩ ⟨n.val % 128, Nat.mod_lt _ (by norm_num)⟩) = proj x0 x1 x2 t ⟨1024 + n.val, by omega⟩ := by
  have hn := n.isLt; have ht := t.isLt
  rw [val_main_v57_apply, val_main_v16_apply, ← v14_eq]
  refine congrArg (val_main_v14 (F := Ideal) x0 x1 x2) (funext fun a => Fin.ext ?_)
  match a with
  | ⟨0, _⟩ => rfl
  | ⟨1, _⟩ => show (((0 * 16384 + t.val) * 8 + n.val / 128) * 128 + n.val % 128) / 1024 % 16384 = t.val; omega
  | ⟨2, _⟩ => show 1024 + (((0 * 16384 + t.val) * 8 + n.val / 128) * 128 + n.val % 128) % 1024 = 1024 + n.val; omega

theorem v17_eq (t : Fin 16384) (n : Fin 1024) : val_main_v17 (F := Ideal) x0 x1 x2 (ix3 0 t n) = vAt x0 x1 x2 t n := by
  unfold vAt
  rw [val_main_v17_apply, ← v14_eq]
  exact congrArg (val_main_v14 (F := Ideal) x0 x1 x2) (funext fun a => Fin.ext (match a with | ⟨0, _⟩ => rfl | ⟨1, _⟩ => rfl | ⟨2, _⟩ => rfl))

/-- The queries. -/
theorem v94_eq (t : Fin 16384) (n : Fin 1024) : val_main_v94 (F := Ideal) x0 x1 x2 (ix2 t n) = qAt x0 x1 x2 t n := by
  have hn := n.isLt; have ht := t.isLt
  unfold qAt
  rw [val_main_v94_apply, v56_eq, ← turn4_apply _ _ t (v20_eq x0 x1 x2 t) n]
  refine congrArg _ (funext fun a => Fin.ext ?_)
  match a with
  | ⟨0, _⟩ => rfl
  | ⟨1, _⟩ => show (t.val * 1024 + n.val) / 1024 % 16384 = t.val; omega
  | ⟨2, _⟩ => show (t.val * 1024 + n.val) / 128 % 8 = n.val / 128; omega
  | ⟨3, _⟩ => show (t.val * 1024 + n.val) % 128 = n.val % 128; omega

/-- The keys, the heads of a row one under the other. -/
theorem v95_eq (y : Fin 131072) (l : Fin 128) :
    val_main_v95 (F := Ideal) x0 x1 x2 (ix2 y l) = kAt x0 x1 x2 ⟨y.val / 8, by omega⟩ ⟨y.val % 8 * 128 + l.val, by omega⟩ := by
  have hl := l.isLt; have hy := y.isLt
  unfold kAt
  rw [val_main_v95_apply, v93_eq, ← turn4_apply _ _ _ (v57_eq x0 x1 x2 _)]
  refine congrArg _ (funext fun a => Fin.ext ?_)
  match a with
  | ⟨0, _⟩ => rfl
  | ⟨1, _⟩ => show (y.val * 128 + l.val) / 1024 % 16384 = y.val / 8; omega
  | ⟨2, _⟩ => show (y.val * 128 + l.val) / 128 % 8 = (y.val % 8 * 128 + l.val) / 128; omega
  | ⟨3, _⟩ => show (y.val * 128 + l.val) % 128 = (y.val % 8 * 128 + l.val) % 128; omega

/-- The keys rounded. -/
theorem v97_eq (t : Fin 16384) (n : Fin 1024) : val_main_v97 (F := Ideal) x0 x1 x2 (ix2 t n) = kAt x0 x1 x2 t n := by
  have hn := n.isLt; have ht := t.isLt
  unfold kAt
  rw [val_main_v97_apply]
  refine (val_main_v96_apply x0 x1 x2 _).trans ?_
  rw [v93_eq, ← turn4_apply _ _ t (v57_eq x0 x1 x2 t) n]
  refine congrArg _ (funext fun a => Fin.ext ?_)
  match a with
  | ⟨0, _⟩ => rfl
  | ⟨1, _⟩ => show (t.val * 1024 + n.val) / 1024 % 16384 = t.val; omega
  | ⟨2, _⟩ => show (t.val * 1024 + n.val) / 128 % 8 = n.val / 128; omega
  | ⟨3, _⟩ => show (t.val * 1024 + n.val) % 128 = n.val % 128; omega

/-- The values, the heads of a row one under the other. -/
theorem v98_eq (y : Fin 131072) (l : Fin 128) :
    val_main_v98 (F := Ideal) x0 x1 x2 (ix2 y l) = vAt x0 x1 x2 ⟨y.val / 8, by omega⟩ ⟨y.val % 8 * 128 + l.val, by omega⟩ := by
  have hl := l.isLt; have hy := y.isLt
  rw [val_main_v98_apply, ← v17_eq]
  refine congrArg _ (funext fun a => Fin.ext ?_)
  match a with
  | ⟨0, _⟩ => rfl
  | ⟨1, _⟩ => show (y.val * 128 + l.val) / 1024 % 16384 = y.val / 8; omega
  | ⟨2, _⟩ => show (y.val * 128 + l.val) % 1024 = y.val % 8 * 128 + l.val; omega

/-- The values transposed and rounded. -/
theorem v101_eq (n : Fin 1024) (t : Fin 16384) : val_main_v101 (F := Ideal) x0 x1 x2 (ix2 n t) = vAt x0 x1 x2 t n := by
  have hn := n.isLt; have ht := t.isLt
  rw [val_main_v101_apply]
  refine (val_main_v100_apply x0 x1 x2 _).trans ?_
  rw [val_main_v99_apply, ← v17_eq]
  refine congrArg _ (funext fun a => Fin.ext ?_)
  match a with
  | ⟨0, _⟩ => rfl
  | ⟨1, _⟩ => show (t.val * 1024 + n.val) / 1024 % 16384 = t.val; omega
  | ⟨2, _⟩ => show (t.val * 1024 + n.val) % 1024 = n.val; omega

/-- The inputs of the pooling mixer. -/
theorem v102_eq (t : Fin 16384) (n : Fin 512) : val_main_v102 (F := Ideal) x0 x1 x2 (ix2 t n) = uAt x0 x1 x2 t n := by
  have hn := n.isLt; have ht := t.isLt
  unfold uAt
  rw [val_main_v102_apply, val_main_v18_apply, ← v14_eq]
  refine congrArg (val_main_v14 (F := Ideal) x0 x1 x2) (funext fun a => Fin.ext ?_)
  match a with
  | ⟨0, _⟩ => rfl
  | ⟨1, _⟩ => show (t.val * 512 + n.val) / 512 % 16384 = t.val; omega
  | ⟨2, _⟩ => show 3072 + (t.val * 512 + n.val) % 512 = 3072 + n.val; omega

/-- The gates. -/
theorem v103_eq (t : Fin 16384) (n : Fin 1536) : val_main_v103 (F := Ideal) x0 x1 x2 (ix2 t n) = gateAt x0 x1 x2 t n := by
  have hn := n.isLt; have ht := t.isLt
  unfold gateAt
  rw [val_main_v103_apply, val_main_v19_apply, ← v14_eq]
  refine congrArg (val_main_v14 (F := Ideal) x0 x1 x2) (funext fun a => Fin.ext ?_)
  match a with
  | ⟨0, _⟩ => rfl
  | ⟨1, _⟩ => show (t.val * 1536 + n.val) / 1536 % 16384 = t.val; omega
  | ⟨2, _⟩ => show 3584 + (t.val * 1536 + n.val) % 1536 = 3584 + n.val; omega

end Cert.Proof.Proj.Ref
-- ==== Proof.Proj.Blocks.lean ====
module

public import proofs.«01_k».proof.Proof.Proj.Ref
public import Idealize.ShloMosaic.Lib.Pointwise
public import Idealize.ShloMosaic.Lib.IdealHost

@[expose] public section

set_option maxRecDepth 16384

noncomputable section

/-! The blocks the body of the input projection is called with, read off the arguments as launched: the host's reshapes and
    angle tables before the region, then the windows' rectangles. -/

namespace Cert.Proof.Proj

open Cert.ProjIdeal Cert.ProjIdeal.Gen
open Idealize.ShloMosaic Idealize.ShloMosaic.TcCoe Idealize.ShloMosaic.StableHlo

variable (m : (ℓ : Loc nD τ sig) → Buf (Elt Ideal) ℓ)

theorem V_main_v33 (c : Dev nD) : (V m c main_v33 : Vec Ideal S16384x1024 .f32)
    = shapeCast S16384x1024 (m ((c : Thread nD τ).loc main_arg0) : Vec Ideal S1x16384x1024 .f32) shapeCasts_S1x16384x1024_S16384x1024 := by
  unfold V; simp only [hostOps0]; after_results_simp <;> rfl
theorem V_main_v35 (c : Dev nD) : (V m c main_v35 : Vec Ideal S1x1024 .f32)
    = shapeCast S1x1024 (m ((c : Thread nD τ).loc main_arg1) : Vec Ideal S1024 .f32) shapeCasts_S1024_S1x1024 := by
  unfold V; simp only [hostOps0]; after_results_simp <;> rfl
theorem V_main_v34 (c : Dev nD) : (V m c main_v34 : Vec Ideal S1024x5120 .bf16)
    = (m ((c : Thread nD τ).loc main_arg2) : Vec Ideal S1024x5120 .f32) := by
  unfold V; simp only [hostOps0]; after_results_simp <;> rfl

/-- The cosines and sines of the angles, a row per position. -/
abbrev cosTab : Vec Ideal S16384x16 .f32 := Cert.ProjReferenceIdeal.Read.val_main_v35 (F := Ideal)
abbrev sinTab : Vec Ideal S16384x16 .f32 := Cert.ProjReferenceIdeal.Read.val_main_v37 (F := Ideal)
/-- Zeros on sixteen lanes; a constant on the last 96. -/
abbrev zeros16 : Vec Ideal S16384x16 .f32 := broadcastInDim S16384x16 ![] bcast_S_S16384x16 (constant (F := Ideal) S_ .f32 0x00000000#32 : FVec Ideal S_ .f32)
abbrev rest96 (w : BitVec 32) : Vec Ideal S16384x96 .f32 := broadcastInDim S16384x96 ![] bcast_S_S16384x96 (constant (F := Ideal) S_ .f32 w : FVec Ideal S_ .f32)

/-- Three tables side by side. -/
def beside (p q : Vec Ideal S16384x16 .f32) (z : Vec Ideal S16384x96 .f32) : Vec Ideal S16384x128 .f32 :=
  concatenate S16384x128 1 [⟨S16384x16, p⟩, ⟨S16384x16, q⟩, ⟨S16384x96, z⟩] concatenates_S16384x16_S16384x16_S16384x96_S16384x128_d1

/-- A table through the host's reshapes. -/
def reshaped (y : Vec Ideal S16384x128 .f32) : Vec Ideal S16384x128 .f32 :=
  shapeCast S16384x128 (broadcastInDim S1x16384x1x128 ![0, 1, 2, 3] bcast_S1x16384x1x128_S1x16384x1x128_0_1_2_3
    (shapeCast S1x16384x1x128 y shapeCasts_S16384x128_S1x16384x1x128)) shapeCasts_S1x16384x1x128_S16384x128

theorem beside_apply (p q : Vec Ideal S16384x16 .f32) (z : Vec Ideal S16384x96 .f32) (t : Fin 16384) (l : Fin 128) :
    beside p q z (ix2 t l) = if h : l.val < 16 then p (ix2 t ⟨l.val, h⟩) else if h' : l.val < 32 then q (ix2 t ⟨l.val - 16, by omega⟩)
      else z (ix2 t ⟨l.val - 32, by omega⟩) := by
  have hl := l.isLt
  unfold beside
  by_cases h : l.val < 16
  · rw [dif_pos h]
    exact concatenate_apply_piece (t := S16384x128) 1 [⟨S16384x16, p⟩, ⟨S16384x16, q⟩, ⟨S16384x96, z⟩] _ (ix2 t l) 0 (by show 0 < 3; omega) S16384x16 p rfl rfl 0 rfl (ix2 t ⟨l.val, h⟩)
      (fun b hb => match b with | ⟨0, _⟩ => rfl | ⟨1, _⟩ => absurd rfl hb) (Nat.zero_add _)
  by_cases h' : l.val < 32
  · rw [dif_neg h, dif_pos h']
    exact concatenate_apply_piece (t := S16384x128) 1 [⟨S16384x16, p⟩, ⟨S16384x16, q⟩, ⟨S16384x96, z⟩] _ (ix2 t l) 1 (by show 1 < 3; omega) S16384x16 q rfl rfl 16 rfl (ix2 t ⟨l.val - 16, by omega⟩)
      (fun b hb => match b with | ⟨0, _⟩ => rfl | ⟨1, _⟩ => absurd rfl hb) (by show 16 + (l.val - 16) = l.val; omega)
  · rw [dif_neg h, dif_neg h']
    exact concatenate_apply_piece (t := S16384x128) 1 [⟨S16384x16, p⟩, ⟨S16384x16, q⟩, ⟨S16384x96, z⟩] _ (ix2 t l) 2 (by show 2 < 3; omega) S16384x96 z rfl rfl 32 rfl (ix2 t ⟨l.val - 32, by omega⟩)
      (fun b hb => match b with | ⟨0, _⟩ => rfl | ⟨1, _⟩ => absurd rfl hb) (by show 32 + (l.val - 32) = l.val; omega)

theorem reshaped_apply (y : Vec Ideal S16384x128 .f32) (t : Fin 16384) (l : Fin 128) : reshaped y (ix2 t l) = y (ix2 t l) := by
  pointwise [reshaped]

theorem V_main_v26 (c : Dev nD) : (V m c main_v26 : Vec Ideal S16384x128 .f32) = reshaped (beside cosTab cosTab (rest96 0x3F800000#32)) := by
  unfold V; simp only [hostOps0]; after_results_simp; try dsimp only [Matrix.cons_val]
  refine congrArg reshaped ?_
  show beside _ _ _ = beside _ _ _
  congr 1 <;> (try after_results_simp) <;> rfl
theorem V_main_v29 (c : Dev nD) : (V m c main_v29 : Vec Ideal S16384x128 .f32) = reshaped (beside (Host.negf (φ := .f32) sinTab : FVec Ideal S16384x16 .f32) zeros16 (rest96 0x00000000#32)) := by
  unfold V; simp only [hostOps0]; after_results_simp; try dsimp only [Matrix.cons_val]
  refine congrArg reshaped ?_
  show beside _ _ _ = beside _ _ _
  congr 1 <;> (try after_results_simp) <;> rfl
theorem V_main_v32 (c : Dev nD) : (V m c main_v32 : Vec Ideal S16384x128 .f32) = reshaped (beside zeros16 sinTab (rest96 0x00000000#32)) := by
  unfold V; simp only [hostOps0]; after_results_simp; try dsimp only [Matrix.cons_val]
  refine congrArg reshaped ?_
  show beside _ _ _ = beside _ _ _
  congr 1 <;> (try after_results_simp) <;> rfl

/-- Where a block's row sits in its array. -/
def rowAt (t : Fin cfg0.N) (r : Fin 512) : Fin 16384 := ⟨512 * t.val + r.val, by have h : t.val < 32 := t.isLt; omega⟩

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = 0 ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = t.val ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)

theorem emb_0 (t : Fin cfg0.N) (r : Fin 512) (l : Fin 1024) :
    ((cfg0.win 0).blk t).view.emb (ix2 r l : S512x1024.Idx) = (ix2 (rowAt t r) l : S16384x1024.Idx) := by
  obtain ⟨e0, e1⟩ := index_0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega
theorem emb_1 (t : Fin cfg0.N) (j : S1x1024.Idx) : ((cfg0.win 1).blk t).view.emb j = j := by
  obtain ⟨e0, e1⟩ := index_1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb_2 (t : Fin cfg0.N) (j : S1024x5120.Idx) : ((cfg0.win 2).blk t).view.emb j = j := by
  obtain ⟨e0, e1⟩ := index_2 t
  funext a; apply Fin.ext
  match a with
  | ⟨0, _⟩ => show win0_2.index t (0 : Fin 2) * 1024 + 1 * (j 0).val = (j 0).val; omega
  | ⟨1, _⟩ => show win0_2.index t (1 : Fin 2) * 5120 + 1 * (j 1).val = (j 1).val; omega
theorem emb_3 (t : Fin cfg0.N) (r : Fin 512) (l : Fin 128) :
    ((cfg0.win 3).blk t).view.emb (ix2 r l : S512x128.Idx) = (ix2 (rowAt t r) l : S16384x128.Idx) := by
  obtain ⟨e0, e1⟩ := index_3 t
  funext a; apply Fin.ext
  match a with
  | ⟨0, _⟩ => show win0_3.index t (0 : Fin 2) * 512 + 1 * r.val = 512 * t.val + r.val; omega
  | ⟨1, _⟩ => show win0_3.index t (1 : Fin 2) * 128 + 1 * l.val = l.val; omega
theorem emb_4 (t : Fin cfg0.N) (r : Fin 512) (l : Fin 128) :
    ((cfg0.win 4).blk t).view.emb (ix2 r l : S512x128.Idx) = (ix2 (rowAt t r) l : S16384x128.Idx) := by
  obtain ⟨e0, e1⟩ := index_4 t
  funext a; apply Fin.ext
  match a with
  | ⟨0, _⟩ => show win0_4.index t (0 : Fin 2) * 512 + 1 * r.val = 512 * t.val + r.val; omega
  | ⟨1, _⟩ => show win0_4.index t (1 : Fin 2) * 128 + 1 * l.val = l.val; omega
theorem emb_5 (t : Fin cfg0.N) (r : Fin 512) (l : Fin 128) :
    ((cfg0.win 5).blk t).view.emb (ix2 r l : S512x128.Idx) = (ix2 (rowAt t r) l : S16384x128.Idx) := by
  obtain ⟨e0, e1⟩ := index_5 t
  funext a; apply Fin.ext
  match a with
  | ⟨0, _⟩ => show win0_5.index t (0 : Fin 2) * 512 + 1 * r.val = 512 * t.val + r.val; omega
  | ⟨1, _⟩ => show win0_5.index t (1 : Fin 2) * 128 + 1 * l.val = l.val; omega

/-- The activations' block at an entry, then the gain's and the weights'. -/
theorem iblk_0 (c : Dev nD) (t : Fin cfg0.N) (r : Fin 512) (l : Fin 1024) :
    (iblk m c 0 t : Vec Ideal S512x1024 .f32) (ix2 r l) = (m ((c : Thread nD τ).loc main_arg0) : Vec Ideal S1x16384x1024 .f32) (ix3 0 (rowAt t r) l) := by
  show (V m c main_v33 : Vec Ideal S16384x1024 .f32) (((cfg0.win 0).blk t).view.emb (ix2 r l : S512x1024.Idx)) = _
  rw [emb_0, V_main_v33]
  exact shapeCast_apply _ _ _ _ (by
    show (S1x16384x1024.rowMajor (ix3 0 (rowAt t r) l)).val = _
    rewrite [Shape.rowMajor_val_three, Shape.rowMajor_val_two]
    show (0 * 16384 + (rowAt t r).val) * 1024 + l.val = (rowAt t r).val * 1024 + l.val
    omega)
theorem iblk_1 (c : Dev nD) (t : Fin cfg0.N) (x : Fin 1024) :
    (iblk m c 1 t : Vec Ideal S1x1024 .f32) (ix2 0 x) = (m ((c : Thread nD τ).loc main_arg1) : Vec Ideal S1024 .f32) (ix1 x) := by
  show (V m c main_v35 : Vec Ideal S1x1024 .f32) (((cfg0.win 1).blk t).view.emb (ix2 0 x : S1x1024.Idx)) = _
  rw [emb_1, V_main_v35]; pointwise
theorem iblk_2 (c : Dev nD) (t : Fin cfg0.N) (j : Fin 1024) (n : Fin 5120) :
    (iblk m c 2 t : Vec Ideal S1024x5120 .bf16) (ix2 j n) = (m ((c : Thread nD τ).loc main_arg2) : Vec Ideal S1024x5120 .f32) (ix2 j n) := by
  show (V m c main_v34 : Vec Ideal S1024x5120 .bf16) (((cfg0.win 2).blk t).view.emb (ix2 j n : S1024x5120.Idx)) = _
  rw [emb_2, V_main_v34]

/-- The tables' blocks. -/
theorem tables (c : Dev nD) (t : Fin cfg0.N) :
    Tables (k0_pay9 (iblk m c 3 t)) (k0_pay10 (iblk m c 4 t)) (k0_pay11 (iblk m c 5 t))
      (fun r => Ref.cosAt (rowAt t r)) (fun r => Ref.sinAt (rowAt t r)) := by
  have h3 : ∀ y : Vec Ideal S512x128 .f32, k0_pay9 (F := Ideal) y = y := fun y => shapeCast_self y _
  have h4 : ∀ y : Vec Ideal S512x128 .f32, k0_pay10 (F := Ideal) y = y := fun y => shapeCast_self y _
  have h5 : ∀ y : Vec Ideal S512x128 .f32, k0_pay11 (F := Ideal) y = y := fun y => shapeCast_self y _
  have one : ∀ y, rest96 0x3F800000#32 y = 1 := fun y => by pointwise [rest96]
  have zero : ∀ y, rest96 0x00000000#32 y = 0 := fun y => by pointwise [rest96]
  have zero' : ∀ y, zeros16 y = 0 := fun y => by pointwise [zeros16]
  refine ⟨fun r l => ?_, fun r l => ?_, fun r l => ?_⟩
  · rw [h3]
    show (V m c main_v26 : Vec Ideal S16384x128 .f32) (((cfg0.win 3).blk t).view.emb (ix2 r l : S512x128.Idx)) = _
    rw [emb_3, V_main_v26, reshaped_apply, beside_apply]
    simp only [one]; rfl
  · rw [h4]
    show (V m c main_v29 : Vec Ideal S16384x128 .f32) (((cfg0.win 4).blk t).view.emb (ix2 r l : S512x128.Idx)) = _
    rw [emb_4, V_main_v29, reshaped_apply, beside_apply]
    simp only [zero, zero', dite_eq_ite, ite_self]; rfl
  · rw [h5]
    show (V m c main_v32 : Vec Ideal S16384x128 .f32) (((cfg0.win 5).blk t).view.emb (ix2 r l : S512x128.Idx)) = _
    rw [emb_5, V_main_v32, reshaped_apply, beside_apply]
    simp only [zero, zero']; rfl

end Cert.Proof.Proj
-- ==== Proof.Proj.Array.lean ====
module

public import proofs.«01_k».proof.Proof.Proj.Blocks
public import proofs.«01_k».proof.Proof.Proj.Run

@[expose] public section

set_option maxRecDepth 16384

noncomputable section

/-! The seven result arrays of the input projection after the run: at every entry, what the reference has there. -/

namespace Cert.Proof.Proj

open Cert.ProjIdeal Cert.ProjIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The activations, the gain and the weights as launched. -/
abbrev X (c : Dev nD) : Vec Ideal S1x16384x1024 .f32 := m ((c : Thread nD τ).loc main_arg0)
abbrev N (c : Dev nD) : Vec Ideal S1024 .f32 := m ((c : Thread nD τ).loc main_arg1)
abbrev W (c : Dev nD) : Vec Ideal S1024x5120 .f32 := m ((c : Thread nD τ).loc main_arg2)

/-- A row of a block's projection is the row of the whole one. -/
theorem row_proj (c : Dev nD) (t : Fin cfg0.N) (r : Fin 512) (n : Fin 5120) :
    projected (fun k => (iblk m c 0 t : Vec Ideal S512x1024 .f32) (ix2 r k)) (fun k => (iblk m c 1 t : Vec Ideal S1x1024 .f32) (ix2 0 k))
      (fun j n => (iblk m c 2 t : Vec Ideal S1024x5120 .bf16) (ix2 j n)) n = Ref.proj (X m c) (N m c) (W m c) (rowAt t r) n := by
  unfold Ref.proj
  simp only [iblk_0, iblk_1, iblk_2]

theorem q_at (c : Dev nD) (t : Fin cfg0.N) (r : Fin 512) (n : Fin 1024) :
    outQ (iblk m c 0 t) (iblk m c 1 t) (iblk m c 2 t) (iblk m c 3 t) (iblk m c 4 t) (iblk m c 5 t) (ix2 r n)
      = Ref.qAt (X m c) (N m c) (W m c) (rowAt t r) n := by
  unfold outQ Ref.qAt
  rw [turnAll_eq _ (tables m c t)]
  simp only [prodQ_apply, row_proj]
theorem k_at (c : Dev nD) (t : Fin cfg0.N) (r : Fin 512) (n : Fin 1024) :
    outK (iblk m c 0 t) (iblk m c 1 t) (iblk m c 2 t) (iblk m c 3 t) (iblk m c 4 t) (iblk m c 5 t) (ix2 r n)
      = Ref.kAt (X m c) (N m c) (W m c) (rowAt t r) n := by
  unfold outK Ref.kAt
  rw [turnAll_eq _ (tables m c t)]
  simp only [prodK_apply, row_proj]
theorem v_at (c : Dev nD) (t : Fin cfg0.N) (r : Fin 512) (n : Fin 1024) :
    outV (iblk m c 0 t) (iblk m c 1 t) (iblk m c 2 t) (ix2 r n) = Ref.vAt (X m c) (N m c) (W m c) (rowAt t r) n :=
  (outV_apply _ _ _ r n).trans (row_proj m c t r _)
theorem u_at (c : Dev nD) (t : Fin cfg0.N) (r : Fin 512) (n : Fin 512) :
    outU (iblk m c 0 t) (iblk m c 1 t) (iblk m c 2 t) (ix2 r n) = Ref.uAt (X m c) (N m c) (W m c) (rowAt t r) n :=
  (outU_apply _ _ _ r n).trans (row_proj m c t r _)
theorem gate_at (c : Dev nD) (t : Fin cfg0.N) (r : Fin 512) (n : Fin 1536) :
    outGate (iblk m c 0 t) (iblk m c 1 t) (iblk m c 2 t) (ix2 r n) = Ref.gateAt (X m c) (N m c) (W m c) (rowAt t r) n :=
  (outGate_apply _ _ _ r n).trans (row_proj m c t r _)

/-- The row and the lane of `y`'s head: the heads of a row lie one under the other. -/
def rowOf (y : Fin 131072) : Fin 16384 := ⟨y.val / 8, by omega⟩
def laneOf (y : Fin 131072) (l : Fin 128) : Fin 1024 := ⟨y.val % 8 * 128 + l.val, by omega⟩

/-- The results: queries, keys, the keys rounded, values, the values transposed and rounded, pooling inputs, gates. -/
def G6 (c : Dev nD) : Vec Ideal S16384x1024 .f32 := fun i => Ref.qAt (X m c) (N m c) (W m c) (i 0) (i 1)
def G7 (c : Dev nD) : Vec Ideal S131072x128 .f32 := fun i => Ref.kAt (X m c) (N m c) (W m c) (rowOf (i 0)) (laneOf (i 0) (i 1))
def G8 (c : Dev nD) : Vec Ideal S16384x1024 .bf16 := fun i => Ref.kAt (X m c) (N m c) (W m c) (i 0) (i 1)
def G9 (c : Dev nD) : Vec Ideal S131072x128 .f32 := fun i => Ref.vAt (X m c) (N m c) (W m c) (rowOf (i 0)) (laneOf (i 0) (i 1))
def G10 (c : Dev nD) : Vec Ideal S1024x16384 .bf16 := fun i => Ref.vAt (X m c) (N m c) (W m c) (i 1) (i 0)
def G11 (c : Dev nD) : Vec Ideal S16384x512 .f32 := fun i => Ref.uAt (X m c) (N m c) (W m c) (i 0) (i 1)
def G12 (c : Dev nD) : Vec Ideal S16384x1536 .f32 := fun i => Ref.gateAt (X m c) (N m c) (W m c) (i 0) (i 1)

/-- Where a block's row sits in an array of heads. -/
def headAt (t : Fin cfg0.N) (r : Fin 4096) : Fin 131072 := ⟨4096 * t.val + r.val, by have h : t.val < 32 := t.isLt; omega⟩

theorem rowAt_surj (y : Fin 16384) : ∃ t r, rowAt t r = y :=
  ⟨⟨y.val / 512, by show _ < 32; omega⟩, ⟨y.val % 512, Nat.mod_lt _ (by norm_num)⟩, Fin.ext (by show 512 * (y.val / 512) + y.val % 512 = y.val; omega)⟩
theorem headAt_surj (y : Fin 131072) : ∃ t r, headAt t r = y :=
  ⟨⟨y.val / 4096, by show _ < 32; omega⟩, ⟨y.val % 4096, Nat.mod_lt _ (by norm_num)⟩, Fin.ext (by show 4096 * (y.val / 4096) + y.val % 4096 = y.val; omega)⟩

/-- A row of heads in a block: its row and its lanes. -/
theorem rowOf_headAt (t : Fin cfg0.N) (r : Fin 4096) : rowOf (headAt t r) = rowAt t ⟨r.val / 8, by omega⟩ :=
  Fin.ext (by show (4096 * t.val + r.val) / 8 = 512 * t.val + r.val / 8; omega)
theorem laneOf_headAt (t : Fin cfg0.N) (r : Fin 4096) (l : Fin 128) : laneOf (headAt t r) l = ⟨r.val % 8 * 128 + l.val, by omega⟩ :=
  Fin.ext (by show (4096 * t.val + r.val) % 8 * 128 + l.val = r.val % 8 * 128 + l.val; omega)

theorem index_6 : ∀ t : Fin cfg0.N, win0_6.index t (0 : Fin 2) = t.val ∧ win0_6.index t (1 : Fin 2) = 0 := (by decide +kernel : ∀ t : Fin grid0.N, _)
theorem index_7 : ∀ t : Fin cfg0.N, win0_7.index t (0 : Fin 2) = t.val ∧ win0_7.index t (1 : Fin 2) = 0 := (by decide +kernel : ∀ t : Fin grid0.N, _)
theorem index_8 : ∀ t : Fin cfg0.N, win0_8.index t (0 : Fin 2) = t.val ∧ win0_8.index t (1 : Fin 2) = 0 := (by decide +kernel : ∀ t : Fin grid0.N, _)
theorem index_9 : ∀ t : Fin cfg0.N, win0_9.index t (0 : Fin 2) = t.val ∧ win0_9.index t (1 : Fin 2) = 0 := (by decide +kernel : ∀ t : Fin grid0.N, _)
theorem index_10 : ∀ t : Fin cfg0.N, win0_10.index t (0 : Fin 2) = 0 ∧ win0_10.index t (1 : Fin 2) = t.val := (by decide +kernel : ∀ t : Fin grid0.N, _)
theorem index_11 : ∀ t : Fin cfg0.N, win0_11.index t (0 : Fin 2) = t.val ∧ win0_11.index t (1 : Fin 2) = 0 := (by decide +kernel : ∀ t : Fin grid0.N, _)
theorem index_12 : ∀ t : Fin cfg0.N, win0_12.index t (0 : Fin 2) = t.val ∧ win0_12.index t (1 : Fin 2) = 0 := (by decide +kernel : ∀ t : Fin grid0.N, _)

theorem emb_6 (t : Fin cfg0.N) (r : Fin 512) (l : Fin 1024) :
    ((cfg0.win 6).blk t).view.emb (ix2 r l : S512x1024.Idx) = (ix2 (rowAt t r) l : S16384x1024.Idx) := by
  obtain ⟨e0, e1⟩ := index_6 t
  funext a; apply Fin.ext
  match a with
  | ⟨0, _⟩ => show win0_6.index t (0 : Fin 2) * 512 + 1 * r.val = 512 * t.val + r.val; omega
  | ⟨1, _⟩ => show win0_6.index t (1 : Fin 2) * 1024 + 1 * l.val = l.val; omega
theorem emb_7 (t : Fin cfg0.N) (r : Fin 4096) (l : Fin 128) :
    ((cfg0.win 7).blk t).view.emb (ix2 r l : S4096x128.Idx) = (ix2 (headAt t r) l : S131072x128.Idx) := by
  obtain ⟨e0, e1⟩ := index_7 t
  funext a; apply Fin.ext
  match a with
  | ⟨0, _⟩ => show win0_7.index t (0 : Fin 2) * 4096 + 1 * r.val = 4096 * t.val + r.val; omega
  | ⟨1, _⟩ => show win0_7.index t (1 : Fin 2) * 128 + 1 * l.val = l.val; omega
theorem emb_8 (t : Fin cfg0.N) (r : Fin 512) (l : Fin 1024) :
    ((cfg0.win 8).blk t).view.emb (ix2 r l : S512x1024.Idx) = (ix2 (rowAt t r) l : S16384x1024.Idx) := by
  obtain ⟨e0, e1⟩ := index_8 t
  funext a; apply Fin.ext
  match a with
  | ⟨0, _⟩ => show win0_8.index t (0 : Fin 2) * 512 + 1 * r.val = 512 * t.val + r.val; omega
  | ⟨1, _⟩ => show win0_8.index t (1 : Fin 2) * 1024 + 1 * l.val = l.val; omega
theorem emb_9 (t : Fin cfg0.N) (r : Fin 4096) (l : Fin 128) :
    ((cfg0.win 9).blk t).view.emb (ix2 r l : S4096x128.Idx) = (ix2 (headAt t r) l : S131072x128.Idx) := by
  obtain ⟨e0, e1⟩ := index_9 t
  funext a; apply Fin.ext
  match a with
  | ⟨0, _⟩ => show win0_9.index t (0 : Fin 2) * 4096 + 1 * r.val = 4096 * t.val + r.val; omega
  | ⟨1, _⟩ => show win0_9.index t (1 : Fin 2) * 128 + 1 * l.val = l.val; omega
theorem emb_11 (t : Fin cfg0.N) (r : Fin 512) (l : Fin 512) :
    ((cfg0.win 11).blk t).view.emb (ix2 r l : S512x512.Idx) = (ix2 (rowAt t r) l : S16384x512.Idx) := by
  obtain ⟨e0, e1⟩ := index_11 t
  funext a; apply Fin.ext
  match a with
  | ⟨0, _⟩ => show win0_11.index t (0 : Fin 2) * 512 + 1 * r.val = 512 * t.val + r.val; omega
  | ⟨1, _⟩ => show win0_11.index t (1 : Fin 2) * 512 + 1 * l.val = l.val; omega
theorem emb_12 (t : Fin cfg0.N) (r : Fin 512) (l : Fin 1536) :
    ((cfg0.win 12).blk t).view.emb (ix2 r l : S512x1536.Idx) = (ix2 (rowAt t r) l : S16384x1536.Idx) := by
  obtain ⟨e0, e1⟩ := index_12 t
  funext a; apply Fin.ext
  match a with
  | ⟨0, _⟩ => show win0_12.index t (0 : Fin 2) * 512 + 1 * r.val = 512 * t.val + r.val; omega
  | ⟨1, _⟩ => show win0_12.index t (1 : Fin 2) * 1536 + 1 * l.val = l.val; omega
theorem emb_10 (t : Fin cfg0.N) (n : Fin 1024) (r : Fin 512) :
    ((cfg0.win 10).blk t).view.emb (ix2 n r : S1024x512.Idx) = (ix2 n (rowAt t r) : S1024x16384.Idx) := by
  obtain ⟨e0, e1⟩ := index_10 t
  funext a; apply Fin.ext
  match a with
  | ⟨0, _⟩ => show win0_10.index t (0 : Fin 2) * 1024 + 1 * n.val = n.val; omega
  | ⟨1, _⟩ => show win0_10.index t (1 : Fin 2) * 512 + 1 * r.val = 512 * t.val + r.val; omega

/-- A result array whose blocks are each written back, and which every entry of lies in one of, is what its blocks are. -/
theorem final_of (c : Dev nD) (k : Fin 13) (G : Buf (Elt Ideal) ((cfg0.win k).arr.view.loc (c.tc : Thread nD τ)))
    (hflush : ∀ t : Fin cfg0.N, (cfg0.win k).flush t = true)
    (hval : ∀ t : Fin cfg0.N, (dats m 0 c).flushed k t = ((cfg0.win k).blk t).view.read (Elt Ideal) G)
    (hcover : ∀ i : ((cfg0.win k).arr.view.loc (c.tc : Thread nD τ)).2.ty.Idx, ∃ t j, ((cfg0.win k).blk t).view.emb j = i) : (dats m 0 c).arrAt k cfg0.N = G :=
  (dats m 0 c).arrAt_eq_of_cover k G (fun t _ => hval t) (fun i => by
    obtain ⟨t, j, rfl⟩ := hcover i
    exact ⟨t, hflush t, ((cfg0.win k).blk t).view.emb_mem_set j⟩)

theorem final_6 (c : Dev nD) : (dats m 0 c).arrAt 6 cfg0.N = G6 m c :=
  final_of m c 6 (G6 m c) flush0_6 (fun t => by
    show (cfg0.win 6).cut (grid0.coords t) ((dats m 0 c).after 6 t) = _
    rw [after_6]
    exact funext fun j : S512x1024.Idx => by
      obtain ⟨r, n, rfl⟩ : ∃ (r : Fin 512) (n : Fin 1024), j = ix2 r n := ⟨_, _, eq_ix2 j⟩
      show _ = G6 m c (((cfg0.win 6).blk t).view.emb (ix2 r n : S512x1024.Idx))
      rw [emb_6]
      exact q_at m c t r n) (fun i : S16384x1024.Idx => by
    obtain ⟨r, n, rfl⟩ : ∃ (r : Fin 16384) (n : Fin 1024), i = ix2 r n := ⟨_, _, eq_ix2 i⟩
    obtain ⟨t, r, rfl⟩ := rowAt_surj r
    exact ⟨t, _, emb_6 t r n⟩)
theorem final_7 (c : Dev nD) : (dats m 0 c).arrAt 7 cfg0.N = G7 m c :=
  final_of m c 7 (G7 m c) flush0_7 (fun t => by
    show (cfg0.win 7).cut (grid0.coords t) ((dats m 0 c).after 7 t) = _
    rw [after_7]
    exact funext fun j : S4096x128.Idx => by
      obtain ⟨r, n, rfl⟩ : ∃ (r : Fin 4096) (n : Fin 128), j = ix2 r n := ⟨_, _, eq_ix2 j⟩
      show _ = G7 m c (((cfg0.win 7).blk t).view.emb (ix2 r n : S4096x128.Idx))
      rw [emb_7]
      show _ = Ref.kAt _ _ _ (rowOf (headAt t r)) (laneOf (headAt t r) n)
      rw [rowOf_headAt, laneOf_headAt]
      exact k_at m c t _ _) (fun i : S131072x128.Idx => by
    obtain ⟨r, n, rfl⟩ : ∃ (r : Fin 131072) (n : Fin 128), i = ix2 r n := ⟨_, _, eq_ix2 i⟩
    obtain ⟨t, r, rfl⟩ := headAt_surj r
    exact ⟨t, _, emb_7 t r n⟩)
theorem final_8 (c : Dev nD) : (dats m 0 c).arrAt 8 cfg0.N = G8 m c :=
  final_of m c 8 (G8 m c) flush0_8 (fun t => by
    show (cfg0.win 8).cut (grid0.coords t) ((dats m 0 c).after 8 t) = _
    rw [after_8]
    exact funext fun j : S512x1024.Idx => by
      obtain ⟨r, n, rfl⟩ : ∃ (r : Fin 512) (n : Fin 1024), j = ix2 r n := ⟨_, _, eq_ix2 j⟩
      show _ = G8 m c (((cfg0.win 8).blk t).view.emb (ix2 r n : S512x1024.Idx))
      rw [emb_8]
      exact k_at m c t r n) (fun i : S16384x1024.Idx => by
    obtain ⟨r, n, rfl⟩ : ∃ (r : Fin 16384) (n : Fin 1024), i = ix2 r n := ⟨_, _, eq_ix2 i⟩
    obtain ⟨t, r, rfl⟩ := rowAt_surj r
    exact ⟨t, _, emb_8 t r n⟩)
theorem final_9 (c : Dev nD) : (dats m 0 c).arrAt 9 cfg0.N = G9 m c :=
  final_of m c 9 (G9 m c) flush0_9 (fun t => by
    show (cfg0.win 9).cut (grid0.coords t) ((dats m 0 c).after 9 t) = _
    rw [after_9]
    exact funext fun j : S4096x128.Idx => by
      obtain ⟨r, n, rfl⟩ : ∃ (r : Fin 4096) (n : Fin 128), j = ix2 r n := ⟨_, _, eq_ix2 j⟩
      show _ = G9 m c (((cfg0.win 9).blk t).view.emb (ix2 r n : S4096x128.Idx))
      rw [emb_9]
      show _ = Ref.vAt _ _ _ (rowOf (headAt t r)) (laneOf (headAt t r) n)
      rw [rowOf_headAt, laneOf_headAt]
      exact v_at m c t _ _) (fun i : S131072x128.Idx => by
    obtain ⟨r, n, rfl⟩ : ∃ (r : Fin 131072) (n : Fin 128), i = ix2 r n := ⟨_, _, eq_ix2 i⟩
    obtain ⟨t, r, rfl⟩ := headAt_surj r
    exact ⟨t, _, emb_9 t r n⟩)
theorem final_10 (c : Dev nD) : (dats m 0 c).arrAt 10 cfg0.N = G10 m c :=
  final_of m c 10 (G10 m c) flush0_10 (fun t => by
    show (cfg0.win 10).cut (grid0.coords t) ((dats m 0 c).after 10 t) = _
    rw [after_10]
    exact funext fun j : S1024x512.Idx => by
      obtain ⟨n, r, rfl⟩ : ∃ (n : Fin 1024) (r : Fin 512), j = ix2 n r := ⟨_, _, eq_ix2 j⟩
      show _ = G10 m c (((cfg0.win 10).blk t).view.emb (ix2 n r : S1024x512.Idx))
      rw [emb_10]
      have e : ∀ Y : Vec Ideal S512x1024 .f32, k0_pay4 (F := Ideal) Y (ix2 n r) = Y (ix2 r n) := fun Y => by pointwise [k0_pay4]
      exact (e _).trans (v_at m c t r n)) (fun i : S1024x16384.Idx => by
    obtain ⟨n, r, rfl⟩ : ∃ (n : Fin 1024) (r : Fin 16384), i = ix2 n r := ⟨_, _, eq_ix2 i⟩
    obtain ⟨t, r, rfl⟩ := rowAt_surj r
    exact ⟨t, _, emb_10 t n r⟩)
theorem final_11 (c : Dev nD) : (dats m 0 c).arrAt 11 cfg0.N = G11 m c :=
  final_of m c 11 (G11 m c) flush0_11 (fun t => by
    show (cfg0.win 11).cut (grid0.coords t) ((dats m 0 c).after 11 t) = _
    rw [after_11]
    exact funext fun j : S512x512.Idx => by
      obtain ⟨r, n, rfl⟩ : ∃ (r : Fin 512) (n : Fin 512), j = ix2 r n := ⟨_, _, eq_ix2 j⟩
      show _ = G11 m c (((cfg0.win 11).blk t).view.emb (ix2 r n : S512x512.Idx))
      rw [emb_11]
      exact u_at m c t r n) (fun i : S16384x512.Idx => by
    obtain ⟨r, n, rfl⟩ : ∃ (r : Fin 16384) (n : Fin 512), i = ix2 r n := ⟨_, _, eq_ix2 i⟩
    obtain ⟨t, r, rfl⟩ := rowAt_surj r
    exact ⟨t, _, emb_11 t r n⟩)
theorem final_12 (c : Dev nD) : (dats m 0 c).arrAt 12 cfg0.N = G12 m c :=
  final_of m c 12 (G12 m c) flush0_12 (fun t => by
    show (cfg0.win 12).cut (grid0.coords t) ((dats m 0 c).after 12 t) = _
    rw [after_12]
    exact funext fun j : S512x1536.Idx => by
      obtain ⟨r, n, rfl⟩ : ∃ (r : Fin 512) (n : Fin 1536), j = ix2 r n := ⟨_, _, eq_ix2 j⟩
      show _ = G12 m c (((cfg0.win 12).blk t).view.emb (ix2 r n : S512x1536.Idx))
      rw [emb_12]
      exact gate_at m c t r n) (fun i : S16384x1536.Idx => by
    obtain ⟨r, n, rfl⟩ : ∃ (r : Fin 16384) (n : Fin 1536), i = ix2 r n := ⟨_, _, eq_ix2 i⟩
    obtain ⟨t, r, rfl⟩ := rowAt_surj r
    exact ⟨t, _, emb_12 t r n⟩)

/-- The run, each result array at the reference's. -/
theorem run_value :
    θ_run defs (onTc (τ := τ) (main (F := Ideal))) ⟨m, fun _ => 0, ρ⟩ (fun r => ∀ c : Dev nD,
      r.2.mem ((c.tc : Thread nD τ).loc main_v36_0) = G6 m c ∧ r.2.mem ((c.tc : Thread nD τ).loc main_v36_1) = G7 m c ∧
      r.2.mem ((c.tc : Thread nD τ).loc main_v36_2) = G8 m c ∧ r.2.mem ((c.tc : Thread nD τ).loc main_v36_3) = G9 m c ∧
      r.2.mem ((c.tc : Thread nD τ).loc main_v36_4) = G10 m c ∧ r.2.mem ((c.tc : Thread nD τ).loc main_v36_5) = G11 m c ∧
      r.2.mem ((c.tc : Thread nD τ).loc main_v36_6) = G12 m c) :=
  (θ_run defs _ _).mono (fun r h c => ⟨((h c).1 6).trans (final_6 m c), ((h c).1 7).trans (final_7 m c), ((h c).1 8).trans (final_8 m c),
    ((h c).1 9).trans (final_9 m c), ((h c).1 10).trans (final_10 m c), ((h c).1 11).trans (final_11 m c), ((h c).1 12).trans (final_12 m c)⟩) (run_main m ρ)

/-- Equal arguments, equal results. -/
theorem at_args {α β γ δ : Type} (f : α → β → γ → δ) {a a' : α} {b b' : β} {c c' : γ} (ha : a = a') (hb : b = b') (hc : c = c') :
    f a b c = f a' b' c' := by rw [ha, hb, hc]

/-! The reference's results at the same arguments. -/

theorem ref_6 (c : Dev nD) : Cert.ProjReferenceIdeal.Read.val_main_v94 (F := Ideal) (X m c) (N m c) (W m c) = G6 m c :=
  funext fun i : S16384x1024.Idx => (congrArg _ (eq_ix2 i)).trans (Ref.v94_eq _ _ _ (i 0) (i 1))
theorem ref_7 (c : Dev nD) : Cert.ProjReferenceIdeal.Read.val_main_v95 (F := Ideal) (X m c) (N m c) (W m c) = G7 m c :=
  funext fun i : S131072x128.Idx => (congrArg _ (eq_ix2 i)).trans (Ref.v95_eq _ _ _ (i 0) (i 1))
theorem ref_8 (c : Dev nD) : Cert.ProjReferenceIdeal.Read.val_main_v97 (F := Ideal) (X m c) (N m c) (W m c) = G8 m c :=
  funext fun i : S16384x1024.Idx => (congrArg _ (eq_ix2 i)).trans (Ref.v97_eq _ _ _ (i 0) (i 1))
theorem ref_9 (c : Dev nD) : Cert.ProjReferenceIdeal.Read.val_main_v98 (F := Ideal) (X m c) (N m c) (W m c) = G9 m c :=
  funext fun i : S131072x128.Idx => (congrArg _ (eq_ix2 i)).trans (Ref.v98_eq _ _ _ (i 0) (i 1))
theorem ref_10 (c : Dev nD) : Cert.ProjReferenceIdeal.Read.val_main_v101 (F := Ideal) (X m c) (N m c) (W m c) = G10 m c :=
  funext fun i : S1024x16384.Idx => (congrArg _ (eq_ix2 i)).trans (Ref.v101_eq _ _ _ (i 0) (i 1))
theorem ref_11 (c : Dev nD) : Cert.ProjReferenceIdeal.Read.val_main_v102 (F := Ideal) (X m c) (N m c) (W m c) = G11 m c :=
  funext fun i : S16384x512.Idx => (congrArg _ (eq_ix2 i)).trans (Ref.v102_eq _ _ _ (i 0) (i 1))
theorem ref_12 (c : Dev nD) : Cert.ProjReferenceIdeal.Read.val_main_v103 (F := Ideal) (X m c) (N m c) (W m c) = G12 m c :=
  funext fun i : S16384x1536.Idx => (congrArg _ (eq_ix2 i)).trans (Ref.v103_eq _ _ _ (i 0) (i 1))

end Cert.Proof.Proj
-- ==== Proof.Proj.Same.lean ====
module

public import proofs.«01_k».proof.Proof.Gen.Proj
public import proofs.«01_k».proof.Proof.Proj.Run

@[expose] public section

noncomputable section

/-! The input projection's two programs have one text, so a run of the one is a run of the other. -/

namespace Cert.Proof.Proj

open Idealize.ShloMosaic Idealize.SL.Sem

variable {F : FTy → Type} [FloatOps F]

set_option maxHeartbeats 2000000 in
theorem defs₀_same : Cert.Proj.defs₀ (F := F) = Cert.ProjIdeal.defs₀ (F := F) :=
  congrArg (Defs.onTc (Λ := Cert.ProjIdeal.Λ₀)) (funext fun l => match l with
    | 0 => funext fun ⟨t, s⟩ => rfl
    | ⟨_ + 1, h⟩ => absurd h (Nat.not_lt.2 (Nat.le_add_left _ _)))

theorem defs_same : Cert.Proj.defs (F := F) = Cert.ProjIdeal.defs (F := F) :=
  congrArg (Idealize.ShloMosaic.Pipeline.defs (Cert.ProjIdeal.pcfgs (F := F))) defs₀_same

set_option maxHeartbeats 2000000 in
theorem main_same : Cert.Proj.main (F := F) = Cert.ProjIdeal.main (F := F) := rfl

theorem run_same : θ_run (Cert.Proj.defs (F := F)) (onTc (τ := Cert.Proj.τ) (Cert.Proj.main (F := F)))
    = θ_run (Cert.ProjIdeal.defs (F := F)) (onTc (τ := Cert.ProjIdeal.τ) (Cert.ProjIdeal.main (F := F))) :=
  congr (congrArg θ_run defs_same) (congrArg (onTc (τ := Cert.ProjIdeal.τ)) main_same)

theorem frame_same (m : (ℓ : Loc Cert.Proj.nD Cert.Proj.τ Cert.Proj.sig) → Buf (Elt F) ℓ) (ρ : Dev Cert.Proj.nD → PrngReg) :
    θ_run (Cert.Proj.defs (F := F)) (onTc (τ := Cert.Proj.τ) (Cert.Proj.main (F := F))) ⟨m, fun _ => 0, ρ⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0) := by
  rw [run_same]
  exact frame m ρ

end Cert.Proof.Proj
-- ==== Proof.Proj1.Body.lean ====
module

public import proofs.«01_k».proof.Proof.Gen.Proj1Ideal.Skeleton
public import proofs.«01_k».proof.Proof.Gen.Proj1Ideal.Launch
public import proofs.«01_k».proof.Proof.Gen.Proj1Ideal.Frame
public import proofs.«01_k».proof.Proof.Proj.Body
public import Idealize.ShloMosaic.Lib.Pipeline.FrameBody
public import Idealize.ShloMosaic.Lib.Pipeline.Value
public import Idealize.ShloMosaic.Lib.Tactic
public import Idealize.ShloMosaic.Lib.ValueIdx
public import Idealize.ShloMosaic.Lib.Claim

@[expose] public section

noncomputable section

namespace Cert.Proof.Proj1

open Cert.Proj1Ideal Cert.Proj1Ideal.Gen
open Cert.Proof.Proj (turn turnAll heads strips whole_store ld_x ld_g ld_t)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The product with the first 1024 columns of the weights (the queries), before its heads are turned. -/
def prodQ (x : Vec F S512x1024 .f32) (g : Vec F S1x1024 .f32) (w : Vec F S1024x4096 .bf16) : Vec F S512x1024 .f32 :=
  k0_pay7 x g (View.ld w (Rect.unit (s := S1024x4096) ![0, 0] S1024x1024.size inb_S1024x4096_S1024x1024_0_0))
/-- The product with the next 1024 columns (the keys). -/
def prodK (x : Vec F S512x1024 .f32) (g : Vec F S1x1024 .f32) (w : Vec F S1024x4096 .bf16) : Vec F S512x1024 .f32 :=
  k0_pay23 (k0_pay6 x g) (View.ld w (Rect.unit (s := S1024x4096) ![0, 1024] S1024x1024.size inb_S1024x4096_S1024x1024_0_1024))
/-- The queries of a block of rows. -/
def outQ (x : Vec F S512x1024 .f32) (g : Vec F S1x1024 .f32) (w : Vec F S1024x4096 .bf16) (c a b : Vec F S512x128 .f32) : Vec F S512x1024 .f32 :=
  turnAll 120#32 8#32 (prodQ x g w) (k0_pay8 c) (k0_pay9 a) (k0_pay10 b)
/-- The keys of a block of rows. -/
def outK (x : Vec F S512x1024 .f32) (g : Vec F S1x1024 .f32) (w : Vec F S1024x4096 .bf16) (c a b : Vec F S512x128 .f32) : Vec F S512x1024 .f32 :=
  turnAll 120#32 8#32 (prodK x g w) (k0_pay8 c) (k0_pay9 a) (k0_pay10 b)
/-- The keys rounded to bf16. -/
def outKb (x : Vec F S512x1024 .f32) (g : Vec F S1x1024 .f32) (w : Vec F S1024x4096 .bf16) (c a b : Vec F S512x128 .f32) : Vec F S512x1024 .bf16 :=
  k0_pay42 (outK x g w c a b)
/-- The values of a block of rows. -/
def outV (x : Vec F S512x1024 .f32) (g : Vec F S1x1024 .f32) (w : Vec F S1024x4096 .bf16) : Vec F S512x1024 .f32 :=
  k0_pay43 (k0_pay6 x g) (View.ld w (Rect.unit (s := S1024x4096) ![0, 2048] S1024x1024.size inb_S1024x4096_S1024x1024_0_2048))
/-- The values transposed and rounded to bf16. -/
def outVt (x : Vec F S512x1024 .f32) (g : Vec F S1x1024 .f32) (w : Vec F S1024x4096 .bf16) : Vec F S1024x512 .bf16 :=
  k0_pay4 (outV x g w)
/-- The gates. -/
def outGate (x : Vec F S512x1024 .f32) (g : Vec F S1x1024 .f32) (w : Vec F S1024x4096 .bf16) : Vec F S512x1024 .f32 :=
  k0_pay5 (k0_pay6 x g) (View.ld w (Rect.unit (s := S1024x4096) ![0, 3072] S1024x1024.size inb_S1024x4096_S1024x1024_0_3072))

set_option maxRecDepth 16384 in
set_option maxHeartbeats 4000000 in
/-- The kernel body, at any grid point: the inputs' buffers kept, the six results' as named above. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .f32) (harg7 : arg7.IsWhole) (arg8 : Memref sig .tc .vmem S4096x128 .f32) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S1024x512 .bf16) (harg11 : arg11.IsWhole) (arg12 : Memref sig .tc .vmem S512x1024 .f32) (harg12 : arg12.IsWhole) (x1 : Vec F S512x1024 .f32) (x2 : Vec F S1x1024 .f32) (x3 : Vec F S1024x4096 .bf16) (x4 : Vec F S512x128 .f32) (x5 : Vec F S512x128 .f32) (x6 : Vec F S512x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (outQ x1 x2 x3 x4 x5 x6) ∗ owns (c : Thread nD τ) arg8 fullShare (heads (outK x1 x2 x3 x4 x5 x6)) ∗ owns (c : Thread nD τ) arg9 fullShare (outKb x1 x2 x3 x4 x5 x6) ∗ owns (c : Thread nD τ) arg10 fullShare (heads (outV x1 x2 x3)) ∗ owns (c : Thread nD τ) arg11 fullShare (outVt x1 x2 x3) ∗ owns (c : Thread nD τ) arg12 fullShare (outGate x1 x2 x3)) -∗ K ⟨⟩))
      ⊢ wp frame (wpE (defs₀ (F := F)) Variants.none c none) E
          (cc0_proj_in i arg1 harg1 arg2 harg2 arg3 harg3 arg4 harg4 arg5 harg5 arg6 harg6 arg7 harg7 arg8 harg8 arg9 harg9 arg10 harg10 arg11 harg11 arg12 harg12) K := by
  simp only [cc0_proj_in_eq_skeleton]; unfold cc0_proj_in_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5 hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr; swap; · iexact H7
    ipureintro
    sl_unfold_run_names
    simp only [View.readAt_eq_ld, ld_x, ld_g, ld_t]
    refine (whole_store _ _ (by decide) _).trans ?_
    rfl
  isplitl [H8]
  · iexists _; isplitr; swap; · iexact H8
    ipureintro
    sl_unfold_run_names
    simp only [View.readAt_eq_ld, ld_x, ld_g, ld_t]
    exact strips f8 (outK (View.read (Elt F) arg1.view f1) (View.read (Elt F) arg2.view f2) (View.read (Elt F) arg3.view f3) (View.read (Elt F) arg4.view f4) (View.read (Elt F) arg5.view f5) (View.read (Elt F) arg6.view f6))
  isplitl [H9]
  · iexists _; isplitr; swap; · iexact H9
    ipureintro
    sl_unfold_run_names
    simp only [View.readAt_eq_ld, ld_x, ld_g, ld_t]
    refine (whole_store _ _ (by decide) _).trans ?_
    rfl
  isplitl [H10]
  · iexists _; isplitr; swap; · iexact H10
    ipureintro
    sl_unfold_run_names
    simp only [View.readAt_eq_ld, ld_x, ld_g, ld_t]
    exact strips f10 (outV (View.read (Elt F) arg1.view f1) (View.read (Elt F) arg2.view f2) (View.read (Elt F) arg3.view f3))
  isplitl [H11]
  · iexists _; isplitr; swap; · iexact H11
    ipureintro
    sl_unfold_run_names
    simp only [View.readAt_eq_ld, ld_x, ld_g, ld_t]
    refine (whole_store _ _ (by decide) _).trans ?_
    rfl
  iexists _; isplitr; swap; · iexact H12
  ipureintro
  sl_unfold_run_names
  simp only [View.readAt_eq_ld, ld_x, ld_g, ld_t]
  refine (whole_store _ _ (by decide) _).trans ?_
  rfl

end Cert.Proof.Proj1
-- ==== Proof.Proj1.Run.lean ====
module

public import proofs.«01_k».proof.Proof.Proj1.Body
public import proofs.«01_k».proof.Proof.Gen.Proj1Ideal.Launch
public import proofs.«01_k».proof.Proof.Gen.Proj1Ideal.Points
public import proofs.«01_k».proof.Proof.Gen.Proj1Ideal.Frame
public import Idealize.ShloMosaic.Lib.Pipeline.FrameBody
public import Idealize.ShloMosaic.Lib.Claim
public import Idealize.ShloMosaic.Lib.Pipeline.Value

@[expose] public section

/-! The launch of layer 1's input projection, over any float values: every block is carried through the body, so the arrays end at what
    the blocks written back make of them. -/

set_option maxRecDepth 16384

noncomputable section

namespace Cert.Proof.Proj1

open Cert.Proj1Ideal Cert.Proj1Ideal.Gen
open Cert.Proof.Proj (heads)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; after the body each input's buffer at its block and
    each result's at what the body makes of the input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t) (iblk m c 2 t) (iblk m c 3 t) (iblk m c 4 t) (iblk m c 5 t)
    | ⟨7, _⟩ => heads (outK (iblk m c 0 t) (iblk m c 1 t) (iblk m c 2 t) (iblk m c 3 t) (iblk m c 4 t) (iblk m c 5 t))
    | ⟨8, _⟩ => outKb (iblk m c 0 t) (iblk m c 1 t) (iblk m c 2 t) (iblk m c 3 t) (iblk m c 4 t) (iblk m c 5 t)
    | ⟨9, _⟩ => heads (outV (iblk m c 0 t) (iblk m c 1 t) (iblk m c 2 t))
    | ⟨10, _⟩ => outVt (iblk m c 0 t) (iblk m c 1 t) (iblk m c 2 t)
    | ⟨11, _⟩ => outGate (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outQ (iblk m c 0 t) (iblk m c 1 t) (iblk m c 2 t) (iblk m c 3 t) (iblk m c 4 t) (iblk m c 5 t) := by dsimp only [dats]
theorem after_7 (c : Dev nD) (t : Fin cfg0.N) : (dats m 0 c).after 7 t = heads (outK (iblk m c 0 t) (iblk m c 1 t) (iblk m c 2 t) (iblk m c 3 t) (iblk m c 4 t) (iblk m c 5 t)) := by dsimp only [dats]
theorem after_8 (c : Dev nD) (t : Fin cfg0.N) : (dats m 0 c).after 8 t = outKb (iblk m c 0 t) (iblk m c 1 t) (iblk m c 2 t) (iblk m c 3 t) (iblk m c 4 t) (iblk m c 5 t) := by dsimp only [dats]
theorem after_9 (c : Dev nD) (t : Fin cfg0.N) : (dats m 0 c).after 9 t = heads (outV (iblk m c 0 t) (iblk m c 1 t) (iblk m c 2 t)) := by dsimp only [dats]
theorem after_10 (c : Dev nD) (t : Fin cfg0.N) : (dats m 0 c).after 10 t = outVt (iblk m c 0 t) (iblk m c 1 t) (iblk m c 2 t) := by dsimp only [dats]
theorem after_11 (c : Dev nD) (t : Fin cfg0.N) : (dats m 0 c).after 11 t = outGate (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, the windows one by one. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

/-- What it hands back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

/-- The body at any point: each input's buffer holds its block, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots. -/
theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch: every array at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Proj1
-- ==== Proof.Proj1.Value.lean ====
module

public import proofs.«01_k».proof.Proof.Proj1.Run
public import proofs.«01_k».proof.Proof.Proj.Value
public import Idealize.ShloMosaic.Lib.Pointwise
public import Idealize.ShloMosaic.Lib.KernelVsHost

@[expose] public section

noncomputable section

/-! What the body of layer 1's input projection computes from its blocks, an entry at a time over the extended reals. -/

namespace Cert.Proof.Proj1

open Cert.Proj1Ideal Cert.Proj1Ideal.Gen
open Cert.Proof.Proj (normed projected turn turnAll turnAll_apply slices_head)
open Idealize.ShloMosaic
open scoped BigOperators

/-- The row with the first 16 lanes of each component of each head turned by the angles with cosines `c` and sines `s`: lane `l` with lane
    `l + 8`. -/
def turned (p : Fin 1024 → EReal) (c s : Fin 8 → EReal) (n : Fin 1024) : EReal :=
  if h : n.val % 64 < 8 then p n * c ⟨n.val % 64, h⟩ - p ⟨n.val + 8, by omega⟩ * s ⟨n.val % 64, h⟩
  else if h' : n.val % 64 < 16 then p n * c ⟨n.val % 64 - 8, by omega⟩ + p ⟨n.val - 8, by omega⟩ * s ⟨n.val % 64 - 8, by omega⟩
  else p n

theorem pay6_apply (x : Vec Ideal S512x1024 .f32) (g : Vec Ideal S1x1024 .f32) (r : Fin 512) (j : Fin 1024) :
    k0_pay6 (F := Ideal) x g (ix2 r j) = normed (fun k => x (ix2 r k)) (fun k => g (ix2 0 k)) j := by
  unfold normed
  pointwise [k0_pay6]

theorem prodQ_apply (x : Vec Ideal S512x1024 .f32) (g : Vec Ideal S1x1024 .f32) (w : Vec Ideal S1024x4096 .bf16) (r : Fin 512) (n : Fin 1024) :
    prodQ x g w (ix2 r n) = projected (fun k => x (ix2 r k)) (fun k => g (ix2 0 k)) (fun j n => w (ix2 j n)) ⟨n.val, by omega⟩ := by
  unfold projected
  simp only [← pay6_apply]
  pointwise [prodQ, k0_pay7]

theorem prodK_apply (x : Vec Ideal S512x1024 .f32) (g : Vec Ideal S1x1024 .f32) (w : Vec Ideal S1024x4096 .bf16) (r : Fin 512) (n : Fin 1024) :
    prodK x g w (ix2 r n) = projected (fun k => x (ix2 r k)) (fun k => g (ix2 0 k)) (fun j n => w (ix2 j n)) ⟨1024 + n.val, by omega⟩ := by
  unfold projected
  simp only [← pay6_apply]
  pointwise [prodK, k0_pay23]

theorem outV_apply (x : Vec Ideal S512x1024 .f32) (g : Vec Ideal S1x1024 .f32) (w : Vec Ideal S1024x4096 .bf16) (r : Fin 512) (n : Fin 1024) :
    outV x g w (ix2 r n) = projected (fun k => x (ix2 r k)) (fun k => g (ix2 0 k)) (fun j n => w (ix2 j n)) ⟨2048 + n.val, by omega⟩ := by
  unfold projected
  simp only [← pay6_apply]
  pointwise [outV, k0_pay43]

theorem outGate_apply (x : Vec Ideal S512x1024 .f32) (g : Vec Ideal S1x1024 .f32) (w : Vec Ideal S1024x4096 .bf16) (r : Fin 512) (n : Fin 1024) :
    outGate x g w (ix2 r n) = projected (fun k => x (ix2 r k)) (fun k => g (ix2 0 k)) (fun j n => w (ix2 j n)) ⟨3072 + n.val, by omega⟩ := by
  unfold projected
  simp only [← pay6_apply]
  pointwise [outGate, k0_pay5]

/-- One head's lanes turned, at an entry. -/
theorem turn_apply (v c a b : Vec Ideal S512x128 .f32) (r : Fin 512) (l : Fin 128) :
    turn 120#32 8#32 v c a b (ix2 r l) = v (ix2 r l) * c (ix2 r l) + v (ix2 r ⟨(l.val + 8) % 128, Nat.mod_lt _ (by norm_num)⟩) * a (ix2 r l)
      + v (ix2 r ⟨(l.val + 120) % 128, Nat.mod_lt _ (by norm_num)⟩) * b (ix2 r l) := by
  unfold turn
  have h1 : dynamicRotate 1 120#32 none v rotates_S512x128_d1 (ix2 r l) = v (ix2 r ⟨(l.val + 8) % 128, Nat.mod_lt _ (by norm_num)⟩) :=
    dynamicRotate_apply (s := S512x128) 1 120#32 v rotates_S512x128_d1 (ix2 r l) _ (fun b => match b with | ⟨0, _⟩ => rfl | ⟨1, _⟩ => by show (l.val + 8) % 128 = (l.val + 128 - 120 % 128) % 128; omega)
  have h2 : dynamicRotate 1 8#32 none v rotates_S512x128_d1 (ix2 r l) = v (ix2 r ⟨(l.val + 120) % 128, Nat.mod_lt _ (by norm_num)⟩) :=
    dynamicRotate_apply (s := S512x128) 1 8#32 v rotates_S512x128_d1 (ix2 r l) _ (fun b => match b with | ⟨0, _⟩ => rfl | ⟨1, _⟩ => by show (l.val + 120) % 128 = (l.val + 128 - 8 % 128) % 128; omega)
  exact congr (congrArg HAdd.hAdd (congrArg (fun y => v (ix2 r l) * c (ix2 r l) + y * a (ix2 r l)) h1)) (congrArg (fun y => y * b (ix2 r l)) h2)

/-- The tables of a block of rows, 64 lanes repeated for both components: `a` minus the sines on the first eight lanes, `b` the sines on the next
    eight, zero elsewhere; `c` the cosines on both, and one elsewhere. -/
structure Tables (c a b : Vec Ideal S512x128 .f32) (C S : Fin 512 → Fin 8 → EReal) : Prop where
  c : ∀ r (l : Fin 128), c (ix2 r l) = if h : l.val % 64 < 8 then C r ⟨l.val % 64, h⟩ else if h' : l.val % 64 < 16 then C r ⟨l.val % 64 - 8, by omega⟩ else 1
  a : ∀ r (l : Fin 128), a (ix2 r l) = if h : l.val % 64 < 8 then -S r ⟨l.val % 64, h⟩ else 0
  b : ∀ r (l : Fin 128), b (ix2 r l) = if h : l.val % 64 < 8 then 0 else if h' : l.val % 64 < 16 then S r ⟨l.val % 64 - 8, by omega⟩ else 0

/-- With those tables the turned heads are the rows turned by the angles. -/
theorem turnAll_eq (X : Vec Ideal S512x1024 .f32) {c a b : Vec Ideal S512x128 .f32} {C S : Fin 512 → Fin 8 → EReal} (T : Tables c a b C S)
    (r : Fin 512) (n : Fin 1024) :
    turnAll 120#32 8#32 X c a b (ix2 r n) = turned (fun n => X (ix2 r n)) (C r) (S r) n := by
  have hn := n.isLt
  have sl : ∀ (l : Fin 128) (k : Fin 1024), k.val = 128 * (n.val / 128) + l.val →
      extractStridedSlice S512x128 ![0, 128 * (n.val / 128)] X (slices_head ⟨n.val / 128, by omega⟩) (ix2 r l) = X (ix2 r k) := fun l k hk =>
    extractStridedSlice_apply (s := S512x1024) (t := S512x128) _ X _ (ix2 r l) (ix2 r k) (fun a => match a with
      | ⟨0, _⟩ => by show r.val = 0 + r.val; omega
      | ⟨1, _⟩ => hk)
  rw [turnAll_apply, turn_apply, T.c, T.a, T.b, sl _ n (by show _ = _ + n.val % 128; omega)]
  have e : n.val % 128 % 64 = n.val % 64 := by omega
  unfold turned
  dsimp only
  simp only [e]
  by_cases h : n.val % 64 < 8
  · rw [dif_pos h, dif_pos h, dif_pos h, dif_pos h, mul_zero, add_zero, sl _ ⟨n.val + 8, by omega⟩ (by show n.val + 8 = _ + (n.val % 128 + 8) % 128; omega),
      mul_neg, ← sub_eq_add_neg]
  · rw [dif_neg h, dif_neg h, dif_neg h, dif_neg h, mul_zero, add_zero]
    by_cases h' : n.val % 64 < 16
    · rw [dif_pos h', dif_pos h', dif_pos h', sl _ ⟨n.val - 8, by omega⟩ (by show n.val - 8 = _ + (n.val % 128 + 120) % 128; omega)]
    · rw [dif_neg h', dif_neg h', dif_neg h', mul_zero, add_zero, mul_one]

end Cert.Proof.Proj1
-- ==== Proof.Proj1.Ref.lean ====
module

public import proofs.«01_k».proof.Proof.Proj1.Value
public import proofs.«01_k».proof.Proof.Gen.Proj1ReferenceIdeal.Read
public import Idealize.ShloMosaic.Lib.Pipeline.Value

@[expose] public section

noncomputable section

/-! The reference of layer 1's input projection read an entry at a time over the extended reals. -/

namespace Cert.Proof.Proj1.Ref

open Cert.Proj1ReferenceIdeal Cert.Proj1ReferenceIdeal.Gen Cert.Proj1ReferenceIdeal.Read
open Cert.Proof.Proj (normed projected)
open Idealize.ShloMosaic
open scoped BigOperators

/-- The cosine and the sine of position `t`'s angle `k`. -/
def cosAt (t : Fin 16384) (k : Fin 8) : EReal := val_main_v34 (F := Ideal) (ix2 t k)
def sinAt (t : Fin 16384) (k : Fin 8) : EReal := val_main_v36 (F := Ideal) (ix2 t k)

variable (x0 : (⟨S1x16384x1024, .f32⟩ : BufTy).Contents (Elt Ideal)) (x1 : (⟨S1024, .f32⟩ : BufTy).Contents (Elt Ideal))
  (x2 : (⟨S1024x4096, .f32⟩ : BufTy).Contents (Elt Ideal))

/-- Row `t` of the projection, at column `n`. -/
def proj (t : Fin 16384) (n : Fin 4096) : EReal :=
  projected (fun k => x0 (ix3 0 t k)) (fun k => x1 (ix1 k)) (fun j n => x2 (ix2 j n)) n

theorem v13_eq (t : Fin 16384) (j : Fin 1024) :
    val_main_v13 (F := Ideal) x0 x1 (ix3 0 t j) = normed (fun k => x0 (ix3 0 t k)) (fun k => x1 (ix1 k)) j := by
  have hsum : val_main_v2 (F := Ideal) x0 (idx_main_v3 (idx_main_v9 (ix3 0 t j))) = ∑ k : Fin 1024, x0 (ix3 0 t k) * x0 (ix3 0 t k) := by
    rw [val_main_v2_apply, val_main_cst_apply, show FloatOps.ofBits (F := Ideal) .f32 0x00000000#32 = 0 from Ideal.ofBits_zero_f32, zero_add]
    refine Finset.sum_congr rfl fun k _ => ?_
    have : idx_main_v2 (idx_main_v3 (idx_main_v9 (ix3 0 t j))) k = ix3 0 t k := by
      funext a; match a with | ⟨0, _⟩ => rfl | ⟨1, _⟩ => rfl | ⟨2, _⟩ => rfl
    rw [val_main_v1_apply, this]; rfl
  have i1 : idx_main_v11 (idx_main_v12 (ix3 0 t j)) = ix1 j := by
    funext a; match a with | ⟨0, _⟩ => rfl
  rw [val_main_v13_apply, val_main_v12_apply, val_main_v11_apply, i1, val_main_v10_apply, val_main_v9_apply, val_main_v8_apply, val_main_v7_apply,
    val_main_v6_apply, val_main_cst_1_apply, val_main_v5_apply, val_main_v4_apply, val_main_cst_0_apply, val_main_v3_apply, hsum]
  rfl

theorem v14_eq (t : Fin 16384) (n : Fin 4096) : val_main_v14 (F := Ideal) x0 x1 x2 (ix3 0 t n) = proj x0 x1 x2 t n := by
  unfold proj projected
  rw [val_main_v14_apply]
  refine Finset.sum_congr rfl fun k _ => ?_
  have i0 : lidx_main_v14 (ix3 0 t n) k = ix3 0 t k := by
    funext a; match a with | ⟨0, _⟩ => rfl | ⟨1, _⟩ => rfl | ⟨2, _⟩ => rfl
  have i1 : ridx_main_v14 (ix3 0 t n) k = ix2 k n := by
    funext a; match a with | ⟨0, _⟩ => rfl | ⟨1, _⟩ => rfl
  rw [i0, i1, v13_eq]

/-- The components of the heads of `y` with their first 16 lanes turned. -/
def turn5 (y : (⟨S1x16384x8x2x64, .f32⟩ : BufTy).Contents (Elt Ideal)) : (⟨S1x16384x8x2x64, .f32⟩ : BufTy).Contents (Elt Ideal) :=
  concatenate S1x16384x8x2x64 4
    [⟨S1x16384x8x2x8, (subf (mulf (extractStridedSlice S1x16384x8x2x8 ![0, 0, 0, 0, 0] y slices_S1x16384x8x2x64_S1x16384x8x2x8_0_0_0_0_0) (val_main_v41 (F := Ideal)))
        (mulf (extractStridedSlice S1x16384x8x2x8 ![0, 0, 0, 0, 8] y slices_S1x16384x8x2x64_S1x16384x8x2x8_0_0_0_0_8) (val_main_v44 (F := Ideal))) : FVec Ideal S1x16384x8x2x8 .f32)⟩,
     ⟨S1x16384x8x2x8, (addf (mulf (extractStridedSlice S1x16384x8x2x8 ![0, 0, 0, 0, 8] y slices_S1x16384x8x2x64_S1x16384x8x2x8_0_0_0_0_8) (val_main_v48 (F := Ideal)))
        (mulf (extractStridedSlice S1x16384x8x2x8 ![0, 0, 0, 0, 0] y slices_S1x16384x8x2x64_S1x16384x8x2x8_0_0_0_0_0) (val_main_v51 (F := Ideal))) : FVec Ideal S1x16384x8x2x8 .f32)⟩,
     ⟨S1x16384x8x2x48, (extractStridedSlice S1x16384x8x2x48 ![0, 0, 0, 0, 16] y slices_S1x16384x8x2x64_S1x16384x8x2x48_0_0_0_0_16 : FVec Ideal S1x16384x8x2x48 .f32)⟩]
    concatenates_S1x16384x8x2x8_S1x16384x8x2x8_S1x16384x8x2x48_S1x16384x8x2x64_d4

theorem v55_eq : val_main_v55 (F := Ideal) x0 x1 x2 = turn5 (val_main_v19 (F := Ideal) x0 x1 x2) := rfl
theorem v92_eq : val_main_v92 (F := Ideal) x0 x1 x2 = turn5 (val_main_v56 (F := Ideal) x0 x1 x2) := rfl

theorem cos_lo (t : Fin 16384) (h : Fin 8) (d : Fin 2) (k : Fin 8) : val_main_v41 (F := Ideal) (ix5 0 t h d k) = cosAt t k := by
  rw [val_main_v41_apply, val_main_v40_apply, val_main_v35_apply]
  exact congrArg (val_main_v34 (F := Ideal)) (by funext a; match a with | ⟨0, _⟩ => rfl | ⟨1, _⟩ => rfl)
theorem sin_lo (t : Fin 16384) (h : Fin 8) (d : Fin 2) (k : Fin 8) : val_main_v44 (F := Ideal) (ix5 0 t h d k) = sinAt t k := by
  rw [val_main_v44_apply, val_main_v43_apply, val_main_v37_apply]
  exact congrArg (val_main_v36 (F := Ideal)) (by funext a; match a with | ⟨0, _⟩ => rfl | ⟨1, _⟩ => rfl)

/-- Lane `n` of a row: its head, its component and its place there. -/
abbrev at5 (t : Fin 16384) (n : Fin 1024) : S1x16384x8x2x64.Idx :=
  ix5 0 t ⟨n.val / 128, by omega⟩ ⟨n.val / 64 % 2, Nat.mod_lt _ (by norm_num)⟩ ⟨n.val % 64, Nat.mod_lt _ (by norm_num)⟩

theorem turn5_apply (y : (⟨S1x16384x8x2x64, .f32⟩ : BufTy).Contents (Elt Ideal)) (p : Fin 1024 → EReal) (t : Fin 16384)
    (hy : ∀ n : Fin 1024, y (at5 t n) = p n) (n : Fin 1024) : turn5 y (at5 t n) = turned p (cosAt t) (sinAt t) n := by
  have hn := n.isLt
  have slice : ∀ (w o : ℕ) (hs : S1x16384x8x2x64.Slices ![0, 0, 0, 0, o] ⟨5, ![1, 16384, 8, 2, w]⟩) (l : Fin w) (k : Fin 1024),
      k.val / 64 = n.val / 64 → k.val % 64 = o + l.val →
      extractStridedSlice ⟨5, ![1, 16384, 8, 2, w]⟩ ![0, 0, 0, 0, o] y hs (ix5 0 t ⟨n.val / 128, by omega⟩ ⟨n.val / 64 % 2, Nat.mod_lt _ (by norm_num)⟩ l) = p k :=
    fun w o hs l k e1 e2 => (extractStridedSlice_apply (s := S1x16384x8x2x64) (t := ⟨5, ![1, 16384, 8, 2, w]⟩) _ y hs
      (ix5 0 t ⟨n.val / 128, by omega⟩ ⟨n.val / 64 % 2, Nat.mod_lt _ (by norm_num)⟩ l) (at5 t k) (fun a => match a with
      | ⟨0, _⟩ => rfl
      | ⟨1, _⟩ => by show t.val = 0 + t.val; omega
      | ⟨2, _⟩ => by show k.val / 128 = 0 + n.val / 128; omega
      | ⟨3, _⟩ => by show k.val / 64 % 2 = 0 + n.val / 64 % 2; omega
      | ⟨4, _⟩ => e2)).trans (hy k)
  unfold turned turn5
  by_cases h1 : n.val % 64 < 8
  · rw [dif_pos h1]
    refine (concatenate_apply_piece (t := S1x16384x8x2x64) 4 _ _ _ 0 (by show 0 < 3; omega) S1x16384x8x2x8 _ rfl rfl 0 rfl
      (ix5 0 t ⟨n.val / 128, by omega⟩ ⟨n.val / 64 % 2, Nat.mod_lt _ (by norm_num)⟩ ⟨n.val % 64, h1⟩)
      (fun b hb => match b with | ⟨0, _⟩ => rfl | ⟨1, _⟩ => rfl | ⟨2, _⟩ => rfl | ⟨3, _⟩ => rfl | ⟨4, _⟩ => absurd rfl hb) (Nat.zero_add _)).trans ?_
    show _ * _ - _ * _ = _
    rw [cos_lo, sin_lo]
    exact congr (congrArg HSub.hSub (congrArg (· * _) (slice 8 0 _ _ n rfl (by show n.val % 64 = 0 + n.val % 64; omega))))
      (congrArg (· * _) (slice 8 8 _ _ ⟨n.val + 8, by omega⟩ (by show (n.val + 8) / 64 = n.val / 64; omega) (by show (n.val + 8) % 64 = 8 + n.val % 64; omega)))
  · rw [dif_neg h1]
    by_cases h2 : n.val % 64 < 16
    · rw [dif_pos h2]
      refine (concatenate_apply_piece (t := S1x16384x8x2x64) 4 _ _ _ 1 (by show 1 < 3; omega) S1x16384x8x2x8 _ rfl rfl 8 rfl
        (ix5 0 t ⟨n.val / 128, by omega⟩ ⟨n.val / 64 % 2, Nat.mod_lt _ (by norm_num)⟩ ⟨n.val % 64 - 8, by omega⟩)
        (fun b hb => match b with | ⟨0, _⟩ => rfl | ⟨1, _⟩ => rfl | ⟨2, _⟩ => rfl | ⟨3, _⟩ => rfl | ⟨4, _⟩ => absurd rfl hb) (by show 8 + (n.val % 64 - 8) = n.val % 64; omega)).trans ?_
      show _ * _ + _ * _ = _
      exact congr (congrArg HAdd.hAdd (congr (congrArg HMul.hMul (slice 8 8 _ _ n rfl (by show n.val % 64 = 8 + (n.val % 64 - 8); omega))) (cos_lo _ _ _ _)))
        (congr (congrArg HMul.hMul (slice 8 0 _ _ ⟨n.val - 8, by omega⟩ (by show (n.val - 8) / 64 = n.val / 64; omega) (by show (n.val - 8) % 64 = 0 + (n.val % 64 - 8); omega))) (sin_lo _ _ _ _))
    · rw [dif_neg h2]
      refine (concatenate_apply_piece (t := S1x16384x8x2x64) 4 _ _ _ 2 (by show 2 < 3; omega) S1x16384x8x2x48 _ rfl rfl 16 rfl
        (ix5 0 t ⟨n.val / 128, by omega⟩ ⟨n.val / 64 % 2, Nat.mod_lt _ (by norm_num)⟩ ⟨n.val % 64 - 16, by omega⟩)
        (fun b hb => match b with | ⟨0, _⟩ => rfl | ⟨1, _⟩ => rfl | ⟨2, _⟩ => rfl | ⟨3, _⟩ => rfl | ⟨4, _⟩ => absurd rfl hb) (by show 16 + (n.val % 64 - 16) = n.val % 64; omega)).trans ?_
      exact slice 48 16 _ _ n rfl (by show n.val % 64 = 16 + (n.val % 64 - 16); omega)

/-- The layer's queries, keys, values and gates at a row and a column. -/
def qAt (t : Fin 16384) (n : Fin 1024) : EReal := turned (fun n => proj x0 x1 x2 t ⟨n.val, by omega⟩) (cosAt t) (sinAt t) n
def kAt (t : Fin 16384) (n : Fin 1024) : EReal := turned (fun n => proj x0 x1 x2 t ⟨1024 + n.val, by omega⟩) (cosAt t) (sinAt t) n
def vAt (t : Fin 16384) (n : Fin 1024) : EReal := proj x0 x1 x2 t ⟨2048 + n.val, by omega⟩
def gateAt (t : Fin 16384) (n : Fin 1024) : EReal := proj x0 x1 x2 t ⟨3072 + n.val, by omega⟩

theorem v19_eq (t : Fin 16384) (n : Fin 1024) :
    val_main_v19 (F := Ideal) x0 x1 x2 (at5 t n) = proj x0 x1 x2 t ⟨n.val, by omega⟩ := by
  have hn := n.isLt; have ht := t.isLt
  rw [val_main_v19_apply, val_main_v15_apply, ← v14_eq]
  refine congrArg (val_main_v14 (F := Ideal) x0 x1 x2) (funext fun a => Fin.ext ?_)
  match a with
  | ⟨0, _⟩ => rfl
  | ⟨1, _⟩ => show ((((0 * 16384 + t.val) * 8 + n.val / 128) * 2 + n.val / 64 % 2) * 64 + n.val % 64) / 1024 % 16384 = t.val; omega
  | ⟨2, _⟩ => show ((((0 * 16384 + t.val) * 8 + n.val / 128) * 2 + n.val / 64 % 2) * 64 + n.val % 64) % 1024 = n.val; omega

theorem v56_eq (t : Fin 16384) (n : Fin 1024) :
    val_main_v56 (F := Ideal) x0 x1 x2 (at5 t n) = proj x0 x1 x2 t ⟨1024 + n.val, by omega⟩ := by
  have hn := n.isLt; have ht := t.isLt
  rw [val_main_v56_apply, val_main_v16_apply, ← v14_eq]
  refine congrArg (val_main_v14 (F := Ideal) x0 x1 x2) (funext fun a => Fin.ext ?_)
  match a with
  | ⟨0, _⟩ => rfl
  | ⟨1, _⟩ => show ((((0 * 16384 + t.val) * 8 + n.val / 128) * 2 + n.val / 64 % 2) * 64 + n.val % 64) / 1024 % 16384 = t.val; omega
  | ⟨2, _⟩ => show 1024 + ((((0 * 16384 + t.val) * 8 + n.val / 128) * 2 + n.val / 64 % 2) * 64 + n.val % 64) % 1024 = 1024 + n.val; omega

theorem v17_eq (t : Fin 16384) (n : Fin 1024) : val_main_v17 (F := Ideal) x0 x1 x2 (ix3 0 t n) = vAt x0 x1 x2 t n := by
  unfold vAt
  rw [val_main_v17_apply, ← v14_eq]
  exact congrArg (val_main_v14 (F := Ideal) x0 x1 x2) (funext fun a => Fin.ext (match a with | ⟨0, _⟩ => rfl | ⟨1, _⟩ => rfl | ⟨2, _⟩ => rfl))

/-- The queries. -/
theorem v93_eq (t : Fin 16384) (n : Fin 1024) : val_main_v93 (F := Ideal) x0 x1 x2 (ix2 t n) = qAt x0 x1 x2 t n := by
  have hn := n.isLt; have ht := t.isLt
  unfold qAt
  rw [val_main_v93_apply, v55_eq, ← turn5_apply _ _ t (v19_eq x0 x1 x2 t) n]
  refine congrArg _ (funext fun a => Fin.ext ?_)
  match a with
  | ⟨0, _⟩ => rfl
  | ⟨1, _⟩ => show (t.val * 1024 + n.val) / 1024 % 16384 = t.val; omega
  | ⟨2, _⟩ => show (t.val * 1024 + n.val) / 128 % 8 = n.val / 128; omega
  | ⟨3, _⟩ => show (t.val * 1024 + n.val) / 64 % 2 = n.val / 64 % 2; omega
  | ⟨4, _⟩ => show (t.val * 1024 + n.val) % 64 = n.val % 64; omega

/-- The keys, the heads of a row one under the other. -/
theorem v94_eq (y : Fin 131072) (l : Fin 128) :
    val_main_v94 (F := Ideal) x0 x1 x2 (ix2 y l) = kAt x0 x1 x2 ⟨y.val / 8, by omega⟩ ⟨y.val % 8 * 128 + l.val, by omega⟩ := by
  have hl := l.isLt; have hy := y.isLt
  unfold kAt
  rw [val_main_v94_apply, v92_eq, ← turn5_apply _ _ _ (v56_eq x0 x1 x2 _)]
  refine congrArg _ (funext fun a => Fin.ext ?_)
  match a with
  | ⟨0, _⟩ => rfl
  | ⟨1, _⟩ => show (y.val * 128 + l.val) / 1024 % 16384 = y.val / 8; omega
  | ⟨2, _⟩ => show (y.val * 128 + l.val) / 128 % 8 = (y.val % 8 * 128 + l.val) / 128; omega
  | ⟨3, _⟩ => show (y.val * 128 + l.val) / 64 % 2 = (y.val % 8 * 128 + l.val) / 64 % 2; omega
  | ⟨4, _⟩ => show (y.val * 128 + l.val) % 64 = (y.val % 8 * 128 + l.val) % 64; omega

/-- The keys rounded. -/
theorem v96_eq (t : Fin 16384) (n : Fin 1024) : val_main_v96 (F := Ideal) x0 x1 x2 (ix2 t n) = kAt x0 x1 x2 t n := by
  have hn := n.isLt; have ht := t.isLt
  unfold kAt
  rw [val_main_v96_apply]
  refine (val_main_v95_apply x0 x1 x2 _).trans ?_
  rw [v92_eq, ← turn5_apply _ _ t (v56_eq x0 x1 x2 t) n]
  refine congrArg _ (funext fun a => Fin.ext ?_)
  match a with
  | ⟨0, _⟩ => rfl
  | ⟨1, _⟩ => show (t.val * 1024 + n.val) / 1024 % 16384 = t.val; omega
  | ⟨2, _⟩ => show (t.val * 1024 + n.val) / 128 % 8 = n.val / 128; omega
  | ⟨3, _⟩ => show (t.val * 1024 + n.val) / 64 % 2 = n.val / 64 % 2; omega
  | ⟨4, _⟩ => show (t.val * 1024 + n.val) % 64 = n.val % 64; omega

/-- The values, the heads of a row one under the other. -/
theorem v97_eq (y : Fin 131072) (l : Fin 128) :
    val_main_v97 (F := Ideal) x0 x1 x2 (ix2 y l) = vAt x0 x1 x2 ⟨y.val / 8, by omega⟩ ⟨y.val % 8 * 128 + l.val, by omega⟩ := by
  have hl := l.isLt; have hy := y.isLt
  rw [val_main_v97_apply, ← v17_eq]
  refine congrArg _ (funext fun a => Fin.ext ?_)
  match a with
  | ⟨0, _⟩ => rfl
  | ⟨1, _⟩ => show (y.val * 128 + l.val) / 1024 % 16384 = y.val / 8; omega
  | ⟨2, _⟩ => show (y.val * 128 + l.val) % 1024 = y.val % 8 * 128 + l.val; omega

/-- The values transposed and rounded. -/
theorem v100_eq (n : Fin 1024) (t : Fin 16384) : val_main_v100 (F := Ideal) x0 x1 x2 (ix2 n t) = vAt x0 x1 x2 t n := by
  have hn := n.isLt; have ht := t.isLt
  rw [val_main_v100_apply]
  refine (val_main_v99_apply x0 x1 x2 _).trans ?_
  rw [val_main_v98_apply, ← v17_eq]
  refine congrArg _ (funext fun a => Fin.ext ?_)
  match a with
  | ⟨0, _⟩ => rfl
  | ⟨1, _⟩ => show (t.val * 1024 + n.val) / 1024 % 16384 = t.val; omega
  | ⟨2, _⟩ => show (t.val * 1024 + n.val) % 1024 = n.val; omega

/-- The gates. -/
theorem v101_eq (t : Fin 16384) (n : Fin 1024) : val_main_v101 (F := Ideal) x0 x1 x2 (ix2 t n) = gateAt x0 x1 x2 t n := by
  have hn := n.isLt; have ht := t.isLt
  unfold gateAt
  rw [val_main_v101_apply, val_main_v18_apply, ← v14_eq]
  refine congrArg (val_main_v14 (F := Ideal) x0 x1 x2) (funext fun a => Fin.ext ?_)
  match a with
  | ⟨0, _⟩ => rfl
  | ⟨1, _⟩ => show (t.val * 1024 + n.val) / 1024 % 16384 = t.val; omega
  | ⟨2, _⟩ => show 3072 + (t.val * 1024 + n.val) % 1024 = 3072 + n.val; omega

end Cert.Proof.Proj1.Ref
-- ==== Proof.Proj1.Blocks.lean ====
module

public import proofs.«01_k».proof.Proof.Proj1.Ref
public import Idealize.ShloMosaic.Lib.Pointwise
public import Idealize.ShloMosaic.Lib.IdealHost

@[expose] public section

set_option maxRecDepth 16384

noncomputable section

/-! The blocks the body of layer 1's input projection is called with, read off the arguments as launched: the host's reshapes and
    angle tables before the region, then the windows' rectangles. -/

namespace Cert.Proof.Proj1

open Cert.Proj1Ideal Cert.Proj1Ideal.Gen
open Idealize.ShloMosaic Idealize.ShloMosaic.TcCoe Idealize.ShloMosaic.StableHlo

variable (m : (ℓ : Loc nD τ sig) → Buf (Elt Ideal) ℓ)

theorem V_main_v33 (c : Dev nD) : (V m c main_v33 : Vec Ideal S16384x1024 .f32)
    = shapeCast S16384x1024 (m ((c : Thread nD τ).loc main_arg0) : Vec Ideal S1x16384x1024 .f32) shapeCasts_S1x16384x1024_S16384x1024 := by
  unfold V; simp only [hostOps0]; after_results_simp <;> rfl
theorem V_main_v35 (c : Dev nD) : (V m c main_v35 : Vec Ideal S1x1024 .f32)
    = shapeCast S1x1024 (m ((c : Thread nD τ).loc main_arg1) : Vec Ideal S1024 .f32) shapeCasts_S1024_S1x1024 := by
  unfold V; simp only [hostOps0]; after_results_simp <;> rfl
theorem V_main_v34 (c : Dev nD) : (V m c main_v34 : Vec Ideal S1024x4096 .bf16)
    = (m ((c : Thread nD τ).loc main_arg2) : Vec Ideal S1024x4096 .f32) := by
  unfold V; simp only [hostOps0]; after_results_simp <;> rfl

/-- The cosines and sines of the angles, a row per position. -/
abbrev cosTab : Vec Ideal S16384x8 .f32 := Cert.Proj1ReferenceIdeal.Read.val_main_v34 (F := Ideal)
abbrev sinTab : Vec Ideal S16384x8 .f32 := Cert.Proj1ReferenceIdeal.Read.val_main_v36 (F := Ideal)
/-- Zeros on eight lanes; a constant on the last 48. -/
abbrev zeros8 : Vec Ideal S16384x8 .f32 := broadcastInDim S16384x8 ![] bcast_S_S16384x8 (constant (F := Ideal) S_ .f32 0x00000000#32 : FVec Ideal S_ .f32)
abbrev rest48 (w : BitVec 32) : Vec Ideal S16384x48 .f32 := broadcastInDim S16384x48 ![] bcast_S_S16384x48 (constant (F := Ideal) S_ .f32 w : FVec Ideal S_ .f32)

/-- Three tables side by side. -/
def beside (p q : Vec Ideal S16384x8 .f32) (z : Vec Ideal S16384x48 .f32) : Vec Ideal S16384x64 .f32 :=
  concatenate S16384x64 1 [⟨S16384x8, p⟩, ⟨S16384x8, q⟩, ⟨S16384x48, z⟩] concatenates_S16384x8_S16384x8_S16384x48_S16384x64_d1

/-- A table twice, once for each component. -/
def doubled (y : Vec Ideal S16384x64 .f32) : Vec Ideal S16384x128 .f32 :=
  shapeCast S16384x128 (broadcastInDim S1x16384x2x64 ![0, 1, 2, 3] bcast_S1x16384x1x64_S1x16384x2x64_0_1_2_3
    (shapeCast S1x16384x1x64 y shapeCasts_S16384x64_S1x16384x1x64)) shapeCasts_S1x16384x2x64_S16384x128

theorem beside_apply (p q : Vec Ideal S16384x8 .f32) (z : Vec Ideal S16384x48 .f32) (t : Fin 16384) (l : Fin 64) :
    beside p q z (ix2 t l) = if h : l.val < 8 then p (ix2 t ⟨l.val, h⟩) else if h' : l.val < 16 then q (ix2 t ⟨l.val - 8, by omega⟩)
      else z (ix2 t ⟨l.val - 16, by omega⟩) := by
  have hl := l.isLt
  unfold beside
  by_cases h : l.val < 8
  · rw [dif_pos h]
    exact concatenate_apply_piece (t := S16384x64) 1 [⟨S16384x8, p⟩, ⟨S16384x8, q⟩, ⟨S16384x48, z⟩] _ (ix2 t l) 0 (by show 0 < 3; omega) S16384x8 p rfl rfl 0 rfl (ix2 t ⟨l.val, h⟩)
      (fun b hb => match b with | ⟨0, _⟩ => rfl | ⟨1, _⟩ => absurd rfl hb) (Nat.zero_add _)
  by_cases h' : l.val < 16
  · rw [dif_neg h, dif_pos h']
    exact concatenate_apply_piece (t := S16384x64) 1 [⟨S16384x8, p⟩, ⟨S16384x8, q⟩, ⟨S16384x48, z⟩] _ (ix2 t l) 1 (by show 1 < 3; omega) S16384x8 q rfl rfl 8 rfl (ix2 t ⟨l.val - 8, by omega⟩)
      (fun b hb => match b with | ⟨0, _⟩ => rfl | ⟨1, _⟩ => absurd rfl hb) (by show 8 + (l.val - 8) = l.val; omega)
  · rw [dif_neg h, dif_neg h']
    exact concatenate_apply_piece (t := S16384x64) 1 [⟨S16384x8, p⟩, ⟨S16384x8, q⟩, ⟨S16384x48, z⟩] _ (ix2 t l) 2 (by show 2 < 3; omega) S16384x48 z rfl rfl 16 rfl (ix2 t ⟨l.val - 16, by omega⟩)
      (fun b hb => match b with | ⟨0, _⟩ => rfl | ⟨1, _⟩ => absurd rfl hb) (by show 16 + (l.val - 16) = l.val; omega)

theorem doubled_apply (y : Vec Ideal S16384x64 .f32) (t : Fin 16384) (l : Fin 128) :
    doubled y (ix2 t l) = y (ix2 t ⟨l.val % 64, Nat.mod_lt _ (by norm_num)⟩) := by
  have hl := l.isLt; have ht := t.isLt
  unfold doubled
  refine (shapeCast_apply (s := S1x16384x2x64) _ _ (ix2 t l) (ix4 0 t ⟨l.val / 64, by omega⟩ ⟨l.val % 64, Nat.mod_lt _ (by norm_num)⟩) (by
    rewrite [Shape.rowMajor_val_four, Shape.rowMajor_val_two]
    show ((0 * 16384 + t.val) * 2 + l.val / 64) * 64 + l.val % 64 = t.val * 128 + l.val
    omega)).trans ?_
  refine (broadcastInDim_apply (s := S1x16384x1x64) _ _ _ _ (ix4 0 t 0 ⟨l.val % 64, Nat.mod_lt _ (by norm_num)⟩) (fun a => match a with
    | ⟨0, _⟩ => rfl
    | ⟨1, _⟩ => rfl
    | ⟨2, _⟩ => rfl
    | ⟨3, _⟩ => rfl)).trans ?_
  exact shapeCast_apply (s := S16384x64) _ _ _ (ix2 t ⟨l.val % 64, Nat.mod_lt _ (by norm_num)⟩) (by
    rewrite [Shape.rowMajor_val_two, Shape.rowMajor_val_four]
    show t.val * 64 + l.val % 64 = ((0 * 16384 + t.val) * 1 + 0) * 64 + l.val % 64
    omega)

theorem V_main_v26 (c : Dev nD) : (V m c main_v26 : Vec Ideal S16384x128 .f32) = doubled (beside cosTab cosTab (rest48 0x3F800000#32)) := by
  unfold V; simp only [hostOps0]; after_results_simp; try dsimp only [Matrix.cons_val]
  refine congrArg doubled ?_
  show beside _ _ _ = beside _ _ _
  congr 1 <;> (try after_results_simp) <;> rfl
theorem V_main_v29 (c : Dev nD) : (V m c main_v29 : Vec Ideal S16384x128 .f32) = doubled (beside (Host.negf (φ := .f32) sinTab : FVec Ideal S16384x8 .f32) zeros8 (rest48 0x00000000#32)) := by
  unfold V; simp only [hostOps0]; after_results_simp; try dsimp only [Matrix.cons_val]
  refine congrArg doubled ?_
  show beside _ _ _ = beside _ _ _
  congr 1 <;> (try after_results_simp) <;> rfl
theorem V_main_v32 (c : Dev nD) : (V m c main_v32 : Vec Ideal S16384x128 .f32) = doubled (beside zeros8 sinTab (rest48 0x00000000#32)) := by
  unfold V; simp only [hostOps0]; after_results_simp; try dsimp only [Matrix.cons_val]
  refine congrArg doubled ?_
  show beside _ _ _ = beside _ _ _
  congr 1 <;> (try after_results_simp) <;> rfl

/-- Where a block's row sits in its array. -/
def rowAt (t : Fin cfg0.N) (r : Fin 512) : Fin 16384 := ⟨512 * t.val + r.val, by have h : t.val < 32 := t.isLt; omega⟩

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)
theorem index_2 : ∀ t : Fin cfg0.N, win0_2.index t (0 : Fin 2) = 0 ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = t.val ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)

theorem emb_0 (t : Fin cfg0.N) (r : Fin 512) (l : Fin 1024) :
    ((cfg0.win 0).blk t).view.emb (ix2 r l : S512x1024.Idx) = (ix2 (rowAt t r) l : S16384x1024.Idx) := by
  obtain ⟨e0, e1⟩ := index_0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega
theorem emb_1 (t : Fin cfg0.N) (j : S1x1024.Idx) : ((cfg0.win 1).blk t).view.emb j = j := by
  obtain ⟨e0, e1⟩ := index_1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega
theorem emb_2 (t : Fin cfg0.N) (j : S1024x4096.Idx) : ((cfg0.win 2).blk t).view.emb j = j := by
  obtain ⟨e0, e1⟩ := index_2 t
  funext a; apply Fin.ext
  match a with
  | ⟨0, _⟩ => show win0_2.index t (0 : Fin 2) * 1024 + 1 * (j 0).val = (j 0).val; omega
  | ⟨1, _⟩ => show win0_2.index t (1 : Fin 2) * 4096 + 1 * (j 1).val = (j 1).val; omega
theorem emb_3 (t : Fin cfg0.N) (r : Fin 512) (l : Fin 128) :
    ((cfg0.win 3).blk t).view.emb (ix2 r l : S512x128.Idx) = (ix2 (rowAt t r) l : S16384x128.Idx) := by
  obtain ⟨e0, e1⟩ := index_3 t
  funext a; apply Fin.ext
  match a with
  | ⟨0, _⟩ => show win0_3.index t (0 : Fin 2) * 512 + 1 * r.val = 512 * t.val + r.val; omega
  | ⟨1, _⟩ => show win0_3.index t (1 : Fin 2) * 128 + 1 * l.val = l.val; omega
theorem emb_4 (t : Fin cfg0.N) (r : Fin 512) (l : Fin 128) :
    ((cfg0.win 4).blk t).view.emb (ix2 r l : S512x128.Idx) = (ix2 (rowAt t r) l : S16384x128.Idx) := by
  obtain ⟨e0, e1⟩ := index_4 t
  funext a; apply Fin.ext
  match a with
  | ⟨0, _⟩ => show win0_4.index t (0 : Fin 2) * 512 + 1 * r.val = 512 * t.val + r.val; omega
  | ⟨1, _⟩ => show win0_4.index t (1 : Fin 2) * 128 + 1 * l.val = l.val; omega
theorem emb_5 (t : Fin cfg0.N) (r : Fin 512) (l : Fin 128) :
    ((cfg0.win 5).blk t).view.emb (ix2 r l : S512x128.Idx) = (ix2 (rowAt t r) l : S16384x128.Idx) := by
  obtain ⟨e0, e1⟩ := index_5 t
  funext a; apply Fin.ext
  match a with
  | ⟨0, _⟩ => show win0_5.index t (0 : Fin 2) * 512 + 1 * r.val = 512 * t.val + r.val; omega
  | ⟨1, _⟩ => show win0_5.index t (1 : Fin 2) * 128 + 1 * l.val = l.val; omega

/-- The activations' block at an entry, then the gain's and the weights'. -/
theorem iblk_0 (c : Dev nD) (t : Fin cfg0.N) (r : Fin 512) (l : Fin 1024) :
    (iblk m c 0 t : Vec Ideal S512x1024 .f32) (ix2 r l) = (m ((c : Thread nD τ).loc main_arg0) : Vec Ideal S1x16384x1024 .f32) (ix3 0 (rowAt t r) l) := by
  show (V m c main_v33 : Vec Ideal S16384x1024 .f32) (((cfg0.win 0).blk t).view.emb (ix2 r l : S512x1024.Idx)) = _
  rw [emb_0, V_main_v33]
  exact shapeCast_apply _ _ _ _ (by
    show (S1x16384x1024.rowMajor (ix3 0 (rowAt t r) l)).val = _
    rewrite [Shape.rowMajor_val_three, Shape.rowMajor_val_two]
    show (0 * 16384 + (rowAt t r).val) * 1024 + l.val = (rowAt t r).val * 1024 + l.val
    omega)
theorem iblk_1 (c : Dev nD) (t : Fin cfg0.N) (x : Fin 1024) :
    (iblk m c 1 t : Vec Ideal S1x1024 .f32) (ix2 0 x) = (m ((c : Thread nD τ).loc main_arg1) : Vec Ideal S1024 .f32) (ix1 x) := by
  show (V m c main_v35 : Vec Ideal S1x1024 .f32) (((cfg0.win 1).blk t).view.emb (ix2 0 x : S1x1024.Idx)) = _
  rw [emb_1, V_main_v35]; pointwise
theorem iblk_2 (c : Dev nD) (t : Fin cfg0.N) (j : Fin 1024) (n : Fin 4096) :
    (iblk m c 2 t : Vec Ideal S1024x4096 .bf16) (ix2 j n) = (m ((c : Thread nD τ).loc main_arg2) : Vec Ideal S1024x4096 .f32) (ix2 j n) := by
  show (V m c main_v34 : Vec Ideal S1024x4096 .bf16) (((cfg0.win 2).blk t).view.emb (ix2 j n : S1024x4096.Idx)) = _
  rw [emb_2, V_main_v34]

/-- The tables' blocks. -/
theorem tables (c : Dev nD) (t : Fin cfg0.N) :
    Tables (k0_pay8 (iblk m c 3 t)) (k0_pay9 (iblk m c 4 t)) (k0_pay10 (iblk m c 5 t))
      (fun r => Ref.cosAt (rowAt t r)) (fun r => Ref.sinAt (rowAt t r)) := by
  have h3 : ∀ y : Vec Ideal S512x128 .f32, k0_pay8 (F := Ideal) y = y := fun y => shapeCast_self y _
  have h4 : ∀ y : Vec Ideal S512x128 .f32, k0_pay9 (F := Ideal) y = y := fun y => shapeCast_self y _
  have h5 : ∀ y : Vec Ideal S512x128 .f32, k0_pay10 (F := Ideal) y = y := fun y => shapeCast_self y _
  have one : ∀ y, rest48 0x3F800000#32 y = 1 := fun y => by pointwise [rest48]
  have zero : ∀ y, rest48 0x00000000#32 y = 0 := fun y => by pointwise [rest48]
  have zero' : ∀ y, zeros8 y = 0 := fun y => by pointwise [zeros8]
  refine ⟨fun r l => ?_, fun r l => ?_, fun r l => ?_⟩
  · rw [h3]
    show (V m c main_v26 : Vec Ideal S16384x128 .f32) (((cfg0.win 3).blk t).view.emb (ix2 r l : S512x128.Idx)) = _
    rw [emb_3, V_main_v26, doubled_apply, beside_apply]
    simp only [one]; rfl
  · rw [h4]
    show (V m c main_v29 : Vec Ideal S16384x128 .f32) (((cfg0.win 4).blk t).view.emb (ix2 r l : S512x128.Idx)) = _
    rw [emb_4, V_main_v29, doubled_apply, beside_apply]
    simp only [zero, zero', dite_eq_ite, ite_self]; rfl
  · rw [h5]
    show (V m c main_v32 : Vec Ideal S16384x128 .f32) (((cfg0.win 5).blk t).view.emb (ix2 r l : S512x128.Idx)) = _
    rw [emb_5, V_main_v32, doubled_apply, beside_apply]
    simp only [zero, zero']; rfl

end Cert.Proof.Proj1
-- ==== Proof.Proj1.Array.lean ====
module

public import proofs.«01_k».proof.Proof.Proj1.Blocks
public import proofs.«01_k».proof.Proof.Proj.Array

@[expose] public section

set_option maxRecDepth 16384

noncomputable section

/-! The six result arrays of layer 1's input projection after the run: at every entry, what the reference has there. -/

namespace Cert.Proof.Proj1

open Cert.Proj1Ideal Cert.Proj1Ideal.Gen
open Cert.Proof.Proj (projected rowOf laneOf)
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The activations, the gain and the weights as launched. -/
abbrev X (c : Dev nD) : Vec Ideal S1x16384x1024 .f32 := m ((c : Thread nD τ).loc main_arg0)
abbrev N (c : Dev nD) : Vec Ideal S1024 .f32 := m ((c : Thread nD τ).loc main_arg1)
abbrev W (c : Dev nD) : Vec Ideal S1024x4096 .f32 := m ((c : Thread nD τ).loc main_arg2)

/-- A row of a block's projection is the row of the whole one. -/
theorem row_proj (c : Dev nD) (t : Fin cfg0.N) (r : Fin 512) (n : Fin 4096) :
    projected (fun k => (iblk m c 0 t : Vec Ideal S512x1024 .f32) (ix2 r k)) (fun k => (iblk m c 1 t : Vec Ideal S1x1024 .f32) (ix2 0 k))
      (fun j n => (iblk m c 2 t : Vec Ideal S1024x4096 .bf16) (ix2 j n)) n = Ref.proj (X m c) (N m c) (W m c) (rowAt t r) n := by
  unfold Ref.proj
  simp only [iblk_0, iblk_1, iblk_2]

theorem q_at (c : Dev nD) (t : Fin cfg0.N) (r : Fin 512) (n : Fin 1024) :
    outQ (iblk m c 0 t) (iblk m c 1 t) (iblk m c 2 t) (iblk m c 3 t) (iblk m c 4 t) (iblk m c 5 t) (ix2 r n)
      = Ref.qAt (X m c) (N m c) (W m c) (rowAt t r) n := by
  unfold outQ Ref.qAt
  rw [turnAll_eq _ (tables m c t)]
  simp only [prodQ_apply, row_proj]
theorem k_at (c : Dev nD) (t : Fin cfg0.N) (r : Fin 512) (n : Fin 1024) :
    outK (iblk m c 0 t) (iblk m c 1 t) (iblk m c 2 t) (iblk m c 3 t) (iblk m c 4 t) (iblk m c 5 t) (ix2 r n)
      = Ref.kAt (X m c) (N m c) (W m c) (rowAt t r) n := by
  unfold outK Ref.kAt
  rw [turnAll_eq _ (tables m c t)]
  simp only [prodK_apply, row_proj]
theorem v_at (c : Dev nD) (t : Fin cfg0.N) (r : Fin 512) (n : Fin 1024) :
    outV (iblk m c 0 t) (iblk m c 1 t) (iblk m c 2 t) (ix2 r n) = Ref.vAt (X m c) (N m c) (W m c) (rowAt t r) n :=
  (outV_apply _ _ _ r n).trans (row_proj m c t r _)
theorem gate_at (c : Dev nD) (t : Fin cfg0.N) (r : Fin 512) (n : Fin 1024) :
    outGate (iblk m c 0 t) (iblk m c 1 t) (iblk m c 2 t) (ix2 r n) = Ref.gateAt (X m c) (N m c) (W m c) (rowAt t r) n :=
  (outGate_apply _ _ _ r n).trans (row_proj m c t r _)

/-- The results: queries, keys, the keys rounded, values, the values transposed and rounded, gates. -/
def G6 (c : Dev nD) : Vec Ideal S16384x1024 .f32 := fun i => Ref.qAt (X m c) (N m c) (W m c) (i 0) (i 1)
def G7 (c : Dev nD) : Vec Ideal S131072x128 .f32 := fun i => Ref.kAt (X m c) (N m c) (W m c) (rowOf (i 0)) (laneOf (i 0) (i 1))
def G8 (c : Dev nD) : Vec Ideal S16384x1024 .bf16 := fun i => Ref.kAt (X m c) (N m c) (W m c) (i 0) (i 1)
def G9 (c : Dev nD) : Vec Ideal S131072x128 .f32 := fun i => Ref.vAt (X m c) (N m c) (W m c) (rowOf (i 0)) (laneOf (i 0) (i 1))
def G10 (c : Dev nD) : Vec Ideal S1024x16384 .bf16 := fun i => Ref.vAt (X m c) (N m c) (W m c) (i 1) (i 0)
def G11 (c : Dev nD) : Vec Ideal S16384x1024 .f32 := fun i => Ref.gateAt (X m c) (N m c) (W m c) (i 0) (i 1)

/-- Where a block's row sits in an array of heads. -/
def headAt (t : Fin cfg0.N) (r : Fin 4096) : Fin 131072 := ⟨4096 * t.val + r.val, by have h : t.val < 32 := t.isLt; omega⟩

theorem rowAt_surj (y : Fin 16384) : ∃ t r, rowAt t r = y :=
  ⟨⟨y.val / 512, by show _ < 32; omega⟩, ⟨y.val % 512, Nat.mod_lt _ (by norm_num)⟩, Fin.ext (by show 512 * (y.val / 512) + y.val % 512 = y.val; omega)⟩
theorem headAt_surj (y : Fin 131072) : ∃ t r, headAt t r = y :=
  ⟨⟨y.val / 4096, by show _ < 32; omega⟩, ⟨y.val % 4096, Nat.mod_lt _ (by norm_num)⟩, Fin.ext (by show 4096 * (y.val / 4096) + y.val % 4096 = y.val; omega)⟩

/-- A row of heads in a block: its row and its lanes. -/
theorem rowOf_headAt (t : Fin cfg0.N) (r : Fin 4096) : rowOf (headAt t r) = rowAt t ⟨r.val / 8, by omega⟩ :=
  Fin.ext (by show (4096 * t.val + r.val) / 8 = 512 * t.val + r.val / 8; omega)
theorem laneOf_headAt (t : Fin cfg0.N) (r : Fin 4096) (l : Fin 128) : laneOf (headAt t r) l = ⟨r.val % 8 * 128 + l.val, by omega⟩ :=
  Fin.ext (by show (4096 * t.val + r.val) % 8 * 128 + l.val = r.val % 8 * 128 + l.val; omega)

theorem index_6 : ∀ t : Fin cfg0.N, win0_6.index t (0 : Fin 2) = t.val ∧ win0_6.index t (1 : Fin 2) = 0 := (by decide +kernel : ∀ t : Fin grid0.N, _)
theorem index_7 : ∀ t : Fin cfg0.N, win0_7.index t (0 : Fin 2) = t.val ∧ win0_7.index t (1 : Fin 2) = 0 := (by decide +kernel : ∀ t : Fin grid0.N, _)
theorem index_8 : ∀ t : Fin cfg0.N, win0_8.index t (0 : Fin 2) = t.val ∧ win0_8.index t (1 : Fin 2) = 0 := (by decide +kernel : ∀ t : Fin grid0.N, _)
theorem index_9 : ∀ t : Fin cfg0.N, win0_9.index t (0 : Fin 2) = t.val ∧ win0_9.index t (1 : Fin 2) = 0 := (by decide +kernel : ∀ t : Fin grid0.N, _)
theorem index_10 : ∀ t : Fin cfg0.N, win0_10.index t (0 : Fin 2) = 0 ∧ win0_10.index t (1 : Fin 2) = t.val := (by decide +kernel : ∀ t : Fin grid0.N, _)
theorem index_11 : ∀ t : Fin cfg0.N, win0_11.index t (0 : Fin 2) = t.val ∧ win0_11.index t (1 : Fin 2) = 0 := (by decide +kernel : ∀ t : Fin grid0.N, _)

theorem emb_6 (t : Fin cfg0.N) (r : Fin 512) (l : Fin 1024) :
    ((cfg0.win 6).blk t).view.emb (ix2 r l : S512x1024.Idx) = (ix2 (rowAt t r) l : S16384x1024.Idx) := by
  obtain ⟨e0, e1⟩ := index_6 t
  funext a; apply Fin.ext
  match a with
  | ⟨0, _⟩ => show win0_6.index t (0 : Fin 2) * 512 + 1 * r.val = 512 * t.val + r.val; omega
  | ⟨1, _⟩ => show win0_6.index t (1 : Fin 2) * 1024 + 1 * l.val = l.val; omega
theorem emb_7 (t : Fin cfg0.N) (r : Fin 4096) (l : Fin 128) :
    ((cfg0.win 7).blk t).view.emb (ix2 r l : S4096x128.Idx) = (ix2 (headAt t r) l : S131072x128.Idx) := by
  obtain ⟨e0, e1⟩ := index_7 t
  funext a; apply Fin.ext
  match a with
  | ⟨0, _⟩ => show win0_7.index t (0 : Fin 2) * 4096 + 1 * r.val = 4096 * t.val + r.val; omega
  | ⟨1, _⟩ => show win0_7.index t (1 : Fin 2) * 128 + 1 * l.val = l.val; omega
theorem emb_8 (t : Fin cfg0.N) (r : Fin 512) (l : Fin 1024) :
    ((cfg0.win 8).blk t).view.emb (ix2 r l : S512x1024.Idx) = (ix2 (rowAt t r) l : S16384x1024.Idx) := by
  obtain ⟨e0, e1⟩ := index_8 t
  funext a; apply Fin.ext
  match a with
  | ⟨0, _⟩ => show win0_8.index t (0 : Fin 2) * 512 + 1 * r.val = 512 * t.val + r.val; omega
  | ⟨1, _⟩ => show win0_8.index t (1 : Fin 2) * 1024 + 1 * l.val = l.val; omega
theorem emb_9 (t : Fin cfg0.N) (r : Fin 4096) (l : Fin 128) :
    ((cfg0.win 9).blk t).view.emb (ix2 r l : S4096x128.Idx) = (ix2 (headAt t r) l : S131072x128.Idx) := by
  obtain ⟨e0, e1⟩ := index_9 t
  funext a; apply Fin.ext
  match a with
  | ⟨0, _⟩ => show win0_9.index t (0 : Fin 2) * 4096 + 1 * r.val = 4096 * t.val + r.val; omega
  | ⟨1, _⟩ => show win0_9.index t (1 : Fin 2) * 128 + 1 * l.val = l.val; omega
theorem emb_11 (t : Fin cfg0.N) (r : Fin 512) (l : Fin 1024) :
    ((cfg0.win 11).blk t).view.emb (ix2 r l : S512x1024.Idx) = (ix2 (rowAt t r) l : S16384x1024.Idx) := by
  obtain ⟨e0, e1⟩ := index_11 t
  funext a; apply Fin.ext
  match a with
  | ⟨0, _⟩ => show win0_11.index t (0 : Fin 2) * 512 + 1 * r.val = 512 * t.val + r.val; omega
  | ⟨1, _⟩ => show win0_11.index t (1 : Fin 2) * 1024 + 1 * l.val = l.val; omega
theorem emb_10 (t : Fin cfg0.N) (n : Fin 1024) (r : Fin 512) :
    ((cfg0.win 10).blk t).view.emb (ix2 n r : S1024x512.Idx) = (ix2 n (rowAt t r) : S1024x16384.Idx) := by
  obtain ⟨e0, e1⟩ := index_10 t
  funext a; apply Fin.ext
  match a with
  | ⟨0, _⟩ => show win0_10.index t (0 : Fin 2) * 1024 + 1 * n.val = n.val; omega
  | ⟨1, _⟩ => show win0_10.index t (1 : Fin 2) * 512 + 1 * r.val = 512 * t.val + r.val; omega

/-- A result array whose blocks are each written back, and which every entry of lies in one of, is what its blocks are. -/
theorem final_of (c : Dev nD) (k : Fin 12) (G : Buf (Elt Ideal) ((cfg0.win k).arr.view.loc (c.tc : Thread nD τ)))
    (hflush : ∀ t : Fin cfg0.N, (cfg0.win k).flush t = true)
    (hval : ∀ t : Fin cfg0.N, (dats m 0 c).flushed k t = ((cfg0.win k).blk t).view.read (Elt Ideal) G)
    (hcover : ∀ i : ((cfg0.win k).arr.view.loc (c.tc : Thread nD τ)).2.ty.Idx, ∃ t j, ((cfg0.win k).blk t).view.emb j = i) : (dats m 0 c).arrAt k cfg0.N = G :=
  (dats m 0 c).arrAt_eq_of_cover k G (fun t _ => hval t) (fun i => by
    obtain ⟨t, j, rfl⟩ := hcover i
    exact ⟨t, hflush t, ((cfg0.win k).blk t).view.emb_mem_set j⟩)

theorem final_6 (c : Dev nD) : (dats m 0 c).arrAt 6 cfg0.N = G6 m c :=
  final_of m c 6 (G6 m c) flush0_6 (fun t => by
    show (cfg0.win 6).cut (grid0.coords t) ((dats m 0 c).after 6 t) = _
    rw [after_6]
    exact funext fun j : S512x1024.Idx => by
      obtain ⟨r, n, rfl⟩ : ∃ (r : Fin 512) (n : Fin 1024), j = ix2 r n := ⟨_, _, eq_ix2 j⟩
      show _ = G6 m c (((cfg0.win 6).blk t).view.emb (ix2 r n : S512x1024.Idx))
      rw [emb_6]
      exact q_at m c t r n) (fun i : S16384x1024.Idx => by
    obtain ⟨r, n, rfl⟩ : ∃ (r : Fin 16384) (n : Fin 1024), i = ix2 r n := ⟨_, _, eq_ix2 i⟩
    obtain ⟨t, r, rfl⟩ := rowAt_surj r
    exact ⟨t, _, emb_6 t r n⟩)
theorem final_7 (c : Dev nD) : (dats m 0 c).arrAt 7 cfg0.N = G7 m c :=
  final_of m c 7 (G7 m c) flush0_7 (fun t => by
    show (cfg0.win 7).cut (grid0.coords t) ((dats m 0 c).after 7 t) = _
    rw [after_7]
    exact funext fun j : S4096x128.Idx => by
      obtain ⟨r, n, rfl⟩ : ∃ (r : Fin 4096) (n : Fin 128), j = ix2 r n := ⟨_, _, eq_ix2 j⟩
      show _ = G7 m c (((cfg0.win 7).blk t).view.emb (ix2 r n : S4096x128.Idx))
      rw [emb_7]
      show _ = Ref.kAt _ _ _ (rowOf (headAt t r)) (laneOf (headAt t r) n)
      rw [rowOf_headAt, laneOf_headAt]
      exact k_at m c t _ _) (fun i : S131072x128.Idx => by
    obtain ⟨r, n, rfl⟩ : ∃ (r : Fin 131072) (n : Fin 128), i = ix2 r n := ⟨_, _, eq_ix2 i⟩
    obtain ⟨t, r, rfl⟩ := headAt_surj r
    exact ⟨t, _, emb_7 t r n⟩)
theorem final_8 (c : Dev nD) : (dats m 0 c).arrAt 8 cfg0.N = G8 m c :=
  final_of m c 8 (G8 m c) flush0_8 (fun t => by
    show (cfg0.win 8).cut (grid0.coords t) ((dats m 0 c).after 8 t) = _
    rw [after_8]
    exact funext fun j : S512x1024.Idx => by
      obtain ⟨r, n, rfl⟩ : ∃ (r : Fin 512) (n : Fin 1024), j = ix2 r n := ⟨_, _, eq_ix2 j⟩
      show _ = G8 m c (((cfg0.win 8).blk t).view.emb (ix2 r n : S512x1024.Idx))
      rw [emb_8]
      exact k_at m c t r n) (fun i : S16384x1024.Idx => by
    obtain ⟨r, n, rfl⟩ : ∃ (r : Fin 16384) (n : Fin 1024), i = ix2 r n := ⟨_, _, eq_ix2 i⟩
    obtain ⟨t, r, rfl⟩ := rowAt_surj r
    exact ⟨t, _, emb_8 t r n⟩)
theorem final_9 (c : Dev nD) : (dats m 0 c).arrAt 9 cfg0.N = G9 m c :=
  final_of m c 9 (G9 m c) flush0_9 (fun t => by
    show (cfg0.win 9).cut (grid0.coords t) ((dats m 0 c).after 9 t) = _
    rw [after_9]
    exact funext fun j : S4096x128.Idx => by
      obtain ⟨r, n, rfl⟩ : ∃ (r : Fin 4096) (n : Fin 128), j = ix2 r n := ⟨_, _, eq_ix2 j⟩
      show _ = G9 m c (((cfg0.win 9).blk t).view.emb (ix2 r n : S4096x128.Idx))
      rw [emb_9]
      show _ = Ref.vAt _ _ _ (rowOf (headAt t r)) (laneOf (headAt t r) n)
      rw [rowOf_headAt, laneOf_headAt]
      exact v_at m c t _ _) (fun i : S131072x128.Idx => by
    obtain ⟨r, n, rfl⟩ : ∃ (r : Fin 131072) (n : Fin 128), i = ix2 r n := ⟨_, _, eq_ix2 i⟩
    obtain ⟨t, r, rfl⟩ := headAt_surj r
    exact ⟨t, _, emb_9 t r n⟩)
theorem final_10 (c : Dev nD) : (dats m 0 c).arrAt 10 cfg0.N = G10 m c :=
  final_of m c 10 (G10 m c) flush0_10 (fun t => by
    show (cfg0.win 10).cut (grid0.coords t) ((dats m 0 c).after 10 t) = _
    rw [after_10]
    exact funext fun j : S1024x512.Idx => by
      obtain ⟨n, r, rfl⟩ : ∃ (n : Fin 1024) (r : Fin 512), j = ix2 n r := ⟨_, _, eq_ix2 j⟩
      show _ = G10 m c (((cfg0.win 10).blk t).view.emb (ix2 n r : S1024x512.Idx))
      rw [emb_10]
      have e : ∀ Y : Vec Ideal S512x1024 .f32, k0_pay4 (F := Ideal) Y (ix2 n r) = Y (ix2 r n) := fun Y => by pointwise [k0_pay4]
      exact (e _).trans (v_at m c t r n)) (fun i : S1024x16384.Idx => by
    obtain ⟨n, r, rfl⟩ : ∃ (n : Fin 1024) (r : Fin 16384), i = ix2 n r := ⟨_, _, eq_ix2 i⟩
    obtain ⟨t, r, rfl⟩ := rowAt_surj r
    exact ⟨t, _, emb_10 t n r⟩)
theorem final_11 (c : Dev nD) : (dats m 0 c).arrAt 11 cfg0.N = G11 m c :=
  final_of m c 11 (G11 m c) flush0_11 (fun t => by
    show (cfg0.win 11).cut (grid0.coords t) ((dats m 0 c).after 11 t) = _
    rw [after_11]
    exact funext fun j : S512x1024.Idx => by
      obtain ⟨r, n, rfl⟩ : ∃ (r : Fin 512) (n : Fin 1024), j = ix2 r n := ⟨_, _, eq_ix2 j⟩
      show _ = G11 m c (((cfg0.win 11).blk t).view.emb (ix2 r n : S512x1024.Idx))
      rw [emb_11]
      exact gate_at m c t r n) (fun i : S16384x1024.Idx => by
    obtain ⟨r, n, rfl⟩ : ∃ (r : Fin 16384) (n : Fin 1024), i = ix2 r n := ⟨_, _, eq_ix2 i⟩
    obtain ⟨t, r, rfl⟩ := rowAt_surj r
    exact ⟨t, _, emb_11 t r n⟩)

/-- The run, each result array at the reference's. -/
theorem run_value :
    θ_run defs (onTc (τ := τ) (main (F := Ideal))) ⟨m, fun _ => 0, ρ⟩ (fun r => ∀ c : Dev nD,
      r.2.mem ((c.tc : Thread nD τ).loc main_v36_0) = G6 m c ∧ r.2.mem ((c.tc : Thread nD τ).loc main_v36_1) = G7 m c ∧
      r.2.mem ((c.tc : Thread nD τ).loc main_v36_2) = G8 m c ∧ r.2.mem ((c.tc : Thread nD τ).loc main_v36_3) = G9 m c ∧
      r.2.mem ((c.tc : Thread nD τ).loc main_v36_4) = G10 m c ∧ r.2.mem ((c.tc : Thread nD τ).loc main_v36_5) = G11 m c) :=
  (θ_run defs _ _).mono (fun r h c => ⟨((h c).1 6).trans (final_6 m c), ((h c).1 7).trans (final_7 m c), ((h c).1 8).trans (final_8 m c),
    ((h c).1 9).trans (final_9 m c), ((h c).1 10).trans (final_10 m c), ((h c).1 11).trans (final_11 m c)⟩) (run_main m ρ)

/-! The reference's results at the same arguments. -/

theorem ref_6 (c : Dev nD) : Cert.Proj1ReferenceIdeal.Read.val_main_v93 (F := Ideal) (X m c) (N m c) (W m c) = G6 m c :=
  funext fun i : S16384x1024.Idx => (congrArg _ (eq_ix2 i)).trans (Ref.v93_eq _ _ _ (i 0) (i 1))
theorem ref_7 (c : Dev nD) : Cert.Proj1ReferenceIdeal.Read.val_main_v94 (F := Ideal) (X m c) (N m c) (W m c) = G7 m c :=
  funext fun i : S131072x128.Idx => (congrArg _ (eq_ix2 i)).trans (Ref.v94_eq _ _ _ (i 0) (i 1))
theorem ref_8 (c : Dev nD) : Cert.Proj1ReferenceIdeal.Read.val_main_v96 (F := Ideal) (X m c) (N m c) (W m c) = G8 m c :=
  funext fun i : S16384x1024.Idx => (congrArg _ (eq_ix2 i)).trans (Ref.v96_eq _ _ _ (i 0) (i 1))
theorem ref_9 (c : Dev nD) : Cert.Proj1ReferenceIdeal.Read.val_main_v97 (F := Ideal) (X m c) (N m c) (W m c) = G9 m c :=
  funext fun i : S131072x128.Idx => (congrArg _ (eq_ix2 i)).trans (Ref.v97_eq _ _ _ (i 0) (i 1))
theorem ref_10 (c : Dev nD) : Cert.Proj1ReferenceIdeal.Read.val_main_v100 (F := Ideal) (X m c) (N m c) (W m c) = G10 m c :=
  funext fun i : S1024x16384.Idx => (congrArg _ (eq_ix2 i)).trans (Ref.v100_eq _ _ _ (i 0) (i 1))
theorem ref_11 (c : Dev nD) : Cert.Proj1ReferenceIdeal.Read.val_main_v101 (F := Ideal) (X m c) (N m c) (W m c) = G11 m c :=
  funext fun i : S16384x1024.Idx => (congrArg _ (eq_ix2 i)).trans (Ref.v101_eq _ _ _ (i 0) (i 1))

end Cert.Proof.Proj1
-- ==== Proof.Merge.Value.lean ====
module

public import proofs.«01_k».proof.Proof.Gen.MergeIdeal.Frame
public import Idealize.ShloMosaic.Lib.Pointwise
public import Idealize.ShloMosaic.Lib.KernelVsHost
public import Idealize.ShloMosaic.Lib.IdealHost
public import Idealize.ShloMosaic.Lib.Pipeline.Value

@[expose] public section

set_option maxRecDepth 16384

noncomputable section

/-! What the body of layer 0's output projection computes from its blocks, an entry at a time over the extended
    reals. -/

namespace Cert.Proof.Merge

open Cert.MergeIdeal Cert.MergeIdeal.Gen
open Idealize.ShloMosaic
open scoped BigOperators

/-- A gate's factor. -/
def silu (g : EReal) : EReal := Ideal.div g (1 + Ideal.exp (-g))

/-- The gated products of a row with a column of the weights, summed. -/
def gated {K : ℕ} (p g w : Fin K → EReal) : EReal := ∑ k, p k * silu (g k) * w k

theorem exp_nonneg (x : EReal) : 0 ≤ Ideal.exp x := by
  induction x with
  | bot => exact le_refl _
  | top => exact le_top
  | coe r => exact EReal.coe_nonneg.2 (Real.exp_pos r).le

/-- The reference multiplies a gate by the reciprocal. -/
theorem mul_recip (g : EReal) : g * Ideal.div 1 (1 + Ideal.exp (-g)) = silu g :=
  Ideal.mul_one_div (ne_of_gt (lt_of_lt_of_le zero_lt_one (le_add_of_nonneg_right (exp_nonneg _))))

/-- A sum over the two parts' lanes, part by part. -/
theorem gated_split (p : Fin 1024 → EReal) (q : Fin 512 → EReal) (g w : Fin 1536 → EReal) (h : Fin 1536 → EReal)
    (h0 : ∀ k : Fin 1024, h ⟨k.val, by omega⟩ = p k) (h1 : ∀ k : Fin 512, h ⟨1024 + k.val, by omega⟩ = q k) :
    gated h g w = gated p (fun k => g ⟨k.val, by omega⟩) (fun k => w ⟨k.val, by omega⟩)
      + gated q (fun k => g ⟨1024 + k.val, by omega⟩) (fun k => w ⟨1024 + k.val, by omega⟩) := by
  unfold gated
  rw [show (∑ k, h k * silu (g k) * w k) = _ from Fin.sum_univ_add (a := 1024) (b := 512) (fun k => h k * silu (g k) * w k)]
  exact congr (congrArg HAdd.hAdd (Finset.sum_congr rfl fun k _ => by rw [← h0 k]; rfl)) (Finset.sum_congr rfl fun k _ => by rw [← h1 k]; rfl)

/-- The body at an entry: the residual, then the first part's products, then the second's. -/
theorem out_apply (x0 : Vec Ideal S512x1024 .f32) (x1 : Vec Ideal S512x512 .f32) (x2 : Vec Ideal S512x1536 .f32) (x3 : Vec Ideal S512x1024 .f32)
    (x4 : Vec Ideal S1536x1024 .bf16) (x5 : Vec Ideal S1x1024 .f32) (r : Fin 512) (n : Fin 1024) :
    out0_6 x0 x1 x2 x3 x4 x5 (ix2 r n) = x3 (ix2 r n)
      + gated (fun k : Fin 1024 => x0 (ix2 r k)) (fun k => x2 (ix2 r ⟨k.val, by omega⟩)) (fun k => x4 (ix2 ⟨k.val, by omega⟩ n))
      + gated (fun k : Fin 512 => x1 (ix2 r k)) (fun k => x2 (ix2 r ⟨1024 + k.val, by omega⟩)) (fun k => x4 (ix2 ⟨1024 + k.val, by omega⟩ n)) := by
  unfold out0_6 gated silu
  rw [View.canon_unit_zero (by decide), View.ld_unit_zero (by decide), View.ld_unit_zero (by decide), View.ld_unit_zero (by decide)]
  pointwise [k0_pay1]
  simp only [zero_sub]

end Cert.Proof.Merge
-- ==== Proof.Merge.Ref.lean ====
module

public import proofs.«01_k».proof.Proof.Merge.Value
public import proofs.«01_k».proof.Proof.Gen.MergeReferenceIdeal.Read
public import Idealize.ShloMosaic.Lib.Pointwise
public import Idealize.ShloMosaic.Lib.KernelVsHost
public import Idealize.ShloMosaic.Lib.IdealHost
public import Idealize.ShloMosaic.Lib.Pipeline.Value

@[expose] public section

set_option maxRecDepth 16384

noncomputable section

/-! The reference of layer 0's output projection read an entry at a time over the extended reals. -/

namespace Cert.Proof.Merge.Ref

open Cert.MergeReferenceIdeal Cert.MergeReferenceIdeal.Gen Cert.MergeReferenceIdeal.Read
open Idealize.ShloMosaic

variable (x0 : (⟨S1x16384x1024, .f32⟩ : BufTy).Contents (Elt Ideal)) (x1 : (⟨S1x16384x512, .f32⟩ : BufTy).Contents (Elt Ideal))
  (x2 : (⟨S1x16384x1536, .f32⟩ : BufTy).Contents (Elt Ideal)) (x3 : (⟨S1x16384x1024, .f32⟩ : BufTy).Contents (Elt Ideal))
  (x4 : (⟨S1536x1024, .f32⟩ : BufTy).Contents (Elt Ideal))

theorem v0_left (t : Fin 16384) (k : Fin 1024) : val_main_v0 (F := Ideal) x0 x1 (ix3 0 t ⟨k.val, by omega⟩) = x0 (ix3 0 t k) :=
  concatenate_apply_piece (t := S1x16384x1536) 2 [⟨S1x16384x1024, x0⟩, ⟨S1x16384x512, x1⟩] _ _ 0 (by show 0 < 2; omega) S1x16384x1024 x0 rfl rfl 0 rfl (ix3 0 t k)
    (fun b hb => match b with | ⟨0, _⟩ => rfl | ⟨1, _⟩ => rfl | ⟨2, _⟩ => absurd rfl hb) (Nat.zero_add _)

theorem v0_right (t : Fin 16384) (k : Fin 512) : val_main_v0 (F := Ideal) x0 x1 (ix3 0 t ⟨1024 + k.val, by omega⟩) = x1 (ix3 0 t k) :=
  concatenate_apply_piece (t := S1x16384x1536) 2 [⟨S1x16384x1024, x0⟩, ⟨S1x16384x512, x1⟩] _ _ 1 (by show 1 < 2; omega) S1x16384x512 x1 rfl rfl 1024 rfl (ix3 0 t k)
    (fun b hb => match b with | ⟨0, _⟩ => rfl | ⟨1, _⟩ => rfl | ⟨2, _⟩ => absurd rfl hb) rfl

theorem v1_eq (i : S1x16384x1536.Idx) : val_main_v1 (F := Ideal) x2 i = silu (x2 i) := by
  rw [← mul_recip, val_main_v1_apply, val_main_call0_v5_apply, val_main_call0_v4_apply, val_main_call0_cst_0_apply, val_main_call0_v3_apply,
    val_main_call0_v2_apply, val_main_call0_cst_apply, val_main_call0_v1_apply, val_main_call0_v0_apply,
    show FloatOps.ofBits (F := Ideal) .f32 0x3F800000#32 = 1 from Ideal.ofBits_one_f32]
  rfl

/-- The reference at row `t`, column `n`. -/
def outAt (t : Fin 16384) (n : Fin 1024) : EReal :=
  x3 (ix3 0 t n)
    + gated (fun k : Fin 1024 => x0 (ix3 0 t k)) (fun k => x2 (ix3 0 t ⟨k.val, by omega⟩)) (fun k => x4 (ix2 ⟨k.val, by omega⟩ n))
    + gated (fun k : Fin 512 => x1 (ix3 0 t k)) (fun k => x2 (ix3 0 t ⟨1024 + k.val, by omega⟩)) (fun k => x4 (ix2 ⟨1024 + k.val, by omega⟩ n))

theorem v3_eq (t : Fin 16384) (n : Fin 1024) : val_main_v3 (F := Ideal) x0 x1 x2 x4 (ix3 0 t n)
    = gated (fun k => val_main_v0 (F := Ideal) x0 x1 (ix3 0 t k)) (fun k => x2 (ix3 0 t k)) (fun k => x4 (ix2 k n)) := by
  unfold gated
  rw [val_main_v3_apply]
  refine Finset.sum_congr rfl fun k _ => ?_
  have i0 : lidx_main_v3 (ix3 0 t n) k = ix3 0 t k := by
    funext a; match a with | ⟨0, _⟩ => rfl | ⟨1, _⟩ => rfl | ⟨2, _⟩ => rfl
  have i1 : ridx_main_v3 (ix3 0 t n) k = ix2 k n := by
    funext a; match a with | ⟨0, _⟩ => rfl | ⟨1, _⟩ => rfl
  rw [i0, i1, val_main_v2_apply, v1_eq]
  rfl

theorem v5_eq (t : Fin 16384) (n : Fin 1024) : val_main_v5 (F := Ideal) x0 x1 x2 x3 x4 (ix2 t n) = outAt x0 x1 x2 x3 x4 t n := by
  have i0 : idx_main_v5 (ix2 t n) = ix3 0 t n := by
    funext a; apply Fin.ext
    match a with
    | ⟨0, _⟩ => rfl
    | ⟨1, _⟩ => show (t.val * 1024 + n.val) / 1024 % 16384 = t.val; omega
    | ⟨2, _⟩ => show (t.val * 1024 + n.val) % 1024 = n.val; omega
  rw [val_main_v5_apply, i0, val_main_v4_apply, v3_eq, gated_split _ _ _ _ _ (v0_left x0 x1 t) (v0_right x0 x1 t)]
  exact (add_assoc _ _ _).symm

end Cert.Proof.Merge.Ref
-- ==== Proof.Merge.Array.lean ====
module

public import proofs.«01_k».proof.Proof.Merge.Ref

@[expose] public section

set_option maxRecDepth 16384

noncomputable section

/-! The result array of layer 0's output projection after the run: the blocks read off the arguments as launched, and at every entry of
    the result what the reference has there. -/

namespace Cert.Proof.Merge

open Cert.MergeIdeal Cert.MergeIdeal.Gen
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-- The two mixers' outputs, the gates, the residual and the weights as launched. -/
abbrev A (c : Dev nD) : Vec Ideal S1x16384x1024 .f32 := m ((c : Thread nD τ).loc main_arg0)
abbrev P (c : Dev nD) : Vec Ideal S1x16384x512 .f32 := m ((c : Thread nD τ).loc main_arg1)
abbrev Z (c : Dev nD) : Vec Ideal S1x16384x1536 .f32 := m ((c : Thread nD τ).loc main_arg2)
abbrev X (c : Dev nD) : Vec Ideal S1x16384x1024 .f32 := m ((c : Thread nD τ).loc main_arg3)
abbrev W (c : Dev nD) : Vec Ideal S1536x1024 .f32 := m ((c : Thread nD τ).loc main_arg4)

theorem V_main_v0 (c : Dev nD) : (V m c main_v0 : Vec Ideal S16384x1024 .f32) = shapeCast S16384x1024 (A m c) shapeCasts_S1x16384x1024_S16384x1024 := by
  unfold V; simp only [hostOps0]; after_results_simp <;> rfl
theorem V_main_v1 (c : Dev nD) : (V m c main_v1 : Vec Ideal S16384x512 .f32) = shapeCast S16384x512 (P m c) shapeCasts_S1x16384x512_S16384x512 := by
  unfold V; simp only [hostOps0]; after_results_simp <;> rfl
theorem V_main_v2 (c : Dev nD) : (V m c main_v2 : Vec Ideal S16384x1536 .f32) = shapeCast S16384x1536 (Z m c) shapeCasts_S1x16384x1536_S16384x1536 := by
  unfold V; simp only [hostOps0]; after_results_simp <;> rfl
theorem V_main_v3 (c : Dev nD) : (V m c main_v3 : Vec Ideal S16384x1024 .f32) = shapeCast S16384x1024 (X m c) shapeCasts_S1x16384x1024_S16384x1024 := by
  unfold V; simp only [hostOps0]; after_results_simp <;> rfl
theorem V_main_v4 (c : Dev nD) : (V m c main_v4 : Vec Ideal S1536x1024 .bf16) = W m c := by
  unfold V; simp only [hostOps0]; after_results_simp <;> rfl

/-- Where a block's row sits in its array. -/
def rowAt (t : Fin cfg0.N) (r : Fin 512) : Fin 16384 := ⟨512 * t.val + r.val, by have h : t.val < 32 := t.isLt; omega⟩

theorem rowAt_surj (y : Fin 16384) : ∃ t r, rowAt t r = y :=
  ⟨⟨y.val / 512, by show _ < 32; omega⟩, ⟨y.val % 512, Nat.mod_lt _ (by norm_num)⟩, Fin.ext (by show 512 * (y.val / 512) + y.val % 512 = y.val; omega)⟩

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = t.val ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)
theorem index_6 : ∀ t : Fin cfg0.N, win0_6.index t (0 : Fin 2) = t.val ∧ win0_6.index t (1 : Fin 2) = 0 := (by decide +kernel : ∀ t : Fin grid0.N, _)

theorem emb_0 (t : Fin cfg0.N) (r : Fin 512) (l : Fin 1024) :
    ((cfg0.win 0).blk t).view.emb (ix2 r l : S512x1024.Idx) = (ix2 (rowAt t r) l : S16384x1024.Idx) := by
  obtain ⟨e0, e1⟩ := index_0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega
theorem emb_1 (t : Fin cfg0.N) (r : Fin 512) (l : Fin 512) :
    ((cfg0.win 1).blk t).view.emb (ix2 r l : S512x512.Idx) = (ix2 (rowAt t r) l : S16384x512.Idx) := by
  obtain ⟨e0, e1⟩ := index_1 t
  funext a; apply Fin.ext
  match a with
  | ⟨0, _⟩ => show win0_1.index t (0 : Fin 2) * 512 + 1 * r.val = 512 * t.val + r.val; omega
  | ⟨1, _⟩ => show win0_1.index t (1 : Fin 2) * 512 + 1 * l.val = l.val; omega
theorem emb_2 (t : Fin cfg0.N) (r : Fin 512) (l : Fin 1536) :
    ((cfg0.win 2).blk t).view.emb (ix2 r l : S512x1536.Idx) = (ix2 (rowAt t r) l : S16384x1536.Idx) := by
  obtain ⟨e0, e1⟩ := index_2 t
  funext a; apply Fin.ext
  match a with
  | ⟨0, _⟩ => show win0_2.index t (0 : Fin 2) * 512 + 1 * r.val = 512 * t.val + r.val; omega
  | ⟨1, _⟩ => show win0_2.index t (1 : Fin 2) * 1536 + 1 * l.val = l.val; omega
theorem emb_3 (t : Fin cfg0.N) (r : Fin 512) (l : Fin 1024) :
    ((cfg0.win 3).blk t).view.emb (ix2 r l : S512x1024.Idx) = (ix2 (rowAt t r) l : S16384x1024.Idx) := by
  obtain ⟨e0, e1⟩ := index_3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * l.val = l.val; omega
theorem emb_4 (t : Fin cfg0.N) (j : S1536x1024.Idx) : ((cfg0.win 4).blk t).view.emb j = j := by
  obtain ⟨e0, e1⟩ := index_4 t
  funext a; apply Fin.ext
  match a with
  | ⟨0, _⟩ => show win0_4.index t (0 : Fin 2) * 1536 + 1 * (j 0).val = (j 0).val; omega
  | ⟨1, _⟩ => show win0_4.index t (1 : Fin 2) * 1024 + 1 * (j 1).val = (j 1).val; omega
theorem emb_6 (t : Fin cfg0.N) (r : Fin 512) (l : Fin 1024) :
    ((cfg0.win 6).blk t).view.emb (ix2 r l : S512x1024.Idx) = (ix2 (rowAt t r) l : S16384x1024.Idx) := by
  obtain ⟨e0, e1⟩ := index_6 t
  funext a; apply Fin.ext
  match a with
  | ⟨0, _⟩ => show win0_6.index t (0 : Fin 2) * 512 + 1 * r.val = 512 * t.val + r.val; omega
  | ⟨1, _⟩ => show win0_6.index t (1 : Fin 2) * 1024 + 1 * l.val = l.val; omega

theorem iblk_0 (c : Dev nD) (t : Fin cfg0.N) (r : Fin 512) (l : Fin 1024) :
    (iblk m c 0 t : Vec Ideal S512x1024 .f32) (ix2 r l) = A m c (ix3 0 (rowAt t r) l) := by
  show (V m c main_v0 : Vec Ideal S16384x1024 .f32) (((cfg0.win 0).blk t).view.emb (ix2 r l : S512x1024.Idx)) = _
  rw [emb_0, V_main_v0]; pointwise
theorem iblk_1 (c : Dev nD) (t : Fin cfg0.N) (r : Fin 512) (l : Fin 512) :
    (iblk m c 1 t : Vec Ideal S512x512 .f32) (ix2 r l) = P m c (ix3 0 (rowAt t r) l) := by
  show (V m c main_v1 : Vec Ideal S16384x512 .f32) (((cfg0.win 1).blk t).view.emb (ix2 r l : S512x512.Idx)) = _
  rw [emb_1, V_main_v1]; pointwise
theorem iblk_2 (c : Dev nD) (t : Fin cfg0.N) (r : Fin 512) (l : Fin 1536) :
    (iblk m c 2 t : Vec Ideal S512x1536 .f32) (ix2 r l) = Z m c (ix3 0 (rowAt t r) l) := by
  show (V m c main_v2 : Vec Ideal S16384x1536 .f32) (((cfg0.win 2).blk t).view.emb (ix2 r l : S512x1536.Idx)) = _
  rw [emb_2, V_main_v2]; pointwise
theorem iblk_3 (c : Dev nD) (t : Fin cfg0.N) (r : Fin 512) (l : Fin 1024) :
    (iblk m c 3 t : Vec Ideal S512x1024 .f32) (ix2 r l) = X m c (ix3 0 (rowAt t r) l) := by
  show (V m c main_v3 : Vec Ideal S16384x1024 .f32) (((cfg0.win 3).blk t).view.emb (ix2 r l : S512x1024.Idx)) = _
  rw [emb_3, V_main_v3]; pointwise
theorem iblk_4 (c : Dev nD) (t : Fin cfg0.N) (j : Fin 1536) (n : Fin 1024) :
    (iblk m c 4 t : Vec Ideal S1536x1024 .bf16) (ix2 j n) = W m c (ix2 j n) := by
  show (V m c main_v4 : Vec Ideal S1536x1024 .bf16) (((cfg0.win 4).blk t).view.emb (ix2 j n : S1536x1024.Idx)) = _
  rw [emb_4, V_main_v4]

/-- The result. -/
def G6 (c : Dev nD) : Vec Ideal S16384x1024 .f32 := fun i => Ref.outAt (A m c) (P m c) (Z m c) (X m c) (W m c) (i 0) (i 1)

theorem out_at (c : Dev nD) (t : Fin cfg0.N) (r : Fin 512) (n : Fin 1024) :
    out0_6 (iblk m c 0 t) (iblk m c 1 t) (iblk m c 2 t) (iblk m c 3 t) (iblk m c 4 t) (iblk m c 5 t) (ix2 r n)
      = Ref.outAt (A m c) (P m c) (Z m c) (X m c) (W m c) (rowAt t r) n := by
  unfold Ref.outAt
  rw [out_apply]
  simp only [iblk_0, iblk_1, iblk_2, iblk_3, iblk_4]

/-- Every block is written back, and every entry lies in one. -/
theorem final_6 (c : Dev nD) : (dats m 0 c).arrAt 6 cfg0.N = G6 m c :=
  (dats m 0 c).arrAt_eq_of_cover 6 (G6 m c) (fun t _ => by
    show (cfg0.win 6).cut (grid0.coords t) ((dats m 0 c).after 6 t) = _
    rw [after0_6]
    exact funext fun j : S512x1024.Idx => by
      obtain ⟨r, n, rfl⟩ : ∃ (r : Fin 512) (n : Fin 1024), j = ix2 r n := ⟨_, _, eq_ix2 j⟩
      show _ = G6 m c (((cfg0.win 6).blk t).view.emb (ix2 r n : S512x1024.Idx))
      rw [emb_6]
      exact out_at m c t r n) (fun i : S16384x1024.Idx => by
    obtain ⟨r, n, rfl⟩ : ∃ (r : Fin 16384) (n : Fin 1024), i = ix2 r n := ⟨_, _, eq_ix2 i⟩
    obtain ⟨t, r, rfl⟩ := rowAt_surj r
    exact ⟨t, flush0_6 t, emb_6 t r n ▸ ((cfg0.win 6).blk t).view.emb_mem_set (ix2 r n : S512x1024.Idx)⟩)

/-- The run, the result array at the reference's. -/
theorem run_value :
    θ_run defs (onTc (τ := τ) (main (F := Ideal))) ⟨m, fun _ => 0, ρ⟩ (fun r => ∀ c : Dev nD,
      r.2.mem ((c.tc : Thread nD τ).loc main_v6) = G6 m c) :=
  (θ_run defs _ _).mono (fun r h c => ((h c).1 6).trans (final_6 m c)) (run_main m ρ)

/-- The reference's result at the same arguments. -/
theorem ref_6 (c : Dev nD) : Cert.MergeReferenceIdeal.Read.val_main_v5 (F := Ideal) (A m c) (P m c) (Z m c) (X m c) (W m c) = G6 m c :=
  funext fun i : S16384x1024.Idx => (congrArg _ (eq_ix2 i)).trans (Ref.v5_eq _ _ _ _ _ (i 0) (i 1))

/-- A function of five arguments that are the same is the same. -/
theorem at_args {α β γ δ ε ζ : Type} (f : α → β → γ → δ → ε → ζ) {x x' : α} {y y' : β} {z z' : γ} {u u' : δ} {v v' : ε}
    (hx : x = x') (hy : y = y') (hz : z = z') (hu : u = u') (hv : v = v') : f x y z u v = f x' y' z' u' v' := by
  rw [hx, hy, hz, hu, hv]

end Cert.Proof.Merge
-- ==== Proof.Merge.Same.lean ====
module

public import proofs.«01_k».proof.Proof.Gen.Merge
public import proofs.«01_k».proof.Proof.Gen.MergeIdeal.Frame

@[expose] public section

noncomputable section

/-! The two programs of layer 0's output projection have one text, so a run of the one is a run of the other. -/

namespace Cert.Proof.Merge

open Idealize.ShloMosaic Idealize.SL.Sem

variable {F : FTy → Type} [FloatOps F]

set_option maxHeartbeats 2000000 in
theorem defs₀_same : Cert.Merge.defs₀ (F := F) = Cert.MergeIdeal.defs₀ (F := F) :=
  congrArg (Defs.onTc (Λ := Cert.MergeIdeal.Λ₀)) (funext fun l => match l with
    | 0 => funext fun ⟨t, s⟩ => rfl
    | ⟨_ + 1, h⟩ => absurd h (Nat.not_lt.2 (Nat.le_add_left _ _)))

theorem defs_same : Cert.Merge.defs (F := F) = Cert.MergeIdeal.defs (F := F) :=
  congrArg (Idealize.ShloMosaic.Pipeline.defs (Cert.MergeIdeal.pcfgs (F := F))) defs₀_same

set_option maxHeartbeats 2000000 in
theorem main_same : Cert.Merge.main (F := F) = Cert.MergeIdeal.main (F := F) := rfl

theorem run_same : θ_run (Cert.Merge.defs (F := F)) (onTc (τ := Cert.Merge.τ) (Cert.Merge.main (F := F)))
    = θ_run (Cert.MergeIdeal.defs (F := F)) (onTc (τ := Cert.MergeIdeal.τ) (Cert.MergeIdeal.main (F := F))) :=
  congr (congrArg θ_run defs_same) (congrArg (onTc (τ := Cert.MergeIdeal.τ)) main_same)

theorem frame_same (m : (ℓ : Loc Cert.Merge.nD Cert.Merge.τ Cert.Merge.sig) → Buf (Elt F) ℓ) (ρ : Dev Cert.Merge.nD → PrngReg) :
    θ_run (Cert.Merge.defs (F := F)) (onTc (τ := Cert.Merge.τ) (Cert.Merge.main (F := F))) ⟨m, fun _ => 0, ρ⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0) := by
  rw [run_same]
  exact Cert.MergeIdeal.Gen.frame m ρ

end Cert.Proof.Merge
-- ==== Proof.Merge1.Value.lean ====
module

public import proofs.«01_k».proof.Proof.Merge.Value
public import proofs.«01_k».proof.Proof.Gen.Merge1Ideal.Frame
public import Idealize.ShloMosaic.Lib.Pointwise
public import Idealize.ShloMosaic.Lib.KernelVsHost
public import Idealize.ShloMosaic.Lib.IdealHost
public import Idealize.ShloMosaic.Lib.Pipeline.Value

@[expose] public section

set_option maxRecDepth 16384

noncomputable section

/-! What the body of layer 1's output projection computes from its blocks, an entry at a time over the extended reals. -/

namespace Cert.Proof.Merge1

open Cert.Merge1Ideal Cert.Merge1Ideal.Gen
open Cert.Proof.Merge (silu gated)
open Idealize.ShloMosaic
open scoped BigOperators

/-- A row divided by its root mean square, times the norm's weights. -/
def normed (y g : Fin 1024 → EReal) (n : Fin 1024) : EReal :=
  y n * Ideal.rsqrt (Ideal.div (∑ k, y k * y k) (Ideal.ofBits .f32 0x44800000#32) + Ideal.ofBits .f32 0x358637BD#32) * g n

/-- The body at an entry: the residual plus the gated products, normed. -/
theorem out_apply (x0 x1 x2 : Vec Ideal S512x1024 .f32) (x3 : Vec Ideal S1024x1024 .bf16) (x4 : Vec Ideal S1x1024 .f32) (r : Fin 512) (n : Fin 1024) :
    out0_5 x0 x1 x2 x3 x4 (ix2 r n)
      = normed (fun n => x2 (ix2 r n) + gated (fun k => x0 (ix2 r k)) (fun k => x1 (ix2 r k)) (fun k => x3 (ix2 k n))) (fun n => x4 (ix2 0 n)) n := by
  unfold out0_5 normed gated silu
  rw [View.canon_unit_zero (by decide), View.ld_unit_zero (by decide), View.ld_unit_zero (by decide), View.ld_unit_zero (by decide),
    View.ld_unit_zero (by decide), View.ld_unit_zero (by decide)]
  pointwise [k0_pay1]
  simp only [zero_sub]

end Cert.Proof.Merge1
-- ==== Proof.Merge1.Ref.lean ====
module

public import proofs.«01_k».proof.Proof.Merge1.Value
public import proofs.«01_k».proof.Proof.Gen.Merge1ReferenceIdeal.Read
public import Idealize.ShloMosaic.Lib.Pointwise
public import Idealize.ShloMosaic.Lib.KernelVsHost
public import Idealize.ShloMosaic.Lib.IdealHost
public import Idealize.ShloMosaic.Lib.Pipeline.Value

@[expose] public section

set_option maxRecDepth 16384

noncomputable section

/-! The reference of layer 1's output projection read an entry at a time over the extended reals. -/

namespace Cert.Proof.Merge1.Ref

open Cert.Merge1ReferenceIdeal Cert.Merge1ReferenceIdeal.Gen Cert.Merge1ReferenceIdeal.Read
open Cert.Proof.Merge (silu gated mul_recip)
open Idealize.ShloMosaic

variable (x0 x1 x2 : (⟨S1x16384x1024, .f32⟩ : BufTy).Contents (Elt Ideal)) (x3 : (⟨S1024x1024, .f32⟩ : BufTy).Contents (Elt Ideal))
  (x4 : (⟨S1024, .f32⟩ : BufTy).Contents (Elt Ideal))

theorem v0_eq (i : S1x16384x1024.Idx) : val_main_v0 (F := Ideal) x1 i = silu (x1 i) := by
  rw [← mul_recip, val_main_v0_apply, val_main_call0_v5_apply, val_main_call0_v4_apply, val_main_call0_cst_0_apply, val_main_call0_v3_apply,
    val_main_call0_v2_apply, val_main_call0_cst_apply, val_main_call0_v1_apply, val_main_call0_v0_apply,
    show FloatOps.ofBits (F := Ideal) .f32 0x3F800000#32 = 1 from Ideal.ofBits_one_f32]
  rfl

/-- Row `t` before the norm, at column `n`. -/
def sumAt (t : Fin 16384) (n : Fin 1024) : EReal :=
  x2 (ix3 0 t n) + gated (fun k => x0 (ix3 0 t k)) (fun k => x1 (ix3 0 t k)) (fun k => x3 (ix2 k n))

/-- The reference at row `t`, column `n`. -/
def outAt (t : Fin 16384) (n : Fin 1024) : EReal := normed (sumAt x0 x1 x2 x3 t) (fun n => x4 (ix1 n)) n

theorem v3_eq (t : Fin 16384) (n : Fin 1024) : val_main_v3 (F := Ideal) x0 x1 x2 x3 (ix3 0 t n) = sumAt x0 x1 x2 x3 t n := by
  unfold sumAt gated
  rw [val_main_v3_apply, val_main_v2_apply]
  refine congrArg (x2 (ix3 0 t n) + ·) (Finset.sum_congr rfl fun k _ => ?_)
  have i0 : lidx_main_v2 (ix3 0 t n) k = ix3 0 t k := by
    funext a; match a with | ⟨0, _⟩ => rfl | ⟨1, _⟩ => rfl | ⟨2, _⟩ => rfl
  have i1 : ridx_main_v2 (ix3 0 t n) k = ix2 k n := by
    funext a; match a with | ⟨0, _⟩ => rfl | ⟨1, _⟩ => rfl
  rw [i0, i1, val_main_v1_apply, v0_eq]
  rfl

theorem v16_eq (t : Fin 16384) (n : Fin 1024) : val_main_v16 (F := Ideal) x0 x1 x2 x3 x4 (ix3 0 t n) = outAt x0 x1 x2 x3 x4 t n := by
  have hsum : val_main_v5 (F := Ideal) x0 x1 x2 x3 (idx_main_v6 (idx_main_v12 (ix3 0 t n))) = ∑ k : Fin 1024, sumAt x0 x1 x2 x3 t k * sumAt x0 x1 x2 x3 t k := by
    rw [val_main_v5_apply, val_main_cst_apply, show FloatOps.ofBits (F := Ideal) .f32 0x00000000#32 = 0 from Ideal.ofBits_zero_f32, zero_add]
    refine Finset.sum_congr rfl fun k _ => ?_
    have : idx_main_v5 (idx_main_v6 (idx_main_v12 (ix3 0 t n))) k = ix3 0 t k := by
      funext a; match a with | ⟨0, _⟩ => rfl | ⟨1, _⟩ => rfl | ⟨2, _⟩ => rfl
    rw [val_main_v4_apply, this, v3_eq]; rfl
  have i1 : idx_main_v14 (idx_main_v15 (ix3 0 t n)) = ix1 n := by
    funext a; match a with | ⟨0, _⟩ => rfl
  rw [val_main_v16_apply, val_main_v15_apply, val_main_v14_apply, i1, val_main_v13_apply, val_main_v12_apply, val_main_v11_apply, val_main_v10_apply,
    val_main_v9_apply, val_main_cst_1_apply, val_main_v8_apply, val_main_v7_apply, val_main_cst_0_apply, val_main_v6_apply, hsum, v3_eq]
  rfl

theorem v17_eq (t : Fin 16384) (n : Fin 1024) : val_main_v17 (F := Ideal) x0 x1 x2 x3 x4 (ix2 t n) = outAt x0 x1 x2 x3 x4 t n := by
  have i0 : idx_main_v17 (ix2 t n) = ix3 0 t n := by
    funext a; apply Fin.ext
    match a with
    | ⟨0, _⟩ => rfl
    | ⟨1, _⟩ => show (t.val * 1024 + n.val) / 1024 % 16384 = t.val; omega
    | ⟨2, _⟩ => show (t.val * 1024 + n.val) % 1024 = n.val; omega
  rw [val_main_v17_apply, i0, v16_eq]

end Cert.Proof.Merge1.Ref
-- ==== Proof.Merge1.Array.lean ====
module

public import proofs.«01_k».proof.Proof.Merge1.Ref

@[expose] public section

set_option maxRecDepth 16384

noncomputable section

/-! The result array of layer 1's output projection after the run: the blocks read off the arguments as launched, and at every entry of
    the result what the reference has there. -/

namespace Cert.Proof.Merge1

open Cert.Merge1Ideal Cert.Merge1Ideal.Gen
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-- The attention's output, the gates, the residual, the weights and the final norm's gain as launched. -/
abbrev A (c : Dev nD) : Vec Ideal S1x16384x1024 .f32 := m ((c : Thread nD τ).loc main_arg0)
abbrev Z (c : Dev nD) : Vec Ideal S1x16384x1024 .f32 := m ((c : Thread nD τ).loc main_arg1)
abbrev X (c : Dev nD) : Vec Ideal S1x16384x1024 .f32 := m ((c : Thread nD τ).loc main_arg2)
abbrev W (c : Dev nD) : Vec Ideal S1024x1024 .f32 := m ((c : Thread nD τ).loc main_arg3)
abbrev N (c : Dev nD) : Vec Ideal S1024 .f32 := m ((c : Thread nD τ).loc main_arg4)

theorem V_main_v0 (c : Dev nD) : (V m c main_v0 : Vec Ideal S16384x1024 .f32) = shapeCast S16384x1024 (A m c) shapeCasts_S1x16384x1024_S16384x1024 := by
  unfold V; simp only [hostOps0]; after_results_simp <;> rfl
theorem V_main_v1 (c : Dev nD) : (V m c main_v1 : Vec Ideal S16384x1024 .f32) = shapeCast S16384x1024 (Z m c) shapeCasts_S1x16384x1024_S16384x1024 := by
  unfold V; simp only [hostOps0]; after_results_simp <;> rfl
theorem V_main_v2 (c : Dev nD) : (V m c main_v2 : Vec Ideal S16384x1024 .f32) = shapeCast S16384x1024 (X m c) shapeCasts_S1x16384x1024_S16384x1024 := by
  unfold V; simp only [hostOps0]; after_results_simp <;> rfl
theorem V_main_v3 (c : Dev nD) : (V m c main_v3 : Vec Ideal S1024x1024 .bf16) = W m c := by
  unfold V; simp only [hostOps0]; after_results_simp <;> rfl
theorem V_main_v4 (c : Dev nD) : (V m c main_v4 : Vec Ideal S1x1024 .f32) = shapeCast S1x1024 (N m c) shapeCasts_S1024_S1x1024 := by
  unfold V; simp only [hostOps0]; after_results_simp <;> rfl

/-- Where a block's row sits in its array. -/
def rowAt (t : Fin cfg0.N) (r : Fin 512) : Fin 16384 := ⟨512 * t.val + r.val, by have h : t.val < 32 := t.isLt; omega⟩

theorem rowAt_surj (y : Fin 16384) : ∃ t r, rowAt t r = y :=
  ⟨⟨y.val / 512, by show _ < 32; omega⟩, ⟨y.val % 512, Nat.mod_lt _ (by norm_num)⟩, Fin.ext (by show 512 * (y.val / 512) + y.val % 512 = y.val; omega)⟩

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)
theorem index_4 : ∀ t : Fin cfg0.N, win0_4.index t (0 : Fin 2) = 0 ∧ win0_4.index t (1 : Fin 2) = 0 := (by decide +kernel : ∀ t : Fin grid0.N, _)
theorem index_5 : ∀ t : Fin cfg0.N, win0_5.index t (0 : Fin 2) = t.val ∧ win0_5.index t (1 : Fin 2) = 0 := (by decide +kernel : ∀ t : Fin grid0.N, _)

theorem emb_0 (t : Fin cfg0.N) (r : Fin 512) (l : Fin 1024) :
    ((cfg0.win 0).blk t).view.emb (ix2 r l : S512x1024.Idx) = (ix2 (rowAt t r) l : S16384x1024.Idx) := by
  obtain ⟨e0, e1⟩ := index_0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * l.val = l.val; omega
theorem emb_1 (t : Fin cfg0.N) (r : Fin 512) (l : Fin 1024) :
    ((cfg0.win 1).blk t).view.emb (ix2 r l : S512x1024.Idx) = (ix2 (rowAt t r) l : S16384x1024.Idx) := by
  obtain ⟨e0, e1⟩ := index_1 t
  funext a; apply Fin.ext
  match a with
  | ⟨0, _⟩ => show win0_1.index t (0 : Fin 2) * 512 + 1 * r.val = 512 * t.val + r.val; omega
  | ⟨1, _⟩ => show win0_1.index t (1 : Fin 2) * 1024 + 1 * l.val = l.val; omega
theorem emb_2 (t : Fin cfg0.N) (r : Fin 512) (l : Fin 1024) :
    ((cfg0.win 2).blk t).view.emb (ix2 r l : S512x1024.Idx) = (ix2 (rowAt t r) l : S16384x1024.Idx) := by
  obtain ⟨e0, e1⟩ := index_2 t
  funext a; apply Fin.ext
  match a with
  | ⟨0, _⟩ => show win0_2.index t (0 : Fin 2) * 512 + 1 * r.val = 512 * t.val + r.val; omega
  | ⟨1, _⟩ => show win0_2.index t (1 : Fin 2) * 1024 + 1 * l.val = l.val; omega
theorem emb_3 (t : Fin cfg0.N) (j : S1024x1024.Idx) : ((cfg0.win 3).blk t).view.emb j = j := by
  obtain ⟨e0, e1⟩ := index_3 t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega
theorem emb_4 (t : Fin cfg0.N) (j : S1x1024.Idx) : ((cfg0.win 4).blk t).view.emb j = j := by
  obtain ⟨e0, e1⟩ := index_4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega
theorem emb_5 (t : Fin cfg0.N) (r : Fin 512) (l : Fin 1024) :
    ((cfg0.win 5).blk t).view.emb (ix2 r l : S512x1024.Idx) = (ix2 (rowAt t r) l : S16384x1024.Idx) := by
  obtain ⟨e0, e1⟩ := index_5 t
  funext a; apply Fin.ext
  match a with
  | ⟨0, _⟩ => show win0_5.index t (0 : Fin 2) * 512 + 1 * r.val = 512 * t.val + r.val; omega
  | ⟨1, _⟩ => show win0_5.index t (1 : Fin 2) * 1024 + 1 * l.val = l.val; omega

theorem iblk_0 (c : Dev nD) (t : Fin cfg0.N) (r : Fin 512) (l : Fin 1024) :
    (iblk m c 0 t : Vec Ideal S512x1024 .f32) (ix2 r l) = A m c (ix3 0 (rowAt t r) l) := by
  show (V m c main_v0 : Vec Ideal S16384x1024 .f32) (((cfg0.win 0).blk t).view.emb (ix2 r l : S512x1024.Idx)) = _
  rw [emb_0, V_main_v0]; pointwise
theorem iblk_1 (c : Dev nD) (t : Fin cfg0.N) (r : Fin 512) (l : Fin 1024) :
    (iblk m c 1 t : Vec Ideal S512x1024 .f32) (ix2 r l) = Z m c (ix3 0 (rowAt t r) l) := by
  show (V m c main_v1 : Vec Ideal S16384x1024 .f32) (((cfg0.win 1).blk t).view.emb (ix2 r l : S512x1024.Idx)) = _
  rw [emb_1, V_main_v1]; pointwise
theorem iblk_2 (c : Dev nD) (t : Fin cfg0.N) (r : Fin 512) (l : Fin 1024) :
    (iblk m c 2 t : Vec Ideal S512x1024 .f32) (ix2 r l) = X m c (ix3 0 (rowAt t r) l) := by
  show (V m c main_v2 : Vec Ideal S16384x1024 .f32) (((cfg0.win 2).blk t).view.emb (ix2 r l : S512x1024.Idx)) = _
  rw [emb_2, V_main_v2]; pointwise
theorem iblk_3 (c : Dev nD) (t : Fin cfg0.N) (j : Fin 1024) (n : Fin 1024) :
    (iblk m c 3 t : Vec Ideal S1024x1024 .bf16) (ix2 j n) = W m c (ix2 j n) := by
  show (V m c main_v3 : Vec Ideal S1024x1024 .bf16) (((cfg0.win 3).blk t).view.emb (ix2 j n : S1024x1024.Idx)) = _
  rw [emb_3, V_main_v3]
theorem iblk_4 (c : Dev nD) (t : Fin cfg0.N) (n : Fin 1024) :
    (iblk m c 4 t : Vec Ideal S1x1024 .f32) (ix2 0 n) = N m c (ix1 n) := by
  show (V m c main_v4 : Vec Ideal S1x1024 .f32) (((cfg0.win 4).blk t).view.emb (ix2 0 n : S1x1024.Idx)) = _
  rw [emb_4, V_main_v4]; pointwise

/-- The result. -/
def G5 (c : Dev nD) : Vec Ideal S16384x1024 .f32 := fun i => Ref.outAt (A m c) (Z m c) (X m c) (W m c) (N m c) (i 0) (i 1)

theorem out_at (c : Dev nD) (t : Fin cfg0.N) (r : Fin 512) (n : Fin 1024) :
    out0_5 (iblk m c 0 t) (iblk m c 1 t) (iblk m c 2 t) (iblk m c 3 t) (iblk m c 4 t) (ix2 r n)
      = Ref.outAt (A m c) (Z m c) (X m c) (W m c) (N m c) (rowAt t r) n := by
  unfold Ref.outAt
  rw [out_apply]
  simp only [iblk_0, iblk_1, iblk_2, iblk_3, iblk_4]
  rfl

/-- Every block is written back, and every entry lies in one. -/
theorem final_5 (c : Dev nD) : (dats m 0 c).arrAt 5 cfg0.N = G5 m c :=
  (dats m 0 c).arrAt_eq_of_cover 5 (G5 m c) (fun t _ => by
    show (cfg0.win 5).cut (grid0.coords t) ((dats m 0 c).after 5 t) = _
    rw [after0_5]
    exact funext fun j : S512x1024.Idx => by
      obtain ⟨r, n, rfl⟩ : ∃ (r : Fin 512) (n : Fin 1024), j = ix2 r n := ⟨_, _, eq_ix2 j⟩
      show _ = G5 m c (((cfg0.win 5).blk t).view.emb (ix2 r n : S512x1024.Idx))
      rw [emb_5]
      exact out_at m c t r n) (fun i : S16384x1024.Idx => by
    obtain ⟨r, n, rfl⟩ : ∃ (r : Fin 16384) (n : Fin 1024), i = ix2 r n := ⟨_, _, eq_ix2 i⟩
    obtain ⟨t, r, rfl⟩ := rowAt_surj r
    exact ⟨t, flush0_5 t, emb_5 t r n ▸ ((cfg0.win 5).blk t).view.emb_mem_set (ix2 r n : S512x1024.Idx)⟩)

/-- The run, the result array at the reference's. -/
theorem run_value :
    θ_run defs (onTc (τ := τ) (main (F := Ideal))) ⟨m, fun _ => 0, ρ⟩ (fun r => ∀ c : Dev nD,
      r.2.mem ((c.tc : Thread nD τ).loc main_v5) = G5 m c) :=
  (θ_run defs _ _).mono (fun r h c => ((h c).1 5).trans (final_5 m c)) (run_main m ρ)

/-- The reference's result at the same arguments. -/
theorem ref_5 (c : Dev nD) : Cert.Merge1ReferenceIdeal.Read.val_main_v17 (F := Ideal) (A m c) (Z m c) (X m c) (W m c) (N m c) = G5 m c :=
  funext fun i : S16384x1024.Idx => (congrArg _ (eq_ix2 i)).trans (Ref.v17_eq _ _ _ _ _ (i 0) (i 1))

end Cert.Proof.Merge1
-- ==== Proof.Merge1.Same.lean ====
module

public import proofs.«01_k».proof.Proof.Gen.Merge1
public import proofs.«01_k».proof.Proof.Gen.Merge1Ideal.Frame

@[expose] public section

noncomputable section

/-! The two programs of layer 1's output projection have one text, so a run of the one is a run of the other. -/

namespace Cert.Proof.Merge1

open Idealize.ShloMosaic Idealize.SL.Sem

variable {F : FTy → Type} [FloatOps F]

set_option maxHeartbeats 2000000 in
theorem defs₀_same : Cert.Merge1.defs₀ (F := F) = Cert.Merge1Ideal.defs₀ (F := F) :=
  congrArg (Defs.onTc (Λ := Cert.Merge1Ideal.Λ₀)) (funext fun l => match l with
    | 0 => funext fun ⟨t, s⟩ => rfl
    | ⟨_ + 1, h⟩ => absurd h (Nat.not_lt.2 (Nat.le_add_left _ _)))

theorem defs_same : Cert.Merge1.defs (F := F) = Cert.Merge1Ideal.defs (F := F) :=
  congrArg (Idealize.ShloMosaic.Pipeline.defs (Cert.Merge1Ideal.pcfgs (F := F))) defs₀_same

set_option maxHeartbeats 2000000 in
theorem main_same : Cert.Merge1.main (F := F) = Cert.Merge1Ideal.main (F := F) := rfl

theorem run_same : θ_run (Cert.Merge1.defs (F := F)) (onTc (τ := Cert.Merge1.τ) (Cert.Merge1.main (F := F)))
    = θ_run (Cert.Merge1Ideal.defs (F := F)) (onTc (τ := Cert.Merge1Ideal.τ) (Cert.Merge1Ideal.main (F := F))) :=
  congr (congrArg θ_run defs_same) (congrArg (onTc (τ := Cert.Merge1Ideal.τ)) main_same)

theorem frame_same (m : (ℓ : Loc Cert.Merge1.nD Cert.Merge1.τ Cert.Merge1.sig) → Buf (Elt F) ℓ) (ρ : Dev Cert.Merge1.nD → PrngReg) :
    θ_run (Cert.Merge1.defs (F := F)) (onTc (τ := Cert.Merge1.τ) (Cert.Merge1.main (F := F))) ⟨m, fun _ => 0, ρ⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4))
      ∧ r.2.sem = fun _ => 0) := by
  rw [run_same]
  exact Cert.Merge1Ideal.Gen.frame m ρ

end Cert.Proof.Merge1
-- ==== Proof.Proj1.Same.lean ====
module

public import proofs.«01_k».proof.Proof.Gen.Proj1
public import proofs.«01_k».proof.Proof.Proj1.Run

@[expose] public section

noncomputable section

/-! The two programs of layer 1's input projection have one text, so a run of the one is a run of the other. -/

namespace Cert.Proof.Proj1

open Idealize.ShloMosaic Idealize.SL.Sem

variable {F : FTy → Type} [FloatOps F]

set_option maxHeartbeats 2000000 in
theorem defs₀_same : Cert.Proj1.defs₀ (F := F) = Cert.Proj1Ideal.defs₀ (F := F) :=
  congrArg (Defs.onTc (Λ := Cert.Proj1Ideal.Λ₀)) (funext fun l => match l with
    | 0 => funext fun ⟨t, s⟩ => rfl
    | ⟨_ + 1, h⟩ => absurd h (Nat.not_lt.2 (Nat.le_add_left _ _)))

theorem defs_same : Cert.Proj1.defs (F := F) = Cert.Proj1Ideal.defs (F := F) :=
  congrArg (Idealize.ShloMosaic.Pipeline.defs (Cert.Proj1Ideal.pcfgs (F := F))) defs₀_same

set_option maxHeartbeats 2000000 in
theorem main_same : Cert.Proj1.main (F := F) = Cert.Proj1Ideal.main (F := F) := rfl

theorem run_same : θ_run (Cert.Proj1.defs (F := F)) (onTc (τ := Cert.Proj1.τ) (Cert.Proj1.main (F := F)))
    = θ_run (Cert.Proj1Ideal.defs (F := F)) (onTc (τ := Cert.Proj1Ideal.τ) (Cert.Proj1Ideal.main (F := F))) :=
  congr (congrArg θ_run defs_same) (congrArg (onTc (τ := Cert.Proj1Ideal.τ)) main_same)

theorem frame_same (m : (ℓ : Loc Cert.Proj1.nD Cert.Proj1.τ Cert.Proj1.sig) → Buf (Elt F) ℓ) (ρ : Dev Cert.Proj1.nD → PrngReg) :
    θ_run (Cert.Proj1.defs (F := F)) (onTc (τ := Cert.Proj1.τ) (Cert.Proj1.main (F := F))) ⟨m, fun _ => 0, ρ⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1)
      ∧ r.2.mem ((c.tc : Thread Cert.Proj1.nD Cert.Proj1.τ).loc Cert.Proj1.main_arg2) = m ((c.tc : Thread Cert.Proj1.nD Cert.Proj1.τ).loc Cert.Proj1.main_arg2))
      ∧ r.2.sem = fun _ => 0) := by
  rw [run_same]
  exact frame m ρ

end Cert.Proof.Proj1
-- ==== Proof.Pool.Value.lean ====
module

public import proofs.«01_k».proof.Proof.Gen.PoolIdeal.Frame
public import Idealize.ShloMosaic.Lib.Pointwise
public import Idealize.ShloMosaic.Lib.KernelVsHost
public import Idealize.ShloMosaic.Lib.IdealHost
public import Idealize.ShloMosaic.Lib.Pipeline.Value
public import Idealize.ShloMosaic.Lib.WholeRead

@[expose] public section

set_option maxRecDepth 16384

noncomputable section

/-! What the body of the pooling mixer computes from its blocks, an entry at a time over the extended reals. -/

namespace Cert.Proof.Pool

open Cert.PoolIdeal Cert.PoolIdeal.Gen
open Idealize.ShloMosaic
open scoped BigOperators

/-- One entry of a group's result: the window's sum over its count minus the token, mapped by the group's weights, scaled. -/
def mixAt (tot tok w : Fin 128 → EReal) (cnt s : EReal) : EReal := (∑ c, (Ideal.div (tot c) cnt - tok c) * w c) * s

/-- How many tokens the window of width `w` holds at position `p`, as a float: `p + 1`, at most `w`. -/
def count (p w : ℕ) : EReal := FloatOps.sitofp (F := Ideal) .f32 (IntOp.minsi (BitVec.ofNat 32 (p + 1)) (BitVec.ofNat 32 w))

/-- Channel `l` of group `g`. -/
def lane (g : Fin 4) (l : Fin 128) : Fin 512 := ⟨128 * g.val + l.val, by omega⟩

/-- The width of group `g`'s window. -/
def width (g : Fin 4) : ℕ := 2 * 2 ^ g.val

theorem row_word (a r : ℕ) :
    IntOp.addi (IntOp.addi (Scalar.addi 0#32 (Scalar.muli (BitVec.ofNat 32 a) 512#32)) (BitVec.ofNat 32 r)) 1#32 = BitVec.ofNat 32 (512 * a + r + 1) := by
  apply BitVec.eq_of_toNat_eq
  simp [IntOp.addi, Scalar.addi, Scalar.muli, IntOp.muli]
  omega

/-- Each group's stored rows, of the rows it loaded, at an entry. -/
theorem pay_0 (i : grid0.Coords) (L : ℕ → Vec Ideal S512x128 .f32) (w : Vec Ideal S1x128x128 .bf16) (s : Vec Ideal S1x128 .f32) (r : Fin 512) (e : Fin 128) :
    k0_pay7 (k0_pay5 i (L 0) (L 1)) (k0_pay6 w) (constant S512x128 FTy.f32 0#32) s (ix3 0 r e)
      = mixAt (fun c => ∑ b ∈ Finset.range 2, L b (ix2 r c)) (fun c => L 0 (ix2 r c)) (fun c => w (ix3 0 c e)) (count (512 * (i 1).val + r.val) 2) (s (ix2 0 e)) := by
  unfold mixAt count
  simp only [Finset.sum_range_succ, Finset.sum_range_zero, zero_add, ← row_word]
  pointwise [k0_pay4, k0_pay5, k0_pay6, k0_pay7]
theorem pay_1 (i : grid0.Coords) (L : ℕ → Vec Ideal S512x128 .f32) (w : Vec Ideal S1x128x128 .bf16) (s : Vec Ideal S1x128 .f32) (r : Fin 512) (e : Fin 128) :
    k0_pay8 (k0_pay4 i) (L 0) (L 1) (L 2) (L 3) w s (ix3 0 r e)
      = mixAt (fun c => ∑ b ∈ Finset.range 4, L b (ix2 r c)) (fun c => L 0 (ix2 r c)) (fun c => w (ix3 0 c e)) (count (512 * (i 1).val + r.val) 4) (s (ix2 0 e)) := by
  unfold mixAt count
  simp only [Finset.sum_range_succ, Finset.sum_range_zero, zero_add, ← row_word]
  pointwise [k0_pay4, k0_pay8]
theorem pay_2 (i : grid0.Coords) (L : ℕ → Vec Ideal S512x128 .f32) (w : Vec Ideal S1x128x128 .bf16) (s : Vec Ideal S1x128 .f32) (r : Fin 512) (e : Fin 128) :
    k0_pay10 (k0_pay9 (k0_pay4 i) (L 0) (L 1) (L 2) (L 3) (L 4) (L 5) (L 6) (L 7) w s) (ix3 0 r e)
      = mixAt (fun c => ∑ b ∈ Finset.range 8, L b (ix2 r c)) (fun c => L 0 (ix2 r c)) (fun c => w (ix3 0 c e)) (count (512 * (i 1).val + r.val) 8) (s (ix2 0 e)) := by
  unfold mixAt count
  simp only [Finset.sum_range_succ, Finset.sum_range_zero, zero_add, ← row_word]
  pointwise [k0_pay4, k0_pay9, k0_pay10]
theorem pay_3 (i : grid0.Coords) (L : ℕ → Vec Ideal S512x128 .f32) (w : Vec Ideal S1x128x128 .bf16) (s : Vec Ideal S1x128 .f32) (r : Fin 512) (e : Fin 128) :
    k0_pay1 (k0_pay4 i) (L 0) (k0_pay11 (L 0) (L 1) (L 2) (L 3) (L 4) (L 5) (L 6) (L 7) (L 8) (L 9) (L 10) (L 11) (L 12) (L 13)) (L 14) (L 15) w s (ix3 0 r e)
      = mixAt (fun c => ∑ b ∈ Finset.range 16, L b (ix2 r c)) (fun c => L 0 (ix2 r c)) (fun c => w (ix3 0 c e)) (count (512 * (i 1).val + r.val) 16) (s (ix2 0 e)) := by
  unfold mixAt count
  simp only [Finset.sum_range_succ, Finset.sum_range_zero, zero_add, ← row_word]
  pointwise [k0_pay4, k0_pay1, k0_pay11]

/-- The scratch buffer's rows: the sixteen before the tile (none before the first), then the tile's. -/
def ext (i : grid0.Coords) (x0 : Vec Ideal S1x16x512 .f32) (x1 : Vec Ideal S1x512x512 .f32) (q : ℕ) (l : Fin 512) : EReal :=
  if h : q < 16 then (if (i 1).val = 0 then 0 else x0 (ix3 0 ⟨q, h⟩ l)) else if h' : q - 16 < 512 then x1 (ix3 0 ⟨q - 16, h'⟩ l) else 0

theorem pay_prev (i : grid0.Coords) (x0 : Vec Ideal S1x16x512 .f32) (r : Fin 16) (l : Fin 512) :
    k0_pay2 i x0 (ix2 r l) = if (i 1).val = 0 then 0 else x0 (ix3 0 r l) := by
  have hi : (i 1).val < 32 := (i 1).isLt
  pointwise [k0_pay2]
  by_cases h : (i 1).val = 0
  · rw [h]; rfl
  · rw [if_neg h]
    have : Scalar.cmpi .eq (BitVec.ofNat 32 (i 1).val) 0#32 = 0#1 := by
      have hne : BitVec.ofNat 32 (i 1).val ≠ 0#32 := fun e => h (by
        have := congrArg BitVec.toNat e; simp at this; omega)
      simp only [Scalar.cmpi, IntOp.cmpi, beq_eq_false_iff_ne.mpr hne]; rfl
    rw [this]; rfl

theorem pay_cur (x1 : Vec Ideal S1x512x512 .f32) (r l : Fin 512) : k0_pay3 x1 (ix2 r l) = x1 (ix3 0 r l) := by
  pointwise [k0_pay3]

/-- What the two stores leave in the scratch buffer. -/
theorem scratch_at (i : grid0.Coords) (x0 : Vec Ideal S1x16x512 .f32) (x1 : Vec Ideal S1x512x512 .f32) (y : S528x512.Idx) :
    View.canon (Val := Elt Ideal) (e := .f32) [⟨Rect.unit (s := S528x512) ![16, 0] S512x512.size inb_S528x512_S512x512_16_0, k0_pay3 x1⟩,
      ⟨Rect.unit (s := S528x512) ![0, 0] S16x512.size inb_S528x512_S16x512_0_0, k0_pay2 i x0⟩] y = ext i x0 x1 (y 0).val (y 1) := by
  refine View.canon_apply_of_pieces (Val := Elt Ideal) (S := S528x512) (e := .f32) (fun y => ext i x0 x1 (y 0).val (y 1)) _ ?_ y ?_
  · intro p hp
    simp only [List.mem_cons, List.not_mem_nil, or_false] at hp
    rcases hp with rfl | rfl
    · intro (x : S512x512.Idx)
      obtain ⟨r, l, rfl⟩ : ∃ (r l : Fin 512), x = ix2 r l := ⟨_, _, eq_ix2 x⟩
      have h0 : (((Rect.unit (s := S528x512) ![16, 0] S512x512.size inb_S528x512_S512x512_16_0).emb (ix2 r l)) 0).val = 16 + r.val :=
        congrArg (16 + ·) (Nat.one_mul r.val)
      have h1 : ((Rect.unit (s := S528x512) ![16, 0] S512x512.size inb_S528x512_S512x512_16_0).emb (ix2 r l)) 1 = l :=
        Fin.ext (by show 0 + 1 * l.val = l.val; omega)
      show k0_pay3 x1 (ix2 r l) = ext i x0 x1 _ _
      rw [h0, h1, pay_cur, ext, dif_neg (by omega), dif_pos (by omega)]
      exact congrArg (fun r => x1 (ix3 0 r l)) (Fin.ext (by show r.val = 16 + r.val - 16; omega))
    · intro (x : S16x512.Idx)
      obtain ⟨r, l, rfl⟩ : ∃ (r : Fin 16) (l : Fin 512), x = ix2 r l := ⟨_, _, eq_ix2 x⟩
      have h0 : (((Rect.unit (s := S528x512) ![0, 0] S16x512.size inb_S528x512_S16x512_0_0).emb (ix2 r l)) 0).val = r.val := by
        show 0 + 1 * r.val = r.val; omega
      have h1 : ((Rect.unit (s := S528x512) ![0, 0] S16x512.size inb_S528x512_S16x512_0_0).emb (ix2 r l)) 1 = l :=
        Fin.ext (by show 0 + 1 * l.val = l.val; omega)
      show k0_pay2 i x0 (ix2 r l) = ext i x0 x1 _ _
      rw [h0, h1, pay_prev, ext, dif_pos r.isLt]
  · have h0 : (y 0).val < 528 := (y 0).isLt
    have h1 : (y 1).val < 512 := (y 1).isLt
    simp only [List.exists_mem_cons_iff]
    by_cases h : 16 ≤ (y 0).val
    · refine .inl ?_
      rw [LoadRect.mem_set]
      intro a; fin_cases a
      · exact ⟨(y 0).val - 16, by show _ < 512; omega, by show (y 0).val = 16 + 1 * _; omega⟩
      · exact ⟨(y 1).val, h1, by show (y 1).val = 0 + 1 * _; omega⟩
    · refine .inr (.inl ?_)
      rw [LoadRect.mem_set]
      intro a; fin_cases a
      · exact ⟨(y 0).val, by show _ < 16; omega, by show (y 0).val = 0 + 1 * _; omega⟩
      · exact ⟨(y 1).val, h1, by show (y 1).val = 0 + 1 * _; omega⟩

/-- A load of 512 rows of a group's channels, starting `b` rows before the tile. -/
theorem load_at {sg : RefSig} (v : View sg .tc .vmem S528x512 .f32) (i : grid0.Coords) (x0 : Vec Ideal S1x16x512 .f32) (x1 : Vec Ideal S1x512x512 .f32)
    (b o : ℕ) (g : Fin 4) (ho : o = 128 * g.val) (inb) (r : Fin 512) (l : Fin 128) :
    v.readCov (Val := Elt Ideal) [⟨Rect.unit (s := S528x512) ![16, 0] S512x512.size inb_S528x512_S512x512_16_0, k0_pay3 x1⟩,
      ⟨Rect.unit (s := S528x512) ![0, 0] S16x512.size inb_S528x512_S16x512_0_0, k0_pay2 i x0⟩]
      (Rect.unit (s := S528x512) ![16 - b, o] ![512, 128] inb).toLoadRect (ix2 r l : S512x128.Idx) = ext i x0 x1 (16 - b + r.val) (lane g l) := by
  subst ho
  rw [View.readCov_eq_canon']
  refine (scratch_at i x0 x1 _).trans ?_
  have h0 : (((Rect.unit (s := S528x512) ![16 - b, 128 * g.val] ![512, 128] inb).toLoadRect.idx (ix2 r l : S512x128.Idx)) 0).val = 16 - b + r.val :=
    congrArg (16 - b + ·) (Nat.one_mul r.val)
  have h1 : ((Rect.unit (s := S528x512) ![16 - b, 128 * g.val] ![512, 128] inb).toLoadRect.idx (ix2 r l : S512x128.Idx)) 1 = lane g l :=
    Fin.ext (congrArg (128 * g.val + ·) (Nat.one_mul l.val))
  rw [h0, h1]

/-- The result of a tile at row `r`, channel `e` of group `g`. -/
def tileAt (i : grid0.Coords) (x0 : Vec Ideal S1x16x512 .f32) (x1 : Vec Ideal S1x512x512 .f32) (x2 : Vec Ideal S4x128x128 .bf16) (x3 : Vec Ideal S1x512 .f32)
    (g : Fin 4) (r : Fin 512) (e : Fin 128) : EReal :=
  mixAt (fun c => ∑ b ∈ Finset.range (width g), ext i x0 x1 (16 - b + r.val) (lane g c)) (fun c => ext i x0 x1 (16 + r.val) (lane g c))
    (fun c => x2 (ix3 g c e)) (count (512 * (i 1).val + r.val) (width g)) (x3 (ix2 0 (lane g e)))

/-- A group's piece agrees with `tileAt` once its loads are read. -/
theorem piece_at (i : grid0.Coords) (x0 : Vec Ideal S1x16x512 .f32) (x1 : Vec Ideal S1x512x512 .f32) (x2 : Vec Ideal S4x128x128 .bf16) (x3 : Vec Ideal S1x512 .f32)
    (g : Fin 4) (o : ℕ) (ho : o = 128 * g.val) (inb) (P : Vec Ideal S1x512x128 .f32)
    (h : ∀ (r : Fin 512) (e : Fin 128), P (ix3 0 r e) = tileAt i x0 x1 x2 x3 g r e) (x : S1x512x128.Idx) :
    P x = (fun y : S1x512x512.Idx => tileAt i x0 x1 x2 x3 ⟨(y 2).val / 128, by have h : (y 2).val < 512 := (y 2).isLt; omega⟩ (y 1)
      ⟨(y 2).val % 128, Nat.mod_lt _ (by decide)⟩) ((Rect.unit (s := S1x512x512) ![0, 0, o] ![1, 512, 128] inb).emb x) := by
  subst ho
  obtain ⟨z, r, e, rfl⟩ : ∃ (z : Fin 1) (r : Fin 512) (e : Fin 128), x = ix3 z r e := ⟨_, _, _, eq_ix3 x⟩
  obtain rfl : z = 0 := Subsingleton.elim _ _
  rw [h]
  have h2 : (((Rect.unit (s := S1x512x512) ![0, 0, 128 * g.val] ![1, 512, 128] inb).emb (ix3 0 r e : S1x512x128.Idx)) 2).val = 128 * g.val + e.val :=
    congrArg (128 * g.val + ·) (Nat.one_mul e.val)
  have h1 : ((Rect.unit (s := S1x512x512) ![0, 0, 128 * g.val] ![1, 512, 128] inb).emb (ix3 0 r e : S1x512x128.Idx)) 1 = r :=
    Fin.ext (by show 0 + 1 * r.val = r.val; omega)
  show _ = tileAt i x0 x1 x2 x3 ⟨_ / 128, _⟩ _ ⟨_ % 128, _⟩
  rw [h1]
  congr 1
  · exact Fin.ext (by show g.val = _ / 128; rw [h2]; omega)
  · exact Fin.ext (by show e.val = _ % 128; rw [h2]; omega)

section
variable {sg : RefSig} {v : View sg .tc .vmem S528x512 .f32}
  (i : grid0.Coords) (x0 : Vec Ideal S1x16x512 .f32) (x1 : Vec Ideal S1x512x512 .f32) (x2 : Vec Ideal S4x128x128 .bf16) (x3 : Vec Ideal S1x512 .f32)

/-- The rows a group loads. -/
def rows (v : View sg .tc .vmem S528x512 .f32) (o : ℕ) (ho : o + 128 ≤ 512) (b : ℕ) : Vec Ideal S512x128 .f32 :=
  v.readCov (Val := Elt Ideal) [⟨Rect.unit (s := S528x512) ![16, 0] S512x512.size inb_S528x512_S512x512_16_0, k0_pay3 x1⟩,
      ⟨Rect.unit (s := S528x512) ![0, 0] S16x512.size inb_S528x512_S16x512_0_0, k0_pay2 i x0⟩]
      (Rect.unit (s := S528x512) ![16 - b, o] ![512, 128] (fun a => match a with
        | ⟨0, _⟩ => by show 16 - b + 512 ≤ 528; omega
        | ⟨1, _⟩ => by show o + 128 ≤ 512; omega)).toLoadRect

theorem mix_rows (g : Fin 4) (o W : ℕ) (ho : o = 128 * g.val) (hW : W = width g) (hb) (r : Fin 512) (e : Fin 128) (w : Vec Ideal S1x128x128 .bf16) (s : Vec Ideal S1x128 .f32)
    (hw : ∀ c, w (ix3 0 c e) = x2 (ix3 g c e)) (hs : s (ix2 0 e) = x3 (ix2 0 (lane g e))) :
    mixAt (fun c => ∑ b ∈ Finset.range W, rows i x0 x1 v o hb b (ix2 r c)) (fun c => rows i x0 x1 v o hb 0 (ix2 r c)) (fun c => w (ix3 0 c e))
      (count (512 * (i 1).val + r.val) W) (s (ix2 0 e)) = tileAt i x0 x1 x2 x3 g r e := by
  subst hW; unfold tileAt
  simp only [rows, load_at _ i x0 x1 _ o g ho, hw, hs]

end

theorem weight_at {sg : RefSig} (M : Memref sg .tc .vmem S4x128x128 .bf16) (h : M.IsWhole) (x : Vec Ideal S4x128x128 .bf16) (g : Fin 4) (o : ℕ) (ho : o = g.val) (inb)
    (c e : Fin 128) :
    View.readAt (Elt Ideal) M.view (Rect.unit (s := S4x128x128) ![o, 0, 0] ![1, 128, 128] inb).toLoadRect (h.unread x) (ix3 0 c e : S1x128x128.Idx) = x (ix3 g c e) := by
  subst ho
  refine (Memref.IsWhole.readAt_unread h x _ _).trans (congrArg x (funext fun a => Fin.ext ?_))
  match a with
  | ⟨0, _⟩ => show g.val + 1 * 0 = g.val; omega
  | ⟨1, _⟩ => show 0 + 1 * c.val = c.val; omega
  | ⟨2, _⟩ => show 0 + 1 * e.val = e.val; omega

theorem scale_at {sg : RefSig} (M : Memref sg .tc .vmem S1x512 .f32) (h : M.IsWhole) (x : Vec Ideal S1x512 .f32) (g : Fin 4) (o : ℕ) (ho : o = 128 * g.val) (inb)
    (e : Fin 128) :
    View.readAt (Elt Ideal) M.view (Rect.unit (s := S1x512) ![0, o] ![1, 128] inb).toLoadRect (h.unread x) (ix2 0 e : S1x128.Idx) = x (ix2 0 (lane g e)) := by
  subst ho
  refine (Memref.IsWhole.readAt_unread h x _ _).trans (congrArg x (funext fun a => Fin.ext ?_))
  match a with
  | ⟨0, _⟩ => rfl
  | ⟨1, _⟩ => show 128 * g.val + 1 * e.val = 128 * g.val + e.val; omega

theorem mem_piece (g : Fin 4) (o : ℕ) (ho : o = 128 * g.val) (inb) (r : Fin 512) (e : Fin 128) :
    (ix3 0 r (lane g e) : S1x512x512.Idx) ∈ (Rect.unit (s := S1x512x512) ![0, 0, o] ![1, 512, 128] inb).set := by
  subst ho
  rw [LoadRect.mem_set]
  intro a; fin_cases a
  · exact ⟨0, by show 0 < 1; omega, rfl⟩
  · exact ⟨r.val, by show _ < 512; omega, by show r.val = 0 + 1 * _; omega⟩
  · exact ⟨e.val, by show _ < 128; omega, by show 128 * g.val + e.val = 128 * g.val + 1 * _; omega⟩

set_option maxHeartbeats 2000000 in
/-- The body's result tile at an entry. -/
theorem out_apply (c : Dev nD) (i : grid0.Coords) (arg2 : Memref sig .tc .vmem S1x16x512 .f32) (harg2 : arg2.IsWhole) (arg3 : Memref sig .tc .vmem S1x512x512 .f32) (harg3 : arg3.IsWhole) (arg4 : Memref sig .tc .vmem S4x128x128 .bf16) (harg4 : arg4.IsWhole) (arg5 : Memref sig .tc .vmem S1x512 .f32) (harg5 : arg5.IsWhole) (arg6 : Memref sig .tc .vmem S1x512x512 .f32) (harg6 : arg6.IsWhole) (arg7 : Memref sig .tc .vmem S528x512 .f32) (harg7 : arg7.IsWhole)
    (x0 : Vec Ideal S1x16x512 .f32) (x1 : Vec Ideal S1x512x512 .f32) (x2 : Vec Ideal S4x128x128 .bf16) (x3 : Vec Ideal S1x512 .f32) (r : Fin 512) (g : Fin 4) (e : Fin 128) :
    out0_A_4 (F := Ideal) c i arg2 harg2 arg3 harg3 arg4 harg4 arg5 harg5 arg6 harg6 arg7 harg7 x0 x1 x2 x3 (ix3 0 r (lane g e)) = tileAt i x0 x1 x2 x3 g r e := by
  unfold out0_A_4
  rw [View.read_writes_junk_apply_eq_canon]
  unfold kernelRun0_A
  dsimp only
  unfold kernelRun0_A.sl.r kernelRun0_A.sl.r_1 kernelRun0_A.sl.v18 kernelRun0_A.sl.v19 kernelRun0_A.sl.cst_15 kernelRun0_A.sl.v40 kernelRun0_A.sl.v41 kernelRun0_A.sl.v43 kernelRun0_A.sl.v45 kernelRun0_A.sl.r_2 kernelRun0_A.sl.v66 kernelRun0_A.sl.v67 kernelRun0_A.sl.v69 kernelRun0_A.sl.v71 kernelRun0_A.sl.v73 kernelRun0_A.sl.v75 kernelRun0_A.sl.v77 kernelRun0_A.sl.v79 kernelRun0_A.sl.r_3 kernelRun0_A.sl.v100 kernelRun0_A.sl.v101 kernelRun0_A.sl.v103 kernelRun0_A.sl.v105 kernelRun0_A.sl.v107 kernelRun0_A.sl.v109 kernelRun0_A.sl.v111 kernelRun0_A.sl.v113 kernelRun0_A.sl.v115 kernelRun0_A.sl.v117 kernelRun0_A.sl.v119 kernelRun0_A.sl.v121 kernelRun0_A.sl.v123 kernelRun0_A.sl.v125 kernelRun0_A.sl.v127 kernelRun0_A.sl.v129 kernelRun0_A.sl.HS0_2
  have e0 : View.readAt (Elt Ideal) arg2.view (Rect.unit ![0, 0, 0] S1x16x512.size inb_S1x16x512_S1x16x512_0_0_0).toLoadRect (harg2.unread x0) = x0 :=
    (funext fun j => Memref.IsWhole.readAt_unread harg2 x0 _ j).trans (View.ld_unit_zero (by decide) inb_S1x16x512_S1x16x512_0_0_0 x0)
  have e1 : View.readAt (Elt Ideal) arg3.view (Rect.unit ![0, 0, 0] S1x512x512.size inb_S1x512x512_S1x512x512_0_0_0).toLoadRect (harg3.unread x1) = x1 :=
    (funext fun j => Memref.IsWhole.readAt_unread harg3 x1 _ j).trans (View.ld_unit_zero (by decide) inb_S1x512x512_S1x512x512_0_0_0 x1)
  rw [e0, e1]
  refine (View.canon_apply_of_pieces (Val := Elt Ideal) (S := S1x512x512) (e := .f32)
    (fun y => tileAt i x0 x1 x2 x3 ⟨(y 2).val / 128, by have h : (y 2).val < 512 := (y 2).isLt; omega⟩ (y 1) ⟨(y 2).val % 128, Nat.mod_lt _ (by decide)⟩) _ ?_ _ ?_).trans ?_
  · intro p hp
    simp only [List.mem_cons, List.not_mem_nil, or_false] at hp
    rcases hp with rfl | rfl | rfl | rfl <;> dsimp only
    · refine piece_at i x0 x1 x2 x3 3 384 rfl inb_S1x512x512_S1x512x128_0_0_384 _ fun r e => ?_
      have h := (pay_3 i (rows i x0 x1 arg7.view 384 (by decide)) _ _ r e).trans (mix_rows i x0 x1 x2 x3 3 384 16 rfl rfl _ r e _ _
        (fun c => weight_at arg4 harg4 x2 3 3 rfl inb_S4x128x128_S1x128x128_3_0_0 c e) (scale_at arg5 harg5 x3 3 384 rfl inb_S1x512_S1x128_0_384 e))
      exact h
    · refine piece_at i x0 x1 x2 x3 2 256 rfl inb_S1x512x512_S1x512x128_0_0_256 _ fun r e => ?_
      have h := (pay_2 i (rows i x0 x1 arg7.view 256 (by decide)) _ _ r e).trans (mix_rows i x0 x1 x2 x3 2 256 8 rfl rfl _ r e _ _
        (fun c => weight_at arg4 harg4 x2 2 2 rfl inb_S4x128x128_S1x128x128_2_0_0 c e) (scale_at arg5 harg5 x3 2 256 rfl inb_S1x512_S1x128_0_256 e))
      exact h
    · refine piece_at i x0 x1 x2 x3 1 128 rfl inb_S1x512x512_S1x512x128_0_0_128 _ fun r e => ?_
      have h := (pay_1 i (rows i x0 x1 arg7.view 128 (by decide)) _ _ r e).trans (mix_rows i x0 x1 x2 x3 1 128 4 rfl rfl _ r e _ _
        (fun c => weight_at arg4 harg4 x2 1 1 rfl inb_S4x128x128_S1x128x128_1_0_0 c e) (scale_at arg5 harg5 x3 1 128 rfl inb_S1x512_S1x128_0_128 e))
      exact h
    · refine piece_at i x0 x1 x2 x3 0 0 rfl inb_S1x512x512_S1x512x128_0_0_0 _ fun r e => ?_
      have h := (pay_0 i (rows i x0 x1 arg7.view 0 (by decide)) _ _ r e).trans (mix_rows i x0 x1 x2 x3 0 0 2 rfl rfl _ r e _ _
        (fun c => weight_at arg4 harg4 x2 0 0 rfl inb_S4x128x128_S1x128x128_0_0_0 c e) (scale_at arg5 harg5 x3 0 0 rfl inb_S1x512_S1x128_0_0 e))
      exact h
  · simp only [List.exists_mem_cons_iff]
    fin_cases g
    · exact .inr (.inr (.inr (.inl (mem_piece 0 0 rfl _ r e))))
    · exact .inr (.inr (.inl (mem_piece 1 128 rfl _ r e)))
    · exact .inr (.inl (mem_piece 2 256 rfl _ r e))
    · exact .inl (mem_piece 3 384 rfl _ r e)
  · show tileAt i x0 x1 x2 x3 ⟨(128 * g.val + e.val) / 128, _⟩ r ⟨(128 * g.val + e.val) % 128, _⟩ = _
    congr 1
    · exact Fin.ext (by show (128 * g.val + e.val) / 128 = g.val; omega)
    · exact Fin.ext (by show (128 * g.val + e.val) % 128 = e.val; omega)

end Cert.Proof.Pool
-- ==== Proof.Pool.Ref.lean ====
module

public import proofs.«01_k».proof.Proof.Pool.Value
public import proofs.«01_k».proof.Proof.Gen.PoolReferenceIdeal.Read
public import Idealize.ShloMosaic.Lib.Pointwise
public import Idealize.ShloMosaic.Lib.KernelVsHost
public import Idealize.ShloMosaic.Lib.IdealHost
public import Idealize.ShloMosaic.Lib.Pipeline.Value

@[expose] public section

set_option maxRecDepth 16384

noncomputable section

/-! The reference of the pooling mixer read an entry at a time over the extended reals: where the inputs are reals, the difference of two
    running sums is the sum over the window. -/

namespace Cert.Proof.Pool.Ref

open Cert.PoolReferenceIdeal Cert.PoolReferenceIdeal.Gen Cert.PoolReferenceIdeal.Read
open Cert.Proof.Pool (mixAt count lane width)
open Idealize.ShloMosaic
open scoped BigOperators

/-- The sum over the window of width `w` that ends at position `t`. -/
def window (f : ℕ → EReal) (w t : ℕ) : EReal := ∑ b ∈ Finset.range w, if b ≤ t then f (t - b) else 0

/-- A running sum is the window's sum plus the running sum the window has left. -/
theorem run_split (f : ℕ → EReal) (w t : ℕ) :
    ∑ j ∈ Finset.range (t + 1), f j = window f w t + if t < w then 0 else ∑ j ∈ Finset.range (t - w + 1), f j := by
  have hr : ∑ j ∈ Finset.range (t + 1), f j = ∑ b ∈ Finset.range (t + 1), f (t - b) := by
    rw [← Finset.sum_range_reflect f]; rfl
  unfold window
  by_cases h : t < w
  · obtain ⟨k, rfl⟩ : ∃ k, w = (t + 1) + k := ⟨w - (t + 1), by omega⟩
    rw [if_pos h, add_zero, hr, Finset.sum_range_add _ (t + 1) k,
      Finset.sum_eq_zero (s := Finset.range k) (fun b _ => if_neg (by omega)), add_zero]
    exact Finset.sum_congr rfl fun b hb => (if_pos (by have := Finset.mem_range.mp hb; omega)).symm
  · obtain ⟨k, rfl⟩ : ∃ k, t = w + k := ⟨t - w, by omega⟩
    rw [if_neg h, hr, show w + k + 1 = w + (k + 1) by omega, Finset.sum_range_add]
    refine congrArg₂ (· + ·) (Finset.sum_congr rfl fun b hb => (if_pos (by have := Finset.mem_range.mp hb; omega)).symm) ?_
    rw [show w + k - w + 1 = k + 1 by omega, ← Finset.sum_range_reflect f]
    exact Finset.sum_congr rfl fun b hb => congrArg f (by omega)

theorem real_sum (f : ℕ → EReal) (hf : ∀ j, ∃ r : ℝ, f j = r) (n : ℕ) : ∃ r : ℝ, ∑ j ∈ Finset.range n, f j = r :=
  Finset.sum_induction f (fun x => ∃ r : ℝ, x = r) (fun _ _ ⟨a, ha⟩ ⟨b, hb⟩ => ⟨a + b, by rw [ha, hb]; rfl⟩) ⟨0, rfl⟩ fun j _ => hf j

/-- Over reals, the running sum minus the running sum the window has left is the window's sum. -/
theorem run_sub (f : ℕ → EReal) (hf : ∀ j, ∃ r : ℝ, f j = r) (w t : ℕ) :
    ∑ j ∈ Finset.range (t + 1), f j - (if t < w then 0 else ∑ j ∈ Finset.range (t - w + 1), f j) = window f w t := by
  obtain ⟨r, hr⟩ : ∃ r : ℝ, (if t < w then 0 else ∑ j ∈ Finset.range (t - w + 1), f j) = r := by
    split
    · exact ⟨0, rfl⟩
    · exact real_sum f hf _
  rw [run_split f w t, hr, EReal.add_sub_cancel_right]

theorem foldl_add {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

theorem sum_finRange (n : ℕ) (g : Fin n → EReal) : ((List.finRange n).map g).sum = ∑ k, g k := by
  rw [← List.ofFn_eq_map, List.sum_ofFn]

/-- A running sum along the middle axis, as a window of the whole length padded low by one less. -/
theorem running {N M C : ℕ} (hN : M + 1 = N) (x : (⟨3, ![1, N, C]⟩ : Shape).Idx → EReal) (v : EReal) (hv : v = 0)
    (h : (⟨3, ![1, N, C]⟩ : Shape).ReduceWindows (![1, N, 1] : Fin 3 → ℕ) ![1, 1, 1] ![0, M, 0] ![0, 0, 0] ⟨3, ![1, N, C]⟩) (t : Fin N) (l : Fin C) :
    Ideal.hostReduceWindowAdd (![1, N, 1] : Fin 3 → ℕ) ![1, 1, 1] ![0, M, 0] ![0, 0, 0] h x v (ix3 0 t l)
      = ∑ j ∈ Finset.range (t.val + 1), if h : j < N then x (ix3 0 ⟨j, h⟩ l) else 0 := by
  subst hv
  set f : ℕ → EReal := fun j => if h : j < N then x (ix3 0 ⟨j, h⟩ l) else 0 with hf
  have hn : (⟨3, ![1, N, 1]⟩ : Shape).numel = N := by simp [Shape.numel, Fin.prod_univ_three]
  have ht := t.isLt
  have hk : Finset.range N = Finset.range ((M - t.val) + (t.val + 1)) := congrArg Finset.range (by omega)
  unfold Ideal.hostReduceWindowAdd Host.reduceWindow
  refine (foldl_add _ _ _).trans ?_
  rw [zero_add, sum_finRange]
  refine (Finset.sum_congr rfl (g := fun n : Fin (⟨3, ![1, N, 1]⟩ : Shape).numel => if M ≤ t.val + n.val then f (t.val + n.val - M) else 0) fun n _ => ?_).trans ?_
  · have hw : ((⟨3, ![1, N, 1]⟩ : Shape).rowMajor.symm n 1).val = n.val := by
      have e := Shape.rowMajor_val_three ((⟨3, ![1, N, 1]⟩ : Shape).rowMajor.symm n)
      rw [Equiv.apply_symm_apply] at e
      have h0 : ((⟨3, ![1, N, 1]⟩ : Shape).rowMajor.symm n 0).val < 1 := ((⟨3, ![1, N, 1]⟩ : Shape).rowMajor.symm n 0).isLt
      have h2 : ((⟨3, ![1, N, 1]⟩ : Shape).rowMajor.symm n 2).val < 1 := ((⟨3, ![1, N, 1]⟩ : Shape).rowMajor.symm n 2).isLt
      have e' : n.val = (((⟨3, ![1, N, 1]⟩ : Shape).rowMajor.symm n 0).val * N + ((⟨3, ![1, N, 1]⟩ : Shape).rowMajor.symm n 1).val) * 1
        + ((⟨3, ![1, N, 1]⟩ : Shape).rowMajor.symm n 2).val := e
      rw [Nat.lt_one_iff.mp h0, Nat.lt_one_iff.mp h2] at e'
      omega
    have hw0 : ((⟨3, ![1, N, 1]⟩ : Shape).rowMajor.symm n 0).val = 0 := Nat.lt_one_iff.mp ((⟨3, ![1, N, 1]⟩ : Shape).rowMajor.symm n 0).isLt
    have hw2 : ((⟨3, ![1, N, 1]⟩ : Shape).rowMajor.symm n 2).val = 0 := Nat.lt_one_iff.mp ((⟨3, ![1, N, 1]⟩ : Shape).rowMajor.symm n 2).isLt
    have hl := l.isLt
    have hnN : n.val < N := lt_of_lt_of_eq n.isLt hn
    dsimp only
    split
    · next hin =>
      have h1 : M ≤ t.val * 1 + ((⟨3, ![1, N, 1]⟩ : Shape).rowMajor.symm n 1).val := (hin 1).1
      rw [hw] at h1
      rw [if_pos (by omega), hf]
      dsimp only
      rw [dif_pos (by omega)]
      refine congrArg x (funext fun a => Fin.ext ?_)
      match a with
      | ⟨0, _⟩ => show 0 * 1 + ((⟨3, ![1, N, 1]⟩ : Shape).rowMajor.symm n 0).val - 0 = 0; rw [hw0]
      | ⟨1, _⟩ => show t.val * 1 + ((⟨3, ![1, N, 1]⟩ : Shape).rowMajor.symm n 1).val - M = t.val + n.val - M; rw [hw, Nat.mul_one]
      | ⟨2, _⟩ => show l.val * 1 + ((⟨3, ![1, N, 1]⟩ : Shape).rowMajor.symm n 2).val - 0 = l.val; rw [hw2]; omega
    · next hin =>
      rw [if_neg fun hle => hin fun a => ?_]
      match a with
      | ⟨0, _⟩ =>
        show 0 ≤ 0 * 1 + ((⟨3, ![1, N, 1]⟩ : Shape).rowMajor.symm n 0).val ∧ 0 * 1 + ((⟨3, ![1, N, 1]⟩ : Shape).rowMajor.symm n 0).val - 0 < 1
        rw [hw0]; omega
      | ⟨1, _⟩ =>
        show M ≤ t.val * 1 + ((⟨3, ![1, N, 1]⟩ : Shape).rowMajor.symm n 1).val ∧ t.val * 1 + ((⟨3, ![1, N, 1]⟩ : Shape).rowMajor.symm n 1).val - M < N
        rw [hw]; omega
      | ⟨2, _⟩ =>
        show 0 ≤ l.val * 1 + ((⟨3, ![1, N, 1]⟩ : Shape).rowMajor.symm n 2).val ∧ l.val * 1 + ((⟨3, ![1, N, 1]⟩ : Shape).rowMajor.symm n 2).val - 0 < C
        rw [hw2]; omega
  · rw [Fin.sum_univ_eq_sum_range (fun n => if M ≤ t.val + n then f (t.val + n - M) else 0), hn, hk, Finset.sum_range_add _ (M - t.val) (t.val + 1),
      Finset.sum_eq_zero fun n hn => if_neg (by have := Finset.mem_range.mp hn; omega), zero_add]
    exact Finset.sum_congr rfl fun n hn => (if_pos (by omega)).trans (congrArg f (by omega))

variable (x0 : (⟨S1x16384x512, .f32⟩ : BufTy).Contents (Elt Ideal)) (x1 : (⟨S4x128x128, .f32⟩ : BufTy).Contents (Elt Ideal))
  (x2 : (⟨S512, .f32⟩ : BufTy).Contents (Elt Ideal))

/-- Channel `l` of the input at a position. -/
def tok (l : Fin 512) (p : ℕ) : EReal := if h : p < 16384 then x0 (ix3 0 ⟨p, h⟩ l) else 0

/-- The running sum. -/
theorem v0_eq (t : Fin 16384) (l : Fin 512) : val_main_v0 (F := Ideal) x0 (ix3 0 t l) = ∑ j ∈ Finset.range (t.val + 1), tok x0 l j := by
  have hv : val_main_call0_call0_v0 (F := Ideal) (Shape.Idx.first h_S_) = (0 : EReal) := by
    rw [val_main_call0_call0_v0_apply, val_main_call0_call0_cst_apply]
    exact Ideal.ofBits_zero_f32
  unfold val_main_v0 Host.reduceWindowAdd
  generalize val_main_call0_call0_v0 (F := Ideal) (Shape.Idx.first h_S_) = v at hv ⊢
  have e := running (N := 16384) (M := 16383) (C := 512) (by norm_num) x0 v hv reduceWindows_S1x16384x512_S1x16384x512_w1s1p0_0_w16384s1p16383_0_w1s1p0_0 t l
  exact e

/-- What a group's map is applied to: the window's mean minus the token. -/
def pooled (g : Fin 4) (t : Fin 16384) (c : Fin 128) : EReal :=
  Ideal.div (window (tok x0 (lane g c)) (width g) t.val) (count t.val (width g)) - tok x0 (lane g c) t.val

variable {x0} in
theorem pooled_of (hx : ∀ i, x0 i = ((x0 i).toReal : EReal)) (g : Fin 4) (W : ℕ) (hW : W = width g) (t : Fin 16384) (c : Fin 128) (l : Fin 512) (hl : l = lane g c) :
    Ideal.div (val_main_v0 (F := Ideal) x0 (ix3 0 t l) - if h : t.val < W then 0 else val_main_v0 (F := Ideal) x0 (ix3 0 ⟨t.val - W, by omega⟩ l))
        (FloatOps.sitofp (F := Ideal) FTy.f32 (IntOp.minsi (IntOp.addi (BitVec.ofNat 32 t.val) 1#32) (BitVec.ofNat 32 W))) - x0 (ix3 0 t l)
      = pooled x0 g t c := by
  subst hW hl
  have hf : ∀ j, ∃ r : ℝ, tok x0 (lane g c) j = r := fun j => by
    unfold tok; split
    · exact ⟨_, hx _⟩
    · exact ⟨0, rfl⟩
  have hw : IntOp.addi (BitVec.ofNat 32 t.val) 1#32 = BitVec.ofNat 32 (t.val + 1) := (BitVec.ofNat_add _ _).symm
  have hd : (val_main_v0 (F := Ideal) x0 (ix3 0 t (lane g c)) - if h : t.val < width g then 0 else val_main_v0 (F := Ideal) x0 (ix3 0 ⟨t.val - width g, by omega⟩ (lane g c)))
      = window (tok x0 (lane g c)) (width g) t.val := by
    rw [← run_sub _ hf, v0_eq]
    refine congrArg (_ - ·) ?_
    split
    · rfl
    · exact v0_eq x0 _ _
  unfold pooled count
  rw [hd, hw, show tok x0 (lane g c) t.val = x0 (ix3 0 t (lane g c)) from dif_pos t.isLt]

theorem v16_eq (hx : ∀ i, x0 i = ((x0 i).toReal : EReal)) (t : Fin 16384) (c : Fin 128) : val_main_v16 (F := Ideal) x0 (ix3 0 t c) = pooled x0 0 t c := by
  refine Eq.trans ?_ (pooled_of hx 0 2 rfl t c ⟨128 * 0 + c.val, by omega⟩ rfl)
  pointwise [val_main_v1, val_main_cst, val_main_v2, val_main_v3, val_main_v4, val_main_v5, val_main_c, val_main_v6, val_main_v7, val_main_c_0, val_main_v8, val_main_v9, val_main_v10, val_main_v11, val_main_v12, val_main_v13, val_main_v14, val_main_v15, val_main_v16]
theorem v32_eq (hx : ∀ i, x0 i = ((x0 i).toReal : EReal)) (t : Fin 16384) (c : Fin 128) : val_main_v32 (F := Ideal) x0 (ix3 0 t c) = pooled x0 1 t c := by
  refine Eq.trans ?_ (pooled_of hx 1 4 rfl t c ⟨128 * 1 + c.val, by omega⟩ rfl)
  pointwise [val_main_v17, val_main_cst_1, val_main_v18, val_main_v19, val_main_v20, val_main_v21, val_main_c_2, val_main_v22, val_main_v23, val_main_c_3, val_main_v24, val_main_v25, val_main_v26, val_main_v27, val_main_v28, val_main_v29, val_main_v30, val_main_v31, val_main_v32]
theorem v48_eq (hx : ∀ i, x0 i = ((x0 i).toReal : EReal)) (t : Fin 16384) (c : Fin 128) : val_main_v48 (F := Ideal) x0 (ix3 0 t c) = pooled x0 2 t c := by
  refine Eq.trans ?_ (pooled_of hx 2 8 rfl t c ⟨128 * 2 + c.val, by omega⟩ rfl)
  pointwise [val_main_v33, val_main_cst_4, val_main_v34, val_main_v35, val_main_v36, val_main_v37, val_main_c_5, val_main_v38, val_main_v39, val_main_c_6, val_main_v40, val_main_v41, val_main_v42, val_main_v43, val_main_v44, val_main_v45, val_main_v46, val_main_v47, val_main_v48]
theorem v64_eq (hx : ∀ i, x0 i = ((x0 i).toReal : EReal)) (t : Fin 16384) (c : Fin 128) : val_main_v64 (F := Ideal) x0 (ix3 0 t c) = pooled x0 3 t c := by
  refine Eq.trans ?_ (pooled_of hx 3 16 rfl t c ⟨128 * 3 + c.val, by omega⟩ rfl)
  pointwise [val_main_v49, val_main_cst_7, val_main_v50, val_main_v51, val_main_v52, val_main_v53, val_main_c_8, val_main_v54, val_main_v55, val_main_c_9, val_main_v56, val_main_v57, val_main_v58, val_main_v59, val_main_v60, val_main_v61, val_main_v62, val_main_v63, val_main_v64]

theorem v69_eq (hx : ∀ i, x0 i = ((x0 i).toReal : EReal)) (t : Fin 16384) (g : Fin 4) (c : Fin 128) : val_main_v69 (F := Ideal) x0 (ix4 0 t g c) = pooled x0 g t c := by
  fin_cases g
  · refine Eq.trans ?_ (v16_eq x0 hx t c); pointwise [val_main_v69, val_main_v65]
  · refine Eq.trans ?_ (v32_eq x0 hx t c); pointwise [val_main_v69, val_main_v66]
  · refine Eq.trans ?_ (v48_eq x0 hx t c); pointwise [val_main_v69, val_main_v67]
  · refine Eq.trans ?_ (v64_eq x0 hx t c); pointwise [val_main_v69, val_main_v68]

/-- The reference at position `t`, channel `e` of group `g`. -/
def outAt (t : Fin 16384) (g : Fin 4) (e : Fin 128) : EReal :=
  mixAt (fun c => window (tok x0 (lane g c)) (width g) t.val) (fun c => tok x0 (lane g c) t.val) (fun c => x1 (ix3 g c e))
    (count t.val (width g)) (x2 (ix1 (lane g e)))

theorem v75_eq (hx : ∀ i, x0 i = ((x0 i).toReal : EReal)) (t : Fin 16384) (g : Fin 4) (e : Fin 128) :
    val_main_v75 (F := Ideal) x0 x1 x2 (ix3 0 t (lane g e)) = outAt x0 x1 x2 t g e := by
  have i0 : idx_main_v71 (idx_main_v72 (ix3 0 t (lane g e))) = ix4 g e 0 t := by
    have hg := g.isLt; have he := e.isLt; have ht := t.isLt
    funext a; apply Fin.ext
    match a with
    | ⟨0, _⟩ => show ((0 * 16384 + t.val) * 512 + (128 * g.val + e.val)) / 128 % 4 = g.val; omega
    | ⟨1, _⟩ => show ((0 * 16384 + t.val) * 512 + (128 * g.val + e.val)) % 128 = e.val; omega
    | ⟨2, _⟩ => rfl
    | ⟨3, _⟩ => show ((0 * 16384 + t.val) * 512 + (128 * g.val + e.val)) / 512 % 16384 = t.val; omega
  have i1 : idx_main_v73 (idx_main_v74 (ix3 0 t (lane g e))) = ix1 (lane g e) := by
    funext a; match a with | ⟨0, _⟩ => rfl
  unfold outAt mixAt
  rw [val_main_v75_apply, val_main_v72_apply, val_main_v71_apply, i0, val_main_v70_apply, val_main_v74_apply, val_main_v73_apply, i1]
  refine congrArg (· * x2 (ix1 (lane g e))) (Finset.sum_congr rfl fun c _ => ?_)
  have l0 : lidx_main_v70 (ix4 g e 0 t) c = ix3 g c e := by
    funext a; match a with | ⟨0, _⟩ => rfl | ⟨1, _⟩ => rfl | ⟨2, _⟩ => rfl
  have r0 : ridx_main_v70 (ix4 g e 0 t) c = ix4 0 t g c := by
    funext a; match a with | ⟨0, _⟩ => rfl | ⟨1, _⟩ => rfl | ⟨2, _⟩ => rfl | ⟨3, _⟩ => rfl
  rw [l0, r0, v69_eq x0 hx, mul_comm]
  rfl

end Cert.Proof.Pool.Ref
-- ==== Proof.Pool.Array.lean ====
module

public import proofs.«01_k».proof.Proof.Pool.Ref
public import proofs.«01_k».proof.Proof.Gen.PoolIdeal.Value

@[expose] public section

set_option maxRecDepth 16384

noncomputable section

/-! The result array of the pooling mixer after the run: the blocks read off the arguments as launched, and at every entry of the result
    what the reference has there. -/

namespace Cert.Proof.Pool

open Cert.PoolIdeal Cert.PoolIdeal.Gen
open Idealize.ShloMosaic Idealize.ShloMosaic.TcCoe Idealize.ShloMosaic.StableHlo Idealize.SL.Sem
open Idealize.ShloMosaic.Pipeline (Dat Cfg Window)
open scoped BigOperators

variable (m : (ℓ : Loc nD τ sig) → Buf (Elt Ideal) ℓ) (ρ : Dev nD → PrngReg)

/-- The pooling inputs, the groups' weights and the scale as launched. -/
abbrev U (c : Dev nD) : Vec Ideal S1x16384x512 .f32 := m ((c : Thread nD τ).loc main_arg0)
abbrev W (c : Dev nD) : Vec Ideal S4x128x128 .f32 := m ((c : Thread nD τ).loc main_arg1)
abbrev N (c : Dev nD) : Vec Ideal S512 .f32 := m ((c : Thread nD τ).loc main_arg2)

theorem V_main_v0 (c : Dev nD) : (V m c main_v0 : Vec Ideal S4x128x128 .bf16) = W m c := by
  unfold V; simp only [hostOps0]; after_results_simp <;> rfl
theorem V_main_v1 (c : Dev nD) : (V m c main_v1 : Vec Ideal S1x512 .f32) = shapeCast S1x512 (N m c) shapeCasts_S512_S1x512 := by
  unfold V; simp only [hostOps0]; after_results_simp <;> rfl

/-- Where a tile's row sits in its array. -/
def rowAt (t : Fin cfg0.N) (r : Fin 512) : Fin 16384 := ⟨512 * t.val + r.val, by have h : t.val < 32 := t.isLt; omega⟩

theorem rowAt_surj (y : Fin 16384) : ∃ t r, rowAt t r = y :=
  ⟨⟨y.val / 512, by show _ < 32; omega⟩, ⟨y.val % 512, Nat.mod_lt _ (by norm_num)⟩, Fin.ext (by show 512 * (y.val / 512) + y.val % 512 = y.val; omega)⟩

theorem coord_1 : ∀ t : Fin cfg0.N, (grid0.coords t 1).val = t.val := (by decide +kernel : ∀ t : Fin grid0.N, _)
theorem index_0 : ∀ t : Fin cfg0.N, win0_0.index t (0 : Fin 3) = 0 ∧ win0_0.index t (1 : Fin 3) = 32 * t.val - 1 ∧ win0_0.index t (2 : Fin 3) = 0 := (by decide +kernel : ∀ t : Fin grid0.N, _)
theorem index_1 : ∀ t : Fin cfg0.N, win0_1.index t (0 : Fin 3) = 0 ∧ win0_1.index t (1 : Fin 3) = t.val ∧ win0_1.index t (2 : Fin 3) = 0 := (by decide +kernel : ∀ t : Fin grid0.N, _)
theorem index_2 : ∀ t : Fin cfg0.N, win0_2.index t (0 : Fin 3) = 0 ∧ win0_2.index t (1 : Fin 3) = 0 ∧ win0_2.index t (2 : Fin 3) = 0 := (by decide +kernel : ∀ t : Fin grid0.N, _)
theorem index_3 : ∀ t : Fin cfg0.N, win0_3.index t (0 : Fin 2) = 0 ∧ win0_3.index t (1 : Fin 2) = 0 := (by decide +kernel : ∀ t : Fin grid0.N, _)
theorem index_4 : ∀ t : Fin cfg0.N, win0_4.index t (0 : Fin 3) = 0 ∧ win0_4.index t (1 : Fin 3) = t.val ∧ win0_4.index t (2 : Fin 3) = 0 := (by decide +kernel : ∀ t : Fin grid0.N, _)

theorem emb_0 (t : Fin cfg0.N) (r : Fin 16) (l : Fin 512) (p : Fin 16384) (hp : p.val = 16 * (32 * t.val - 1) + r.val) :
    ((cfg0.win 0).blk t).view.emb (ix3 0 r l : S1x16x512.Idx) = (ix3 0 p l : S1x16384x512.Idx) := by
  obtain ⟨e0, e1, e2⟩ := index_0 t
  funext a; apply Fin.ext
  match a with
  | ⟨0, _⟩ => show win0_0.index t (0 : Fin 3) * 1 + 1 * 0 = 0; omega
  | ⟨1, _⟩ => show win0_0.index t (1 : Fin 3) * 16 + 1 * r.val = p.val; omega
  | ⟨2, _⟩ => show win0_0.index t (2 : Fin 3) * 512 + 1 * l.val = l.val; omega
theorem emb_1 (t : Fin cfg0.N) (r : Fin 512) (l : Fin 512) :
    ((cfg0.win 1).blk t).view.emb (ix3 0 r l : S1x512x512.Idx) = (ix3 0 (rowAt t r) l : S1x16384x512.Idx) := by
  obtain ⟨e0, e1, e2⟩ := index_1 t
  funext a; apply Fin.ext
  match a with
  | ⟨0, _⟩ => show win0_1.index t (0 : Fin 3) * 1 + 1 * 0 = 0; omega
  | ⟨1, _⟩ => show win0_1.index t (1 : Fin 3) * 512 + 1 * r.val = 512 * t.val + r.val; omega
  | ⟨2, _⟩ => show win0_1.index t (2 : Fin 3) * 512 + 1 * l.val = l.val; omega
theorem emb_2 (t : Fin cfg0.N) (j : S4x128x128.Idx) : ((cfg0.win 2).blk t).view.emb j = j := by
  obtain ⟨e0, e1, e2⟩ := index_2 t
  funext a; apply Fin.ext
  match a with
  | ⟨0, _⟩ => show win0_2.index t (0 : Fin 3) * 4 + 1 * (j 0).val = (j 0).val; omega
  | ⟨1, _⟩ => show win0_2.index t (1 : Fin 3) * 128 + 1 * (j 1).val = (j 1).val; omega
  | ⟨2, _⟩ => show win0_2.index t (2 : Fin 3) * 128 + 1 * (j 2).val = (j 2).val; omega
theorem emb_3 (t : Fin cfg0.N) (j : S1x512.Idx) : ((cfg0.win 3).blk t).view.emb j = j := by
  obtain ⟨e0, e1⟩ := index_3 t
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega
theorem emb_4 (t : Fin cfg0.N) (r : Fin 512) (l : Fin 512) :
    ((cfg0.win 4).blk t).view.emb (ix3 0 r l : S1x512x512.Idx) = (ix3 0 (rowAt t r) l : S1x16384x512.Idx) := by
  obtain ⟨e0, e1, e2⟩ := index_4 t
  funext a; apply Fin.ext
  match a with
  | ⟨0, _⟩ => show win0_4.index t (0 : Fin 3) * 1 + 1 * 0 = 0; omega
  | ⟨1, _⟩ => show win0_4.index t (1 : Fin 3) * 512 + 1 * r.val = 512 * t.val + r.val; omega
  | ⟨2, _⟩ => show win0_4.index t (2 : Fin 3) * 512 + 1 * l.val = l.val; omega

theorem iblk_0 (c : Dev nD) (t : Fin cfg0.N) (r : Fin 16) (l : Fin 512) (p : Fin 16384) (hp : p.val = 16 * (32 * t.val - 1) + r.val) :
    (iblk m c 0 t : Vec Ideal S1x16x512 .f32) (ix3 0 r l) = U m c (ix3 0 p l) := by
  show (V m c main_arg0 : Vec Ideal S1x16384x512 .f32) (((cfg0.win 0).blk t).view.emb (ix3 0 r l : S1x16x512.Idx)) = _
  rw [emb_0 t r l p hp, V_main_arg0]
theorem iblk_1 (c : Dev nD) (t : Fin cfg0.N) (r : Fin 512) (l : Fin 512) :
    (iblk m c 1 t : Vec Ideal S1x512x512 .f32) (ix3 0 r l) = U m c (ix3 0 (rowAt t r) l) := by
  show (V m c main_arg0 : Vec Ideal S1x16384x512 .f32) (((cfg0.win 1).blk t).view.emb (ix3 0 r l : S1x512x512.Idx)) = _
  rw [emb_1, V_main_arg0]
theorem iblk_2 (c : Dev nD) (t : Fin cfg0.N) (j : S4x128x128.Idx) : (iblk m c 2 t : Vec Ideal S4x128x128 .bf16) j = W m c j := by
  show (V m c main_v0 : Vec Ideal S4x128x128 .bf16) (((cfg0.win 2).blk t).view.emb j) = _
  rw [emb_2, V_main_v0]
theorem iblk_3 (c : Dev nD) (t : Fin cfg0.N) (l : Fin 512) : (iblk m c 3 t : Vec Ideal S1x512 .f32) (ix2 0 l) = N m c (ix1 l) := by
  show (V m c main_v1 : Vec Ideal S1x512 .f32) (((cfg0.win 3).blk t).view.emb (ix2 0 l : S1x512.Idx)) = _
  rw [emb_3, V_main_v1]; pointwise

/-- The scratch row `b` before a tile's row `r`: the input there, nothing before the first position. -/
theorem ext_at (c : Dev nD) (t : Fin cfg0.N) (r : Fin 512) (l : Fin 512) (b : ℕ) (hb : b < 16) :
    ext (grid0.coords t) (iblk m c 0 t) (iblk m c 1 t) (16 - b + r.val) l
      = if b ≤ (rowAt t r).val then Ref.tok (U m c) l ((rowAt t r).val - b) else 0 := by
  have ht : t.val < 32 := t.isLt
  have hr := r.isLt
  have hp : (rowAt t r).val = 512 * t.val + r.val := rfl
  unfold ext Ref.tok
  rw [coord_1, hp]
  by_cases h : 16 - b + r.val < 16
  · rw [dif_pos h]
    by_cases h0 : t.val = 0
    · rw [if_pos h0, if_neg (by omega)]
    · rw [if_neg h0, if_pos (by omega), dif_pos (by omega)]
      exact iblk_0 m c t _ l _ (by show 512 * t.val + r.val - b = 16 * (32 * t.val - 1) + (16 - b + r.val); omega)
  · rw [dif_neg h, dif_pos (by omega), if_pos (by omega), dif_pos (by omega), iblk_1]
    exact congrArg (fun p => U m c (ix3 0 p l)) (Fin.ext (by show 512 * t.val + (16 - b + r.val - 16) = 512 * t.val + r.val - b; omega))

/-- The result. -/
def G4 (c : Dev nD) : Vec Ideal S1x16384x512 .f32 := fun i =>
  Ref.outAt (U m c) (W m c) (N m c) (i 1) ⟨(i 2).val / 128, by have h : (i 2).val < 512 := (i 2).isLt; omega⟩ ⟨(i 2).val % 128, Nat.mod_lt _ (by decide)⟩

theorem lane_surj (l : Fin 512) : lane ⟨l.val / 128, by omega⟩ ⟨l.val % 128, Nat.mod_lt _ (by decide)⟩ = l :=
  Fin.ext (by show 128 * (l.val / 128) + l.val % 128 = l.val; omega)

theorem G4_at (c : Dev nD) (p : Fin 16384) (g : Fin 4) (e : Fin 128) : G4 m c (ix3 0 p (lane g e)) = Ref.outAt (U m c) (W m c) (N m c) p g e := by
  show Ref.outAt (U m c) (W m c) (N m c) p ⟨(128 * g.val + e.val) / 128, _⟩ ⟨(128 * g.val + e.val) % 128, _⟩ = _
  congr 1
  · exact Fin.ext (by show (128 * g.val + e.val) / 128 = g.val; omega)
  · exact Fin.ext (by show (128 * g.val + e.val) % 128 = e.val; omega)

theorem width_le (g : Fin 4) : width g ≤ 16 := by revert g; decide

theorem tile_at (c : Dev nD) (t : Fin cfg0.N) (r : Fin 512) (g : Fin 4) (e : Fin 128) :
    tileAt (grid0.coords t) (iblk m c 0 t) (iblk m c 1 t) (iblk m c 2 t) (iblk m c 3 t) g r e = Ref.outAt (U m c) (W m c) (N m c) (rowAt t r) g e := by
  have h1 : (fun k => ∑ b ∈ Finset.range (width g), ext (grid0.coords t) (iblk m c 0 t) (iblk m c 1 t) (16 - b + r.val) (lane g k))
      = fun k => Ref.window (Ref.tok (U m c) (lane g k)) (width g) (rowAt t r).val :=
    funext fun k => Finset.sum_congr rfl fun b hb =>
      ext_at m c t r (lane g k) b (by have := Finset.mem_range.mp hb; have := width_le g; omega)
  have h2 : (fun k => ext (grid0.coords t) (iblk m c 0 t) (iblk m c 1 t) (16 + r.val) (lane g k)) = fun k => Ref.tok (U m c) (lane g k) (rowAt t r).val :=
    funext fun k => (ext_at m c t r (lane g k) 0 (by decide)).trans (if_pos (Nat.zero_le _))
  unfold tileAt Ref.outAt
  rw [h1, h2, coord_1, iblk_3]
  simp only [iblk_2]
  rfl

/-- Every block is written back, and every entry lies in one. -/
theorem final_4 (c : Dev nD) : (dats m 0 c).arrAt 4 cfg0.N = G4 m c :=
  (dats m 0 c).arrAt_eq_of_cover 4 (G4 m c) (fun t _ => by
    rw [Cert.PoolIdeal.Value.flushed4_A]
    exact funext fun j : S1x512x512.Idx => by
      obtain ⟨z, r, l, rfl⟩ : ∃ (z : Fin 1) (r l : Fin 512), j = ix3 z r l := ⟨_, _, _, eq_ix3 j⟩
      obtain rfl : z = 0 := Subsingleton.elim _ _
      show _ = G4 m c (((cfg0.win 4).blk t).view.emb (ix3 0 r l : S1x512x512.Idx))
      rw [emb_4, ← lane_surj l, G4_at]
      exact (out_apply c _ _ _ _ _ _ _ _ _ _ _ _ _ _ _ _ _ r _ _).trans (tile_at m c t r _ _)) (fun i : S1x16384x512.Idx => by
    obtain ⟨z, r, n, rfl⟩ : ∃ (z : Fin 1) (r : Fin 16384) (n : Fin 512), i = ix3 z r n := ⟨_, _, _, eq_ix3 i⟩
    obtain rfl : z = 0 := Subsingleton.elim _ _
    obtain ⟨t, r, rfl⟩ := rowAt_surj r
    exact ⟨t, flush0_4 t, emb_4 t r n ▸ ((cfg0.win 4).blk t).view.emb_mem_set (ix3 0 r n : S1x512x512.Idx)⟩)

/-- The run, the result array at the reference's. -/
theorem run_value :
    θ_run defs (onTc (τ := τ) (main (F := Ideal))) ⟨m, fun _ => 0, ρ⟩ (fun r => ∀ c : Dev nD,
      r.2.mem ((c.tc : Thread nD τ).loc main_v2) = G4 m c) :=
  (θ_run defs _ _).mono (fun r h c => ((h c).1 4).trans (final_4 m c)) (run_main m ρ)

/-- The reference's result at the same arguments, the pooling inputs reals. -/
theorem ref_4 (c : Dev nD) (hx : ∀ i, U m c i = ((U m c i).toReal : EReal)) :
    Cert.PoolReferenceIdeal.Read.val_main_v75 (F := Ideal) (U m c) (W m c) (N m c) = G4 m c :=
  funext fun i : S1x16384x512.Idx => by
    obtain ⟨z, p, l, rfl⟩ : ∃ (z : Fin 1) (p : Fin 16384) (l : Fin 512), i = ix3 z p l := ⟨_, _, _, eq_ix3 i⟩
    obtain rfl : z = 0 := Subsingleton.elim _ _
    rw [← lane_surj l, G4_at]
    exact Ref.v75_eq _ _ _ hx p _ _

end Cert.Proof.Pool
-- ==== Proof.Pool.Same.lean ====
module

public import proofs.«01_k».proof.Proof.Gen.Pool
public import proofs.«01_k».proof.Proof.Gen.PoolIdeal.Frame

@[expose] public section

noncomputable section

/-! The two programs of the pooling mixer have one text, so a run of the one is a run of the other. -/

namespace Cert.Proof.Pool

open Idealize.ShloMosaic Idealize.SL.Sem

variable {F : FTy → Type} [FloatOps F]

set_option maxHeartbeats 2000000 in
theorem defs₀_same : Cert.Pool.defs₀ (F := F) = Cert.PoolIdeal.defs₀ (F := F) :=
  congrArg (Defs.onTc (Λ := Cert.PoolIdeal.Λ₀)) (funext fun l => match l with
    | 0 => funext fun ⟨t, s⟩ => rfl
    | ⟨_ + 1, h⟩ => absurd h (Nat.not_lt.2 (Nat.le_add_left _ _)))

theorem defs_same : Cert.Pool.defs (F := F) = Cert.PoolIdeal.defs (F := F) :=
  congrArg (Idealize.ShloMosaic.Pipeline.defs (Cert.PoolIdeal.pcfgs (F := F))) defs₀_same

set_option maxHeartbeats 2000000 in
theorem main_same : Cert.Pool.main (F := F) = Cert.PoolIdeal.main (F := F) := rfl

theorem run_same : θ_run (Cert.Pool.defs (F := F)) (onTc (τ := Cert.Pool.τ) (Cert.Pool.main (F := F)))
    = θ_run (Cert.PoolIdeal.defs (F := F)) (onTc (τ := Cert.PoolIdeal.τ) (Cert.PoolIdeal.main (F := F))) :=
  congr (congrArg θ_run defs_same) (congrArg (onTc (τ := Cert.PoolIdeal.τ)) main_same)

theorem frame_same (m : (ℓ : Loc Cert.Pool.nD Cert.Pool.τ Cert.Pool.sig) → Buf (Elt F) ℓ) (ρ : Dev Cert.Pool.nD → PrngReg) :
    θ_run (Cert.Pool.defs (F := F)) (onTc (τ := Cert.Pool.τ) (Cert.Pool.main (F := F))) ⟨m, fun _ => 0, ρ⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0) := by
  rw [run_same]
  exact Cert.PoolIdeal.Gen.frame m ρ

end Cert.Proof.Pool
-- ==== Proof.lean ====
module

public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal.Run
public import proofs.«01_k».proof.Proof.Gen.ProjReferenceIdeal.Read
public import proofs.«01_k».proof.Proof.Gen.Proj1
public import proofs.«01_k».proof.Proof.Gen.Proj1Ideal
public import proofs.«01_k».proof.Proof.Gen.Proj1Ideal.Skeleton
public import proofs.«01_k».proof.Proof.Gen.Proj1Ideal.Launch
public import proofs.«01_k».proof.Proof.Gen.Proj1Ideal.Points
public import proofs.«01_k».proof.Proof.Gen.Proj1Ideal.Frame
public import proofs.«01_k».proof.Proof.Gen.Proj1ReferenceIdeal.Run
public import proofs.«01_k».proof.Proof.Gen.Proj1ReferenceIdeal.Read
public import proofs.«01_k».proof.Proof.Gen.Pool
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolReferenceIdeal.Run
public import proofs.«01_k».proof.Proof.Gen.PoolReferenceIdeal.Read
public import proofs.«01_k».proof.Proof.Gen.Merge
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal.Run
public import proofs.«01_k».proof.Proof.Gen.MergeReferenceIdeal.Read
public import proofs.«01_k».proof.Proof.Gen.Merge1
public import proofs.«01_k».proof.Proof.Gen.Merge1Ideal
public import proofs.«01_k».proof.Proof.Gen.Merge1Ideal.Skeleton
public import proofs.«01_k».proof.Proof.Gen.Merge1Ideal.Launch
public import proofs.«01_k».proof.Proof.Gen.Merge1Ideal.Points
public import proofs.«01_k».proof.Proof.Gen.Merge1Ideal.Frame
public import proofs.«01_k».proof.Proof.Gen.Merge1ReferenceIdeal.Run
public import proofs.«01_k».proof.Proof.Gen.Merge1ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Bits.Run
public import proofs.«01_k».proof.Proof.Finite
public import proofs.«01_k».proof.Proof.RefValue
public import proofs.«01_k».proof.Proof.Proj.Array
public import proofs.«01_k».proof.Proof.Proj.Same
public import proofs.«01_k».proof.Proof.Proj1.Array
public import proofs.«01_k».proof.Proof.Merge.Array
public import proofs.«01_k».proof.Proof.Merge.Same
public import proofs.«01_k».proof.Proof.Merge1.Array
public import proofs.«01_k».proof.Proof.Merge1.Same
public import proofs.«01_k».proof.Proof.Proj1.Same
public import proofs.«01_k».proof.Proof.Pool.Array
public import proofs.«01_k».proof.Proof.Pool.Same
public import Idealize.ShloMosaic.Adequacy
public import Idealize.ShloMosaic.Init

@[expose] public section

noncomputable section

namespace Cert.Proof

open Idealize.ShloMosaic Idealize.SL.Sem Cert.Kernel

/-- The reference's run: its arguments end unchanged, and it has no semaphore to move. -/
theorem frame_ReferenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- On reals, the kernel's result array and the reference's are the same. -/
theorem value_eq (m : (ℓ : Loc Cert.KernelIdeal.nD Cert.KernelIdeal.τ Cert.KernelIdeal.sig) → Buf (Elt Ideal) ℓ) (c : Dev Cert.KernelIdeal.nD)
    {Q K : Fin 16384 → Fin 8 → Fin 2 → Fin 64 → ℝ} {V : Fin 16384 → Fin 8 → Fin 128 → ℝ} (R : Flash.Reals m c Q K V) {L : ℝ}
    (hL : Flash.lamOf (fun x => (m ((c.tc : Thread Cert.KernelIdeal.nD Cert.KernelIdeal.τ).loc Cert.KernelIdeal.main_arg3) : Vec Ideal Cert.KernelIdeal.S64 .f32) (ix1 x))
      (fun x => (m ((c.tc : Thread Cert.KernelIdeal.nD Cert.KernelIdeal.τ).loc Cert.KernelIdeal.main_arg4) : Vec Ideal Cert.KernelIdeal.S64 .f32) (ix1 x))
      (fun x => (m ((c.tc : Thread Cert.KernelIdeal.nD Cert.KernelIdeal.τ).loc Cert.KernelIdeal.main_arg5) : Vec Ideal Cert.KernelIdeal.S64 .f32) (ix1 x))
      (fun x => (m ((c.tc : Thread Cert.KernelIdeal.nD Cert.KernelIdeal.τ).loc Cert.KernelIdeal.main_arg6) : Vec Ideal Cert.KernelIdeal.S64 .f32) (ix1 x)) = (L : EReal)) :
    Cert.ReferenceIdeal.Read.val_main_v53 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Flash.G m c Q K V := by
  have key : ∀ i : Cert.KernelIdeal.S16384x1024.Idx, _ = Flash.G m c Q K V i := fun i => by
    obtain ⟨q, l, rfl⟩ : ∃ (q : Fin 16384) (l : Fin 1024), i = ix2 q l := ⟨_, _, eq_ix2 i⟩
    obtain ⟨h, e, rfl⟩ : ∃ (h : Fin 8) (e : Fin 128), l = ⟨128 * h.val + e.val, by omega⟩ :=
      ⟨⟨l.val / 128, by omega⟩, ⟨l.val % 128, Nat.mod_lt _ (by norm_num)⟩, Fin.ext (by show l.val = 128 * (l.val / 128) + l.val % 128; omega)⟩
    rw [Flash.G_at]
    exact Ref.v53_real R.q R.k R.v hL q h e
  exact funext key

/-- The value claim: on finite arguments the ideal kernel and the ideal reference end with the same result. -/
theorem algebraic : Cert.algebraic_KernelIdeal_ReferenceIdeal_pre_finite (hKernelIdeal := Cert.KernelIdeal.Gen.facts)
    (hReferenceIdeal := Cert.ReferenceIdeal.Gen.facts) (hPre_finite := Finite.facts) := by
  intro m g m' g' hpre hargs
  letI := Finite.facts
  let Q : Dev Cert.KernelIdeal.nD → Fin 16384 → Fin 8 → Fin 2 → Fin 64 → ℝ := fun c q h d e =>
    ((m ((c.tc : Thread Cert.KernelIdeal.nD Cert.KernelIdeal.τ).loc Cert.KernelIdeal.main_arg0) : Vec Ideal Cert.KernelIdeal.S1x16384x8x2x64 .f32) (ix5 0 q h d e)).toReal
  let K : Dev Cert.KernelIdeal.nD → Fin 16384 → Fin 8 → Fin 2 → Fin 64 → ℝ := fun c q h d e =>
    ((m ((c.tc : Thread Cert.KernelIdeal.nD Cert.KernelIdeal.τ).loc Cert.KernelIdeal.main_arg1) : Vec Ideal Cert.KernelIdeal.S1x16384x8x2x64 .f32) (ix5 0 q h d e)).toReal
  let V : Dev Cert.KernelIdeal.nD → Fin 16384 → Fin 8 → Fin 128 → ℝ := fun c q h e =>
    ((m ((c.tc : Thread Cert.KernelIdeal.nD Cert.KernelIdeal.τ).loc Cert.KernelIdeal.main_arg2) : Vec Ideal Cert.KernelIdeal.S1x16384x8x128 .f32) (ix4 0 q h e)).toReal
  have R : ∀ c, Flash.Reals m c (Q c) (K c) (V c) := fun c =>
    ⟨fun q h d e => Finite.real_of_cmpf _ _ (hpre c).1 _, fun q h d e => Finite.real_of_cmpf _ _ (hpre c).2.1 _,
      fun q h e => Finite.real_of_cmpf _ _ (hpre c).2.2.1 _⟩
  have hL : ∀ c : Dev Cert.KernelIdeal.nD, ∃ L : ℝ,
      Flash.lamOf (fun x => (m ((c.tc : Thread Cert.KernelIdeal.nD Cert.KernelIdeal.τ).loc Cert.KernelIdeal.main_arg3) : Vec Ideal Cert.KernelIdeal.S64 .f32) (ix1 x))
      (fun x => (m ((c.tc : Thread Cert.KernelIdeal.nD Cert.KernelIdeal.τ).loc Cert.KernelIdeal.main_arg4) : Vec Ideal Cert.KernelIdeal.S64 .f32) (ix1 x))
      (fun x => (m ((c.tc : Thread Cert.KernelIdeal.nD Cert.KernelIdeal.τ).loc Cert.KernelIdeal.main_arg5) : Vec Ideal Cert.KernelIdeal.S64 .f32) (ix1 x))
      (fun x => (m ((c.tc : Thread Cert.KernelIdeal.nD Cert.KernelIdeal.τ).loc Cert.KernelIdeal.main_arg6) : Vec Ideal Cert.KernelIdeal.S64 .f32) (ix1 x)) = (L : EReal) := fun c => by
    obtain ⟨-, -, -, h3, h4, h5, h6⟩ := hpre c
    rw [funext fun x => Finite.real_of_cmpf _ _ h3 (ix1 x), funext fun x => Finite.real_of_cmpf _ _ h4 (ix1 x),
      funext fun x => Finite.real_of_cmpf _ _ h5 (ix1 x), funext fun x => Finite.real_of_cmpf _ _ h6 (ix1 x)]
    exact Ref.lamOf_real _ _ _ _
  refine ⟨fun c => Flash.G m c (Q c) (K c) (V c), ?_, ?_⟩
  · exact (θ_run Cert.KernelIdeal.defs _ _).mono (fun r h c => ⟨h.1 c, h.2.1 c⟩) (θ_run_and (Flash.run_value m g Q K V R) (Flash.frame m g))
  · refine (θ_run Cert.ReferenceIdeal.defs _ _).mono (fun r h c => ⟨(h c).1.trans ?_, (h c).2⟩) (Cert.ReferenceIdeal.Value.run m' g')
    obtain ⟨L, hL⟩ := hL c
    obtain ⟨e0, e1, e2, e3, e4, e5, e6, e7⟩ := hargs c
    rw [Cert.ReferenceIdeal.Read.val_main_v53_eq, e0, e1, e2, e3, e4, e5, e6, e7]
    exact value_eq m c (R c) hL

/-- The input projection's run, at the hardware's floats. -/
theorem frame_Proj : Cert.quiescent_Proj (hProj := Cert.Proj.Gen.facts) := fun m ρ _ => Proj.frame_same m ρ

theorem frame_ProjIdeal : Cert.quiescent_ProjIdeal (hProjIdeal := Cert.ProjIdeal.Gen.facts) := fun m ρ _ => Proj.frame m ρ

theorem frame_ProjReferenceIdeal : Cert.quiescent_ProjReferenceIdeal (hProjReferenceIdeal := Cert.ProjReferenceIdeal.Gen.facts) :=
  fun m ρ _ => (θ_run Cert.ProjReferenceIdeal.defs _ _).mono
    (fun r h => ⟨fun c => (h c).2.2.2.2.2.2.2, sem_eq_zero_of_no_sems (by decide) r.2⟩) (Cert.ProjReferenceIdeal.Value.run m ρ)

/-- The value claim of the input projection: on any arguments the ideal kernel and the ideal reference end with the same seven
    results. -/
theorem algebraic_Proj : Cert.algebraic_ProjIdeal_ProjReferenceIdeal (hProjIdeal := Cert.ProjIdeal.Gen.facts)
    (hProjReferenceIdeal := Cert.ProjReferenceIdeal.Gen.facts) := by
  intro m g m' g' _ hargs
  refine ⟨Proj.G6 m, Proj.G7 m, Proj.G8 m, Proj.G9 m, Proj.G10 m, Proj.G11 m, Proj.G12 m, ?_, ?_⟩
  · refine (θ_run Cert.ProjIdeal.defs _ _).mono (fun r h c => ?_) (θ_run_and (Proj.run_value m g) (Proj.frame m g))
    obtain ⟨h6, h7, h8, h9, h10, h11, h12⟩ := h.1 c
    exact ⟨h6, h7, h8, h9, h10, h11, h12, h.2.1 c⟩
  · refine (θ_run Cert.ProjReferenceIdeal.defs _ _).mono (fun r h c => ?_) (Cert.ProjReferenceIdeal.Value.run m' g')
    obtain ⟨h6, h7, h8, h9, h10, h11, h12, hf⟩ := h c
    obtain ⟨e0, e1, e2⟩ := hargs c
    exact ⟨(h6.trans (Cert.ProjReferenceIdeal.Read.val_main_v94_eq m' c)).trans ((Proj.at_args _ e0 e1 e2).trans (Proj.ref_6 m c)),
      (h7.trans (Cert.ProjReferenceIdeal.Read.val_main_v95_eq m' c)).trans ((Proj.at_args _ e0 e1 e2).trans (Proj.ref_7 m c)),
      (h8.trans (Cert.ProjReferenceIdeal.Read.val_main_v97_eq m' c)).trans ((Proj.at_args _ e0 e1 e2).trans (Proj.ref_8 m c)),
      (h9.trans (Cert.ProjReferenceIdeal.Read.val_main_v98_eq _ _ _)).trans ((Proj.at_args _ e0 e1 e2).trans (Proj.ref_9 m c)),
      (h10.trans (Cert.ProjReferenceIdeal.Read.val_main_v101_eq _ _ _)).trans ((Proj.at_args _ e0 e1 e2).trans (Proj.ref_10 m c)),
      (h11.trans (Cert.ProjReferenceIdeal.Read.val_main_v102_eq _ _ _)).trans ((Proj.at_args _ e0 e1 e2).trans (Proj.ref_11 m c)),
      (h12.trans (Cert.ProjReferenceIdeal.Read.val_main_v103_eq _ _ _)).trans ((Proj.at_args _ e0 e1 e2).trans (Proj.ref_12 m c)), hf⟩

/-- The run of layer 1's input projection, at the hardware's floats. -/
theorem frame_Proj1 : Cert.quiescent_Proj1 (hProj1 := Cert.Proj1.Gen.facts) := fun m ρ _ => Proj1.frame_same m ρ

theorem frame_Proj1Ideal : Cert.quiescent_Proj1Ideal (hProj1Ideal := Cert.Proj1Ideal.Gen.facts) := fun m ρ _ => Proj1.frame m ρ

theorem frame_Proj1ReferenceIdeal : Cert.quiescent_Proj1ReferenceIdeal (hProj1ReferenceIdeal := Cert.Proj1ReferenceIdeal.Gen.facts) :=
  fun m ρ _ => (θ_run Cert.Proj1ReferenceIdeal.defs _ _).mono
    (fun r h => ⟨fun c => (h c).2.2.2.2.2.2, sem_eq_zero_of_no_sems (by decide) r.2⟩) (Cert.Proj1ReferenceIdeal.Value.run m ρ)

/-- The value claim of layer 1's input projection: on any arguments the ideal kernel and the ideal reference end with the same
    six results. -/
theorem algebraic_Proj1 : Cert.algebraic_Proj1Ideal_Proj1ReferenceIdeal (hProj1Ideal := Cert.Proj1Ideal.Gen.facts)
    (hProj1ReferenceIdeal := Cert.Proj1ReferenceIdeal.Gen.facts) := by
  intro m g m' g' _ hargs
  refine ⟨Proj1.G6 m, Proj1.G7 m, Proj1.G8 m, Proj1.G9 m, Proj1.G10 m, Proj1.G11 m, ?_, ?_⟩
  · refine (θ_run Cert.Proj1Ideal.defs _ _).mono (fun r h c => ?_) (θ_run_and (Proj1.run_value m g) (Proj1.frame m g))
    obtain ⟨h6, h7, h8, h9, h10, h11⟩ := h.1 c
    exact ⟨h6, h7, h8, h9, h10, h11, h.2.1 c⟩
  · refine (θ_run Cert.Proj1ReferenceIdeal.defs _ _).mono (fun r h c => ?_) (Cert.Proj1ReferenceIdeal.Value.run m' g')
    obtain ⟨h6, h7, h8, h9, h10, h11, hf⟩ := h c
    obtain ⟨e0, e1, e2⟩ := hargs c
    exact ⟨(h6.trans (Cert.Proj1ReferenceIdeal.Read.val_main_v93_eq m' c)).trans ((Proj.at_args _ e0 e1 e2).trans (Proj1.ref_6 m c)),
      (h7.trans (Cert.Proj1ReferenceIdeal.Read.val_main_v94_eq m' c)).trans ((Proj.at_args _ e0 e1 e2).trans (Proj1.ref_7 m c)),
      (h8.trans (Cert.Proj1ReferenceIdeal.Read.val_main_v96_eq m' c)).trans ((Proj.at_args _ e0 e1 e2).trans (Proj1.ref_8 m c)),
      (h9.trans (Cert.Proj1ReferenceIdeal.Read.val_main_v97_eq _ _ _)).trans ((Proj.at_args _ e0 e1 e2).trans (Proj1.ref_9 m c)),
      (h10.trans (Cert.Proj1ReferenceIdeal.Read.val_main_v100_eq _ _ _)).trans ((Proj.at_args _ e0 e1 e2).trans (Proj1.ref_10 m c)),
      (h11.trans (Cert.Proj1ReferenceIdeal.Read.val_main_v101_eq _ _ _)).trans ((Proj.at_args _ e0 e1 e2).trans (Proj1.ref_11 m c)), hf⟩

/-- The run of layer 0's output projection, at the hardware's floats. -/
theorem frame_Merge : Cert.quiescent_Merge (hMerge := Cert.Merge.Gen.facts) := fun m ρ _ => Merge.frame_same m ρ

theorem frame_MergeIdeal : Cert.quiescent_MergeIdeal (hMergeIdeal := Cert.MergeIdeal.Gen.facts) := fun m ρ _ => Cert.MergeIdeal.Gen.frame m ρ

theorem frame_MergeReferenceIdeal : Cert.quiescent_MergeReferenceIdeal (hMergeReferenceIdeal := Cert.MergeReferenceIdeal.Gen.facts) :=
  fun m ρ _ => (θ_run Cert.MergeReferenceIdeal.defs _ _).mono
    (fun r h => ⟨fun c => (h c).2, sem_eq_zero_of_no_sems (by decide) r.2⟩) (Cert.MergeReferenceIdeal.Value.run m ρ)

/-- The value claim of layer 0's output projection: on any arguments the ideal kernel and the ideal reference end with the same
    result. -/
theorem algebraic_Merge : Cert.algebraic_MergeIdeal_MergeReferenceIdeal (hMergeIdeal := Cert.MergeIdeal.Gen.facts)
    (hMergeReferenceIdeal := Cert.MergeReferenceIdeal.Gen.facts) := by
  intro m g m' g' _ hargs
  refine ⟨Merge.G6 m, ?_, ?_⟩
  · exact (θ_run Cert.MergeIdeal.defs _ _).mono (fun r h c => ⟨h.1 c, h.2.1 c⟩) (θ_run_and (Merge.run_value m g) (Cert.MergeIdeal.Gen.frame m g))
  · refine (θ_run Cert.MergeReferenceIdeal.defs _ _).mono (fun r h c => ?_) (Cert.MergeReferenceIdeal.Value.run m' g')
    obtain ⟨e0, e1, e2, e3, e4, e5⟩ := hargs c
    exact ⟨((h c).1.trans (Cert.MergeReferenceIdeal.Read.val_main_v5_eq _ _ _ _ _)).trans ((Merge.at_args _ e0 e1 e2 e3 e4).trans (Merge.ref_6 m c)), (h c).2⟩

/-- The run of layer 1's output projection, at the hardware's floats. -/
theorem frame_Merge1 : Cert.quiescent_Merge1 (hMerge1 := Cert.Merge1.Gen.facts) := fun m ρ _ => Merge1.frame_same m ρ

theorem frame_Merge1Ideal : Cert.quiescent_Merge1Ideal (hMerge1Ideal := Cert.Merge1Ideal.Gen.facts) := fun m ρ _ => Cert.Merge1Ideal.Gen.frame m ρ

theorem frame_Merge1ReferenceIdeal : Cert.quiescent_Merge1ReferenceIdeal (hMerge1ReferenceIdeal := Cert.Merge1ReferenceIdeal.Gen.facts) :=
  fun m ρ _ => (θ_run Cert.Merge1ReferenceIdeal.defs _ _).mono
    (fun r h => ⟨fun c => (h c).2, sem_eq_zero_of_no_sems (by decide) r.2⟩) (Cert.Merge1ReferenceIdeal.Value.run m ρ)

/-- The value claim of layer 1's output projection: on any arguments the ideal kernel and the ideal reference end with the same
    result. -/
theorem algebraic_Merge1 : Cert.algebraic_Merge1Ideal_Merge1ReferenceIdeal (hMerge1Ideal := Cert.Merge1Ideal.Gen.facts)
    (hMerge1ReferenceIdeal := Cert.Merge1ReferenceIdeal.Gen.facts) := by
  intro m g m' g' _ hargs
  refine ⟨Merge1.G5 m, ?_, ?_⟩
  · exact (θ_run Cert.Merge1Ideal.defs _ _).mono (fun r h c => ⟨h.1 c, h.2.1 c⟩) (θ_run_and (Merge1.run_value m g) (Cert.Merge1Ideal.Gen.frame m g))
  · refine (θ_run Cert.Merge1ReferenceIdeal.defs _ _).mono (fun r h c => ?_) (Cert.Merge1ReferenceIdeal.Value.run m' g')
    obtain ⟨e0, e1, e2, e3, e4⟩ := hargs c
    exact ⟨((h c).1.trans (Cert.Merge1ReferenceIdeal.Read.val_main_v17_eq _ _ _ _ _)).trans ((Merge.at_args _ e0 e1 e2 e3 e4).trans (Merge1.ref_5 m c)), (h c).2⟩

/-- The run of the pooling mixer, at the hardware's floats. -/
theorem frame_Pool : Cert.quiescent_Pool (hPool := Cert.Pool.Gen.facts) := fun m ρ _ => Pool.frame_same m ρ

theorem frame_PoolIdeal : Cert.quiescent_PoolIdeal (hPoolIdeal := Cert.PoolIdeal.Gen.facts) := fun m ρ _ => Cert.PoolIdeal.Gen.frame m ρ

theorem frame_PoolReferenceIdeal : Cert.quiescent_PoolReferenceIdeal (hPoolReferenceIdeal := Cert.PoolReferenceIdeal.Gen.facts) :=
  fun m ρ _ => (θ_run Cert.PoolReferenceIdeal.defs _ _).mono
    (fun r h => ⟨fun c => (h c).2, sem_eq_zero_of_no_sems (by decide) r.2⟩) (Cert.PoolReferenceIdeal.Value.run m ρ)

theorem Pool.facts : Cert.Pre_finite_inputs.Facts where
  bcast_S_S1x16384x512 := by decide

/-- The value claim of the pooling mixer: on finite inputs, with any weights and scale, the ideal kernel and the ideal reference end
    with the same result. -/
theorem algebraic_Pool : Cert.algebraic_PoolIdeal_PoolReferenceIdeal_pre_finite_inputs (hPoolIdeal := Cert.PoolIdeal.Gen.facts)
    (hPoolReferenceIdeal := Cert.PoolReferenceIdeal.Gen.facts) (hPre_finite_inputs := Pool.facts) := by
  intro m g m' g' hpre hargs
  letI := Pool.facts
  refine ⟨Pool.G4 m, ?_, ?_⟩
  · exact (θ_run Cert.PoolIdeal.defs _ _).mono (fun r h c => ⟨h.1 c, h.2.1 c⟩) (θ_run_and (Pool.run_value m g) (Cert.PoolIdeal.Gen.frame m g))
  · refine (θ_run Cert.PoolReferenceIdeal.defs _ _).mono (fun r h c => ?_) (Cert.PoolReferenceIdeal.Value.run m' g')
    obtain ⟨e0, e1, e2⟩ := hargs c
    exact ⟨((h c).1.trans (Cert.PoolReferenceIdeal.Read.val_main_v75_eq _ _)).trans
      ((Proj.at_args _ e0 e1 e2).trans (Pool.ref_4 m c fun i => Finite.real_of_cmpf _ _ (hpre c) i)), (h c).2⟩

theorem claim : Cert.Claim := ⟨Cert.Kernel.Gen.facts, Cert.KernelIdeal.Gen.facts, Cert.ReferenceIdeal.Gen.facts,
  Cert.Proj.Gen.facts, Cert.ProjIdeal.Gen.facts, Cert.ProjReferenceIdeal.Gen.facts,
  Cert.Proj1.Gen.facts, Cert.Proj1Ideal.Gen.facts, Cert.Proj1ReferenceIdeal.Gen.facts,
  Cert.Merge1.Gen.facts, Cert.Merge1Ideal.Gen.facts, Cert.Merge1ReferenceIdeal.Gen.facts,
  Cert.Merge.Gen.facts, Cert.MergeIdeal.Gen.facts, Cert.MergeReferenceIdeal.Gen.facts,
  Cert.Pool.Gen.facts, Cert.PoolIdeal.Gen.facts, Cert.PoolReferenceIdeal.Gen.facts, Finite.facts, Pool.facts,
  fun m ρ _ => Cert.Proof.FlashBits.frame m ρ, fun m ρ _ => Cert.Proof.Flash.frame m ρ, fun m ρ _ => Cert.Proof.Flash.frame m ρ,
  frame_ReferenceIdeal, fun m ρ _ => frame_ReferenceIdeal m ρ trivial, frame_Proj, frame_ProjIdeal, frame_ProjReferenceIdeal,
  frame_Proj1, frame_Proj1Ideal, frame_Proj1ReferenceIdeal,
  frame_Merge1, frame_Merge1Ideal, frame_Merge1ReferenceIdeal, frame_Merge, frame_MergeIdeal, frame_MergeReferenceIdeal,
  frame_Pool, frame_PoolIdeal, fun m ρ _ => frame_PoolIdeal m ρ trivial, frame_PoolReferenceIdeal, fun m ρ _ => frame_PoolReferenceIdeal m ρ trivial,
  IdealRules.named_const.statement Cert.KernelIdeal.κ "scale_log2e" .f32 0x3E38AA3B#32 (((8 * (Real.log 2))⁻¹ : ℝ) : EReal) rfl,
  algebraic, trivial, algebraic_Proj, trivial, algebraic_Proj1, trivial, algebraic_Merge1, trivial, algebraic_Merge, trivial, algebraic_Pool⟩

end Cert.Proof

end
